-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))).2 = (fun _ => 1#1)

def Pre_GateBack (m : (ℓ : Loc Cert.GateBack.nD Cert.GateBack.τ Cert.GateBack.sig) → Buf (Elt Bits) ℓ) : Prop :=
  True

def Pre_GateBackIdeal (m : (ℓ : Loc Cert.GateBackIdeal.nD Cert.GateBackIdeal.τ Cert.GateBackIdeal.sig) → Buf (Elt Ideal) ℓ) : Prop :=
  True

def Pre_GateBackIdeal_finite_gate_back [hPre_finite_gate_back : Cert.Pre_finite_gate_back.Facts] (m : (ℓ : Loc Cert.GateBackIdeal.nD Cert.GateBackIdeal.τ Cert.GateBackIdeal.sig) → Buf (Elt Ideal) ℓ) : Prop :=
  ∀ c : Dev Cert.GateBackIdeal.nD,
    (Cert.Pre_finite_gate_back.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2))).1 = (fun _ => 1#1)
    ∧ (Cert.Pre_finite_gate_back.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2))).2.1 = (fun _ => 1#1)
    ∧ (Cert.Pre_finite_gate_back.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2))).2.2 = (fun _ => 1#1)

def Pre_GateBackRefIdeal (m : (ℓ : Loc Cert.GateBackRefIdeal.nD Cert.GateBackRefIdeal.τ Cert.GateBackRefIdeal.sig) → Buf (Elt Ideal) ℓ) : Prop :=
  True

def Pre_GateBackRefIdeal_finite_gate_back [hPre_finite_gate_back : Cert.Pre_finite_gate_back.Facts] (m : (ℓ : Loc Cert.GateBackRefIdeal.nD Cert.GateBackRefIdeal.τ Cert.GateBackRefIdeal.sig) → Buf (Elt Ideal) ℓ) : Prop :=
  ∀ c : Dev Cert.GateBackRefIdeal.nD,
    (Cert.Pre_finite_gate_back.fn (F := Ideal) (m ((c.tc : Thread Cert.GateBackRefIdeal.nD Cert.GateBackRefIdeal.τ).loc Cert.GateBackRefIdeal.main_arg0)) (m ((c.tc : Thread Cert.GateBackRefIdeal.nD Cert.GateBackRefIdeal.τ).loc Cert.GateBackRefIdeal.main_arg1)) (m ((c.tc : Thread Cert.GateBackRefIdeal.nD Cert.GateBackRefIdeal.τ).loc Cert.GateBackRefIdeal.main_arg2))).1 = (fun _ => 1#1)
    ∧ (Cert.Pre_finite_gate_back.fn (F := Ideal) (m ((c.tc : Thread Cert.GateBackRefIdeal.nD Cert.GateBackRefIdeal.τ).loc Cert.GateBackRefIdeal.main_arg0)) (m ((c.tc : Thread Cert.GateBackRefIdeal.nD Cert.GateBackRefIdeal.τ).loc Cert.GateBackRefIdeal.main_arg1)) (m ((c.tc : Thread Cert.GateBackRefIdeal.nD Cert.GateBackRefIdeal.τ).loc Cert.GateBackRefIdeal.main_arg2))).2.1 = (fun _ => 1#1)
    ∧ (Cert.Pre_finite_gate_back.fn (F := Ideal) (m ((c.tc : Thread Cert.GateBackRefIdeal.nD Cert.GateBackRefIdeal.τ).loc Cert.GateBackRefIdeal.main_arg0)) (m ((c.tc : Thread Cert.GateBackRefIdeal.nD Cert.GateBackRefIdeal.τ).loc Cert.GateBackRefIdeal.main_arg1)) (m ((c.tc : Thread Cert.GateBackRefIdeal.nD Cert.GateBackRefIdeal.τ).loc Cert.GateBackRefIdeal.main_arg2))).2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_in [hPre_finite_in : Cert.Pre_finite_in.Facts] (m : (ℓ : Loc Cert.NormIdeal.nD Cert.NormIdeal.τ Cert.NormIdeal.sig) → Buf (Elt Ideal) ℓ) : Prop :=
  ∀ c : Dev Cert.NormIdeal.nD,
    (Cert.Pre_finite_in.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))).1 = (fun _ => 1#1)
    ∧ (Cert.Pre_finite_in.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))).2.1 = (fun _ => 1#1)
    ∧ (Cert.Pre_finite_in.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))).2.2.1 = (fun _ => 1#1)
    ∧ (Cert.Pre_finite_in.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))).2.2.2.1 = (fun _ => 1#1)
    ∧ (Cert.Pre_finite_in.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))).2.2.2.2.1 = (fun _ => 1#1)
    ∧ (Cert.Pre_finite_in.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))).2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_in [hPre_finite_in : Cert.Pre_finite_in.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_in.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))).1 = (fun _ => 1#1)
    ∧ (Cert.Pre_finite_in.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))).2.1 = (fun _ => 1#1)
    ∧ (Cert.Pre_finite_in.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))).2.2.1 = (fun _ => 1#1)
    ∧ (Cert.Pre_finite_in.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))).2.2.2.1 = (fun _ => 1#1)
    ∧ (Cert.Pre_finite_in.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))).2.2.2.2.1 = (fun _ => 1#1)
    ∧ (Cert.Pre_finite_in.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))).2.2.2.2.2 = (fun _ => 1#1)

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_HgrnBack (m : (ℓ : Loc Cert.HgrnBack.nD Cert.HgrnBack.τ Cert.HgrnBack.sig) → Buf (Elt Bits) ℓ) : Prop :=
  True

def Pre_HgrnBackIdeal (m : (ℓ : Loc Cert.HgrnBackIdeal.nD Cert.HgrnBackIdeal.τ Cert.HgrnBackIdeal.sig) → Buf (Elt Ideal) ℓ) : Prop :=
  True

def Pre_HgrnBackRefIdeal (m : (ℓ : Loc Cert.HgrnBackRefIdeal.nD Cert.HgrnBackRefIdeal.τ Cert.HgrnBackRefIdeal.sig) → Buf (Elt Ideal) ℓ) : Prop :=
  True

def Pre_QkvBack (m : (ℓ : Loc Cert.QkvBack.nD Cert.QkvBack.τ Cert.QkvBack.sig) → Buf (Elt Bits) ℓ) : Prop :=
  True

def Pre_QkvBackIdeal (m : (ℓ : Loc Cert.QkvBackIdeal.nD Cert.QkvBackIdeal.τ Cert.QkvBackIdeal.sig) → Buf (Elt Ideal) ℓ) : Prop :=
  True

def Pre_QkvBackRefIdeal (m : (ℓ : Loc Cert.QkvBackRefIdeal.nD Cert.QkvBackRefIdeal.τ Cert.QkvBackRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateBack [hGateBack : Cert.GateBack.Facts] : Prop :=
  ∀ (m : (ℓ : Loc Cert.GateBack.nD Cert.GateBack.τ Cert.GateBack.sig) → Buf (Elt Bits) ℓ) (g : Dev Cert.GateBack.nD → PrngReg), Pre_GateBack m →
    θ_run (Cert.GateBack.defs (F := Bits)) (onTc (τ := Cert.GateBack.τ) (Cert.GateBack.main (F := Bits))) ⟨m, fun _ => 0, g⟩ (fun r => (∀ c : Dev Cert.GateBack.nD,
      r.2.mem ((c.tc : Thread Cert.GateBack.nD Cert.GateBack.τ).loc Cert.GateBack.main_arg0) = m ((c.tc : Thread Cert.GateBack.nD Cert.GateBack.τ).loc Cert.GateBack.main_arg0)
      ∧ r.2.mem ((c.tc : Thread Cert.GateBack.nD Cert.GateBack.τ).loc Cert.GateBack.main_arg1) = m ((c.tc : Thread Cert.GateBack.nD Cert.GateBack.τ).loc Cert.GateBack.main_arg1)
      ∧ r.2.mem ((c.tc : Thread Cert.GateBack.nD Cert.GateBack.τ).loc Cert.GateBack.main_arg2) = m ((c.tc : Thread Cert.GateBack.nD Cert.GateBack.τ).loc Cert.GateBack.main_arg2))
      ∧ r.2.sem = fun _ => 0)

def quiescent_GateBackIdeal [hGateBackIdeal : Cert.GateBackIdeal.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ r.2.sem = fun _ => 0)

def quiescent_GateBackIdeal_pre_finite_gate_back [hGateBackIdeal : Cert.GateBackIdeal.Facts] [hPre_finite_gate_back : Cert.Pre_finite_gate_back.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal_finite_gate_back m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ r.2.sem = fun _ => 0)

def quiescent_GateBackRefIdeal [hGateBackRefIdeal : Cert.GateBackRefIdeal.Facts] : Prop :=
  ∀ (m : (ℓ : Loc Cert.GateBackRefIdeal.nD Cert.GateBackRefIdeal.τ Cert.GateBackRefIdeal.sig) → Buf (Elt Ideal) ℓ) (g : Dev Cert.GateBackRefIdeal.nD → PrngReg), Pre_GateBackRefIdeal m →
    θ_run (Cert.GateBackRefIdeal.defs (F := Ideal)) (onTc (τ := Cert.GateBackRefIdeal.τ) (Cert.GateBackRefIdeal.main (F := Ideal))) ⟨m, fun _ => 0, g⟩ (fun r => (∀ c : Dev Cert.GateBackRefIdeal.nD,
      r.2.mem ((c.tc : Thread Cert.GateBackRefIdeal.nD Cert.GateBackRefIdeal.τ).loc Cert.GateBackRefIdeal.main_arg0) = m ((c.tc : Thread Cert.GateBackRefIdeal.nD Cert.GateBackRefIdeal.τ).loc Cert.GateBackRefIdeal.main_arg0)
      ∧ r.2.mem ((c.tc : Thread Cert.GateBackRefIdeal.nD Cert.GateBackRefIdeal.τ).loc Cert.GateBackRefIdeal.main_arg1) = m ((c.tc : Thread Cert.GateBackRefIdeal.nD Cert.GateBackRefIdeal.τ).loc Cert.GateBackRefIdeal.main_arg1)
      ∧ r.2.mem ((c.tc : Thread Cert.GateBackRefIdeal.nD Cert.GateBackRefIdeal.τ).loc Cert.GateBackRefIdeal.main_arg2) = m ((c.tc : Thread Cert.GateBackRefIdeal.nD Cert.GateBackRefIdeal.τ).loc Cert.GateBackRefIdeal.main_arg2))
      ∧ r.2.sem = fun _ => 0)

def quiescent_GateBackRefIdeal_pre_finite_gate_back [hGateBackRefIdeal : Cert.GateBackRefIdeal.Facts] [hPre_finite_gate_back : Cert.Pre_finite_gate_back.Facts] : Prop :=
  ∀ (m : (ℓ : Loc Cert.GateBackRefIdeal.nD Cert.GateBackRefIdeal.τ Cert.GateBackRefIdeal.sig) → Buf (Elt Ideal) ℓ) (g : Dev Cert.GateBackRefIdeal.nD → PrngReg), Pre_GateBackRefIdeal_finite_gate_back m →
    θ_run (Cert.GateBackRefIdeal.defs (F := Ideal)) (onTc (τ := Cert.GateBackRefIdeal.τ) (Cert.GateBackRefIdeal.main (F := Ideal))) ⟨m, fun _ => 0, g⟩ (fun r => (∀ c : Dev Cert.GateBackRefIdeal.nD,
      r.2.mem ((c.tc : Thread Cert.GateBackRefIdeal.nD Cert.GateBackRefIdeal.τ).loc Cert.GateBackRefIdeal.main_arg0) = m ((c.tc : Thread Cert.GateBackRefIdeal.nD Cert.GateBackRefIdeal.τ).loc Cert.GateBackRefIdeal.main_arg0)
      ∧ r.2.mem ((c.tc : Thread Cert.GateBackRefIdeal.nD Cert.GateBackRefIdeal.τ).loc Cert.GateBackRefIdeal.main_arg1) = m ((c.tc : Thread Cert.GateBackRefIdeal.nD Cert.GateBackRefIdeal.τ).loc Cert.GateBackRefIdeal.main_arg1)
      ∧ r.2.mem ((c.tc : Thread Cert.GateBackRefIdeal.nD Cert.GateBackRefIdeal.τ).loc Cert.GateBackRefIdeal.main_arg2) = m ((c.tc : Thread Cert.GateBackRefIdeal.nD Cert.GateBackRefIdeal.τ).loc Cert.GateBackRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_finite_in [hNormIdeal : Cert.NormIdeal.Facts] [hPre_finite_in : Cert.Pre_finite_in.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_in m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_finite_in [hNormRefIdeal : Cert.NormRefIdeal.Facts] [hPre_finite_in : Cert.Pre_finite_in.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_in m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_HgrnBack [hHgrnBack : Cert.HgrnBack.Facts] : Prop :=
  ∀ (m : (ℓ : Loc Cert.HgrnBack.nD Cert.HgrnBack.τ Cert.HgrnBack.sig) → Buf (Elt Bits) ℓ) (g : Dev Cert.HgrnBack.nD → PrngReg), Pre_HgrnBack m →
    θ_run (Cert.HgrnBack.defs (F := Bits)) (onTc (τ := Cert.HgrnBack.τ) (Cert.HgrnBack.main (F := Bits))) ⟨m, fun _ => 0, g⟩ (fun r => (∀ c : Dev Cert.HgrnBack.nD,
      r.2.mem ((c.tc : Thread Cert.HgrnBack.nD Cert.HgrnBack.τ).loc Cert.HgrnBack.main_arg0) = m ((c.tc : Thread Cert.HgrnBack.nD Cert.HgrnBack.τ).loc Cert.HgrnBack.main_arg0)
      ∧ r.2.mem ((c.tc : Thread Cert.HgrnBack.nD Cert.HgrnBack.τ).loc Cert.HgrnBack.main_arg1) = m ((c.tc : Thread Cert.HgrnBack.nD Cert.HgrnBack.τ).loc Cert.HgrnBack.main_arg1)
      ∧ r.2.mem ((c.tc : Thread Cert.HgrnBack.nD Cert.HgrnBack.τ).loc Cert.HgrnBack.main_arg2) = m ((c.tc : Thread Cert.HgrnBack.nD Cert.HgrnBack.τ).loc Cert.HgrnBack.main_arg2)
      ∧ r.2.mem ((c.tc : Thread Cert.HgrnBack.nD Cert.HgrnBack.τ).loc Cert.HgrnBack.main_arg3) = m ((c.tc : Thread Cert.HgrnBack.nD Cert.HgrnBack.τ).loc Cert.HgrnBack.main_arg3)
      ∧ r.2.mem ((c.tc : Thread Cert.HgrnBack.nD Cert.HgrnBack.τ).loc Cert.HgrnBack.main_arg4) = m ((c.tc : Thread Cert.HgrnBack.nD Cert.HgrnBack.τ).loc Cert.HgrnBack.main_arg4)
      ∧ r.2.mem ((c.tc : Thread Cert.HgrnBack.nD Cert.HgrnBack.τ).loc Cert.HgrnBack.main_arg5) = m ((c.tc : Thread Cert.HgrnBack.nD Cert.HgrnBack.τ).loc Cert.HgrnBack.main_arg5)
      ∧ r.2.mem ((c.tc : Thread Cert.HgrnBack.nD Cert.HgrnBack.τ).loc Cert.HgrnBack.main_arg6) = m ((c.tc : Thread Cert.HgrnBack.nD Cert.HgrnBack.τ).loc Cert.HgrnBack.main_arg6))
      ∧ r.2.sem = fun _ => 0)

def quiescent_HgrnBackIdeal [hHgrnBackIdeal : Cert.HgrnBackIdeal.Facts] : Prop :=
  ∀ (m : (ℓ : Loc Cert.HgrnBackIdeal.nD Cert.HgrnBackIdeal.τ Cert.HgrnBackIdeal.sig) → Buf (Elt Ideal) ℓ) (g : Dev Cert.HgrnBackIdeal.nD → PrngReg), Pre_HgrnBackIdeal m →
    θ_run (Cert.HgrnBackIdeal.defs (F := Ideal)) (onTc (τ := Cert.HgrnBackIdeal.τ) (Cert.HgrnBackIdeal.main (F := Ideal))) ⟨m, fun _ => 0, g⟩ (fun r => (∀ c : Dev Cert.HgrnBackIdeal.nD,
      r.2.mem ((c.tc : Thread Cert.HgrnBackIdeal.nD Cert.HgrnBackIdeal.τ).loc Cert.HgrnBackIdeal.main_arg0) = m ((c.tc : Thread Cert.HgrnBackIdeal.nD Cert.HgrnBackIdeal.τ).loc Cert.HgrnBackIdeal.main_arg0)
      ∧ r.2.mem ((c.tc : Thread Cert.HgrnBackIdeal.nD Cert.HgrnBackIdeal.τ).loc Cert.HgrnBackIdeal.main_arg1) = m ((c.tc : Thread Cert.HgrnBackIdeal.nD Cert.HgrnBackIdeal.τ).loc Cert.HgrnBackIdeal.main_arg1)
      ∧ r.2.mem ((c.tc : Thread Cert.HgrnBackIdeal.nD Cert.HgrnBackIdeal.τ).loc Cert.HgrnBackIdeal.main_arg2) = m ((c.tc : Thread Cert.HgrnBackIdeal.nD Cert.HgrnBackIdeal.τ).loc Cert.HgrnBackIdeal.main_arg2)
      ∧ r.2.mem ((c.tc : Thread Cert.HgrnBackIdeal.nD Cert.HgrnBackIdeal.τ).loc Cert.HgrnBackIdeal.main_arg3) = m ((c.tc : Thread Cert.HgrnBackIdeal.nD Cert.HgrnBackIdeal.τ).loc Cert.HgrnBackIdeal.main_arg3)
      ∧ r.2.mem ((c.tc : Thread Cert.HgrnBackIdeal.nD Cert.HgrnBackIdeal.τ).loc Cert.HgrnBackIdeal.main_arg4) = m ((c.tc : Thread Cert.HgrnBackIdeal.nD Cert.HgrnBackIdeal.τ).loc Cert.HgrnBackIdeal.main_arg4)
      ∧ r.2.mem ((c.tc : Thread Cert.HgrnBackIdeal.nD Cert.HgrnBackIdeal.τ).loc Cert.HgrnBackIdeal.main_arg5) = m ((c.tc : Thread Cert.HgrnBackIdeal.nD Cert.HgrnBackIdeal.τ).loc Cert.HgrnBackIdeal.main_arg5)
      ∧ r.2.mem ((c.tc : Thread Cert.HgrnBackIdeal.nD Cert.HgrnBackIdeal.τ).loc Cert.HgrnBackIdeal.main_arg6) = m ((c.tc : Thread Cert.HgrnBackIdeal.nD Cert.HgrnBackIdeal.τ).loc Cert.HgrnBackIdeal.main_arg6))
      ∧ r.2.sem = fun _ => 0)

def quiescent_HgrnBackRefIdeal [hHgrnBackRefIdeal : Cert.HgrnBackRefIdeal.Facts] : Prop :=
  ∀ (m : (ℓ : Loc Cert.HgrnBackRefIdeal.nD Cert.HgrnBackRefIdeal.τ Cert.HgrnBackRefIdeal.sig) → Buf (Elt Ideal) ℓ) (g : Dev Cert.HgrnBackRefIdeal.nD → PrngReg), Pre_HgrnBackRefIdeal m →
    θ_run (Cert.HgrnBackRefIdeal.defs (F := Ideal)) (onTc (τ := Cert.HgrnBackRefIdeal.τ) (Cert.HgrnBackRefIdeal.main (F := Ideal))) ⟨m, fun _ => 0, g⟩ (fun r => (∀ c : Dev Cert.HgrnBackRefIdeal.nD,
      r.2.mem ((c.tc : Thread Cert.HgrnBackRefIdeal.nD Cert.HgrnBackRefIdeal.τ).loc Cert.HgrnBackRefIdeal.main_arg0) = m ((c.tc : Thread Cert.HgrnBackRefIdeal.nD Cert.HgrnBackRefIdeal.τ).loc Cert.HgrnBackRefIdeal.main_arg0)
      ∧ r.2.mem ((c.tc : Thread Cert.HgrnBackRefIdeal.nD Cert.HgrnBackRefIdeal.τ).loc Cert.HgrnBackRefIdeal.main_arg1) = m ((c.tc : Thread Cert.HgrnBackRefIdeal.nD Cert.HgrnBackRefIdeal.τ).loc Cert.HgrnBackRefIdeal.main_arg1)
      ∧ r.2.mem ((c.tc : Thread Cert.HgrnBackRefIdeal.nD Cert.HgrnBackRefIdeal.τ).loc Cert.HgrnBackRefIdeal.main_arg2) = m ((c.tc : Thread Cert.HgrnBackRefIdeal.nD Cert.HgrnBackRefIdeal.τ).loc Cert.HgrnBackRefIdeal.main_arg2)
      ∧ r.2.mem ((c.tc : Thread Cert.HgrnBackRefIdeal.nD Cert.HgrnBackRefIdeal.τ).loc Cert.HgrnBackRefIdeal.main_arg3) = m ((c.tc : Thread Cert.HgrnBackRefIdeal.nD Cert.HgrnBackRefIdeal.τ).loc Cert.HgrnBackRefIdeal.main_arg3)
      ∧ r.2.mem ((c.tc : Thread Cert.HgrnBackRefIdeal.nD Cert.HgrnBackRefIdeal.τ).loc Cert.HgrnBackRefIdeal.main_arg4) = m ((c.tc : Thread Cert.HgrnBackRefIdeal.nD Cert.HgrnBackRefIdeal.τ).loc Cert.HgrnBackRefIdeal.main_arg4)
      ∧ r.2.mem ((c.tc : Thread Cert.HgrnBackRefIdeal.nD Cert.HgrnBackRefIdeal.τ).loc Cert.HgrnBackRefIdeal.main_arg5) = m ((c.tc : Thread Cert.HgrnBackRefIdeal.nD Cert.HgrnBackRefIdeal.τ).loc Cert.HgrnBackRefIdeal.main_arg5)
      ∧ r.2.mem ((c.tc : Thread Cert.HgrnBackRefIdeal.nD Cert.HgrnBackRefIdeal.τ).loc Cert.HgrnBackRefIdeal.main_arg6) = m ((c.tc : Thread Cert.HgrnBackRefIdeal.nD Cert.HgrnBackRefIdeal.τ).loc Cert.HgrnBackRefIdeal.main_arg6))
      ∧ r.2.sem = fun _ => 0)

def quiescent_QkvBack [hQkvBack : Cert.QkvBack.Facts] : Prop :=
  ∀ (m : (ℓ : Loc Cert.QkvBack.nD Cert.QkvBack.τ Cert.QkvBack.sig) → Buf (Elt Bits) ℓ) (g : Dev Cert.QkvBack.nD → PrngReg), Pre_QkvBack m →
    θ_run (Cert.QkvBack.defs (F := Bits)) (onTc (τ := Cert.QkvBack.τ) (Cert.QkvBack.main (F := Bits))) ⟨m, fun _ => 0, g⟩ (fun r => (∀ c : Dev Cert.QkvBack.nD,
      r.2.mem ((c.tc : Thread Cert.QkvBack.nD Cert.QkvBack.τ).loc Cert.QkvBack.main_arg0) = m ((c.tc : Thread Cert.QkvBack.nD Cert.QkvBack.τ).loc Cert.QkvBack.main_arg0)
      ∧ r.2.mem ((c.tc : Thread Cert.QkvBack.nD Cert.QkvBack.τ).loc Cert.QkvBack.main_arg1) = m ((c.tc : Thread Cert.QkvBack.nD Cert.QkvBack.τ).loc Cert.QkvBack.main_arg1)
      ∧ r.2.mem ((c.tc : Thread Cert.QkvBack.nD Cert.QkvBack.τ).loc Cert.QkvBack.main_arg2) = m ((c.tc : Thread Cert.QkvBack.nD Cert.QkvBack.τ).loc Cert.QkvBack.main_arg2))
      ∧ r.2.sem = fun _ => 0)

def quiescent_QkvBackIdeal [hQkvBackIdeal : Cert.QkvBackIdeal.Facts] : Prop :=
  ∀ (m : (ℓ : Loc Cert.QkvBackIdeal.nD Cert.QkvBackIdeal.τ Cert.QkvBackIdeal.sig) → Buf (Elt Ideal) ℓ) (g : Dev Cert.QkvBackIdeal.nD → PrngReg), Pre_QkvBackIdeal m →
    θ_run (Cert.QkvBackIdeal.defs (F := Ideal)) (onTc (τ := Cert.QkvBackIdeal.τ) (Cert.QkvBackIdeal.main (F := Ideal))) ⟨m, fun _ => 0, g⟩ (fun r => (∀ c : Dev Cert.QkvBackIdeal.nD,
      r.2.mem ((c.tc : Thread Cert.QkvBackIdeal.nD Cert.QkvBackIdeal.τ).loc Cert.QkvBackIdeal.main_arg0) = m ((c.tc : Thread Cert.QkvBackIdeal.nD Cert.QkvBackIdeal.τ).loc Cert.QkvBackIdeal.main_arg0)
      ∧ r.2.mem ((c.tc : Thread Cert.QkvBackIdeal.nD Cert.QkvBackIdeal.τ).loc Cert.QkvBackIdeal.main_arg1) = m ((c.tc : Thread Cert.QkvBackIdeal.nD Cert.QkvBackIdeal.τ).loc Cert.QkvBackIdeal.main_arg1)
      ∧ r.2.mem ((c.tc : Thread Cert.QkvBackIdeal.nD Cert.QkvBackIdeal.τ).loc Cert.QkvBackIdeal.main_arg2) = m ((c.tc : Thread Cert.QkvBackIdeal.nD Cert.QkvBackIdeal.τ).loc Cert.QkvBackIdeal.main_arg2))
      ∧ r.2.sem = fun _ => 0)

def quiescent_QkvBackRefIdeal [hQkvBackRefIdeal : Cert.QkvBackRefIdeal.Facts] : Prop :=
  ∀ (m : (ℓ : Loc Cert.QkvBackRefIdeal.nD Cert.QkvBackRefIdeal.τ Cert.QkvBackRefIdeal.sig) → Buf (Elt Ideal) ℓ) (g : Dev Cert.QkvBackRefIdeal.nD → PrngReg), Pre_QkvBackRefIdeal m →
    θ_run (Cert.QkvBackRefIdeal.defs (F := Ideal)) (onTc (τ := Cert.QkvBackRefIdeal.τ) (Cert.QkvBackRefIdeal.main (F := Ideal))) ⟨m, fun _ => 0, g⟩ (fun r => (∀ c : Dev Cert.QkvBackRefIdeal.nD,
      r.2.mem ((c.tc : Thread Cert.QkvBackRefIdeal.nD Cert.QkvBackRefIdeal.τ).loc Cert.QkvBackRefIdeal.main_arg0) = m ((c.tc : Thread Cert.QkvBackRefIdeal.nD Cert.QkvBackRefIdeal.τ).loc Cert.QkvBackRefIdeal.main_arg0)
      ∧ r.2.mem ((c.tc : Thread Cert.QkvBackRefIdeal.nD Cert.QkvBackRefIdeal.τ).loc Cert.QkvBackRefIdeal.main_arg1) = m ((c.tc : Thread Cert.QkvBackRefIdeal.nD Cert.QkvBackRefIdeal.τ).loc Cert.QkvBackRefIdeal.main_arg1)
      ∧ r.2.mem ((c.tc : Thread Cert.QkvBackRefIdeal.nD Cert.QkvBackRefIdeal.τ).loc Cert.QkvBackRefIdeal.main_arg2) = m ((c.tc : Thread Cert.QkvBackRefIdeal.nD Cert.QkvBackRefIdeal.τ).loc Cert.QkvBackRefIdeal.main_arg2))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v77_2)) (v3 : (c : Dev Cert.KernelIdeal.nD) → Buf (Elt Ideal) ((c.tc : Thread Cert.KernelIdeal.nD Cert.KernelIdeal.τ).loc Cert.KernelIdeal.main_v77_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v77_2) = v2 c
          ∧ r.2.mem ((c.tc : Thread Cert.KernelIdeal.nD Cert.KernelIdeal.τ).loc Cert.KernelIdeal.main_v77_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v15) = v1 c
          ∧ r.2.mem ((c.tc : Thread Cert.GateRefIdeal.nD Cert.GateRefIdeal.τ).loc Cert.GateRefIdeal.main_v20) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_GateBack_GateBackIdeal : Prop :=
  True

def algebraic_GateBackIdeal_GateBackRefIdeal_pre_finite_gate_back [hGateBackIdeal : Cert.GateBackIdeal.Facts] [hGateBackRefIdeal : Cert.GateBackRefIdeal.Facts] [hPre_finite_gate_back : Cert.Pre_finite_gate_back.Facts] : Prop :=
  ∀ (m : (ℓ : Loc Cert.GateBackIdeal.nD Cert.GateBackIdeal.τ Cert.GateBackIdeal.sig) → Buf (Elt Ideal) ℓ) (g : Dev Cert.GateBackIdeal.nD → PrngReg)
    (m' : (ℓ : Loc Cert.GateBackRefIdeal.nD Cert.GateBackRefIdeal.τ Cert.GateBackRefIdeal.sig) → Buf (Elt Ideal) ℓ) (g' : Dev Cert.GateBackRefIdeal.nD → PrngReg), Pre_GateBackIdeal_finite_gate_back m →
    (∀ c : Dev Cert.GateBackIdeal.nD,
      m' ((c.tc : Thread Cert.GateBackRefIdeal.nD Cert.GateBackRefIdeal.τ).loc Cert.GateBackRefIdeal.main_arg0) = m ((c.tc : Thread Cert.GateBackIdeal.nD Cert.GateBackIdeal.τ).loc Cert.GateBackIdeal.main_arg0)
      ∧ m' ((c.tc : Thread Cert.GateBackRefIdeal.nD Cert.GateBackRefIdeal.τ).loc Cert.GateBackRefIdeal.main_arg1) = m ((c.tc : Thread Cert.GateBackIdeal.nD Cert.GateBackIdeal.τ).loc Cert.GateBackIdeal.main_arg1)
      ∧ m' ((c.tc : Thread Cert.GateBackRefIdeal.nD Cert.GateBackRefIdeal.τ).loc Cert.GateBackRefIdeal.main_arg2) = m ((c.tc : Thread Cert.GateBackIdeal.nD Cert.GateBackIdeal.τ).loc Cert.GateBackIdeal.main_arg2)) →
    ∃ (v0 : (c : Dev Cert.GateBackIdeal.nD) → Buf (Elt Ideal) ((c.tc : Thread Cert.GateBackIdeal.nD Cert.GateBackIdeal.τ).loc Cert.GateBackIdeal.main_v13_0)) (v1 : (c : Dev Cert.GateBackIdeal.nD) → Buf (Elt Ideal) ((c.tc : Thread Cert.GateBackIdeal.nD Cert.GateBackIdeal.τ).loc Cert.GateBackIdeal.main_v13_1)),
      θ_run (Cert.GateBackIdeal.defs (F := Ideal)) (onTc (τ := Cert.GateBackIdeal.τ) (Cert.GateBackIdeal.main (F := Ideal))) ⟨m, fun _ => 0, g⟩ (fun r => ∀ c : Dev Cert.GateBackIdeal.nD,
          r.2.mem ((c.tc : Thread Cert.GateBackIdeal.nD Cert.GateBackIdeal.τ).loc Cert.GateBackIdeal.main_v13_0) = v0 c
          ∧ r.2.mem ((c.tc : Thread Cert.GateBackIdeal.nD Cert.GateBackIdeal.τ).loc Cert.GateBackIdeal.main_v13_1) = v1 c
          ∧ r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
          ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
          ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ θ_run (Cert.GateBackRefIdeal.defs (F := Ideal)) (onTc (τ := Cert.GateBackRefIdeal.τ) (Cert.GateBackRefIdeal.main (F := Ideal))) ⟨m', fun _ => 0, g'⟩ (fun r => ∀ c : Dev Cert.GateBackRefIdeal.nD,
          r.2.mem ((c.tc : Thread Cert.GateBackRefIdeal.nD Cert.GateBackRefIdeal.τ).loc Cert.GateBackRefIdeal.main_v14) = v0 c
          ∧ r.2.mem ((c.tc : Thread Cert.GateBackRefIdeal.nD Cert.GateBackRefIdeal.τ).loc Cert.GateBackRefIdeal.main_v15) = v1 c
          ∧ r.2.mem ((c.tc : Thread Cert.GateBackRefIdeal.nD Cert.GateBackRefIdeal.τ).loc Cert.GateBackRefIdeal.main_arg0) = m' ((c.tc : Thread Cert.GateBackRefIdeal.nD Cert.GateBackRefIdeal.τ).loc Cert.GateBackRefIdeal.main_arg0)
          ∧ r.2.mem ((c.tc : Thread Cert.GateBackRefIdeal.nD Cert.GateBackRefIdeal.τ).loc Cert.GateBackRefIdeal.main_arg1) = m' ((c.tc : Thread Cert.GateBackRefIdeal.nD Cert.GateBackRefIdeal.τ).loc Cert.GateBackRefIdeal.main_arg1)
          ∧ r.2.mem ((c.tc : Thread Cert.GateBackRefIdeal.nD Cert.GateBackRefIdeal.τ).loc Cert.GateBackRefIdeal.main_arg2) = m' ((c.tc : Thread Cert.GateBackRefIdeal.nD Cert.GateBackRefIdeal.τ).loc Cert.GateBackRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Norm_NormIdeal : Prop :=
  True

def algebraic_NormIdeal_NormRefIdeal_pre_finite_in [hNormIdeal : Cert.NormIdeal.Facts] [hNormRefIdeal : Cert.NormRefIdeal.Facts] [hPre_finite_in : Cert.Pre_finite_in.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_in m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v25_0)) (v1 : (c : Dev Cert.NormIdeal.nD) → Buf (Elt Ideal) ((c.tc : Thread Cert.NormIdeal.nD Cert.NormIdeal.τ).loc Cert.NormIdeal.main_v25_1)) (v2 : (c : Dev Cert.NormIdeal.nD) → Buf (Elt Ideal) ((c.tc : Thread Cert.NormIdeal.nD Cert.NormIdeal.τ).loc Cert.NormIdeal.main_v25_2)) (v3 : (c : Dev Cert.NormIdeal.nD) → Buf (Elt Ideal) ((c.tc : Thread Cert.NormIdeal.nD Cert.NormIdeal.τ).loc Cert.NormIdeal.main_v25_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v25_0) = v0 c
          ∧ r.2.mem ((c.tc : Thread Cert.NormIdeal.nD Cert.NormIdeal.τ).loc Cert.NormIdeal.main_v25_1) = v1 c
          ∧ r.2.mem ((c.tc : Thread Cert.NormIdeal.nD Cert.NormIdeal.τ).loc Cert.NormIdeal.main_v25_2) = v2 c
          ∧ r.2.mem ((c.tc : Thread Cert.NormIdeal.nD Cert.NormIdeal.τ).loc Cert.NormIdeal.main_v25_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v71) = v0 c
          ∧ r.2.mem ((c.tc : Thread Cert.NormRefIdeal.nD Cert.NormRefIdeal.τ).loc Cert.NormRefIdeal.main_v72) = v1 c
          ∧ r.2.mem ((c.tc : Thread Cert.NormRefIdeal.nD Cert.NormRefIdeal.τ).loc Cert.NormRefIdeal.main_v73) = v2 c
          ∧ r.2.mem ((c.tc : Thread Cert.NormRefIdeal.nD Cert.NormRefIdeal.τ).loc Cert.NormRefIdeal.main_v74) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v0)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v0) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v2) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_HgrnBack_HgrnBackIdeal : Prop :=
  True

def algebraic_HgrnBackIdeal_HgrnBackRefIdeal [hHgrnBackIdeal : Cert.HgrnBackIdeal.Facts] [hHgrnBackRefIdeal : Cert.HgrnBackRefIdeal.Facts] : Prop :=
  ∀ (m : (ℓ : Loc Cert.HgrnBackIdeal.nD Cert.HgrnBackIdeal.τ Cert.HgrnBackIdeal.sig) → Buf (Elt Ideal) ℓ) (g : Dev Cert.HgrnBackIdeal.nD → PrngReg)
    (m' : (ℓ : Loc Cert.HgrnBackRefIdeal.nD Cert.HgrnBackRefIdeal.τ Cert.HgrnBackRefIdeal.sig) → Buf (Elt Ideal) ℓ) (g' : Dev Cert.HgrnBackRefIdeal.nD → PrngReg), Pre_HgrnBackIdeal m →
    (∀ c : Dev Cert.HgrnBackIdeal.nD,
      m' ((c.tc : Thread Cert.HgrnBackRefIdeal.nD Cert.HgrnBackRefIdeal.τ).loc Cert.HgrnBackRefIdeal.main_arg0) = m ((c.tc : Thread Cert.HgrnBackIdeal.nD Cert.HgrnBackIdeal.τ).loc Cert.HgrnBackIdeal.main_arg0)
      ∧ m' ((c.tc : Thread Cert.HgrnBackRefIdeal.nD Cert.HgrnBackRefIdeal.τ).loc Cert.HgrnBackRefIdeal.main_arg1) = m ((c.tc : Thread Cert.HgrnBackIdeal.nD Cert.HgrnBackIdeal.τ).loc Cert.HgrnBackIdeal.main_arg1)
      ∧ m' ((c.tc : Thread Cert.HgrnBackRefIdeal.nD Cert.HgrnBackRefIdeal.τ).loc Cert.HgrnBackRefIdeal.main_arg2) = m ((c.tc : Thread Cert.HgrnBackIdeal.nD Cert.HgrnBackIdeal.τ).loc Cert.HgrnBackIdeal.main_arg2)
      ∧ m' ((c.tc : Thread Cert.HgrnBackRefIdeal.nD Cert.HgrnBackRefIdeal.τ).loc Cert.HgrnBackRefIdeal.main_arg3) = m ((c.tc : Thread Cert.HgrnBackIdeal.nD Cert.HgrnBackIdeal.τ).loc Cert.HgrnBackIdeal.main_arg3)
      ∧ m' ((c.tc : Thread Cert.HgrnBackRefIdeal.nD Cert.HgrnBackRefIdeal.τ).loc Cert.HgrnBackRefIdeal.main_arg4) = m ((c.tc : Thread Cert.HgrnBackIdeal.nD Cert.HgrnBackIdeal.τ).loc Cert.HgrnBackIdeal.main_arg4)
      ∧ m' ((c.tc : Thread Cert.HgrnBackRefIdeal.nD Cert.HgrnBackRefIdeal.τ).loc Cert.HgrnBackRefIdeal.main_arg5) = m ((c.tc : Thread Cert.HgrnBackIdeal.nD Cert.HgrnBackIdeal.τ).loc Cert.HgrnBackIdeal.main_arg5)
      ∧ m' ((c.tc : Thread Cert.HgrnBackRefIdeal.nD Cert.HgrnBackRefIdeal.τ).loc Cert.HgrnBackRefIdeal.main_arg6) = m ((c.tc : Thread Cert.HgrnBackIdeal.nD Cert.HgrnBackIdeal.τ).loc Cert.HgrnBackIdeal.main_arg6)) →
    ∃ (v0 : (c : Dev Cert.HgrnBackIdeal.nD) → Buf (Elt Ideal) ((c.tc : Thread Cert.HgrnBackIdeal.nD Cert.HgrnBackIdeal.τ).loc Cert.HgrnBackIdeal.main_v0)),
      θ_run (Cert.HgrnBackIdeal.defs (F := Ideal)) (onTc (τ := Cert.HgrnBackIdeal.τ) (Cert.HgrnBackIdeal.main (F := Ideal))) ⟨m, fun _ => 0, g⟩ (fun r => ∀ c : Dev Cert.HgrnBackIdeal.nD,
          r.2.mem ((c.tc : Thread Cert.HgrnBackIdeal.nD Cert.HgrnBackIdeal.τ).loc Cert.HgrnBackIdeal.main_v0) = v0 c
          ∧ r.2.mem ((c.tc : Thread Cert.HgrnBackIdeal.nD Cert.HgrnBackIdeal.τ).loc Cert.HgrnBackIdeal.main_arg0) = m ((c.tc : Thread Cert.HgrnBackIdeal.nD Cert.HgrnBackIdeal.τ).loc Cert.HgrnBackIdeal.main_arg0)
          ∧ r.2.mem ((c.tc : Thread Cert.HgrnBackIdeal.nD Cert.HgrnBackIdeal.τ).loc Cert.HgrnBackIdeal.main_arg1) = m ((c.tc : Thread Cert.HgrnBackIdeal.nD Cert.HgrnBackIdeal.τ).loc Cert.HgrnBackIdeal.main_arg1)
          ∧ r.2.mem ((c.tc : Thread Cert.HgrnBackIdeal.nD Cert.HgrnBackIdeal.τ).loc Cert.HgrnBackIdeal.main_arg2) = m ((c.tc : Thread Cert.HgrnBackIdeal.nD Cert.HgrnBackIdeal.τ).loc Cert.HgrnBackIdeal.main_arg2)
          ∧ r.2.mem ((c.tc : Thread Cert.HgrnBackIdeal.nD Cert.HgrnBackIdeal.τ).loc Cert.HgrnBackIdeal.main_arg3) = m ((c.tc : Thread Cert.HgrnBackIdeal.nD Cert.HgrnBackIdeal.τ).loc Cert.HgrnBackIdeal.main_arg3)
          ∧ r.2.mem ((c.tc : Thread Cert.HgrnBackIdeal.nD Cert.HgrnBackIdeal.τ).loc Cert.HgrnBackIdeal.main_arg4) = m ((c.tc : Thread Cert.HgrnBackIdeal.nD Cert.HgrnBackIdeal.τ).loc Cert.HgrnBackIdeal.main_arg4)
          ∧ r.2.mem ((c.tc : Thread Cert.HgrnBackIdeal.nD Cert.HgrnBackIdeal.τ).loc Cert.HgrnBackIdeal.main_arg5) = m ((c.tc : Thread Cert.HgrnBackIdeal.nD Cert.HgrnBackIdeal.τ).loc Cert.HgrnBackIdeal.main_arg5)
          ∧ r.2.mem ((c.tc : Thread Cert.HgrnBackIdeal.nD Cert.HgrnBackIdeal.τ).loc Cert.HgrnBackIdeal.main_arg6) = m ((c.tc : Thread Cert.HgrnBackIdeal.nD Cert.HgrnBackIdeal.τ).loc Cert.HgrnBackIdeal.main_arg6))
      ∧ θ_run (Cert.HgrnBackRefIdeal.defs (F := Ideal)) (onTc (τ := Cert.HgrnBackRefIdeal.τ) (Cert.HgrnBackRefIdeal.main (F := Ideal))) ⟨m', fun _ => 0, g'⟩ (fun r => ∀ c : Dev Cert.HgrnBackRefIdeal.nD,
          r.2.mem ((c.tc : Thread Cert.HgrnBackRefIdeal.nD Cert.HgrnBackRefIdeal.τ).loc Cert.HgrnBackRefIdeal.main_v10) = v0 c
          ∧ r.2.mem ((c.tc : Thread Cert.HgrnBackRefIdeal.nD Cert.HgrnBackRefIdeal.τ).loc Cert.HgrnBackRefIdeal.main_arg0) = m' ((c.tc : Thread Cert.HgrnBackRefIdeal.nD Cert.HgrnBackRefIdeal.τ).loc Cert.HgrnBackRefIdeal.main_arg0)
          ∧ r.2.mem ((c.tc : Thread Cert.HgrnBackRefIdeal.nD Cert.HgrnBackRefIdeal.τ).loc Cert.HgrnBackRefIdeal.main_arg1) = m' ((c.tc : Thread Cert.HgrnBackRefIdeal.nD Cert.HgrnBackRefIdeal.τ).loc Cert.HgrnBackRefIdeal.main_arg1)
          ∧ r.2.mem ((c.tc : Thread Cert.HgrnBackRefIdeal.nD Cert.HgrnBackRefIdeal.τ).loc Cert.HgrnBackRefIdeal.main_arg2) = m' ((c.tc : Thread Cert.HgrnBackRefIdeal.nD Cert.HgrnBackRefIdeal.τ).loc Cert.HgrnBackRefIdeal.main_arg2)
          ∧ r.2.mem ((c.tc : Thread Cert.HgrnBackRefIdeal.nD Cert.HgrnBackRefIdeal.τ).loc Cert.HgrnBackRefIdeal.main_arg3) = m' ((c.tc : Thread Cert.HgrnBackRefIdeal.nD Cert.HgrnBackRefIdeal.τ).loc Cert.HgrnBackRefIdeal.main_arg3)
          ∧ r.2.mem ((c.tc : Thread Cert.HgrnBackRefIdeal.nD Cert.HgrnBackRefIdeal.τ).loc Cert.HgrnBackRefIdeal.main_arg4) = m' ((c.tc : Thread Cert.HgrnBackRefIdeal.nD Cert.HgrnBackRefIdeal.τ).loc Cert.HgrnBackRefIdeal.main_arg4)
          ∧ r.2.mem ((c.tc : Thread Cert.HgrnBackRefIdeal.nD Cert.HgrnBackRefIdeal.τ).loc Cert.HgrnBackRefIdeal.main_arg5) = m' ((c.tc : Thread Cert.HgrnBackRefIdeal.nD Cert.HgrnBackRefIdeal.τ).loc Cert.HgrnBackRefIdeal.main_arg5)
          ∧ r.2.mem ((c.tc : Thread Cert.HgrnBackRefIdeal.nD Cert.HgrnBackRefIdeal.τ).loc Cert.HgrnBackRefIdeal.main_arg6) = m' ((c.tc : Thread Cert.HgrnBackRefIdeal.nD Cert.HgrnBackRefIdeal.τ).loc Cert.HgrnBackRefIdeal.main_arg6))

def preserves_QkvBack_QkvBackIdeal : Prop :=
  True

def algebraic_QkvBackIdeal_QkvBackRefIdeal [hQkvBackIdeal : Cert.QkvBackIdeal.Facts] [hQkvBackRefIdeal : Cert.QkvBackRefIdeal.Facts] : Prop :=
  ∀ (m : (ℓ : Loc Cert.QkvBackIdeal.nD Cert.QkvBackIdeal.τ Cert.QkvBackIdeal.sig) → Buf (Elt Ideal) ℓ) (g : Dev Cert.QkvBackIdeal.nD → PrngReg)
    (m' : (ℓ : Loc Cert.QkvBackRefIdeal.nD Cert.QkvBackRefIdeal.τ Cert.QkvBackRefIdeal.sig) → Buf (Elt Ideal) ℓ) (g' : Dev Cert.QkvBackRefIdeal.nD → PrngReg), Pre_QkvBackIdeal m →
    (∀ c : Dev Cert.QkvBackIdeal.nD,
      m' ((c.tc : Thread Cert.QkvBackRefIdeal.nD Cert.QkvBackRefIdeal.τ).loc Cert.QkvBackRefIdeal.main_arg0) = m ((c.tc : Thread Cert.QkvBackIdeal.nD Cert.QkvBackIdeal.τ).loc Cert.QkvBackIdeal.main_arg0)
      ∧ m' ((c.tc : Thread Cert.QkvBackRefIdeal.nD Cert.QkvBackRefIdeal.τ).loc Cert.QkvBackRefIdeal.main_arg1) = m ((c.tc : Thread Cert.QkvBackIdeal.nD Cert.QkvBackIdeal.τ).loc Cert.QkvBackIdeal.main_arg1)
      ∧ m' ((c.tc : Thread Cert.QkvBackRefIdeal.nD Cert.QkvBackRefIdeal.τ).loc Cert.QkvBackRefIdeal.main_arg2) = m ((c.tc : Thread Cert.QkvBackIdeal.nD Cert.QkvBackIdeal.τ).loc Cert.QkvBackIdeal.main_arg2)) →
    ∃ (v0 : (c : Dev Cert.QkvBackIdeal.nD) → Buf (Elt Ideal) ((c.tc : Thread Cert.QkvBackIdeal.nD Cert.QkvBackIdeal.τ).loc Cert.QkvBackIdeal.main_v0)),
      θ_run (Cert.QkvBackIdeal.defs (F := Ideal)) (onTc (τ := Cert.QkvBackIdeal.τ) (Cert.QkvBackIdeal.main (F := Ideal))) ⟨m, fun _ => 0, g⟩ (fun r => ∀ c : Dev Cert.QkvBackIdeal.nD,
          r.2.mem ((c.tc : Thread Cert.QkvBackIdeal.nD Cert.QkvBackIdeal.τ).loc Cert.QkvBackIdeal.main_v0) = v0 c
          ∧ r.2.mem ((c.tc : Thread Cert.QkvBackIdeal.nD Cert.QkvBackIdeal.τ).loc Cert.QkvBackIdeal.main_arg0) = m ((c.tc : Thread Cert.QkvBackIdeal.nD Cert.QkvBackIdeal.τ).loc Cert.QkvBackIdeal.main_arg0)
          ∧ r.2.mem ((c.tc : Thread Cert.QkvBackIdeal.nD Cert.QkvBackIdeal.τ).loc Cert.QkvBackIdeal.main_arg1) = m ((c.tc : Thread Cert.QkvBackIdeal.nD Cert.QkvBackIdeal.τ).loc Cert.QkvBackIdeal.main_arg1)
          ∧ r.2.mem ((c.tc : Thread Cert.QkvBackIdeal.nD Cert.QkvBackIdeal.τ).loc Cert.QkvBackIdeal.main_arg2) = m ((c.tc : Thread Cert.QkvBackIdeal.nD Cert.QkvBackIdeal.τ).loc Cert.QkvBackIdeal.main_arg2))
      ∧ θ_run (Cert.QkvBackRefIdeal.defs (F := Ideal)) (onTc (τ := Cert.QkvBackRefIdeal.τ) (Cert.QkvBackRefIdeal.main (F := Ideal))) ⟨m', fun _ => 0, g'⟩ (fun r => ∀ c : Dev Cert.QkvBackRefIdeal.nD,
          r.2.mem ((c.tc : Thread Cert.QkvBackRefIdeal.nD Cert.QkvBackRefIdeal.τ).loc Cert.QkvBackRefIdeal.main_v9) = v0 c
          ∧ r.2.mem ((c.tc : Thread Cert.QkvBackRefIdeal.nD Cert.QkvBackRefIdeal.τ).loc Cert.QkvBackRefIdeal.main_arg0) = m' ((c.tc : Thread Cert.QkvBackRefIdeal.nD Cert.QkvBackRefIdeal.τ).loc Cert.QkvBackRefIdeal.main_arg0)
          ∧ r.2.mem ((c.tc : Thread Cert.QkvBackRefIdeal.nD Cert.QkvBackRefIdeal.τ).loc Cert.QkvBackRefIdeal.main_arg1) = m' ((c.tc : Thread Cert.QkvBackRefIdeal.nD Cert.QkvBackRefIdeal.τ).loc Cert.QkvBackRefIdeal.main_arg1)
          ∧ r.2.mem ((c.tc : Thread Cert.QkvBackRefIdeal.nD Cert.QkvBackRefIdeal.τ).loc Cert.QkvBackRefIdeal.main_arg2) = m' ((c.tc : Thread Cert.QkvBackRefIdeal.nD Cert.QkvBackRefIdeal.τ).loc Cert.QkvBackRefIdeal.main_arg2))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)) →
    ∃ (v0 : (c : Dev Cert.OutBackIdeal.nD) → Buf (Elt Ideal) ((c.tc : Thread Cert.OutBackIdeal.nD Cert.OutBackIdeal.τ).loc Cert.OutBackIdeal.main_v0)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v0) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v5) = v0 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v5) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v2_0)) (v1 : (c : Dev Cert.FfnOutIdeal.nD) → Buf (Elt Ideal) ((c.tc : Thread Cert.FfnOutIdeal.nD Cert.FfnOutIdeal.τ).loc Cert.FfnOutIdeal.main_v2_1)) (v2 : (c : Dev Cert.FfnOutIdeal.nD) → Buf (Elt Ideal) ((c.tc : Thread Cert.FfnOutIdeal.nD Cert.FfnOutIdeal.τ).loc Cert.FfnOutIdeal.main_v2_2)) (v3 : (c : Dev Cert.FfnOutIdeal.nD) → Buf (Elt Ideal) ((c.tc : Thread Cert.FfnOutIdeal.nD Cert.FfnOutIdeal.τ).loc Cert.FfnOutIdeal.main_v2_3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2_0) = v0 c
          ∧ r.2.mem ((c.tc : Thread Cert.FfnOutIdeal.nD Cert.FfnOutIdeal.τ).loc Cert.FfnOutIdeal.main_v2_1) = v1 c
          ∧ r.2.mem ((c.tc : Thread Cert.FfnOutIdeal.nD Cert.FfnOutIdeal.τ).loc Cert.FfnOutIdeal.main_v2_2) = v2 c
          ∧ r.2.mem ((c.tc : Thread Cert.FfnOutIdeal.nD Cert.FfnOutIdeal.τ).loc Cert.FfnOutIdeal.main_v2_3) = v3 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v29) = v0 c
          ∧ r.2.mem ((c.tc : Thread Cert.FfnOutRefIdeal.nD Cert.FfnOutRefIdeal.τ).loc Cert.FfnOutRefIdeal.main_v51) = v1 c
          ∧ r.2.mem ((c.tc : Thread Cert.FfnOutRefIdeal.nD Cert.FfnOutRefIdeal.τ).loc Cert.FfnOutRefIdeal.main_v52) = v2 c
          ∧ r.2.mem ((c.tc : Thread Cert.FfnOutRefIdeal.nD Cert.FfnOutRefIdeal.τ).loc Cert.FfnOutRefIdeal.main_v50) = v3 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)) (v2 : (c : Dev Cert.MixOutIdeal.nD) → Buf (Elt Ideal) ((c.tc : Thread Cert.MixOutIdeal.nD Cert.MixOutIdeal.τ).loc Cert.MixOutIdeal.main_v2_2)) (v3 : (c : Dev Cert.MixOutIdeal.nD) → Buf (Elt Ideal) ((c.tc : Thread Cert.MixOutIdeal.nD Cert.MixOutIdeal.τ).loc Cert.MixOutIdeal.main_v2_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_v2_2) = v2 c
          ∧ r.2.mem ((c.tc : Thread Cert.MixOutIdeal.nD Cert.MixOutIdeal.τ).loc Cert.MixOutIdeal.main_v2_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v29) = v0 c
          ∧ r.2.mem ((c.tc : Thread Cert.MixOutRefIdeal.nD Cert.MixOutRefIdeal.τ).loc Cert.MixOutRefIdeal.main_v51) = v1 c
          ∧ r.2.mem ((c.tc : Thread Cert.MixOutRefIdeal.nD Cert.MixOutRefIdeal.τ).loc Cert.MixOutRefIdeal.main_v52) = v2 c
          ∧ r.2.mem ((c.tc : Thread Cert.MixOutRefIdeal.nD Cert.MixOutRefIdeal.τ).loc Cert.MixOutRefIdeal.main_v50) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hGateBack : Cert.GateBack.Facts) (hGateBackIdeal : Cert.GateBackIdeal.Facts) (hGateBackRefIdeal : Cert.GateBackRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDw : Cert.Dw.Facts) (hDwIdeal : Cert.DwIdeal.Facts) (hDwRefIdeal : Cert.DwRefIdeal.Facts) (hNorm : Cert.Norm.Facts) (hNormIdeal : Cert.NormIdeal.Facts) (hNormRefIdeal : Cert.NormRefIdeal.Facts) (hHgrnIn : Cert.HgrnIn.Facts) (hHgrnInIdeal : Cert.HgrnInIdeal.Facts) (hHgrnInRefIdeal : Cert.HgrnInRefIdeal.Facts) (hHgrnBack : Cert.HgrnBack.Facts) (hHgrnBackIdeal : Cert.HgrnBackIdeal.Facts) (hHgrnBackRefIdeal : Cert.HgrnBackRefIdeal.Facts) (hQkvBack : Cert.QkvBack.Facts) (hQkvBackIdeal : Cert.QkvBackIdeal.Facts) (hQkvBackRefIdeal : Cert.QkvBackRefIdeal.Facts) (hOutBack : Cert.OutBack.Facts) (hOutBackIdeal : Cert.OutBackIdeal.Facts) (hOutBackRefIdeal : Cert.OutBackRefIdeal.Facts) (hDwQkv : Cert.DwQkv.Facts) (hDwQkvIdeal : Cert.DwQkvIdeal.Facts) (hDwQkvRefIdeal : Cert.DwQkvRefIdeal.Facts) (hFfnOut : Cert.FfnOut.Facts) (hFfnOutIdeal : Cert.FfnOutIdeal.Facts) (hFfnOutRefIdeal : Cert.FfnOutRefIdeal.Facts) (hMixOut : Cert.MixOut.Facts) (hMixOutIdeal : Cert.MixOutIdeal.Facts) (hMixOutRefIdeal : Cert.MixOutRefIdeal.Facts) (hPre_finite : Cert.Pre_finite.Facts) (hPre_finite_gate : Cert.Pre_finite_gate.Facts) (hPre_finite_gate_back : Cert.Pre_finite_gate_back.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_GateBack (hGateBack := hGateBack)
    ∧ quiescent_GateBackIdeal (hGateBackIdeal := hGateBackIdeal)
    ∧ quiescent_GateBackIdeal_pre_finite_gate_back (hGateBackIdeal := hGateBackIdeal) (hPre_finite_gate_back := hPre_finite_gate_back)
    ∧ quiescent_GateBackRefIdeal (hGateBackRefIdeal := hGateBackRefIdeal)
    ∧ quiescent_GateBackRefIdeal_pre_finite_gate_back (hGateBackRefIdeal := hGateBackRefIdeal) (hPre_finite_gate_back := hPre_finite_gate_back)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dw (hDw := hDw)
    ∧ quiescent_DwIdeal (hDwIdeal := hDwIdeal)
    ∧ quiescent_DwRefIdeal (hDwRefIdeal := hDwRefIdeal)
    ∧ quiescent_Norm (hNorm := hNorm)
    ∧ quiescent_NormIdeal (hNormIdeal := hNormIdeal)
    ∧ quiescent_NormIdeal_pre_finite_in (hNormIdeal := hNormIdeal) (hPre_finite_in := hPre_finite_in)
    ∧ quiescent_NormRefIdeal (hNormRefIdeal := hNormRefIdeal)
    ∧ quiescent_NormRefIdeal_pre_finite_in (hNormRefIdeal := hNormRefIdeal) (hPre_finite_in := hPre_finite_in)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_HgrnBack (hHgrnBack := hHgrnBack)
    ∧ quiescent_HgrnBackIdeal (hHgrnBackIdeal := hHgrnBackIdeal)
    ∧ quiescent_HgrnBackRefIdeal (hHgrnBackRefIdeal := hHgrnBackRefIdeal)
    ∧ quiescent_QkvBack (hQkvBack := hQkvBack)
    ∧ quiescent_QkvBackIdeal (hQkvBackIdeal := hQkvBackIdeal)
    ∧ quiescent_QkvBackRefIdeal (hQkvBackRefIdeal := hQkvBackRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_GateBack_GateBackIdeal
    ∧ algebraic_GateBackIdeal_GateBackRefIdeal_pre_finite_gate_back (hGateBackIdeal := hGateBackIdeal) (hGateBackRefIdeal := hGateBackRefIdeal) (hPre_finite_gate_back := hPre_finite_gate_back)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_Dw_DwIdeal
    ∧ algebraic_DwIdeal_DwRefIdeal (hDwIdeal := hDwIdeal) (hDwRefIdeal := hDwRefIdeal)
    ∧ preserves_Norm_NormIdeal
    ∧ algebraic_NormIdeal_NormRefIdeal_pre_finite_in (hNormIdeal := hNormIdeal) (hNormRefIdeal := hNormRefIdeal) (hPre_finite_in := hPre_finite_in)
    ∧ preserves_HgrnIn_HgrnInIdeal
    ∧ algebraic_HgrnInIdeal_HgrnInRefIdeal (hHgrnInIdeal := hHgrnInIdeal) (hHgrnInRefIdeal := hHgrnInRefIdeal)
    ∧ preserves_HgrnBack_HgrnBackIdeal
    ∧ algebraic_HgrnBackIdeal_HgrnBackRefIdeal (hHgrnBackIdeal := hHgrnBackIdeal) (hHgrnBackRefIdeal := hHgrnBackRefIdeal)
    ∧ preserves_QkvBack_QkvBackIdeal
    ∧ algebraic_QkvBackIdeal_QkvBackRefIdeal (hQkvBackIdeal := hQkvBackIdeal) (hQkvBackRefIdeal := hQkvBackRefIdeal)
    ∧ preserves_OutBack_OutBackIdeal
    ∧ algebraic_OutBackIdeal_OutBackRefIdeal (hOutBackIdeal := hOutBackIdeal) (hOutBackRefIdeal := hOutBackRefIdeal)
    ∧ preserves_DwQkv_DwQkvIdeal
    ∧ algebraic_DwQkvIdeal_DwQkvRefIdeal (hDwQkvIdeal := hDwQkvIdeal) (hDwQkvRefIdeal := hDwQkvRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S16384x1024 : Shape := ⟨2, ![16384, 1024]⟩
abbrev S16384x256 : Shape := ⟨2, ![16384, 256]⟩
abbrev S16 : Shape := ⟨1, ![16]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S16384x256 : S_.BroadcastsInDim S16384x256 (![] : Fin 0 → Fin S16384x256.rank)
  bcast_S_S16 : S_.BroadcastsInDim S16 (![] : Fin 0 → Fin S16.rank)

variable [Facts]

def fn {F : FTy → Type} [FloatOps F] (main_arg0 : FVec F S16384x1024 .bf16) (main_arg1 : FVec F S16384x256 .bf16) (main_arg2 : FVec F S16384x256 .bf16) (main_arg3 : FVec F S16384x1024 .bf16) (main_arg4 : FVec F S16 .f32) : IVec S16384x1024 1 × IVec S16384x256 1 × IVec S16384x256 1 × IVec S16384x1024 1 × IVec S16 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x256 .f32 := (extf .f32 · bitsLt_bf16_f32) main_arg1
  let main_v5 : FVec F S16384x256 .f32 := Host.absf main_v4
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_v8 : FVec F S16384x256 .f32 := (extf .f32 · bitsLt_bf16_f32) main_arg2
  let main_v9 : FVec F S16384x256 .f32 := Host.absf main_v8
  let main_cst_1 : FVec F S_ .f32 := constant S_ .f32 0x7F800000#32
  let main_v10 : FVec F S16384x256 .f32 := broadcastInDim S16384x256 ![] bcast_S_S16384x256 main_cst_1
  let main_v11 : IVec S16384x256 1 := cmpf .olt main_v9 main_v10
  let main_v12 : FVec F S16384x1024 .f32 := (extf .f32 · bitsLt_bf16_f32) main_arg3
  let main_v13 : FVec F S16384x1024 .f32 := Host.absf main_v12
  let main_cst_2 : FVec F S_ .f32 := constant S_ .f32 0x7F800000#32
  let main_v14 : FVec F S16384x1024 .f32 := broadcastInDim S16384x1024 ![] bcast_S_S16384x1024 main_cst_2
  let main_v15 : IVec S16384x1024 1 := cmpf .olt main_v13 main_v14
  let main_v16 : FVec F S16 .f32 := Host.absf main_arg4
  let main_cst_3 : FVec F S_ .f32 := constant S_ .f32 0x7F800000#32
  let main_v17 : FVec F S16 .f32 := broadcastInDim S16 ![] bcast_S_S16 main_cst_3
  let main_v18 : IVec S16 1 := cmpf .olt main_v16 main_v17
  (main_v3, main_v7, main_v11, main_v15, main_v18)
-- ==== Pre_finite_gate.lean ====
abbrev S16384x1024 : Shape := ⟨2, ![16384, 1024]⟩
abbrev S1024x5632 : Shape := ⟨2, ![1024, 5632]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024x5632 : S_.BroadcastsInDim S1024x5632 (![] : Fin 0 → Fin S1024x5632.rank)

variable [Facts]

def fn {F : FTy → Type} [FloatOps F] (main_arg0 : FVec F S16384x1024 .bf16) (main_arg1 : FVec F S1024x5632 .bf16) : IVec S16384x1024 1 × IVec S1024x5632 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  (main_v3, main_v7)
-- ==== Pre_finite_gate_back.lean ====
abbrev S16384x5632 : Shape := ⟨2, ![16384, 5632]⟩
abbrev S2816x1024 : Shape := ⟨2, ![2816, 1024]⟩
abbrev S16384x1024 : Shape := ⟨2, ![16384, 1024]⟩
abbrev S_ : Shape := ⟨0, ![]⟩

class Facts : Prop where
  bcast_S_S16384x5632 : S_.BroadcastsInDim S16384x5632 (![] : Fin 0 → Fin S16384x5632.rank)
  bitsLt_bf16_f32 : FTy.bits .bf16 < FTy.bits .f32
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x5632 .f32) (main_arg1 : FVec F S2816x1024 .bf16) (main_arg2 : FVec F S16384x1024 .bf16) : IVec S16384x5632 1 × IVec S2816x1024 1 × IVec S16384x1024 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S16384x1024 .f32 := (extf .f32 · bitsLt_bf16_f32) main_arg2
  let main_v8 : FVec F S16384x1024 .f32 := Host.absf main_v7
  let main_cst_1 : FVec F S_ .f32 := constant S_ .f32 0x7F800000#32
  let main_v9 : FVec F S16384x1024 .f32 := broadcastInDim S16384x1024 ![] bcast_S_S16384x1024 main_cst_1
  let main_v10 : IVec S16384x1024 1 := cmpf .olt main_v8 main_v9
  (main_v2, main_v6, main_v10)
-- ==== Pre_finite_in.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bitsLt_bf16_f32 : FTy.bits .bf16 < FTy.bits .f32
  bcast_S_S1024x5632 : S_.BroadcastsInDim S1024x5632 (![] : Fin 0 → Fin S1024x5632.rank)
  bcast_S_S16384x2816 : S_.BroadcastsInDim S16384x2816 (![] : Fin 0 → Fin S16384x2816.rank)

variable [Facts]

def fn_part1 {F : FTy → Type} [FloatOps F] (main_v2 : IVec S16384x1024 1) (main_v5 : IVec S1024 1) (main_v9 : IVec S1024x5632 1) (main_v13 : IVec S16384x2816 1) (main_v17 : IVec S16384x2816 1) (main_v18 : FVec F S16384x1024 .f32) : IVec S16384x1024 1 × IVec S1024 1 × IVec S1024x5632 1 × IVec S16384x2816 1 × IVec S16384x2816 1 × IVec S16384x1024 1 :=
  let main_cst_4 : FVec F S_ .f32 := constant S_ .f32 0x7F800000#32
  let main_v19 : FVec F S16384x1024 .f32 := broadcastInDim S16384x1024 ![] bcast_S_S16384x1024 main_cst_4
  let main_v20 : IVec S16384x1024 1 := cmpf .olt main_v18 main_v19
  (main_v2, main_v5, main_v9, main_v13, main_v17, main_v20)

def fn {F : FTy → Type} [FloatOps F] (main_arg0 : FVec F S16384x1024 .f32) (main_arg1 : FVec F S1024 .f32) (main_arg2 : FVec F S1024 .f32) (main_arg3 : FVec F S1024x5632 .bf16) (main_arg4 : FVec F S16384x2816 .bf16) (main_arg5 : FVec F S16384x2816 .bf16) (main_arg6 : FVec F S16384x1024 .f32) : IVec S16384x1024 1 × IVec S1024 1 × IVec S1024x5632 1 × IVec S16384x2816 1 × IVec S16384x2816 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := (extf .f32 · bitsLt_bf16_f32) main_arg3
  let main_v7 : FVec F S1024x5632 .f32 := Host.absf main_v6
  let main_cst_1 : FVec F S_ .f32 := constant S_ .f32 0x7F800000#32
  let main_v8 : FVec F S1024x5632 .f32 := broadcastInDim S1024x5632 ![] bcast_S_S1024x5632 main_cst_1
  let main_v9 : IVec S1024x5632 1 := cmpf .olt main_v7 main_v8
  let main_v10 : FVec F S16384x2816 .f32 := (extf .f32 · bitsLt_bf16_f32) main_arg4
  let main_v11 : FVec F S16384x2816 .f32 := Host.absf main_v10
  let main_cst_2 : FVec F S_ .f32 := constant S_ .f32 0x7F800000#32
  let main_v12 : FVec F S16384x2816 .f32 := broadcastInDim S16384x2816 ![] bcast_S_S16384x2816 main_cst_2
  let main_v13 : IVec S16384x2816 1 := cmpf .olt main_v11 main_v12
  let main_v14 : FVec F S16384x2816 .f32 := (extf .f32 · bitsLt_bf16_f32) main_arg5
  let main_v15 : FVec F S16384x2816 .f32 := Host.absf main_v14
  let main_cst_3 : FVec F S_ .f32 := constant S_ .f32 0x7F800000#32
  let main_v16 : FVec F S16384x2816 .f32 := broadcastInDim S16384x2816 ![] bcast_S_S16384x2816 main_cst_3
  let main_v17 : IVec S16384x2816 1 := cmpf .olt main_v15 main_v16
  let main_v18 : FVec F S16384x1024 .f32 := Host.absf main_arg6
  fn_part1 (F := F) main_v2 main_v5 main_v9 main_v13 main_v17 main_v18
-- ==== Kernel.lean ====
abbrev S16384x1024 : Shape := ⟨2, ![16384, 1024]⟩
abbrev S16384x256 : Shape := ⟨2, ![16384, 256]⟩
abbrev S16 : Shape := ⟨1, ![16]⟩
abbrev S128x128x4x4x64 : Shape := ⟨5, ![128, 128, 4, 4, 64]⟩
abbrev S16384x4x64 : Shape := ⟨3, ![16384, 4, 64]⟩
abbrev S_ : Shape := ⟨0, ![]⟩
abbrev S16640x4x64 : Shape := ⟨3, ![16640, 4, 64]⟩
abbrev S130x128x4x64 : Shape := ⟨4, ![130, 128, 4, 64]⟩
abbrev S128x128x4x64 : Shape := ⟨4, ![128, 128, 4, 64]⟩
abbrev S128x384x4x64 : Shape := ⟨4, ![128, 384, 4, 64]⟩
abbrev S4x4 : Shape := ⟨2, ![4, 4]⟩
abbrev S1x4x4x1x1 : Shape := ⟨5, ![1, 4, 4, 1, 1]⟩
abbrev S128x4x384x128x4 : Shape := ⟨5, ![128, 4, 384, 128, 4]⟩
abbrev S128x4x4x128x384 : Shape := ⟨5, ![128, 4, 4, 128, 384]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S384 : Shape := ⟨1, ![384]⟩
abbrev S1x1x384 : Shape := ⟨3, ![1, 1, 384]⟩
abbrev S128x1x384 : Shape := ⟨3, ![128, 1, 384]⟩
abbrev S128x128x384 : Shape := ⟨3, ![128, 128, 384]⟩
abbrev S128x1x1x128x384 : Shape := ⟨5, ![128, 1, 1, 128, 384]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩
abbrev S4x128x4x128x1 : Shape := ⟨5, ![4, 128, 4, 128, 1]⟩
abbrev S4x128x512x1 : Shape := ⟨4, ![4, 128, 512, 1]⟩
abbrev S128x384x256 : Shape := ⟨3, ![128, 384, 256]⟩
abbrev S1x16 : Shape := ⟨2, ![1, 16]⟩
abbrev S256x1024 : Shape := ⟨2, ![256, 1024]⟩
abbrev S4x2x512x1 : Shape := ⟨4, ![4, 2, 512, 1]⟩
abbrev S128x256 : Shape := ⟨2, ![128, 256]⟩
abbrev S256x256 : Shape := ⟨2, ![256, 256]⟩
abbrev S2x384x256 : Shape := ⟨3, ![2, 384, 256]⟩
abbrev S512x256 : Shape := ⟨2, ![512, 256]⟩
abbrev S512x384 : Shape := ⟨2, ![512, 384]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S384x64 : Shape := ⟨2, ![384, 64]⟩
abbrev S1x1x512x1 : Shape := ⟨4, ![1, 1, 512, 1]⟩
abbrev S1 : Shape := ⟨1, ![1]⟩
abbrev S128x1 : Shape := ⟨2, ![128, 1]⟩
abbrev S1x1 : Shape := ⟨2, ![1, 1]⟩
abbrev S128x1024 : Shape := ⟨2, ![128, 1024]⟩
abbrev S384x256 : Shape := ⟨2, ![384, 256]⟩
abbrev S1x384x256 : Shape := ⟨3, ![1, 384, 256]⟩

abbrev nBuf : Space → Nat
  | .hbm => 101
  | .vmem => 27
  | .smem => 1
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S16384x1024, .bf16⟩
  | .hbm, ⟨4, _⟩ => ⟨S16, .f32⟩
  | .hbm, ⟨5, _⟩ => ⟨S16384x1024, .f32⟩
  | .hbm, ⟨6, _⟩ => ⟨S128x128x4x4x64, .f32⟩
  | .hbm, ⟨7, _⟩ => ⟨S16384x256, .f32⟩
  | .hbm, ⟨8, _⟩ => ⟨S16384x4x64, .f32⟩
  | .hbm, ⟨9, _⟩ => ⟨S_, .i32⟩
  | .hbm, ⟨10, _⟩ => ⟨S_, .f32⟩
  | .hbm, ⟨11, _⟩ => ⟨S16640x4x64, .f32⟩
  | .hbm, ⟨12, _⟩ => ⟨S130x128x4x64, .f32⟩
  | .hbm, ⟨13, _⟩ => ⟨S128x128x4x64, .f32⟩
  | .hbm, ⟨14, _⟩ => ⟨S128x128x4x64, .f32⟩
  | .hbm, ⟨15, _⟩ => ⟨S128x128x4x64, .f32⟩
  | .hbm, ⟨16, _⟩ => ⟨S128x384x4x64, .f32⟩
  | .hbm, ⟨17, _⟩ => ⟨S16384x256, .f32⟩
  | .hbm, ⟨18, _⟩ => ⟨S16384x4x64, .f32⟩
  | .hbm, ⟨19, _⟩ => ⟨S_, .i32⟩
  | .hbm, ⟨20, _⟩ => ⟨S_, .f32⟩
  | .hbm, ⟨21, _⟩ => ⟨S16640x4x64, .f32⟩
  | .hbm, ⟨22, _⟩ => ⟨S130x128x4x64, .f32⟩
  | .hbm, ⟨23, _⟩ => ⟨S128x128x4x64, .f32⟩
  | .hbm, ⟨24, _⟩ => ⟨S128x128x4x64, .f32⟩
  | .hbm, ⟨25, _⟩ => ⟨S128x128x4x64, .f32⟩
  | .hbm, ⟨26, _⟩ => ⟨S128x384x4x64, .f32⟩
  | .hbm, ⟨27, _⟩ => ⟨S4x4, .f32⟩
  | .hbm, ⟨28, _⟩ => ⟨S1x4x4x1x1, .f32⟩
  | .hbm, ⟨29, _⟩ => ⟨S128x4x384x128x4, .f32⟩
  | .hbm, ⟨30, _⟩ => ⟨S128x4x4x128x384, .f32⟩
  | .hbm, ⟨31, _⟩ => ⟨S128, .i32⟩
  | .hbm, ⟨32, _⟩ => ⟨S128x1x1, .i32⟩
  | .hbm, ⟨33, _⟩ => ⟨S_, .i32⟩
  | .hbm, ⟨34, _⟩ => ⟨S128x1x1, .i32⟩
  | .hbm, ⟨35, _⟩ => ⟨S128x1x1, .i32⟩
  | .hbm, ⟨36, _⟩ => ⟨S128, .i32⟩
  | .hbm, ⟨37, _⟩ => ⟨S1x128x1, .i32⟩
  | .hbm, ⟨38, _⟩ => ⟨S128x128x1, .i32⟩
  | .hbm, ⟨39, _⟩ => ⟨S128x128x1, .i32⟩
  | .hbm, ⟨40, _⟩ => ⟨S128x128x1, .i32⟩
  | .hbm, ⟨41, _⟩ => ⟨S_, .i32⟩
  | .hbm, ⟨42, _⟩ => ⟨S128x1x1, .i32⟩
  | .hbm, ⟨43, _⟩ => ⟨S128x1x1, .i32⟩
  | .hbm, ⟨44, _⟩ => ⟨S384, .i32⟩
  | .hbm, ⟨45, _⟩ => ⟨S1x1x384, .i32⟩
  | .hbm, ⟨46, _⟩ => ⟨S128x1x384, .i32⟩
  | .hbm, ⟨47, _⟩ => ⟨S128x1x384, .i32⟩
  | .hbm, ⟨48, _⟩ => ⟨S128x1x384, .i32⟩
  | .hbm, ⟨49, _⟩ => ⟨S128x128x384, .i32⟩
  | .hbm, ⟨50, _⟩ => ⟨S128x128x384, .i32⟩
  | .hbm, ⟨51, _⟩ => ⟨S128x128x384, .i32⟩
  | .hbm, ⟨52, _⟩ => ⟨S128x128x384, .i32⟩
  | .hbm, ⟨53, _⟩ => ⟨S_, .i32⟩
  | .hbm, ⟨54, _⟩ => ⟨S128x128x384, .i32⟩
  | .hbm, ⟨55, _⟩ => ⟨S128x128x384, .i1⟩
  | .hbm, ⟨56, _⟩ => ⟨S_, .i32⟩
  | .hbm, ⟨57, _⟩ => ⟨S128x1x384, .i32⟩
  | .hbm, ⟨58, _⟩ => ⟨S128x1x384, .i1⟩
  | .hbm, ⟨59, _⟩ => ⟨S128x128x384, .i1⟩
  | .hbm, ⟨60, _⟩ => ⟨S128x128x384, .i1⟩
  | .hbm, ⟨61, _⟩ => ⟨S_, .i32⟩
  | .hbm, ⟨62, _⟩ => ⟨S128x1x384, .i32⟩
  | .hbm, ⟨63, _⟩ => ⟨S128x1x384, .i1⟩
  | .hbm, ⟨64, _⟩ => ⟨S128x128x384, .i1⟩
  | .hbm, ⟨65, _⟩ => ⟨S128x128x384, .i1⟩
  | .hbm, ⟨66, _⟩ => ⟨S128x1x1x128x384, .i1⟩
  | .hbm, ⟨67, _⟩ => ⟨S_, .f32⟩
  | .hbm, ⟨68, _⟩ => ⟨S_, .f32⟩
  | .hbm, ⟨69, _⟩ => ⟨S128x4x4x128x384, .i1⟩
  | .hbm, ⟨70, _⟩ => ⟨S128x4x4x128x384, .f32⟩
  | .hbm, ⟨71, _⟩ => ⟨S128x4x4x128x384, .f32⟩
  | .hbm, ⟨72, _⟩ => ⟨S_, .f32⟩
  | .hbm, ⟨73, _⟩ => ⟨S128x4x4x128, .f32⟩
  | .hbm, ⟨74, _⟩ => ⟨S128x4x4x128x1, .f32⟩
  | .hbm, ⟨75, _⟩ => ⟨S128x4x4x128x1, .f32⟩
  | .hbm, ⟨76, _⟩ => ⟨S128x4x4x128x1, .f32⟩
  | .hbm, ⟨77, _⟩ => ⟨S128x4x4x128x384, .f32⟩
  | .hbm, ⟨78, _⟩ => ⟨S128x4x4x128x384, .f32⟩
  | .hbm, ⟨79, _⟩ => ⟨S128x4x4x128x384, .f32⟩
  | .hbm, ⟨80, _⟩ => ⟨S_, .f32⟩
  | .hbm, ⟨81, _⟩ => ⟨S128x4x4x128, .f32⟩
  | .hbm, ⟨82, _⟩ => ⟨S128x4x4x128x1, .f32⟩
  | .hbm, ⟨83, _⟩ => ⟨S128x4x4x128x1, .f32⟩
  | .hbm, ⟨84, _⟩ => ⟨S128x4x4x128x1, .f32⟩
  | .hbm, ⟨85, _⟩ => ⟨S128x4x4x128x1, .f32⟩
  | .hbm, ⟨86, _⟩ => ⟨S128x4x4x128x1, .f32⟩
  | .hbm, ⟨87, _⟩ => ⟨S128x4x4x128x384, .f32⟩
  | .hbm, ⟨88, _⟩ => ⟨S128x4x4x128x384, .f32⟩
  | .hbm, ⟨89, _⟩ => ⟨S128x4x64x4x128, .f32⟩
  | .hbm, ⟨90, _⟩ => ⟨S128x128x4x4x64, .f32⟩
  | .hbm, ⟨91, _⟩ => ⟨S16384x1024, .f32⟩
  | .hbm, ⟨92, _⟩ => ⟨S16384x1024, .bf16⟩
  | .hbm, ⟨93, _⟩ => ⟨S128x4x4x128x1, .f32⟩
  | .hbm, ⟨94, _⟩ => ⟨S128x4x4x128x1, .f32⟩
  | .hbm, ⟨95, _⟩ => ⟨S4x128x4x128x1, .f32⟩
  | .hbm, ⟨96, _⟩ => ⟨S4x128x512x1, .f32⟩
  | .hbm, ⟨97, _⟩ => ⟨S16384x1024, .bf16⟩
  | .hbm, ⟨98, _⟩ => ⟨S128x384x256, .f32⟩
  | .hbm, ⟨99, _⟩ => ⟨S128x384x256, .f32⟩
  | .hbm, ⟨100, _⟩ => ⟨S1x16, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4x2x512x1, .f32⟩
  | .local _ .vmem, ⟨7, _⟩ => ⟨S4x2x512x1, .f32⟩
  | .local _ .vmem, ⟨8, _⟩ => ⟨S128x256, .bf16⟩
  | .local _ .vmem, ⟨9, _⟩ => ⟨S128x256, .bf16⟩
  | .local _ .vmem, ⟨10, _⟩ => ⟨S256x256, .bf16⟩
  | .local _ .vmem, ⟨11, _⟩ => ⟨S256x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S256x256, .bf16⟩
  | .local _ .vmem, ⟨17, _⟩ => ⟨S256x256, .bf16⟩
  | .local _ .vmem, ⟨18, _⟩ => ⟨S128x256, .bf16⟩
  | .local _ .vmem, ⟨19, _⟩ => ⟨S128x256, .bf16⟩
  | .local _ .vmem, ⟨20, _⟩ => ⟨S256x1024, .bf16⟩
  | .local _ .vmem, ⟨21, _⟩ => ⟨S256x1024, .bf16⟩
  | .local _ .vmem, ⟨22, _⟩ => ⟨S2x384x256, .f32⟩
  | .local _ .vmem, ⟨23, _⟩ => ⟨S2x384x256, .f32⟩
  | .local _ .vmem, ⟨24, _⟩ => ⟨S2x384x256, .f32⟩
  | .local _ .vmem, ⟨25, _⟩ => ⟨S2x384x256, .f32⟩
  | .local _ .vmem, ⟨26, _⟩ => ⟨S1x16, .f32⟩
  | .local _ .smem, ⟨0, _⟩ => ⟨S16, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_3 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77_0 : Ref sig .tc := ⟨.hbm, 97, rfl⟩
abbrev main_v77_1 : Ref sig .tc := ⟨.hbm, 98, rfl⟩
abbrev main_v77_2 : Ref sig .tc := ⟨.hbm, 99, rfl⟩
abbrev main_v77_3 : Ref sig .tc := ⟨.hbm, 100, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x384x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x384x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16384x1024 : Shape := ⟨2, ![16384, 1024]⟩
abbrev S16384x256 : Shape := ⟨2, ![16384, 256]⟩
abbrev S16 : Shape := ⟨1, ![16]⟩
abbrev S128x128x4x4x64 : Shape := ⟨5, ![128, 128, 4, 4, 64]⟩
abbrev S16384x4x64 : Shape := ⟨3, ![16384, 4, 64]⟩
abbrev S_ : Shape := ⟨0, ![]⟩
abbrev S16640x4x64 : Shape := ⟨3, ![16640, 4, 64]⟩
abbrev S130x128x4x64 : Shape := ⟨4, ![130, 128, 4, 64]⟩
abbrev S128x128x4x64 : Shape := ⟨4, ![128, 128, 4, 64]⟩
abbrev S128x384x4x64 : Shape := ⟨4, ![128, 384, 4, 64]⟩
abbrev S4x4 : Shape := ⟨2, ![4, 4]⟩
abbrev S1x4x4x1x1 : Shape := ⟨5, ![1, 4, 4, 1, 1]⟩
abbrev S128x4x384x128x4 : Shape := ⟨5, ![128, 4, 384, 128, 4]⟩
abbrev S128x4x4x128x384 : Shape := ⟨5, ![128, 4, 4, 128, 384]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S384 : Shape := ⟨1, ![384]⟩
abbrev S1x1x384 : Shape := ⟨3, ![1, 1, 384]⟩
abbrev S128x1x384 : Shape := ⟨3, ![128, 1, 384]⟩
abbrev S128x128x384 : Shape := ⟨3, ![128, 128, 384]⟩
abbrev S128x1x1x128x384 : Shape := ⟨5, ![128, 1, 1, 128, 384]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩
abbrev S128x4x64x384 : Shape := ⟨4, ![128, 4, 64, 384]⟩
abbrev S4x4x1 : Shape := ⟨3, ![4, 4, 1]⟩
abbrev S128x4x128x4x64 : Shape := ⟨5, ![128, 4, 128, 4, 64]⟩
abbrev S128x4x384x64 : Shape := ⟨4, ![128, 4, 384, 64]⟩
abbrev S128x384x256 : Shape := ⟨3, ![128, 384, 256]⟩
abbrev S1x16 : Shape := ⟨2, ![1, 16]⟩

abbrev nBuf : Space → Nat
  | .hbm => 185
  | .vmem => 0
  | .smem => 0
  | _ => 0

abbrev hbmTy0_0 (i : Nat) : BufTy := match i % 128 with
  | 0 => ⟨S16384x1024, .bf16⟩
  | 1 => ⟨S16384x256, .bf16⟩
  | 2 => ⟨S16384x256, .bf16⟩
  | 3 => ⟨S16384x1024, .bf16⟩
  | 4 => ⟨S16, .f32⟩
  | 5 => ⟨S16384x1024, .f32⟩
  | 6 => ⟨S128x128x4x4x64, .f32⟩
  | 7 => ⟨S16384x256, .f32⟩
  | 8 => ⟨S16384x4x64, .f32⟩
  | 9 => ⟨S_, .i32⟩
  | 10 => ⟨S_, .f32⟩
  | 11 => ⟨S16640x4x64, .f32⟩
  | 12 => ⟨S130x128x4x64, .f32⟩
  | 13 => ⟨S128x128x4x64, .f32⟩
  | 14 => ⟨S128x128x4x64, .f32⟩
  | 15 => ⟨S128x128x4x64, .f32⟩
  | 16 => ⟨S128x384x4x64, .f32⟩
  | 17 => ⟨S16384x256, .f32⟩
  | 18 => ⟨S16384x4x64, .f32⟩
  | 19 => ⟨S_, .i32⟩
  | 20 => ⟨S_, .f32⟩
  | 21 => ⟨S16640x4x64, .f32⟩
  | 22 => ⟨S130x128x4x64, .f32⟩
  | 23 => ⟨S128x128x4x64, .f32⟩
  | 24 => ⟨S128x128x4x64, .f32⟩
  | 25 => ⟨S128x128x4x64, .f32⟩
  | 26 => ⟨S128x384x4x64, .f32⟩
  | 27 => ⟨S4x4, .f32⟩
  | 28 => ⟨S1x4x4x1x1, .f32⟩
  | 29 => ⟨S128x4x384x128x4, .f32⟩
  | 30 => ⟨S128x4x4x128x384, .f32⟩
  | 31 => ⟨S128, .i32⟩
  | 32 => ⟨S128x1x1, .i32⟩
  | 33 => ⟨S_, .i32⟩
  | 34 => ⟨S128x1x1, .i32⟩
  | 35 => ⟨S128x1x1, .i32⟩
  | 36 => ⟨S128, .i32⟩
  | 37 => ⟨S1x128x1, .i32⟩
  | 38 => ⟨S128x128x1, .i32⟩
  | 39 => ⟨S128x128x1, .i32⟩
  | 40 => ⟨S128x128x1, .i32⟩
  | 41 => ⟨S_, .i32⟩
  | 42 => ⟨S128x1x1, .i32⟩
  | 43 => ⟨S128x1x1, .i32⟩
  | 44 => ⟨S384, .i32⟩
  | 45 => ⟨S1x1x384, .i32⟩
  | 46 => ⟨S128x1x384, .i32⟩
  | 47 => ⟨S128x1x384, .i32⟩
  | 48 => ⟨S128x1x384, .i32⟩
  | 49 => ⟨S128x128x384, .i32⟩
  | 50 => ⟨S128x128x384, .i32⟩
  | 51 => ⟨S128x128x384, .i32⟩
  | 52 => ⟨S128x128x384, .i32⟩
  | 53 => ⟨S_, .i32⟩
  | 54 => ⟨S128x128x384, .i32⟩
  | 55 => ⟨S128x128x384, .i1⟩
  | 56 => ⟨S_, .i32⟩
  | 57 => ⟨S128x1x384, .i32⟩
  | 58 => ⟨S128x1x384, .i1⟩
  | 59 => ⟨S128x128x384, .i1⟩
  | 60 => ⟨S128x128x384, .i1⟩
  | 61 => ⟨S_, .i32⟩
  | 62 => ⟨S128x1x384, .i32⟩
  | 63 => ⟨S128x1x384, .i1⟩
  | 64 => ⟨S128x128x384, .i1⟩
  | 65 => ⟨S128x128x384, .i1⟩
  | 66 => ⟨S128x1x1x128x384, .i1⟩
  | 67 => ⟨S_, .f32⟩
  | 68 => ⟨S_, .f32⟩
  | 69 => ⟨S128x4x4x128x384, .i1⟩
  | 70 => ⟨S128x4x4x128x384, .f32⟩
  | 71 => ⟨S128x4x4x128x384, .f32⟩
  | 72 => ⟨S_, .f32⟩
  | 73 => ⟨S128x4x4x128x384, .f32⟩
  | 74 => ⟨S_, .f32⟩
  | 75 => ⟨S128x4x4x128, .f32⟩
  | 76 => ⟨S128x4x4x128x1, .f32⟩
  | 77 => ⟨S128x4x4x128x384, .f32⟩
  | 78 => ⟨S128x4x4x128x384, .i1⟩
  | 79 => ⟨S128x4x4x128x384, .f32⟩
  | 80 => ⟨S_, .f32⟩
  | 81 => ⟨S128x4x4x128, .f32⟩
  | 82 => ⟨S128x4x4x128x1, .f32⟩
  | 83 => ⟨S128x4x4x128x1, .f32⟩
  | 84 => ⟨S128x4x4x128x1, .f32⟩
  | 85 => ⟨S128x4x4x128x1, .f32⟩
  | 86 => ⟨S128x4x4x128x1, .i1⟩
  | 87 => ⟨S128x4x4x128x1, .f32⟩
  | 88 => ⟨S128x4x4x128x1, .i1⟩
  | 89 => ⟨S_, .f32⟩
  | 90 => ⟨S128x4x4x128x1, .f32⟩
  | 91 => ⟨S_, .f32⟩
  | 92 => ⟨S128x4x4x128x1, .f32⟩
  | 93 => ⟨S_, .f32⟩
  | 94 => ⟨S128x4x4x128x1, .f32⟩
  | 95 => ⟨S128x4x4x128x1, .f32⟩
  | 96 => ⟨S128x4x4x128x1, .f32⟩
  | 97 => ⟨S128x4x4x128x1, .f32⟩
  | 98 => ⟨S128x4x4x128x1, .i1⟩
  | 99 => ⟨S128x4x4x128x1, .f32⟩
  | 100 => ⟨S128x4x4x128x1, .i1⟩
  | 101 => ⟨S_, .f32⟩
  | 102 => ⟨S128x4x4x128x1, .f32⟩
  | 103 => ⟨S_, .f32⟩
  | 104 => ⟨S128x4x4x128x1, .f32⟩
  | 105 => ⟨S_, .f32⟩
  | 106 => ⟨S128x4x4x128x1, .f32⟩
  | 107 => ⟨S128x4x4x128x1, .f32⟩
  | 108 => ⟨S128x4x4x128x1, .f32⟩
  | 109 => ⟨S128x4x4x128x384, .f32⟩
  | 110 => ⟨S128x4x4x128x384, .f32⟩
  | 111 => ⟨S128x4x4x128x384, .f32⟩
  | 112 => ⟨S_, .f32⟩
  | 113 => ⟨S128x4x4x128, .f32⟩
  | 114 => ⟨S128x4x4x128x1, .f32⟩
  | 115 => ⟨S128x4x4x128x1, .f32⟩
  | 116 => ⟨S128x4x4x128x1, .f32⟩
  | 117 => ⟨S128x4x4x128x1, .f32⟩
  | 118 => ⟨S128x4x4x128x1, .f32⟩
  | 119 => ⟨S128x4x4x128x384, .f32⟩
  | 120 => ⟨S128x4x4x128x384, .f32⟩
  | 121 => ⟨S128x4x4x128x1, .f32⟩
  | 122 => ⟨S_, .f32⟩
  | 123 => ⟨S128x4x4x128x1, .f32⟩
  | 124 => ⟨S128x4x4x128x1, .f32⟩
  | 125 => ⟨S128x4x64x4x128, .f32⟩
  | 126 => ⟨S128x128x4x4x64, .f32⟩
  | 127 => ⟨S16384x1024, .f32⟩
  | _ => ⟨S16384x1024, .bf16⟩

abbrev hbmTy0_1 (i : Nat) : BufTy := match i % 128 with
  | 0 => ⟨S128x128x4x4x64, .f32⟩
  | 1 => ⟨S128x4x64x4x128, .f32⟩
  | 2 => ⟨S128x4x4x128x384, .f32⟩
  | 3 => ⟨S128x4x64x384, .f32⟩
  | 4 => ⟨S128x384x4x64, .f32⟩
  | 5 => ⟨S128x4x4x128x384, .f32⟩
  | 6 => ⟨S128x4x4x128x384, .f32⟩
  | 7 => ⟨S128x4x4x128x384, .f32⟩
  | 8 => ⟨S_, .f32⟩
  | 9 => ⟨S128x4x4x128, .f32⟩
  | 10 => ⟨S128x4x4x128x1, .f32⟩
  | 11 => ⟨S128x4x4x128x1, .f32⟩
  | 12 => ⟨S128x4x4x128x384, .f32⟩
  | 13 => ⟨S128x4x4x128x384, .f32⟩
  | 14 => ⟨S128x4x4x128x1, .f32⟩
  | 15 => ⟨S_, .f32⟩
  | 16 => ⟨S4x4x1, .f32⟩
  | 17 => ⟨S1x4x4x1x1, .f32⟩
  | 18 => ⟨S128x4x4x128x1, .f32⟩
  | 19 => ⟨S_, .f32⟩
  | 20 => ⟨S128x4x4x128, .f32⟩
  | 21 => ⟨S128x4x4x128x384, .f32⟩
  | 22 => ⟨S128x4x4x128x384, .f32⟩
  | 23 => ⟨S128x4x4x128x384, .f32⟩
  | 24 => ⟨S128x4x4x128x384, .f32⟩
  | 25 => ⟨S_, .f32⟩
  | 26 => ⟨S128x4x4x128, .f32⟩
  | 27 => ⟨S128x4x4x128x1, .f32⟩
  | 28 => ⟨S128x4x4x128x1, .f32⟩
  | 29 => ⟨S128x4x4x128x1, .f32⟩
  | 30 => ⟨S_, .f32⟩
  | 31 => ⟨S4x4x1, .f32⟩
  | 32 => ⟨S1x4x4x1x1, .f32⟩
  | 33 => ⟨S1x4x4x1x1, .f32⟩
  | 34 => ⟨S128x4x4x128x1, .f32⟩
  | 35 => ⟨S_, .f32⟩
  | 36 => ⟨S128x4x4x128, .f32⟩
  | 37 => ⟨S128x4x4x128, .f32⟩
  | 38 => ⟨S128x4x4x128x384, .f32⟩
  | 39 => ⟨S128x4x4x128x384, .f32⟩
  | 40 => ⟨S128x4x4x128x384, .f32⟩
  | 41 => ⟨S_, .f32⟩
  | 42 => ⟨S128x4x4x128x384, .f32⟩
  | 43 => ⟨S128x4x4x128x384, .f32⟩
  | 44 => ⟨S128x4x384x128x4, .f32⟩
  | 45 => ⟨S128x4x128x4x64, .f32⟩
  | 46 => ⟨S128x128x4x4x64, .f32⟩
  | 47 => ⟨S128x4x384x64, .f32⟩
  | 48 => ⟨S128x384x4x64, .f32⟩
  | 49 => ⟨S_, .f32⟩
  | 50 => ⟨S4x4, .f32⟩
  | 51 => ⟨S16, .f32⟩
  | 52 => ⟨S16384x1024, .f32⟩
  | 53 => ⟨S16384x1024, .bf16⟩
  | 54 => ⟨S128x384x256, .f32⟩
  | 55 => ⟨S128x384x256, .f32⟩
  | 56 => ⟨S1x16, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_3 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst : Ref sig .tc := ⟨.hbm, 67, rfl⟩
abbrev main_call2_v0 : Ref sig .tc := ⟨.hbm, 68, rfl⟩
abbrev main_v53_1 : Ref sig .tc := ⟨.hbm, 69, rfl⟩
abbrev main_call2_v2 : Ref sig .tc := ⟨.hbm, 70, rfl⟩
abbrev main_v53_0 : Ref sig .tc := ⟨.hbm, 71, rfl⟩
abbrev main_call2_cst : Ref sig .tc := ⟨.hbm, 72, rfl⟩
abbrev main_v53_2 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_15 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_16 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_17 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_19 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_20 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_21 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_call3_cst : Ref sig .tc := ⟨.hbm, 169, rfl⟩
abbrev main_call3_v0 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_22 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩

abbrev nD : Nat := 1
abbrev τ : Topo := Topo.v7x

variable {F : FTy → Type} [FloatOps F]
-- ==== Gate.lean ====
abbrev S16384x1024 : Shape := ⟨2, ![16384, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S16384x2816 : Shape := ⟨2, ![16384, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S16384x2816, .bf16⟩
  | .hbm, ⟨5, _⟩ => ⟨S16384x2816, .bf16⟩
  | .hbm, ⟨6, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x5632, .f32⟩
  | .hbm, ⟨30, _⟩ => ⟨S16384x2816, .f32⟩
  | .hbm, ⟨31, _⟩ => ⟨S16384x2816, .f32⟩
  | .hbm, ⟨32, _⟩ => ⟨S16384x2816, .bf16⟩
  | .hbm, ⟨33, _⟩ => ⟨S16384x2816, .bf16⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩

abbrev nD : Nat := 1
abbrev τ : Topo := Topo.v7x

variable {F : FTy → Type} [FloatOps F]
-- ==== GateBack.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 34
  | .vmem => 12
  | .smem => 0
  | _ => 0

abbrev bufTy : (tb : Table) → Fin (tcTables nBuf tb) → BufTy
  | .hbm, ⟨0, _⟩ => ⟨S16384x5632, .f32⟩
  | .hbm, ⟨1, _⟩ => ⟨S2816x1024, .bf16⟩
  | .hbm, ⟨2, _⟩ => ⟨S16384x1024, .bf16⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .bf16⟩
  | .hbm, ⟨31, _⟩ => ⟨S16384x2816, .bf16⟩
  | .hbm, ⟨32, _⟩ => ⟨S16384x2816, .bf16⟩
  | .hbm, ⟨33, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateBackRefIdeal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .bf16⟩
  | .hbm, ⟨2, _⟩ => ⟨S16384x1024, .bf16⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S2816x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x5632, .f32⟩
  | .hbm, ⟨30, _⟩ => ⟨S16384x2816, .f32⟩
  | .hbm, ⟨31, _⟩ => ⟨S16384x2816, .f32⟩
  | .hbm, ⟨32, _⟩ => ⟨S16384x2816, .bf16⟩
  | .hbm, ⟨33, _⟩ => ⟨S16384x2816, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== DwIn.lean ====
abbrev S16384x1024 : Shape := ⟨2, ![16384, 1024]⟩
abbrev S16384x2816 : Shape := ⟨2, ![16384, 2816]⟩
abbrev S2x1024x1408 : Shape := ⟨3, ![2, 1024, 1408]⟩
abbrev S512x1024 : Shape := ⟨2, ![512, 1024]⟩
abbrev S512x2816 : Shape := ⟨2, ![512, 2816]⟩
abbrev S1024x2816 : Shape := ⟨2, ![1024, 2816]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S2x1024x1408, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2x1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S1024x2x1408, .f32⟩
  | .hbm, ⟨10, _⟩ => ⟨S2x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S16384x2816 : Shape := ⟨2, ![16384, 2816]⟩
abbrev S16384x1024 : Shape := ⟨2, ![16384, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dw.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x2816 : Shape := ⟨2, ![512, 2816]⟩
abbrev S512x1024 : Shape := ⟨2, ![512, 1024]⟩
abbrev S512x1 : Shape := ⟨2, ![512, 1]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩

abbrev nBuf : Space → Nat
  | .hbm => 42
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .bf16⟩
  | .hbm, ⟨4, _⟩ => ⟨S16384x2816, .bf16⟩
  | .hbm, ⟨5, _⟩ => ⟨S16384x2816, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S1024x4x1408, .bf16⟩
  | .hbm, ⟨35, _⟩ => ⟨S4x1024x1408, .bf16⟩
  | .hbm, ⟨36, _⟩ => ⟨S16384x1024, .bf16⟩
  | .hbm, ⟨37, _⟩ => ⟨S1x1024, .f32⟩
  | .hbm, ⟨38, _⟩ => ⟨S16384x1024, .f32⟩
  | .hbm, ⟨39, _⟩ => ⟨S16384x1024, .bf16⟩
  | .hbm, ⟨40, _⟩ => ⟨S1x1024, .f32⟩
  | .hbm, ⟨41, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormRefIdeal.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .bf16⟩
  | .hbm, ⟨4, _⟩ => ⟨S16384x2816, .bf16⟩
  | .hbm, ⟨5, _⟩ => ⟨S16384x2816, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1024x5632, .f32⟩
  | .hbm, ⟨44, _⟩ => ⟨S16384x5632, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x5632, .bf16⟩
  | .hbm, ⟨49, _⟩ => ⟨S16384x5632, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S16384x1024, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .bf16⟩
  | .hbm, ⟨100, _⟩ => ⟨S1x1024, .f32⟩
  | .hbm, ⟨101, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== HgrnIn.lean ====
abbrev S16384x1024 : Shape := ⟨2, ![16384, 1024]⟩
abbrev S1024x5120 : Shape := ⟨2, ![1024, 5120]⟩
abbrev S16384x5120 : Shape := ⟨2, ![16384, 5120]⟩
abbrev S512x1024 : Shape := ⟨2, ![512, 1024]⟩
abbrev S1024x1280 : Shape := ⟨2, ![1024, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .bf16⟩
  | .hbm, ⟨2, _⟩ => ⟨S16384x5120, .f32⟩
  | .local _ .vmem, ⟨0, _⟩ => ⟨S512x1024, .bf16⟩
  | .local _ .vmem, ⟨1, _⟩ => ⟨S512x1024, .bf16⟩
  | .local _ .vmem, ⟨2, _⟩ => ⟨S1024x1280, .bf16⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnInRefIdeal.lean ====
abbrev S16384x1024 : Shape := ⟨2, ![16384, 1024]⟩
abbrev S1024x5120 : Shape := ⟨2, ![1024, 5120]⟩
abbrev S16384x5120 : Shape := ⟨2, ![16384, 5120]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .bf16⟩
  | .hbm, ⟨2, _⟩ => ⟨S16384x1024, .f32⟩
  | .hbm, ⟨3, _⟩ => ⟨S1024x5120, .f32⟩
  | .hbm, ⟨4, _⟩ => ⟨S16384x5120, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HgrnBack.lean ====
abbrev S1024x5120 : Shape := ⟨2, ![1024, 5120]⟩
abbrev S16384x1024 : Shape := ⟨2, ![16384, 1024]⟩
abbrev S512x1024 : Shape := ⟨2, ![512, 1024]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S1024x5120, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x5120, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnBackRefIdeal.lean ====
abbrev S1024x5120 : Shape := ⟨2, ![1024, 5120]⟩
abbrev S16384x1024 : Shape := ⟨2, ![16384, 1024]⟩
abbrev S16384x5120 : Shape := ⟨2, ![16384, 5120]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1024x5120, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .f32⟩
  | .hbm, ⟨7, _⟩ => ⟨S16384x5120, .bf16⟩
  | .hbm, ⟨8, _⟩ => ⟨S16384x5120, .f32⟩
  | .hbm, ⟨9, _⟩ => ⟨S_, .f32⟩
  | .hbm, ⟨10, _⟩ => ⟨S16384x1024, .f32⟩
  | .hbm, ⟨11, _⟩ => ⟨S1024x5120, .f32⟩
  | .hbm, ⟨12, _⟩ => ⟨S16384x5120, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | _, _ => ⟨S1024x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== QkvBack.lean ====
abbrev S1024x1536 : Shape := ⟨2, ![1024, 1536]⟩
abbrev S16384x1536 : Shape := ⟨2, ![16384, 1536]⟩
abbrev S16384x1024 : Shape := ⟨2, ![16384, 1024]⟩
abbrev S512x1536 : Shape := ⟨2, ![512, 1536]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x1536, .bf16⟩
  | .hbm, ⟨1, _⟩ => ⟨S16384x1536, .bf16⟩
  | .hbm, ⟨2, _⟩ => ⟨S16384x1024, .f32⟩
  | .hbm, ⟨3, _⟩ => ⟨S16384x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvBackRefIdeal.lean ====
abbrev S1024x1536 : Shape := ⟨2, ![1024, 1536]⟩
abbrev S16384x1536 : Shape := ⟨2, ![16384, 1536]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x1536, .bf16⟩
  | .hbm, ⟨1, _⟩ => ⟨S16384x1536, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x1536, .f32⟩
  | .hbm, ⟨6, _⟩ => ⟨S16384x1536, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1536, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== OutBack.lean ====
abbrev S1024x1024 : Shape := ⟨2, ![1024, 1024]⟩
abbrev S16384x1024 : Shape := ⟨2, ![16384, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBackRefIdeal.lean ====
abbrev S1024x1024 : Shape := ⟨2, ![1024, 1024]⟩
abbrev S16384x1024 : Shape := ⟨2, ![16384, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwQkv.lean ====
abbrev S16384x1024 : Shape := ⟨2, ![16384, 1024]⟩
abbrev S16384x1536 : Shape := ⟨2, ![16384, 1536]⟩
abbrev S1024x1536 : Shape := ⟨2, ![1024, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwQkvRefIdeal.lean ====
abbrev S16384x1024 : Shape := ⟨2, ![16384, 1024]⟩
abbrev S16384x1536 : Shape := ⟨2, ![16384, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1536, .bf16⟩
  | .hbm, ⟨2, _⟩ => ⟨S_, .f32⟩
  | .hbm, ⟨3, _⟩ => ⟨S1024x1536, .f32⟩
  | .hbm, ⟨4, _⟩ => ⟨S16384x1024, .f32⟩
  | .hbm, ⟨5, _⟩ => ⟨S16384x1536, .f32⟩
  | .hbm, ⟨6, _⟩ => ⟨S16384x1536, .f32⟩
  | .hbm, ⟨7, _⟩ => ⟨S1536x1024, .f32⟩
  | .hbm, ⟨8, _⟩ => ⟨S1024x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOut.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S16384x1 : Shape := ⟨2, ![16384, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S16384x1024, .bf16⟩
  | .hbm, ⟨10, _⟩ => ⟨S16384x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnOutRefIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S2816x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .bf16⟩
  | .hbm, ⟨69, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== MixOut.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S16384x1024, .bf16⟩
  | .hbm, ⟨10, _⟩ => ⟨S16384x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .bf16⟩
  | .hbm, ⟨69, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.Row.lean ====
module

public import Idealize.ShloMosaic.PureOps.Ideal.Laws

@[expose] public section

/-! One row of scores: the softmax with a sink as the program states it on extended reals, its real
    value, and the gradient of a row in the two forms that meet. -/

namespace Cert.Row
open Idealize.ShloMosaic

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

section
variable {J : Type*} [Fintype J] [Nonempty J] (valid : J → Bool) (s : J → ℝ) (sink : ℝ)

/-- A score where the key is in the window, minus infinity elsewhere. -/
noncomputable def masked (j : J) : EReal := if valid j then (s j : EReal) else ⊥

/-- The greatest score of the row, minus infinity if there is none. -/
noncomputable def peak : EReal := Finset.univ.fold max ⊥ (masked valid s)

theorem masked_lt_top (j : J) : masked valid s j < ⊤ := by
  unfold masked; split
  · exact EReal.coe_lt_top _
  · exact bot_lt_top

theorem peak_lt_top : peak valid s < ⊤ := by
  unfold peak
  rw [Finset.fold_max_lt]
  exact ⟨bot_lt_top, fun j _ => masked_lt_top valid s j⟩

/-- The greatest score is one of the scores. -/
theorem peak_attained : ∃ j, masked valid s j = peak valid s := by
  obtain ⟨j, -, hj⟩ := Finset.exists_max_image Finset.univ (masked valid s) Finset.univ_nonempty
  refine ⟨j, le_antisymm ?_ ?_⟩
  · exact (Finset.le_fold_max _).2 (Or.inr ⟨j, Finset.mem_univ _, le_rfl⟩)
  · exact (Finset.fold_max_le _).2 ⟨bot_le, fun i hi => hj i hi⟩

/-- The row's shift: the greater of the greatest score and the sink. -/
noncomputable def top : ℝ := (max (peak valid s) (sink : EReal)).toReal

theorem top_coe : max (peak valid s) (sink : EReal) = (top valid s sink : EReal) := by
  unfold top
  refine (EReal.coe_toReal ?_ ?_).symm
  · exact (max_lt (peak_lt_top valid s) (EReal.coe_lt_top _)).ne
  · exact ((EReal.bot_lt_coe sink).trans_le (le_max_right _ _)).ne'

/-- A key's weight before it is divided. -/
noncomputable def wt (j : J) : ℝ := if valid j then Real.exp (s j - top valid s sink) else 0

theorem exp_masked (j : J) : Ideal.exp (masked valid s j - (top valid s sink : EReal)) = (wt valid s sink j : EReal) := by
  unfold masked wt
  split
  · rw [← EReal.coe_sub, Ideal.exp_coe]
  · rw [EReal.bot_sub, Ideal.exp_bot, EReal.coe_zero]

/-- The sink's weight before it is divided. -/
noncomputable def swt : ℝ := Real.exp (sink - top valid s sink)

/-- The row's denominator. -/
noncomputable def den : ℝ := (∑ j, wt valid s sink j) + swt valid s sink

theorem wt_nonneg (j : J) : 0 ≤ wt valid s sink j := by
  unfold wt; split
  · exact (Real.exp_pos _).le
  · exact le_rfl

theorem den_pos : 0 < den valid s sink :=
  add_pos_of_nonneg_of_pos (Finset.sum_nonneg fun j _ => wt_nonneg valid s sink j) (Real.exp_pos _)

theorem den_ne : den valid s sink ≠ 0 := (den_pos valid s sink).ne'

/-- The attention of a key. -/
noncomputable def att (j : J) : ℝ := wt valid s sink j / den valid s sink

/-- The logarithm of the row's sum. -/
noncomputable def lse : ℝ := top valid s sink + Real.log (den valid s sink)

theorem lse_coe : (top valid s sink : EReal) + Ideal.log (den valid s sink : EReal) = (lse valid s sink : EReal) := by
  rw [Ideal.log_coe, if_neg (not_le.2 (den_pos valid s sink)), ← EReal.coe_add, lse]

theorem exp_sub_lse (x : ℝ) : Real.exp (x - lse valid s sink) = Real.exp (x - top valid s sink) / den valid s sink := by
  rw [lse, ← sub_sub, Real.exp_sub (x - top valid s sink), Real.exp_log (den_pos valid s sink)]

/-- The kernel's attention: the exponential of the score less the saved logarithm. -/
theorem att_eq (j : J) : (if valid j then Real.exp (s j - lse valid s sink) else 0) = att valid s sink j := by
  unfold att wt
  split
  · rw [exp_sub_lse]
  · rw [zero_div]

/-- The share of the sink. -/
noncomputable def satt : ℝ := swt valid s sink / den valid s sink

theorem satt_eq : Real.exp (sink - lse valid s sink) = satt valid s sink := exp_sub_lse valid s sink sink

theorem att_sum : (∑ j, att valid s sink j) + satt valid s sink = 1 := by
  unfold att satt
  rw [← Finset.sum_div, ← add_div]
  exact div_self (den_ne valid s sink)

variable (dp : J → ℝ)

/-- The mean of the cotangents under the attention. -/
noncomputable def mean : ℝ := ∑ j, att valid s sink j * dp j

/-- The gradient of a score. -/
noncomputable def dscore (j : J) : ℝ := att valid s sink j * (dp j - mean valid s sink dp)

/-- The reference's cotangent of the denominator. -/
theorem cot_den : (∑ j, dp j * (1 / (den valid s sink * den valid s sink)) * wt valid s sink j)
    = mean valid s sink dp / den valid s sink := by
  have h := den_ne valid s sink
  rw [mean, Finset.sum_div]
  refine Finset.sum_congr rfl fun j _ => ?_
  unfold att
  field_simp

/-- The gradient of a score, as the differentiated quotient states it. -/
theorem dscore_eq (j : J) : (dp j / den valid s sink + -(mean valid s sink dp / den valid s sink)) * wt valid s sink j
    = dscore valid s sink dp j := by
  have h := den_ne valid s sink
  unfold dscore att
  field_simp
  ring

/-- The cotangent of the shift is zero. -/
theorem cot_top : -(-(mean valid s sink dp / den valid s sink) * swt valid s sink) + ∑ j, -(dscore valid s sink dp j) = 0 := by
  have e : (∑ j, dscore valid s sink dp j) = mean valid s sink dp - mean valid s sink dp * (1 - satt valid s sink) := by
    have h := att_sum valid s sink
    unfold dscore
    simp only [mul_sub, Finset.sum_sub_distrib, ← Finset.sum_mul]
    rw [← mean, eq_sub_of_add_eq h]
    ring
  rw [Finset.sum_neg_distrib, e]
  unfold satt
  field_simp
  ring

theorem dscore_of_not (j : J) (h : valid j = false) : dscore valid s sink dp j = 0 := by
  simp [dscore, att, wt, h]

theorem att_of_not (j : J) (h : valid j = false) : att valid s sink j = 0 := by
  simp [att, wt, h]

end
end Cert.Row
-- ==== Proof.Spec.lean ====
module

public import proofs.«01_k».proof.Proof.Row

@[expose] public section

/-! The gradient of the windowed attention on real numbers: what both programs compute. A block of 128
    queries sees three blocks of keys; a query row is named by its block, its row in the block, its
    key-value head and its place in the head's group. -/

namespace Cert.Spec

/-- The row of the sequence that holds row `r` of block `b`. -/
def row (b r : Fin 128) : Fin 16384 := ⟨b.val * 128 + r.val, by omega⟩

/-- The column of a query array that holds coordinate `d` of head `h` of group `g`. -/
def qcol (g h : Fin 4) (d : Fin 64) : Fin 1024 := ⟨(g.val * 4 + h.val) * 64 + d.val, by omega⟩

/-- The column of a key array that holds coordinate `d` of key head `g`. -/
def kcol (g : Fin 4) (d : Fin 64) : Fin 256 := ⟨g.val * 64 + d.val, by omega⟩

/-- The sink of head `h` of group `g`. -/
def scol (g h : Fin 4) : Fin 16 := ⟨g.val * 4 + h.val, by omega⟩

/-- A key array with 128 rows of zeros before it and after it. -/
noncomputable def padded (K : Fin 16384 → Fin 256 → ℝ) (n : ℕ) (c : Fin 256) : ℝ :=
  if h : 128 ≤ n ∧ n - 128 < 16384 then K ⟨n - 128, h.2⟩ c else 0

/-- The keys a block of queries sees. -/
noncomputable def win (K : Fin 16384 → Fin 256 → ℝ) (b : Fin 128) (j : Fin 384) (c : Fin 256) : ℝ :=
  padded K (b.val * 128 + j.val) c

/-- Whether row `r` of block `b` sees key `j` of its window. -/
def sees (b r : Fin 128) (j : Fin 384) : Bool :=
  decide (r.val ≤ j.val ∧ j.val ≤ r.val + 256 ∧ 128 ≤ b.val * 128 + j.val ∧ b.val * 128 + j.val < 16512)

section
variable (Q : Fin 16384 → Fin 1024 → ℝ) (K V : Fin 16384 → Fin 256 → ℝ) (G : Fin 16384 → Fin 1024 → ℝ) (S : Fin 16 → ℝ)

/-- The score of a key. -/
noncomputable def score (b : Fin 128) (g h : Fin 4) (r : Fin 128) (j : Fin 384) : ℝ :=
  ∑ d : Fin 64, win K b j (kcol g d) * Q (row b r) (qcol g h d)

/-- The attention of a key. -/
noncomputable def att (b : Fin 128) (g h : Fin 4) (r : Fin 128) (j : Fin 384) : ℝ :=
  Row.att (sees b r) (score Q K b g h r) (S (scol g h)) j

/-- The cotangent of an attention. -/
noncomputable def datt (b : Fin 128) (g h : Fin 4) (r : Fin 128) (j : Fin 384) : ℝ :=
  ∑ d : Fin 64, G (row b r) (qcol g h d) * win V b j (kcol g d)

/-- The mean of the cotangents of a row. -/
noncomputable def mean (b : Fin 128) (g h : Fin 4) (r : Fin 128) : ℝ :=
  Row.mean (sees b r) (score Q K b g h r) (S (scol g h)) (datt V G b g h r)

/-- The gradient of a score. -/
noncomputable def dscore (b : Fin 128) (g h : Fin 4) (r : Fin 128) (j : Fin 384) : ℝ :=
  Row.dscore (sees b r) (score Q K b g h r) (S (scol g h)) (datt V G b g h r) j

/-- The output of the attention. -/
noncomputable def out (b r : Fin 128) (g h : Fin 4) (d : Fin 64) : ℝ :=
  ∑ j : Fin 384, win V b j (kcol g d) * att Q K S b g h r j

/-- The logarithm of a row's sum. -/
noncomputable def lse (b : Fin 128) (g h : Fin 4) (r : Fin 128) : ℝ :=
  Row.lse (sees b r) (score Q K b g h r) (S (scol g h))

/-- The gradient of the queries. -/
noncomputable def dq (b r : Fin 128) (g h : Fin 4) (d : Fin 64) : ℝ :=
  ∑ j : Fin 384, dscore Q K V G S b g h r j * win K b j (kcol g d)

/-- The gradient of a block's window of keys. -/
noncomputable def dk (b : Fin 128) (j : Fin 384) (g : Fin 4) (d : Fin 64) : ℝ :=
  ∑ h : Fin 4, ∑ r : Fin 128, dscore Q K V G S b g h r j * Q (row b r) (qcol g h d)

/-- The gradient of a block's window of values. -/
noncomputable def dv (b : Fin 128) (j : Fin 384) (g : Fin 4) (d : Fin 64) : ℝ :=
  ∑ h : Fin 4, ∑ r : Fin 128, att Q K S b g h r j * G (row b r) (qcol g h d)

/-- The part of a row in the gradient of its sink. -/
noncomputable def sinkPart (b : Fin 128) (g h : Fin 4) (r : Fin 128) : ℝ :=
  Row.satt (sees b r) (score Q K b g h r) (S (scol g h)) * mean Q K V G S b g h r

/-- The gradient of a sink. -/
noncomputable def dsink (g h : Fin 4) : ℝ := -∑ b : Fin 128, ∑ r : Fin 128, sinkPart Q K V G S b g h r

/-- A row's product of output and cotangent is the mean of the cotangents of its attentions. -/
theorem out_dot (b r : Fin 128) (g h : Fin 4) :
    (∑ d : Fin 64, G (row b r) (qcol g h d) * out Q K V S b r g h d) = mean Q K V G S b g h r := by
  unfold out mean Row.mean datt
  simp only [Finset.mul_sum]
  rw [Finset.sum_comm]
  refine Finset.sum_congr rfl fun j _ => Finset.sum_congr rfl fun d _ => ?_
  unfold att; ring

end
end Cert.Spec
-- ==== Proof.Ref.Scores.lean ====
module

public import proofs.«01_k».proof.Proof.Spec
public import proofs.«01_k».proof.Proof.Gen.ReferenceIdeal.Read
public import Idealize.ShloMosaic.Lib.KernelVsHost

@[expose] public section

/-! The reference's scores, on real arguments. -/

namespace Cert.Ref
open Idealize.ShloMosaic Idealize.ShloMosaic.ValueIdx Cert.ReferenceIdeal Cert.ReferenceIdeal.Read Cert.Spec

/-- A real query array as an argument. -/
def qarg (Q : Fin 16384 → Fin 1024 → ℝ) : (⟨S16384x1024, .bf16⟩ : BufTy).Contents (Elt Ideal) :=
  fun i => ((Q (i 0) (i 1) : ℝ) : EReal)

/-- A real key array as an argument. -/
def karg (K : Fin 16384 → Fin 256 → ℝ) : (⟨S16384x256, .bf16⟩ : BufTy).Contents (Elt Ideal) :=
  fun i => ((K (i 0) (i 1) : ℝ) : EReal)

/-- Real sinks as an argument. -/
def sarg (S : Fin 16 → ℝ) : (⟨S16, .f32⟩ : BufTy).Contents (Elt Ideal) := fun i => ((S (i 0) : ℝ) : EReal)

variable (Q : Fin 16384 → Fin 1024 → ℝ) (K V : Fin 16384 → Fin 256 → ℝ) (G : Fin 16384 → Fin 1024 → ℝ) (S : Fin 16 → ℝ)

/-- The padded keys. -/
theorem v4_at (i : S16640x4x64.Idx) (n : ℕ) (c : Fin 256) (hn : (i 0).val = n) (hc : (i 1).val * 64 + (i 2).val = c.val) :
    val_main_v4 (F := Ideal) (karg K) i = ((padded K n c : ℝ) : EReal) := by
  unfold val_main_v4
  have h1 : (i 1).val < 4 := (i 1).isLt
  have h2 : (i 2).val < 64 := (i 2).isLt
  by_cases h : 128 ≤ n ∧ n - 128 < 16384
  · rw [pad_apply_of_inside _ _ _ _ _ _ _ _ (ix3 (n0 := 16384) (n1 := 4) (n2 := 64) ⟨n - 128, h.2⟩ ⟨(i 1).val, h1⟩ ⟨(i 2).val, h2⟩)
      (fun a => match a with
        | ⟨0, _⟩ => by show (i 0).val = 128 + (n - 128) * (0 + 1); omega
        | ⟨1, _⟩ => by show (i 1).val = 0 + (i 1).val * (0 + 1); omega
        | ⟨2, _⟩ => by show (i 2).val = 0 + (i 2).val * (0 + 1); omega)]
    rw [val_main_v3_apply, val_main_v2_apply, padded, dif_pos h]
    show ((K _ _ : ℝ) : EReal) = _
    congr 2
    · apply Fin.ext
      show (((n - 128) * 4 + (i 1).val) * 64 + (i 2).val) / 256 = n - 128
      omega
    · apply Fin.ext
      show (((n - 128) * 4 + (i 1).val) * 64 + (i 2).val) % 256 = c.val
      omega
  · rw [pad_apply_of_not_inside _ _ _ _ _ _ _ _ (0 : Fin 3) (by
      show ¬(128 ≤ (i 0).val ∧ ((i 0).val - 128) % (0 + 1) = 0 ∧ ((i 0).val - 128) / (0 + 1) < 16384)
      rw [hn]; omega)]
    rw [padded, dif_neg h, val_main_call0_v0_apply, val_main_c_apply]
    show (((0#32).toInt : ℝ) : EReal) = _
    simp

/-- The blocks of the padded keys. -/
theorem v5_at (i : S130x128x4x64.Idx) (n : ℕ) (c : Fin 256) (hn : (i 0).val * 128 + (i 1).val = n)
    (hc : (i 2).val * 64 + (i 3).val = c.val) :
    val_main_v5 (F := Ideal) (karg K) i = ((padded K n c : ℝ) : EReal) := by
  have h0 : (i 0).val < 130 := (i 0).isLt
  have h1 : (i 1).val < 128 := (i 1).isLt
  have h2 : (i 2).val < 4 := (i 2).isLt
  have h3 : (i 3).val < 64 := (i 3).isLt
  rw [val_main_v5_apply]
  refine v4_at K _ n c ?_ ?_
  · show ((((i 0).val * 128 + (i 1).val) * 4 + (i 2).val) * 64 + (i 3).val) / 256 = n
    omega
  · show ((((i 0).val * 128 + (i 1).val) * 4 + (i 2).val) * 64 + (i 3).val) / 64 % 4 * 64
      + ((((i 0).val * 128 + (i 1).val) * 4 + (i 2).val) * 64 + (i 3).val) % 64 = c.val
    omega

/-- The windows of keys. -/
theorem v9_apply (i : S128x384x4x64.Idx) :
    val_main_v9 (F := Ideal) (karg K) i = ((win K (i 0) (i 1) (kcol (i 2) (i 3)) : ℝ) : EReal) := by
  have h0 : (i 0).val < 128 := (i 0).isLt
  have h1 : (i 1).val < 384 := (i 1).isLt
  have h2 : (i 2).val < 4 := (i 2).isLt
  have h3 : (i 3).val < 64 := (i 3).isLt
  unfold val_main_v9 win
  by_cases c0 : (i 1).val < 128
  · refine (concatenate_apply_piece 1 _ _ i 0 (by simp) S128x128x4x64 (val_main_v6 (F := Ideal) (karg K)) rfl rfl 0 rfl
      (ix4 (n0 := 128) (n1 := 128) (n2 := 4) (n3 := 64) ⟨(i 0).val, h0⟩ ⟨(i 1).val, c0⟩ ⟨(i 2).val, h2⟩ ⟨(i 3).val, h3⟩)
      (fun b => match b with
        | ⟨0, _⟩ => fun _ => rfl
        | ⟨1, _⟩ => fun h => absurd rfl h
        | ⟨2, _⟩ => fun _ => rfl
        | ⟨3, _⟩ => fun _ => rfl)
      (by show 0 + (i 1).val = (i 1).val; omega)).trans ((val_main_v6_apply _ _).trans ?_)
    exact v5_at K _ _ _ rfl rfl
  · by_cases c1 : (i 1).val < 256
    · refine (concatenate_apply_piece 1 _ _ i 1 (by simp) S128x128x4x64 (val_main_v7 (F := Ideal) (karg K)) rfl rfl 128 rfl
        (ix4 (n0 := 128) (n1 := 128) (n2 := 4) (n3 := 64) ⟨(i 0).val, h0⟩ ⟨(i 1).val - 128, by omega⟩ ⟨(i 2).val, h2⟩ ⟨(i 3).val, h3⟩)
        (fun b => match b with
          | ⟨0, _⟩ => fun _ => rfl
          | ⟨1, _⟩ => fun h => absurd rfl h
          | ⟨2, _⟩ => fun _ => rfl
          | ⟨3, _⟩ => fun _ => rfl)
        (by show 128 + ((i 1).val - 128) = (i 1).val; omega)).trans ((val_main_v7_apply _ _).trans ?_)
      refine v5_at K _ _ _ ?_ rfl
      show (1 + (i 0).val) * 128 + ((i 1).val - 128) = (i 0).val * 128 + (i 1).val
      omega
    · refine (concatenate_apply_piece 1 _ _ i 2 (by simp) S128x128x4x64 (val_main_v8 (F := Ideal) (karg K)) rfl rfl 256 rfl
        (ix4 (n0 := 128) (n1 := 128) (n2 := 4) (n3 := 64) ⟨(i 0).val, h0⟩ ⟨(i 1).val - 256, by omega⟩ ⟨(i 2).val, h2⟩ ⟨(i 3).val, h3⟩)
        (fun b => match b with
          | ⟨0, _⟩ => fun _ => rfl
          | ⟨1, _⟩ => fun h => absurd rfl h
          | ⟨2, _⟩ => fun _ => rfl
          | ⟨3, _⟩ => fun _ => rfl)
        (by show 256 + ((i 1).val - 256) = (i 1).val; omega)).trans ((val_main_v8_apply _ _).trans ?_)
      refine v5_at K _ _ _ ?_ rfl
      show (2 + (i 0).val) * 128 + ((i 1).val - 256) = (i 0).val * 128 + (i 1).val
      omega

/-- The windows of values are built as those of the keys are. -/
theorem v17_apply (i : S128x384x4x64.Idx) :
    val_main_v17 (F := Ideal) (karg V) i = ((win V (i 0) (i 1) (kcol (i 2) (i 3)) : ℝ) : EReal) := v9_apply V i

/-- The queries by head. -/
theorem v1_apply (i : S128x128x4x4x64.Idx) :
    val_main_v1 (F := Ideal) (qarg Q) i = ((Q (row (i 0) (i 1)) (qcol (i 2) (i 3) (i 4)) : ℝ) : EReal) := by
  have h0 : (i 0).val < 128 := (i 0).isLt
  have h1 : (i 1).val < 128 := (i 1).isLt
  have h2 : (i 2).val < 4 := (i 2).isLt
  have h3 : (i 3).val < 4 := (i 3).isLt
  have h4 : (i 4).val < 64 := (i 4).isLt
  rw [val_main_v1_apply, val_main_v0_apply]
  show ((Q _ _ : ℝ) : EReal) = _
  congr 2
  · apply Fin.ext
    show (((((i 0).val * 128 + (i 1).val) * 4 + (i 2).val) * 4 + (i 3).val) * 64 + (i 4).val) / 1024 = (i 0).val * 128 + (i 1).val
    omega
  · apply Fin.ext
    show (((((i 0).val * 128 + (i 1).val) * 4 + (i 2).val) * 4 + (i 3).val) * 64 + (i 4).val) % 1024 = ((i 2).val * 4 + (i 3).val) * 64 + (i 4).val
    omega

/-- The scores. -/
theorem v21_apply (i : S128x4x4x128x384.Idx) :
    val_main_v21 (F := Ideal) (qarg Q) (karg K) i = ((score Q K (i 0) (i 1) (i 2) (i 3) (i 4) : ℝ) : EReal) := by
  rw [val_main_v21_apply, val_main_v20_apply]
  unfold score
  rw [Row.coe_sum]
  refine Finset.sum_congr rfl fun k _ => ?_
  rw [v9_apply, v1_apply, EReal.coe_mul]
  rfl

/-- The cotangents by head, turned. -/
theorem v99_apply (i : S128x4x64x4x128.Idx) :
    val_main_v99 (F := Ideal) (qarg G) i = ((G (row (i 0) (i 4)) (qcol (i 1) (i 3) (i 2)) : ℝ) : EReal) := by
  rw [val_main_v99_apply]
  exact v1_apply G _

/-- The cotangents of the attentions. -/
theorem v100_apply (i : S128x4x4x128x384.Idx) :
    val_main_v100 (F := Ideal) (karg V) (qarg G) i = ((datt V G (i 0) (i 1) (i 2) (i 3) (i 4) : ℝ) : EReal) := by
  rw [val_main_v100_apply]
  unfold datt
  rw [Row.coe_sum]
  refine Finset.sum_congr rfl fun k _ => ?_
  rw [v99_apply, v17_apply, EReal.coe_mul]
  rfl

/-- The sinks by head. -/
theorem v19_apply (i : S1x4x4x1x1.Idx) : val_main_v19 (F := Ideal) (sarg S) i = ((S (scol (i 1) (i 2)) : ℝ) : EReal) := by
  rw [val_main_v19_apply, val_main_v18_apply]
  rfl

end Cert.Ref
-- ==== Proof.Real.lean ====
module

public import proofs.«01_k».proof.Pre_finite
public import proofs.«01_k».proof.Proof.Ref.Scores
public import Idealize.ShloMosaic.Lib.Pointwise.Index

@[expose] public section

/-! Arrays of finite entries are arrays of real numbers. -/

namespace Cert.Real
open Idealize.ShloMosaic

/-- An entry whose magnitude is below infinity is a real number. -/
theorem real_of (x : EReal) (h : Ideal.cmp .olt (max x (-x)) (Ideal.ofBits .f32 0x7F800000#32) = 1#1) : ((x.toReal : ℝ) : EReal) = x := by
  have t : Ideal.ofBits .f32 0x7F800000#32 = ⊤ := by simp [Ideal.ofBits, Ideal.ieee]
  rw [t] at h
  have lt : max x (-x) < ⊤ := by
    by_contra hn
    simp [Ideal.cmp, hn] at h
  have h1 : x ≠ ⊤ := fun e => by simp [e] at lt
  have h2 : x ≠ ⊥ := fun e => by simp [e] at lt
  exact EReal.coe_toReal h1 h2

/-- A query array of finite entries is real. -/
theorem qarg_of (x : FVec Ideal Cert.Pre_finite.S16384x1024 .bf16) (hb) (hc)
    (h : cmpf .olt (Host.absf (extf .f32 x hb)) (broadcastInDim Cert.Pre_finite.S16384x1024 ![] hc (constant Cert.Pre_finite.S_ .f32 0x7F800000#32)) = fun _ => 1#1) :
    x = Ref.qarg fun i j => (x (ix2 i j) : EReal).toReal := by
  funext i
  obtain ⟨a, b, rfl⟩ : ∃ (a : Fin 16384) (b : Fin 1024), i = ix2 a b := ⟨i 0, i 1, by funext a; match a with | ⟨0, _⟩ => rfl | ⟨1, _⟩ => rfl⟩
  exact (real_of (x (ix2 a b)) (congrFun h (ix2 a b))).symm

/-- A key array of finite entries is real. -/
theorem karg_of (x : FVec Ideal Cert.Pre_finite.S16384x256 .bf16) (hb) (hc)
    (h : cmpf .olt (Host.absf (extf .f32 x hb)) (broadcastInDim Cert.Pre_finite.S16384x256 ![] hc (constant Cert.Pre_finite.S_ .f32 0x7F800000#32)) = fun _ => 1#1) :
    x = Ref.karg fun i j => (x (ix2 i j) : EReal).toReal := by
  funext i
  obtain ⟨a, b, rfl⟩ : ∃ (a : Fin 16384) (b : Fin 256), i = ix2 a b := ⟨i 0, i 1, by funext a; match a with | ⟨0, _⟩ => rfl | ⟨1, _⟩ => rfl⟩
  exact (real_of (x (ix2 a b)) (congrFun h (ix2 a b))).symm

/-- Finite sinks are real. -/
theorem sarg_of (x : FVec Ideal Cert.Pre_finite.S16 .f32) (hc)
    (h : cmpf .olt (Host.absf x) (broadcastInDim Cert.Pre_finite.S16 ![] hc (constant Cert.Pre_finite.S_ .f32 0x7F800000#32)) = fun _ => 1#1) :
    x = Ref.sarg fun i => (x (ix1 i) : EReal).toReal := by
  funext i
  obtain ⟨a, rfl⟩ : ∃ (a : Fin 16), i = ix1 a := ⟨i 0, by funext a; match a with | ⟨0, _⟩ => rfl⟩
  exact (real_of (x (ix1 a)) (congrFun h (ix1 a))).symm

end Cert.Real
-- ==== Proof.Words.lean ====
module

public import Idealize.ShloMosaic.PureOps.Ideal.Laws

@[expose] public section

/-! Words of 32 bits that hold small integers. -/

namespace Cert.Words
open Idealize.ShloMosaic

theorem toInt_ofInt (z : ℤ) (h : -2147483648 ≤ z ∧ z < 2147483648) : (BitVec.ofInt 32 z).toInt = z := by
  rw [BitVec.toInt_ofInt]
  exact Int.bmod_eq_of_le (by omega) (by omega)

/-- A small natural as a word. -/
theorem ofNat_eq (n : ℕ) : BitVec.ofNat 32 n = BitVec.ofInt 32 (n : ℤ) := (BitVec.ofInt_natCast 32 n).symm

theorem addi_ofInt (a b : ℤ) : IntOp.addi (BitVec.ofInt 32 a) (BitVec.ofInt 32 b) = BitVec.ofInt 32 (a + b) :=
  (BitVec.ofInt_add ..).symm

theorem muli_ofInt (a b : ℤ) : IntOp.muli (BitVec.ofInt 32 a) (BitVec.ofInt 32 b) = BitVec.ofInt 32 (a * b) :=
  (BitVec.ofInt_mul ..).symm

theorem subi_ofInt (a b : ℤ) : IntOp.subi (BitVec.ofInt 32 a) (BitVec.ofInt 32 b) = BitVec.ofInt 32 (a - b) := by
  show BitVec.ofInt 32 a - BitVec.ofInt 32 b = _
  rw [BitVec.sub_eq_add_neg, ← BitVec.ofInt_neg, ← BitVec.ofInt_add, Int.sub_eq_add_neg]

theorem absi_ofInt (a : ℤ) (h : -2147483648 < a ∧ a < 2147483648) :
    IntOp.absi (BitVec.ofInt 32 a) = BitVec.ofInt 32 |a| := by
  unfold IntOp.absi
  rw [BitVec.msb_eq_toInt, toInt_ofInt a (by omega)]
  by_cases ha : a < 0
  · rw [if_pos (by simpa using ha), abs_of_neg ha, BitVec.ofInt_neg]
  · rw [if_neg (by simpa using ha), abs_of_nonneg (by omega)]

theorem sle_ofInt (a b : ℤ) (ha : -2147483648 ≤ a ∧ a < 2147483648) (hb : -2147483648 ≤ b ∧ b < 2147483648) :
    IntOp.cmpi .sle (BitVec.ofInt 32 a) (BitVec.ofInt 32 b) = BitVec.ofBool (decide (a ≤ b)) := by
  show BitVec.ofBool (BitVec.sle _ _) = _
  rw [BitVec.sle, toInt_ofInt a ha, toInt_ofInt b hb]

theorem sge_ofInt (a b : ℤ) (ha : -2147483648 ≤ a ∧ a < 2147483648) (hb : -2147483648 ≤ b ∧ b < 2147483648) :
    IntOp.cmpi .sge (BitVec.ofInt 32 a) (BitVec.ofInt 32 b) = BitVec.ofBool (decide (b ≤ a)) := by
  show BitVec.ofBool (BitVec.sle _ _) = _
  rw [BitVec.sle, toInt_ofInt a ha, toInt_ofInt b hb]

theorem slt_ofInt (a b : ℤ) (ha : -2147483648 ≤ a ∧ a < 2147483648) (hb : -2147483648 ≤ b ∧ b < 2147483648) :
    IntOp.cmpi .slt (BitVec.ofInt 32 a) (BitVec.ofInt 32 b) = BitVec.ofBool (decide (a < b)) := by
  show BitVec.ofBool (BitVec.slt _ _) = _
  rw [BitVec.slt, toInt_ofInt a ha, toInt_ofInt b hb]

theorem andi_ofBool (a b : Bool) : IntOp.andi (BitVec.ofBool a) (BitVec.ofBool b) = BitVec.ofBool (a && b) := by
  cases a <;> cases b <;> rfl

/-- A row's number within its block of 128. -/
theorem andi_127 (n : ℕ) (h : n < 2147483648) :
    IntOp.andi (BitVec.ofNat 32 n) 127#32 = BitVec.ofInt 32 ((n % 128 : ℕ) : ℤ) := by
  rw [BitVec.ofInt_natCast]
  apply BitVec.eq_of_toNat_eq
  show (BitVec.ofNat 32 n &&& 127#32).toNat = _
  rw [BitVec.toNat_and]
  simp only [BitVec.toNat_ofNat]
  rw [Nat.mod_eq_of_lt (by omega : n < 2 ^ 32), Nat.mod_eq_of_lt (by omega : n % 128 < 2 ^ 32)]
  exact Nat.and_two_pow_sub_one_eq_mod n 7

theorem select_ofBool {α : Type} (b : Bool) (x y : α) : Scalar.select (BitVec.ofBool b) x y = if b then x else y := by
  cases b <;> rfl

end Cert.Words
-- ==== Proof.Ref.Soft.lean ====
module

public import proofs.«01_k».proof.Proof.Ref.Scores
public import proofs.«01_k».proof.Proof.Words

@[expose] public section

/-! The reference's softmax, on real arguments. -/

namespace Cert.Ref
open Idealize.ShloMosaic Idealize.ShloMosaic.ValueIdx Cert.ReferenceIdeal Cert.ReferenceIdeal.Gen Cert.ReferenceIdeal.Read Cert.Spec Cert.Words

variable (Q : Fin 16384 → Fin 1024 → ℝ) (K V : Fin 16384 → Fin 256 → ℝ) (G : Fin 16384 → Fin 1024 → ℝ) (S : Fin 16 → ℝ)

/-- The position of a query. -/
theorem v30_at (i : S128x128x1.Idx) : val_main_v30 (F := Ideal) i = BitVec.ofInt 32 (128 * (i 0).val + (i 1).val : ℤ) := by
  rw [val_main_v30_apply, val_main_v28_apply, val_main_v25_apply, val_main_v24_apply, val_main_c_1_apply, val_main_v23_apply,
    val_main_v22_apply, val_main_v29_apply, val_main_v27_apply, val_main_v26_apply]
  show IntOp.addi (IntOp.muli (BitVec.ofNat 32 128) (BitVec.ofNat 32 (i 0).val)) (BitVec.ofNat 32 (i 1).val) = _
  rw [ofNat_eq, ofNat_eq, ofNat_eq, muli_ofInt, addi_ofInt]
  rfl

/-- The position of a key. -/
theorem v37_at (i : S128x1x384.Idx) : val_main_v37 (F := Ideal) i = BitVec.ofInt 32 (128 * (i 0).val - 128 + (i 2).val : ℤ) := by
  rw [val_main_v37_apply, val_main_v35_apply, val_main_v32_apply, val_main_v25_apply, val_main_v24_apply, val_main_c_1_apply, val_main_v23_apply,
    val_main_v22_apply, val_main_v31_apply, val_main_c_2_apply, val_main_v36_apply, val_main_v34_apply, val_main_v33_apply]
  show IntOp.addi (IntOp.subi (IntOp.muli (BitVec.ofNat 32 128) (BitVec.ofNat 32 (i 0).val)) (BitVec.ofNat 32 128)) (BitVec.ofNat 32 (i 2).val) = _
  rw [ofNat_eq, ofNat_eq, ofNat_eq, muli_ofInt, subi_ofInt, addi_ofInt]
  rfl

/-- The mask. -/
theorem v53_1_at (i : S128x4x4x128x384.Idx) : val_main_v53_1 (F := Ideal) i = BitVec.ofBool (sees (i 0) (i 3) (i 4)) := by
  have h0 : (i 0).val < 128 := (i 0).isLt
  have h3 : (i 3).val < 128 := (i 3).isLt
  have h4 : (i 4).val < 384 := (i 4).isLt
  rw [val_main_v53_1_apply, val_main_v52_apply, val_main_v51_apply, val_main_v47_apply, val_main_v43_apply, val_main_v41_apply,
    val_main_v40_apply, val_main_v38_apply, val_main_v39_apply, val_main_v42_apply, val_main_c_3_apply, val_main_v46_apply,
    val_main_v45_apply, val_main_v44_apply, val_main_c_4_apply, val_main_v50_apply, val_main_v49_apply, val_main_v48_apply, val_main_c_5_apply,
    v30_at, v37_at]
  show IntOp.andi (IntOp.andi
      (IntOp.cmpi .sle (IntOp.absi (IntOp.subi (BitVec.ofInt 32 (128 * (i 0).val + (i 3).val : ℤ)) (BitVec.ofInt 32 (128 * (i 0).val - 128 + (i 4).val : ℤ))))
        (BitVec.ofNat 32 128))
      (IntOp.cmpi .sge (BitVec.ofInt 32 (128 * (i 0).val - 128 + (i 4).val : ℤ)) (BitVec.ofNat 32 0)))
      (IntOp.cmpi .slt (BitVec.ofInt 32 (128 * (i 0).val - 128 + (i 4).val : ℤ)) (BitVec.ofNat 32 16384)) = _
  rw [ofNat_eq 128, ofNat_eq 0, ofNat_eq 16384, subi_ofInt, absi_ofInt _ (by omega), sle_ofInt _ _ ⟨le_trans (by omega) (abs_nonneg _), abs_lt.2 (by omega)⟩ (by omega),
    sge_ofInt _ _ (by omega) (by omega), slt_ofInt _ _ (by omega) (by omega), andi_ofBool, andi_ofBool]
  unfold sees
  congr 1
  rw [Bool.eq_iff_iff]
  simp only [Bool.and_eq_true, decide_eq_true_eq, abs_le]
  omega

theorem neg_inf : (FloatOps.ofBits .f32 0xFF800000#32 : Ideal .f32) = (⊥ : EReal) := by
  simp [Ideal.ofBits, Ideal.ieee]

theorem one_word : (FloatOps.ofBits .f32 0x3F800000#32 : Ideal .f32) = ((1 : ℝ) : EReal) := by
  simp [Ideal.ofBits, Ideal.ieee]
  rw [← EReal.coe_mul, ← EReal.coe_one]
  norm_num

theorem zero_word : (FloatOps.ofBits .f32 0x00000000#32 : Ideal .f32) = ((0 : ℝ) : EReal) := by
  simp [Ideal.ofBits, Ideal.ieee]

/-- The masked scores. -/
theorem v53_0_at (i : S128x4x4x128x384.Idx) : val_main_v53_0 (F := Ideal) (qarg Q) (karg K) i
    = Row.masked (sees (i 0) (i 3)) (score Q K (i 0) (i 1) (i 2) (i 3)) (i 4) := by
  rw [val_main_v53_0_apply, v53_1_at, v21_apply, val_main_call2_v2_apply, val_main_call2_v0_apply, val_main_cst_apply, select_ofBool]
  unfold Row.masked
  rw [neg_inf]

/-- The greatest score of a row. -/
theorem v54_at (i : S128x4x4x128.Idx) : val_main_v54 (F := Ideal) (qarg Q) (karg K) i
    = Row.peak (sees (i 0) (i 3)) (score Q K (i 0) (i 1) (i 2) (i 3)) := by
  unfold val_main_v54
  rw [Host.reduce_eq_fold_single FloatOps.maximumf _ _ _ (by decide : S128x4x4x128x384.Reduces [4] S128x4x4x128)]
  unfold Row.peak
  rw [val_main_cst_6_apply, neg_inf]
  exact Finset.fold_congr fun k _ => v53_0_at Q K _

/-- The shift of a row. -/
theorem v62_at (i : S128x4x4x128x1.Idx) : val_main_v62 (F := Ideal) (qarg Q) (karg K) (sarg S) i
    = ((Row.top (sees (i 0) (i 3)) (score Q K (i 0) (i 1) (i 2) (i 3)) (S (scol (i 1) (i 2))) : ℝ) : EReal) := by
  rw [val_main_v62_apply, val_main_v60_apply, v54_at, val_main_v61_apply, v19_apply]
  exact Row.top_coe _ _ _

/-- The weights of a row. -/
theorem v83_at (i : S128x4x4x128x384.Idx) : val_main_v83 (F := Ideal) (qarg Q) (karg K) (sarg S) i
    = ((Row.wt (sees (i 0) (i 3)) (score Q K (i 0) (i 1) (i 2) (i 3)) (S (scol (i 1) (i 2))) (i 4) : ℝ) : EReal) := by
  rw [val_main_v83_apply, val_main_v82_apply, v53_0_at, val_main_v81_apply, v62_at]
  exact Row.exp_masked _ _ _ _

/-- The sum of the weights of a row. -/
theorem v84_at (i : S128x4x4x128.Idx) : val_main_v84 (F := Ideal) (qarg Q) (karg K) (sarg S) i
    = ((∑ j, Row.wt (sees (i 0) (i 3)) (score Q K (i 0) (i 1) (i 2) (i 3)) (S (scol (i 1) (i 2))) j : ℝ) : EReal) := by
  rw [val_main_v84_apply, val_main_cst_14_apply, zero_word, EReal.coe_zero, zero_add, Row.coe_sum]
  exact Finset.sum_congr rfl fun k _ => v83_at Q K S _

/-- The weight of the sink. -/
theorem v88_at (i : S128x4x4x128x1.Idx) : val_main_v88 (F := Ideal) (qarg Q) (karg K) (sarg S) i
    = ((Row.swt (sees (i 0) (i 3)) (score Q K (i 0) (i 1) (i 2) (i 3)) (S (scol (i 1) (i 2))) : ℝ) : EReal) := by
  rw [val_main_v88_apply, val_main_v87_apply, v62_at, val_main_v86_apply, v19_apply, Ideal.subf_def, ← EReal.coe_sub, Ideal.hostUnary_exp_def,
    Ideal.exp_coe]
  rfl

/-- The denominator of a row. -/
theorem v89_at (i : S128x4x4x128x1.Idx) : val_main_v89 (F := Ideal) (qarg Q) (karg K) (sarg S) i
    = ((Row.den (sees (i 0) (i 3)) (score Q K (i 0) (i 1) (i 2) (i 3)) (S (scol (i 1) (i 2))) : ℝ) : EReal) := by
  rw [val_main_v89_apply, val_main_v85_apply, v84_at, v88_at, Ideal.addf_def, ← EReal.coe_add]
  rfl

/-- The attention. -/
theorem v91_at (i : S128x4x4x128x384.Idx) : val_main_v91 (F := Ideal) (qarg Q) (karg K) (sarg S) i
    = ((att Q K S (i 0) (i 1) (i 2) (i 3) (i 4) : ℝ) : EReal) := by
  rw [val_main_v91_apply, v83_at, val_main_v90_apply, v89_at]
  exact Row.div_coe_coe _ (Row.den_ne _ _ _)

/-- The output by head. -/
theorem v95_at (i : S128x4x64x4x128.Idx) : val_main_v95 (F := Ideal) (qarg Q) (karg K) (karg V) (sarg S) i
    = ((out Q K V S (i 0) (i 4) (i 1) (i 3) (i 2) : ℝ) : EReal) := by
  rw [val_main_v95_apply]
  unfold out
  rw [Row.coe_sum]
  refine Finset.sum_congr rfl fun k _ => ?_
  rw [v17_apply, v91_at, EReal.coe_mul]
  rfl

end Cert.Ref
-- ==== Proof.Ref.Grad.lean ====
module

public import proofs.«01_k».proof.Proof.Ref.Soft

@[expose] public section

/-! The reference's gradient of the scores, on real arguments. -/

namespace Cert.Ref
open Idealize.ShloMosaic Idealize.ShloMosaic.ValueIdx Cert.ReferenceIdeal Cert.ReferenceIdeal.Gen Cert.ReferenceIdeal.Read Cert.Spec Cert.Words

variable (Q : Fin 16384 → Fin 1024 → ℝ) (K V : Fin 16384 → Fin 256 → ℝ) (G : Fin 16384 → Fin 1024 → ℝ) (S : Fin 16 → ℝ)

/-- The denominator of a row, by its coordinates. -/
noncomputable abbrev rden (b : Fin 128) (g h : Fin 4) (r : Fin 128) : ℝ := Row.den (sees b r) (score Q K b g h r) (S (scol g h))

/-- The sink's weight in a row. -/
noncomputable abbrev rswt (b : Fin 128) (g h : Fin 4) (r : Fin 128) : ℝ := Row.swt (sees b r) (score Q K b g h r) (S (scol g h))

/-- A key's weight in a row. -/
noncomputable abbrev rwt (b : Fin 128) (g h : Fin 4) (r : Fin 128) (j : Fin 384) : ℝ :=
  Row.wt (sees b r) (score Q K b g h r) (S (scol g h)) j

/-- One over the square of the denominator. -/
theorem v94_at (i : S128x4x4x128x1.Idx) : val_main_v94 (F := Ideal) (qarg Q) (karg K) (sarg S) i
    = ((1 / (rden Q K S (i 0) (i 1) (i 2) (i 3) * rden Q K S (i 0) (i 1) (i 2) (i 3)) : ℝ) : EReal) := by
  rw [val_main_v94_apply, val_main_v93_apply, val_main_cst_15_apply, one_word, val_main_v92_apply, v89_at, Ideal.mulf_def, ← EReal.coe_mul]
  exact Row.div_coe_coe _ (mul_ne_zero (Row.den_ne _ _ _) (Row.den_ne _ _ _))

/-- The cotangent of the denominator, before its sign. -/
theorem v106_at (i : S128x4x4x128.Idx) : val_main_v106 (F := Ideal) (qarg Q) (karg K) (karg V) (qarg G) (sarg S) i
    = ((mean Q K V G S (i 0) (i 1) (i 2) (i 3) / rden Q K S (i 0) (i 1) (i 2) (i 3) : ℝ) : EReal) := by
  rw [val_main_v106_apply, val_main_cst_16_apply, zero_word, EReal.coe_zero, zero_add]
  refine Eq.trans ?_ (congrArg _ (Row.cot_den (sees (i 0) (i 3)) (score Q K (i 0) (i 1) (i 2) (i 3)) (S (scol (i 1) (i 2)))
    (datt V G (i 0) (i 1) (i 2) (i 3))))
  rw [Row.coe_sum]
  refine Finset.sum_congr rfl fun k _ => ?_
  rw [val_main_v105_apply, val_main_v104_apply, val_main_v103_apply, v94_at, v100_apply, v83_at, Ideal.mulf_def, Ideal.mulf_def,
    ← EReal.coe_mul, ← EReal.coe_mul]
  rfl

/-- The cotangent of the denominator. -/
theorem v108_at (i : S128x4x4x128x1.Idx) : val_main_v108 (F := Ideal) (qarg Q) (karg K) (karg V) (qarg G) (sarg S) i
    = ((-(mean Q K V G S (i 0) (i 1) (i 2) (i 3) / rden Q K S (i 0) (i 1) (i 2) (i 3)) : ℝ) : EReal) := by
  have h0 : (i 0).val < 128 := (i 0).isLt
  have h1 : (i 1).val < 4 := (i 1).isLt
  have h2 : (i 2).val < 4 := (i 2).isLt
  have h3 : (i 3).val < 128 := (i 3).isLt
  have h4 : (i 4).val < 1 := (i 4).isLt
  have e : idx_main_v107 i = ix4 (n0 := 128) (n1 := 4) (n2 := 4) (n3 := 128) ⟨(i 0).val, h0⟩ ⟨(i 1).val, h1⟩ ⟨(i 2).val, h2⟩ ⟨(i 3).val, h3⟩ := by
    funext a
    apply Fin.ext
    match a with
    | ⟨0, _⟩ => show (((((i 0).val * 4 + (i 1).val) * 4 + (i 2).val) * 128 + (i 3).val) * 1 + (i 4).val) / 2048 = (i 0).val; omega
    | ⟨1, _⟩ => show (((((i 0).val * 4 + (i 1).val) * 4 + (i 2).val) * 128 + (i 3).val) * 1 + (i 4).val) / 512 % 4 = (i 1).val; omega
    | ⟨2, _⟩ => show (((((i 0).val * 4 + (i 1).val) * 4 + (i 2).val) * 128 + (i 3).val) * 1 + (i 4).val) / 128 % 4 = (i 2).val; omega
    | ⟨3, _⟩ => show (((((i 0).val * 4 + (i 1).val) * 4 + (i 2).val) * 128 + (i 3).val) * 1 + (i 4).val) % 128 = (i 3).val; omega
  rw [val_main_v108_apply, val_main_v107_apply, e, v106_at, EReal.coe_neg]
  rfl

/-- The part of a row in the gradient of its sink, with its sign. -/
theorem v111_at (i : S128x4x4x128x1.Idx) : val_main_v111 (F := Ideal) (qarg Q) (karg K) (karg V) (qarg G) (sarg S) i
    = ((-(mean Q K V G S (i 0) (i 1) (i 2) (i 3) / rden Q K S (i 0) (i 1) (i 2) (i 3)) * rswt Q K S (i 0) (i 1) (i 2) (i 3) : ℝ) : EReal) := by
  rw [val_main_v111_apply, v108_at, v88_at, Ideal.mulf_def, ← EReal.coe_mul]

/-- The gradient of a score through the quotient. -/
theorem v118_at (i : S128x4x4x128x384.Idx) : val_main_v118 (F := Ideal) (qarg Q) (karg K) (karg V) (qarg G) (sarg S) i
    = ((dscore Q K V G S (i 0) (i 1) (i 2) (i 3) (i 4) : ℝ) : EReal) := by
  have e115 : val_main_v115 (F := Ideal) (qarg Q) (karg K) (karg V) (qarg G) (sarg S) (idx_main_v116 i)
      = ((-(mean Q K V G S (i 0) (i 1) (i 2) (i 3) / rden Q K S (i 0) (i 1) (i 2) (i 3)) : ℝ) : EReal) := by
    rw [val_main_v115_apply, val_main_cst_18_apply, zero_word, EReal.coe_zero, zero_add, Fin.sum_univ_one, v108_at]
    rfl
  have e110 : val_main_v110 (F := Ideal) (qarg Q) (karg K) (karg V) (qarg G) (sarg S) i
      = ((datt V G (i 0) (i 1) (i 2) (i 3) (i 4) / rden Q K S (i 0) (i 1) (i 2) (i 3) : ℝ) : EReal) := by
    rw [val_main_v110_apply, v100_apply, val_main_v109_apply, v89_at]
    exact Row.div_coe_coe _ (Row.den_ne _ _ _)
  rw [val_main_v118_apply, val_main_v117_apply, e110, val_main_v116_apply, e115, v83_at, Ideal.addf_def, Ideal.mulf_def, ← EReal.coe_add,
    ← EReal.coe_mul]
  exact congrArg _ (Row.dscore_eq (sees (i 0) (i 3)) (score Q K (i 0) (i 1) (i 2) (i 3)) (S (scol (i 1) (i 2)))
    (datt V G (i 0) (i 1) (i 2) (i 3)) (i 4))

/-- The cotangent of the shift is zero. -/
theorem v122_at (i : S128x4x4x128x1.Idx) : val_main_v122 (F := Ideal) (qarg Q) (karg K) (karg V) (qarg G) (sarg S) i = 0 := by
  have h0 : (i 0).val < 128 := (i 0).isLt
  have h1 : (i 1).val < 4 := (i 1).isLt
  have h2 : (i 2).val < 4 := (i 2).isLt
  have h3 : (i 3).val < 128 := (i 3).isLt
  have h4 : (i 4).val < 1 := (i 4).isLt
  have e : idx_main_v121 i = ix4 (n0 := 128) (n1 := 4) (n2 := 4) (n3 := 128) ⟨(i 0).val, h0⟩ ⟨(i 1).val, h1⟩ ⟨(i 2).val, h2⟩ ⟨(i 3).val, h3⟩ := by
    funext a
    apply Fin.ext
    match a with
    | ⟨0, _⟩ => show (((((i 0).val * 4 + (i 1).val) * 4 + (i 2).val) * 128 + (i 3).val) * 1 + (i 4).val) / 2048 = (i 0).val; omega
    | ⟨1, _⟩ => show (((((i 0).val * 4 + (i 1).val) * 4 + (i 2).val) * 128 + (i 3).val) * 1 + (i 4).val) / 512 % 4 = (i 1).val; omega
    | ⟨2, _⟩ => show (((((i 0).val * 4 + (i 1).val) * 4 + (i 2).val) * 128 + (i 3).val) * 1 + (i 4).val) / 128 % 4 = (i 2).val; omega
    | ⟨3, _⟩ => show (((((i 0).val * 4 + (i 1).val) * 4 + (i 2).val) * 128 + (i 3).val) * 1 + (i 4).val) % 128 = (i 3).val; omega
  have e120 : val_main_v120 (F := Ideal) (qarg Q) (karg K) (karg V) (qarg G) (sarg S) (idx_main_v121 i)
      = ((∑ j, -(dscore Q K V G S (i 0) (i 1) (i 2) (i 3) j) : ℝ) : EReal) := by
    rw [e, val_main_v120_apply, val_main_cst_19_apply, zero_word, EReal.coe_zero, zero_add, Row.coe_sum]
    refine Finset.sum_congr rfl fun k _ => ?_
    rw [val_main_v119_apply, v118_at, EReal.coe_neg]
    rfl
  rw [val_main_v122_apply, val_main_v114_apply, v111_at, val_main_v121_apply, e120]
  show -((_ : ℝ) : EReal) + ((_ : ℝ) : EReal) = 0
  rw [← EReal.coe_neg, ← EReal.coe_add, ← EReal.coe_zero]
  exact congrArg _ (Row.cot_top (sees (i 0) (i 3)) (score Q K (i 0) (i 1) (i 2) (i 3)) (S (scol (i 1) (i 2)))
    (datt V G (i 0) (i 1) (i 2) (i 3)))

/-- The flag of an equality as a number. -/
theorem flag_eq (x y : EReal) : FloatOps.uitofp (F := Ideal) .f32 (FloatOps.cmpf (F := Ideal) (φ := .f32) .oeq x y) = if x = y then 1 else 0 := by
  show (((Ideal.cmp .oeq x y).toNat : ℝ) : EReal) = _
  unfold Ideal.cmp
  by_cases h : x = y
  · simp [h]
  · simp [h]

/-- One where a score is its row's greatest, else zero. -/
theorem v58_at (i : S128x4x4x128x384.Idx) : val_main_v58 (F := Ideal) (qarg Q) (karg K) i
    = if Row.masked (sees (i 0) (i 3)) (score Q K (i 0) (i 1) (i 2) (i 3)) (i 4)
        = Row.peak (sees (i 0) (i 3)) (score Q K (i 0) (i 1) (i 2) (i 3)) then 1 else 0 := by
  have h0 : (i 0).val < 128 := (i 0).isLt
  have h1 : (i 1).val < 4 := (i 1).isLt
  have h2 : (i 2).val < 4 := (i 2).isLt
  have h3 : (i 3).val < 128 := (i 3).isLt
  have e : idx_main_v55 (idx_main_v56 i) = ix4 (n0 := 128) (n1 := 4) (n2 := 4) (n3 := 128) ⟨(i 0).val, h0⟩ ⟨(i 1).val, h1⟩ ⟨(i 2).val, h2⟩ ⟨(i 3).val, h3⟩ := by
    funext a
    apply Fin.ext
    match a with
    | ⟨0, _⟩ => show (((((i 0).val * 4 + (i 1).val) * 4 + (i 2).val) * 128 + (i 3).val) * 1 + 0) / 2048 = (i 0).val; omega
    | ⟨1, _⟩ => show (((((i 0).val * 4 + (i 1).val) * 4 + (i 2).val) * 128 + (i 3).val) * 1 + 0) / 512 % 4 = (i 1).val; omega
    | ⟨2, _⟩ => show (((((i 0).val * 4 + (i 1).val) * 4 + (i 2).val) * 128 + (i 3).val) * 1 + 0) / 128 % 4 = (i 2).val; omega
    | ⟨3, _⟩ => show (((((i 0).val * 4 + (i 1).val) * 4 + (i 2).val) * 128 + (i 3).val) * 1 + 0) % 128 = (i 3).val; omega
  rw [val_main_v58_apply, val_main_v57_apply, v53_0_at, val_main_v56_apply, val_main_v55_apply, e, v54_at]
  exact (flag_eq _ _).trans (if_congr Iff.rfl rfl rfl)

/-- Some score of a row is its greatest, so their number is not zero. -/
theorem v59_ne (i : S128x4x4x128.Idx) : val_main_v59 (F := Ideal) (qarg Q) (karg K) i ≠ 0 := by
  obtain ⟨j, hj⟩ := Row.peak_attained (sees (i 0) (i 3)) (score Q K (i 0) (i 1) (i 2) (i 3))
  rw [val_main_v59_apply, val_main_cst_7_apply, zero_word, EReal.coe_zero, zero_add]
  refine ne_of_gt (lt_of_lt_of_le (zero_lt_one' EReal) ?_)
  have one : val_main_v58 (F := Ideal) (qarg Q) (karg K) (idx_main_v59 i j) = 1 := by
    rw [v58_at]
    exact if_pos hj
  rw [← one]
  refine Finset.single_le_sum (f := fun k => val_main_v58 (F := Ideal) (qarg Q) (karg K) (idx_main_v59 i k)) (fun k _ => ?_) (Finset.mem_univ j)
  show 0 ≤ val_main_v58 (F := Ideal) (qarg Q) (karg K) (idx_main_v59 i k)
  rw [v58_at]
  split
  · exact zero_le_one
  · exact le_refl _

/-- Nothing goes through the shift to a score. -/
theorem v131_at (i : S128x4x4x128x384.Idx) : val_main_v131 (F := Ideal) (qarg Q) (karg K) (karg V) (qarg G) (sarg S) i = 0 := by
  have e : ∀ j : S128x4x4x128.Idx, val_main_v129 (F := Ideal) (qarg Q) (karg K) (karg V) (qarg G) (sarg S) j = 0 := by
    intro j
    rw [val_main_v129_apply, val_main_v128_apply, val_main_cst_21_apply, zero_word, EReal.coe_zero, zero_add, Fin.sum_univ_one, val_main_v127_apply,
      v122_at, Ideal.mulf_def, zero_mul]
    show Ideal.div 0 _ = 0
    rw [Ideal.div, if_neg (v59_ne Q K j), zero_mul]
  rw [val_main_v131_apply, val_main_v130_apply, e, Ideal.mulf_def, zero_mul]

/-- The gradient of a score. -/
theorem v133_at (i : S128x4x4x128x384.Idx) : val_main_v133 (F := Ideal) (qarg Q) (karg K) (karg V) (qarg G) (sarg S) i
    = ((dscore Q K V G S (i 0) (i 1) (i 2) (i 3) (i 4) : ℝ) : EReal) := by
  rw [val_main_v133_apply, v53_1_at, val_main_v132_apply, v118_at, v131_at, val_main_call3_v0_apply, val_main_call3_cst_apply, zero_word,
    select_ofBool, Ideal.addf_def, add_zero]
  cases h : sees (i 0) (i 3) (i 4)
  · rw [if_neg (by simp)]
    exact congrArg _ (Row.dscore_of_not (sees (i 0) (i 3)) (score Q K (i 0) (i 1) (i 2) (i 3)) (S (scol (i 1) (i 2)))
      (datt V G (i 0) (i 1) (i 2) (i 3)) (i 4) h).symm
  · exact if_pos rfl

/-- The gradient of a score, keys before rows. -/
theorem v134_at (i : S128x4x384x128x4.Idx) : val_main_v134 (F := Ideal) (qarg Q) (karg K) (karg V) (qarg G) (sarg S) i
    = ((dscore Q K V G S (i 0) (i 1) (i 4) (i 3) (i 2) : ℝ) : EReal) := by
  rw [val_main_v134_apply, v133_at]
  rfl

end Cert.Ref
-- ==== Proof.Ref.Out.lean ====
module

public import proofs.«01_k».proof.Proof.Ref.Grad
public import Idealize.ShloMosaic.Lib.TwoAxisContraction
public import Idealize.ShloMosaic.Lib.Pointwise.Reduce

@[expose] public section

/-! The reference's results on real arguments. -/

namespace Cert.Ref
open Idealize.ShloMosaic Cert.ReferenceIdeal Cert.ReferenceIdeal.Gen Cert.ReferenceIdeal.Read Cert.Spec Cert.Words

variable (Q : Fin 16384 → Fin 1024 → ℝ) (K V : Fin 16384 → Fin 256 → ℝ) (G : Fin 16384 → Fin 1024 → ℝ) (S : Fin 16 → ℝ)

/-- The gradient of the queries, before its layout. -/
theorem v135_at (i : S128x4x128x4x64.Idx) : val_main_v135 (F := Ideal) (qarg Q) (karg K) (karg V) (qarg G) (sarg S) i
    = ((dq Q K V G S (i 0) (i 2) (i 1) (i 3) (i 4) : ℝ) : EReal) := by
  rw [val_main_v135_apply]
  unfold dq
  rw [Row.coe_sum]
  refine Finset.sum_congr rfl fun k _ => ?_
  rw [v134_at, v9_apply, EReal.coe_mul]
  rfl

/-- The reference's gradient of the queries. -/
theorem v142_at (b r : Fin 128) (g h : Fin 4) (d : Fin 64) :
    val_main_v142 (F := Ideal) (qarg Q) (karg K) (karg V) (qarg G) (sarg S) (ix2 (row b r) (qcol g h d)) = ((dq Q K V G S b r g h d : ℝ) : EReal) := by
  have e : idx_main_v141 (ix2 (row b r) (qcol g h d)) = ix5 (n0 := 128) (n1 := 128) (n2 := 4) (n3 := 4) (n4 := 64) b r g h d := by
    funext a
    apply Fin.ext
    match a with
    | ⟨0, _⟩ => show ((b.val * 128 + r.val) * 1024 + ((g.val * 4 + h.val) * 64 + d.val)) / 131072 = b.val; omega
    | ⟨1, _⟩ => show ((b.val * 128 + r.val) * 1024 + ((g.val * 4 + h.val) * 64 + d.val)) / 1024 % 128 = r.val; omega
    | ⟨2, _⟩ => show ((b.val * 128 + r.val) * 1024 + ((g.val * 4 + h.val) * 64 + d.val)) / 256 % 4 = g.val; omega
    | ⟨3, _⟩ => show ((b.val * 128 + r.val) * 1024 + ((g.val * 4 + h.val) * 64 + d.val)) / 64 % 4 = h.val; omega
    | ⟨4, _⟩ => show ((b.val * 128 + r.val) * 1024 + ((g.val * 4 + h.val) * 64 + d.val)) % 64 = d.val; omega
  show val_main_v141 (F := Ideal) (qarg Q) (karg K) (karg V) (qarg G) (sarg S) (ix2 (row b r) (qcol g h d)) = _
  rw [val_main_v141_apply, e, val_main_v136_apply, v135_at]
  rfl

/-- The gradient of the windows of keys, before its layout. -/
theorem v137_at (i : S128x4x384x64.Idx) : val_main_v137 (F := Ideal) (qarg Q) (karg K) (karg V) (qarg G) (sarg S) i
    = ((dk Q K V G S (i 0) (i 2) (i 1) (i 3) : ℝ) : EReal) := by
  unfold val_main_v137
  have e1 := v134_at Q K V G S
  have e2 := v1_apply Q
  generalize val_main_v134 (F := Ideal) (qarg Q) (karg K) (karg V) (qarg G) (sarg S) = y0 at e1 ⊢
  generalize val_main_v1 (F := Ideal) (qarg Q) = y1 at e2 ⊢
  simp only [Host.dotGeneral]
  rw [Ideal.dotGeneral_apply, ValueIdx.sum_contr2 _ 128 4 rfl rfl rfl, Finset.sum_comm]
  unfold dk
  rw [Row.coe_sum]
  refine Finset.sum_congr rfl fun h _ => ?_
  rw [Row.coe_sum]
  refine Finset.sum_congr rfl fun r _ => ?_
  rw [e1, e2, EReal.coe_mul]
  rfl

/-- The reference's gradient of the windows of keys. -/
theorem v143_at (b : Fin 128) (j : Fin 384) (g : Fin 4) (d : Fin 64) :
    val_main_v143 (F := Ideal) (qarg Q) (karg K) (karg V) (qarg G) (sarg S) (ix3 b j (kcol g d)) = ((dk Q K V G S b j g d : ℝ) : EReal) := by
  have e : idx_main_v143 (ix3 b j (kcol g d)) = ix4 (n0 := 128) (n1 := 384) (n2 := 4) (n3 := 64) b j g d := by
    funext a
    apply Fin.ext
    match a with
    | ⟨0, _⟩ => show ((b.val * 384 + j.val) * 256 + (g.val * 64 + d.val)) / 98304 = b.val; omega
    | ⟨1, _⟩ => show ((b.val * 384 + j.val) * 256 + (g.val * 64 + d.val)) / 256 % 384 = j.val; omega
    | ⟨2, _⟩ => show ((b.val * 384 + j.val) * 256 + (g.val * 64 + d.val)) / 64 % 4 = g.val; omega
    | ⟨3, _⟩ => show ((b.val * 384 + j.val) * 256 + (g.val * 64 + d.val)) % 64 = d.val; omega
  rw [val_main_v143_apply, e, val_main_v138_apply, v137_at]
  rfl

/-- The gradient of the windows of values, before its layout. -/
theorem v101_at (i : S128x4x64x384.Idx) : val_main_v101 (F := Ideal) (qarg Q) (karg K) (qarg G) (sarg S) i
    = ((dv Q K G S (i 0) (i 3) (i 1) (i 2) : ℝ) : EReal) := by
  unfold val_main_v101
  have e1 := v99_apply G
  have e2 := v91_at Q K S
  generalize val_main_v99 (F := Ideal) (qarg G) = y0 at e1 ⊢
  generalize val_main_v91 (F := Ideal) (qarg Q) (karg K) (sarg S) = y1 at e2 ⊢
  simp only [Host.dotGeneral]
  rw [Ideal.dotGeneral_apply, ValueIdx.sum_contr2 _ 4 128 rfl rfl rfl]
  unfold dv
  rw [Row.coe_sum]
  refine Finset.sum_congr rfl fun h _ => ?_
  rw [Row.coe_sum]
  refine Finset.sum_congr rfl fun r _ => ?_
  rw [e1, e2, mul_comm, EReal.coe_mul]
  rfl

/-- The reference's gradient of the windows of values. -/
theorem v144_at (b : Fin 128) (j : Fin 384) (g : Fin 4) (d : Fin 64) :
    val_main_v144 (F := Ideal) (qarg Q) (karg K) (qarg G) (sarg S) (ix3 b j (kcol g d)) = ((dv Q K G S b j g d : ℝ) : EReal) := by
  have e : idx_main_v144 (ix3 b j (kcol g d)) = ix4 (n0 := 128) (n1 := 384) (n2 := 4) (n3 := 64) b j g d := by
    funext a
    apply Fin.ext
    match a with
    | ⟨0, _⟩ => show ((b.val * 384 + j.val) * 256 + (g.val * 64 + d.val)) / 98304 = b.val; omega
    | ⟨1, _⟩ => show ((b.val * 384 + j.val) * 256 + (g.val * 64 + d.val)) / 256 % 384 = j.val; omega
    | ⟨2, _⟩ => show ((b.val * 384 + j.val) * 256 + (g.val * 64 + d.val)) / 64 % 4 = g.val; omega
    | ⟨3, _⟩ => show ((b.val * 384 + j.val) * 256 + (g.val * 64 + d.val)) % 64 = d.val; omega
  rw [val_main_v144_apply, e, val_main_v102_apply, v101_at]
  rfl

/-- The gradient of a sink through its own weight. -/
theorem v112_at (i : S4x4x1.Idx) : val_main_v112 (F := Ideal) (qarg Q) (karg K) (karg V) (qarg G) (sarg S) i
    = ((dsink Q K V G S (i 0) (i 1) : ℝ) : EReal) := by
  unfold val_main_v112
  have e1 := v111_at Q K V G S
  generalize val_main_v111 (F := Ideal) (qarg Q) (karg K) (karg V) (qarg G) (sarg S) = y0 at e1 ⊢
  have h2 : (i 2).val < 1 := (i 2).isLt
  simp only [Host.reduceAdd, Ideal.hostReduceAdd_def]
  unfold Ideal.hostReduceAdd
  rw [val_main_cst_17_apply, zero_word, EReal.coe_zero, zero_add,
    Finset.sum_filter_eq_sum_of_fiber _ (fun k : Fin 128 × Fin 128 => (ix5 k.1 (i 0) (i 1) k.2 (i 2) : S128x4x4x128x1.Idx))
      (fun _ _ e => Prod.ext (congrFun e 0) (congrFun e 3)) (by
        intro v
        constructor
        · intro e
          refine ⟨(v 0, v 3), ?_⟩
          subst e
          funext a
          match a with
          | ⟨0, _⟩ => rfl
          | ⟨1, _⟩ => rfl
          | ⟨2, _⟩ => rfl
          | ⟨3, _⟩ => rfl
          | ⟨4, _⟩ => rfl
        · rintro ⟨k, rfl⟩
          funext a
          match a with
          | ⟨0, _⟩ => rfl
          | ⟨1, _⟩ => rfl
          | ⟨2, _⟩ => rfl) y0, Fintype.sum_prod_type]
  unfold dsink
  rw [← Finset.sum_neg_distrib, Row.coe_sum]
  refine Finset.sum_congr rfl fun b _ => ?_
  rw [← Finset.sum_neg_distrib, Row.coe_sum]
  refine Finset.sum_congr rfl fun r _ => ?_
  rw [e1]
  refine congrArg _ ?_
  show -(mean Q K V G S b (i 0) (i 1) r / rden Q K S b (i 0) (i 1) r) * rswt Q K S b (i 0) (i 1) r = -(Row.satt _ _ _ * mean Q K V G S b (i 0) (i 1) r)
  unfold Row.satt
  ring

/-- The gradient of a sink through the shift is zero. -/
theorem v124_at (i : S4x4x1.Idx) : val_main_v124 (F := Ideal) (qarg Q) (karg K) (karg V) (qarg G) (sarg S) i = 0 := by
  unfold val_main_v124
  have e1 : ∀ j, val_main_v123 (F := Ideal) (qarg Q) (karg K) (karg V) (qarg G) (sarg S) j = 0 := fun j => by
    rw [val_main_v123_apply, v122_at, Ideal.mulf_def, zero_mul]
  generalize val_main_v123 (F := Ideal) (qarg Q) (karg K) (karg V) (qarg G) (sarg S) = y0 at e1 ⊢
  simp only [Host.reduceAdd, Ideal.hostReduceAdd_def]
  unfold Ideal.hostReduceAdd
  rw [val_main_cst_20_apply, zero_word, EReal.coe_zero, zero_add]
  exact Finset.sum_eq_zero fun k _ => e1 k

/-- The gradient of a sink. -/
theorem v139_at (i : S4x4.Idx) : val_main_v139 (F := Ideal) (qarg Q) (karg K) (karg V) (qarg G) (sarg S) i
    = ((dsink Q K V G S (i 0) (i 1) : ℝ) : EReal) := by
  unfold val_main_v139
  have e1 : ∀ j : S1x4x4x1x1.Idx, val_main_v126 (F := Ideal) (qarg Q) (karg K) (karg V) (qarg G) (sarg S) j
      = ((dsink Q K V G S (j 1) (j 2) : ℝ) : EReal) := fun j => by
    have h0 : (j 0).val < 1 := (j 0).isLt
    have h1 : (j 1).val < 4 := (j 1).isLt
    have h2 : (j 2).val < 4 := (j 2).isLt
    have h3 : (j 3).val < 1 := (j 3).isLt
    have h4 : (j 4).val < 1 := (j 4).isLt
    have e : idx_main_v113 j = ix3 (n0 := 4) (n1 := 4) (n2 := 1) ⟨(j 1).val, h1⟩ ⟨(j 2).val, h2⟩ 0 := by
      funext a
      apply Fin.ext
      match a with
      | ⟨0, _⟩ => show (((((j 0).val * 4 + (j 1).val) * 4 + (j 2).val) * 1 + (j 3).val) * 1 + (j 4).val) / 4 = (j 1).val; omega
      | ⟨1, _⟩ => show (((((j 0).val * 4 + (j 1).val) * 4 + (j 2).val) * 1 + (j 3).val) * 1 + (j 4).val) / 1 % 4 = (j 2).val; omega
      | ⟨2, _⟩ => rfl
    rw [val_main_v126_apply, val_main_v113_apply, e, v112_at, val_main_v125_apply, v124_at, Ideal.addf_def, add_zero]
    rfl
  generalize val_main_v126 (F := Ideal) (qarg Q) (karg K) (karg V) (qarg G) (sarg S) = y0 at e1 ⊢
  simp only [Host.reduceAdd, Ideal.hostReduceAdd_def]
  unfold Ideal.hostReduceAdd
  rw [val_main_cst_22_apply, zero_word, EReal.coe_zero, zero_add,
    Finset.sum_filter_eq_sum_of_fiber _ (fun k : Fin 1 => (ix5 k (i 0) (i 1) 0 0 : S1x4x4x1x1.Idx))
      (fun _ _ e => congrFun e 0) (by
        intro v
        constructor
        · intro e
          refine ⟨v 0, ?_⟩
          subst e
          funext a
          match a with
          | ⟨0, _⟩ => rfl
          | ⟨1, _⟩ => rfl
          | ⟨2, _⟩ => rfl
          | ⟨3, _⟩ => exact Subsingleton.elim (α := Fin 1) _ _
          | ⟨4, _⟩ => exact Subsingleton.elim (α := Fin 1) _ _
        · rintro ⟨k, rfl⟩
          funext a
          match a with
          | ⟨0, _⟩ => rfl
          | ⟨1, _⟩ => rfl) y0, Fin.sum_univ_one, e1]
  rfl

/-- The reference's gradient of the sinks. -/
theorem v145_at (g h : Fin 4) :
    val_main_v145 (F := Ideal) (qarg Q) (karg K) (karg V) (qarg G) (sarg S) (ix2 0 (scol g h)) = ((dsink Q K V G S g h : ℝ) : EReal) := by
  have e : idx_main_v140 (idx_main_v145 (ix2 0 (scol g h))) = ix2 (n0 := 4) (n1 := 4) g h := by
    funext a
    apply Fin.ext
    match a with
    | ⟨0, _⟩ => show (0 * 16 + (g.val * 4 + h.val)) / 4 = g.val; omega
    | ⟨1, _⟩ => show (0 * 16 + (g.val * 4 + h.val)) % 4 = h.val; omega
  rw [val_main_v145_apply, val_main_v140_apply, e, v139_at]
  rfl

end Cert.Ref
-- ==== Proof.Kern.Piece.lean ====
module

public import proofs.«01_k».proof.Proof.Gen.KernelIdeal.Frame
public import Idealize.ShloMosaic.Lib.Pipeline.ValueKit
public import proofs.«01_k».proof.Proof.Spec

@[expose] public section

/-! The kernel's slices, stacks and products, read at an index. -/

set_option maxRecDepth 16384

namespace Cert.Kern
open Idealize.ShloMosaic Cert.KernelIdeal Cert.KernelIdeal.Gen Cert.Spec

/-- The block of queries that half `s` of grid step `t` works on. -/
def blk (t : Fin 64) (s : Fin 2) : Fin 128 := ⟨t.val * 2 + s.val, by omega⟩

/-- The row of a stack of four heads that holds row `r` of head `h`. -/
def srow (h : Fin 4) (r : Fin 128) : Fin 512 := ⟨h.val * 128 + r.val, by omega⟩

section layout
variable {α : Type}

/-- Four pieces of 128 rows stacked. -/
theorem stack_at (x0 x1 x2 x3 : S128x64.Idx → α) (hc) (h : Fin 4) (r : Fin 128) (d : Fin 64) :
    concatenate S512x64 0 [⟨S128x64, x0⟩, ⟨S128x64, x1⟩, ⟨S128x64, x2⟩, ⟨S128x64, x3⟩] hc (ix2 (srow h r) d)
      = (![x0, x1, x2, x3] h) (ix2 r d) :=
  concatenate_ofFn_apply (s₁ := S128x64) (t := S512x64) 0 ![x0, x1, x2, x3] hc rfl 128 rfl (ix2 (srow h r) d) h
    (by show (h.val * 128 + r.val) / 128 = _; omega) (ix2 r d) (by show r.val = (h.val * 128 + r.val) % 128; omega)
    (fun b hb => by
      match b with
      | ⟨0, _⟩ => exact absurd rfl hb
      | ⟨1, _⟩ => rfl)

/-- Four columns of 128 rows stacked. -/
theorem column_at (x0 x1 x2 x3 : S128x1.Idx → α) (hc) (h : Fin 4) (r : Fin 128) :
    concatenate S512x1 0 [⟨S128x1, x0⟩, ⟨S128x1, x1⟩, ⟨S128x1, x2⟩, ⟨S128x1, x3⟩] hc (ix2 (srow h r) 0)
      = (![x0, x1, x2, x3] h) (ix2 r 0) :=
  concatenate_ofFn_apply (s₁ := S128x1) (t := S512x1) 0 ![x0, x1, x2, x3] hc rfl 128 rfl (ix2 (srow h r) 0) h
    (by show (h.val * 128 + r.val) / 128 = _; omega) (ix2 r 0) (by show r.val = (h.val * 128 + r.val) % 128; omega)
    (fun b hb => by
      match b with
      | ⟨0, _⟩ => exact absurd rfl hb
      | ⟨1, _⟩ => rfl)

/-- The key-value heads side by side. -/
theorem heads_at (x0 x1 x2 x3 : S384x64.Idx → α) (hc) (j : Fin 384) (g : Fin 4) (d : Fin 64) :
    concatenate S384x256 1 [⟨S384x64, x0⟩, ⟨S384x64, x1⟩, ⟨S384x64, x2⟩, ⟨S384x64, x3⟩] hc (ix2 j (kcol g d))
      = (![x0, x1, x2, x3] g) (ix2 j d) :=
  concatenate_ofFn_apply (s₁ := S384x64) (t := S384x256) 1 ![x0, x1, x2, x3] hc rfl 64 rfl (ix2 j (kcol g d)) g
    (by show (g.val * 64 + d.val) / 64 = _; omega) (ix2 j d) (by show d.val = (g.val * 64 + d.val) % 64; omega)
    (fun b hb => by
      match b with
      | ⟨0, _⟩ => rfl
      | ⟨1, _⟩ => exact absurd rfl hb)

/-- Head number of a column. -/
def hd (g h : Fin 4) : Fin 16 := ⟨g.val * 4 + h.val, by omega⟩

/-- The sixteen query heads side by side. -/
theorem unstack_at (x : Fin 16 → S128x64.Idx → α) (hc) (r : Fin 128) (g h : Fin 4) (d : Fin 64) :
    concatenate S128x1024 1 [⟨S128x64, x 0⟩, ⟨S128x64, x 1⟩, ⟨S128x64, x 2⟩, ⟨S128x64, x 3⟩, ⟨S128x64, x 4⟩, ⟨S128x64, x 5⟩,
      ⟨S128x64, x 6⟩, ⟨S128x64, x 7⟩, ⟨S128x64, x 8⟩, ⟨S128x64, x 9⟩, ⟨S128x64, x 10⟩, ⟨S128x64, x 11⟩, ⟨S128x64, x 12⟩,
      ⟨S128x64, x 13⟩, ⟨S128x64, x 14⟩, ⟨S128x64, x 15⟩] hc (ix2 r (qcol g h d))
      = x (hd g h) (ix2 r d) :=
  concatenate_ofFn_apply (s₁ := S128x64) (t := S128x1024) 1 x hc rfl 64 rfl (ix2 r (qcol g h d)) (hd g h)
    (by show ((g.val * 4 + h.val) * 64 + d.val) / 64 = g.val * 4 + h.val; omega) (ix2 r d)
    (by show d.val = ((g.val * 4 + h.val) * 64 + d.val) % 64; omega)
    (fun b hb => by
      match b with
      | ⟨0, _⟩ => rfl
      | ⟨1, _⟩ => exact absurd rfl hb)

/-- A piece of a block of rows. -/
theorem piece_at (v : S256x1024.Idx → α) (r0 c0 : ℕ) (s0) (r : Fin 128) (d : Fin 64) (a : Fin 256) (c : Fin 1024)
    (ha : a.val = r0 + r.val) (hc : c.val = c0 + d.val) :
    extractStridedSlice S128x64 ![r0, c0] v s0 (ix2 r d) = v (ix2 a c) :=
  extractStridedSlice_apply _ _ _ _ _ fun x => by
    match x with
    | ⟨0, _⟩ => exact ha
    | ⟨1, _⟩ => exact hc

/-- A head of a block of keys. -/
theorem keys_at (v : S512x256.Idx → α) (r0 c0 : ℕ) (s0) (j : Fin 384) (d : Fin 64) (a : Fin 512) (c : Fin 256)
    (ha : a.val = r0 + j.val) (hc : c.val = c0 + d.val) :
    extractStridedSlice S384x64 ![r0, c0] v s0 (ix2 j d) = v (ix2 a c) :=
  extractStridedSlice_apply _ _ _ _ _ fun x => by
    match x with
    | ⟨0, _⟩ => exact ha
    | ⟨1, _⟩ => exact hc

/-- A head of a stack. -/
theorem head_at (v : S512x64.Idx → α) (r0 : ℕ) (s0) (h : Fin 4) (e : r0 = h.val * 128) (r : Fin 128) (d : Fin 64) :
    extractStridedSlice S128x64 ![r0, 0] v s0 (ix2 r d) = v (ix2 (srow h r) d) :=
  extractStridedSlice_apply _ _ _ _ _ fun x => by
    match x with
    | ⟨0, _⟩ => exact congrArg (· + r.val) e.symm
    | ⟨1, _⟩ => exact (Nat.zero_add _).symm

/-- A head of a stacked column. -/
theorem headcol_at (v : S512x1.Idx → α) (r0 : ℕ) (s0) (h : Fin 4) (e : r0 = h.val * 128) (r : Fin 128) :
    extractStridedSlice S128x1 ![r0, 0] v s0 (ix2 r 0) = v (ix2 (srow h r) 0) :=
  extractStridedSlice_apply _ _ _ _ _ fun x => by
    match x with
    | ⟨0, _⟩ => exact congrArg (· + r.val) e.symm
    | ⟨1, _⟩ => rfl

/-- A column across its row. -/
theorem across_at (v : S512x1.Idx → α) (hb) (i : Fin 512) (j : Fin 384) :
    broadcastTo S512x384 v hb (ix2 i j) = v (ix2 i 0) :=
  broadcastTo_apply _ _ _ _ fun a => by
    match a with
    | ⟨0, _⟩ => rfl
    | ⟨1, _⟩ => rfl

end layout

/-- The scores of stacked queries. -/
theorem mm_nt (x : FVec Ideal S512x64 .bf16) (y : FVec Ideal S384x64 .bf16) (i : Fin 512) (j : Fin 384) :
    matmul (F := Ideal) dot_S512x64_S384x64_S512x384_1_1_0_0_n_n none x y (constant S512x384 .f32 0x00000000#32) (ix2 i j)
      = ∑ d : Fin 64, x (ix2 i d) * y (ix2 j d) := by
  pointwise

/-- A product with the keys. -/
theorem mm_nn (x : FVec Ideal S512x384 .bf16) (y : FVec Ideal S384x64 .bf16) (i : Fin 512) (d : Fin 64) :
    matmul (F := Ideal) dot_S512x384_S384x64_S512x64_1_0_0_1_n_n none x y (constant S512x64 .f32 0x00000000#32) (ix2 i d)
      = ∑ j : Fin 384, x (ix2 i j) * y (ix2 j d) := by
  pointwise

/-- A product over the stacked rows. -/
theorem mm_tn (x : FVec Ideal S512x384 .bf16) (y : FVec Ideal S512x64 .bf16) (j : Fin 384) (d : Fin 64) :
    matmul (F := Ideal) dot_S512x384_S512x64_S384x64_0_0_1_1_n_n none x y (constant S384x64 .f32 0x00000000#32) (ix2 j d)
      = ∑ i : Fin 512, x (ix2 i j) * y (ix2 i d) := by
  pointwise

/-- A sum over the stacked rows is a sum over heads and rows. -/
theorem sum_srow {M : Type*} [AddCommMonoid M] (f : Fin 512 → M) : (∑ i, f i) = ∑ h : Fin 4, ∑ r : Fin 128, f (srow h r) := by
  rw [← Fintype.sum_prod_type (f := fun p : Fin 4 × Fin 128 => f (srow p.1 p.2))]
  exact (Equiv.sum_comp (finProdFinEquiv (m := 4) (n := 128)) f).symm.trans
    (Finset.sum_congr rfl fun p _ => congrArg f (Fin.ext (by simp [finProdFinEquiv, srow]; omega)))

/-- A row sum of a stack. -/
theorem rowsum_at (x : FVec Ideal S512x64 .f32) (hr h1 h2 hs) (i : Fin 512) :
    shapeCast S512x1 (multiReduction (F := Ideal) .add [1] S512 x 0x00000000#32 hr h1 h2) hs (ix2 i 0)
      = ∑ d : Fin 64, x (ix2 i d) := by
  pointwise

/-- The sum of a head's column. -/
theorem colsum_at (x : FVec Ideal S128x1 .f32) (hr h1 h2 hs) :
    shapeCast S1x1 (multiReduction (F := Ideal) .add [0] S1 x 0x00000000#32 hr h1 h2) hs (ix2 0 0)
      = ∑ r : Fin 128, x (ix2 r 0) := by
  pointwise

end Cert.Kern
-- ==== Proof.Kern.Host.lean ====
module

public import proofs.«01_k».proof.Proof.Gen.KernelIdeal.Frame
public import Idealize.ShloMosaic.Lib.Pipeline.ValueKit
public import Idealize.ShloMosaic.Lib.StableHlo.RunRead
public import proofs.«01_k».proof.Proof.Kern.Piece
public import proofs.«01_k».proof.Proof.Ref.Soft

@[expose] public section

/-! What the host hands to the kernel: the output of the attention and the logarithms of the row sums. -/

set_option maxRecDepth 16384

namespace Cert.Kern
open Cert.KernelIdeal Cert.KernelIdeal.Gen Idealize.ShloMosaic Idealize.ShloMosaic.TcCoe Idealize.SL.Sem Cert.ReferenceIdeal.Read Cert.Spec

section words
variable {F : FTy → Type} [FloatOps F]
variable (m : (ℓ : Loc nD τ sig) → Buf (Elt F) ℓ)

/-- Equal pieces stacked are equal. -/
theorem cat_congr {x0 x1 x2 y0 y1 y2 : S128x128x4x64.Idx → Elt F .f32} (h) (h0 : x0 = y0) (h1 : x1 = y1) (h2 : x2 = y2) :
    concatenate S128x384x4x64 1 [⟨S128x128x4x64, x0⟩, ⟨S128x128x4x64, x1⟩, ⟨S128x128x4x64, x2⟩] h =
      concatenate S128x384x4x64 1 [⟨S128x128x4x64, y0⟩, ⟨S128x128x4x64, y1⟩, ⟨S128x128x4x64, y2⟩] h := by
  subst h0 h1 h2; rfl

set_option backward.isDefEq.respectTransparency.types false in
/-- The windows of keys. -/
theorem cat9 (c : Dev nD) : concatenate S128x384x4x64 1
      [⟨S128x128x4x64, StableHlo.upto [hostOps0, hostOps0_1, hostOps0_2, hostOps0_3, hostOps0_4, hostOps0_5, hostOps0_6].flatten (fun b => m (c, b)) 11 (Proc.tc.devRef (![main_v6, main_v7, main_v8] 0))⟩,
        ⟨S128x128x4x64, StableHlo.upto [hostOps0, hostOps0_1, hostOps0_2, hostOps0_3, hostOps0_4, hostOps0_5, hostOps0_6].flatten (fun b => m (c, b)) 11 (Proc.tc.devRef (![main_v6, main_v7, main_v8] 1))⟩,
        ⟨S128x128x4x64, StableHlo.upto [hostOps0, hostOps0_1, hostOps0_2, hostOps0_3, hostOps0_4, hostOps0_5, hostOps0_6].flatten (fun b => m (c, b)) 11 (Proc.tc.devRef (![main_v6, main_v7, main_v8] 2))⟩]
      concatenates_S128x128x4x64_S128x128x4x64_S128x128x4x64_S128x384x4x64_d1 =
    Cert.ReferenceIdeal.Read.val_main_v9 (m (c, Proc.tc.devRef main_arg1)) := by
  refine cat_congr _ ?_ ?_ ?_
  · show StableHlo.upto [hostOps0, hostOps0_1, hostOps0_2, hostOps0_3, hostOps0_4, hostOps0_5, hostOps0_6].flatten (fun b => m (c, b)) 11 (Proc.tc.devRef main_v6) = _
    after_reads_simp
    rfl
  · show StableHlo.upto [hostOps0, hostOps0_1, hostOps0_2, hostOps0_3, hostOps0_4, hostOps0_5, hostOps0_6].flatten (fun b => m (c, b)) 11 (Proc.tc.devRef main_v7) = _
    after_reads_simp
    rfl
  · show StableHlo.upto [hostOps0, hostOps0_1, hostOps0_2, hostOps0_3, hostOps0_4, hostOps0_5, hostOps0_6].flatten (fun b => m (c, b)) 11 (Proc.tc.devRef main_v8) = _
    after_reads_simp
    rfl

set_option backward.isDefEq.respectTransparency.types false in
/-- The windows of values. -/
theorem cat17 (c : Dev nD) : concatenate S128x384x4x64 1
      [⟨S128x128x4x64, StableHlo.upto [hostOps0, hostOps0_1, hostOps0_2, hostOps0_3, hostOps0_4, hostOps0_5, hostOps0_6].flatten (fun b => m (c, b)) 21 (Proc.tc.devRef (![main_v14, main_v15, main_v16] 0))⟩,
        ⟨S128x128x4x64, StableHlo.upto [hostOps0, hostOps0_1, hostOps0_2, hostOps0_3, hostOps0_4, hostOps0_5, hostOps0_6].flatten (fun b => m (c, b)) 21 (Proc.tc.devRef (![main_v14, main_v15, main_v16] 1))⟩,
        ⟨S128x128x4x64, StableHlo.upto [hostOps0, hostOps0_1, hostOps0_2, hostOps0_3, hostOps0_4, hostOps0_5, hostOps0_6].flatten (fun b => m (c, b)) 21 (Proc.tc.devRef (![main_v14, main_v15, main_v16] 2))⟩]
      concatenates_S128x128x4x64_S128x128x4x64_S128x128x4x64_S128x384x4x64_d1 =
    Cert.ReferenceIdeal.Read.val_main_v17 (m (c, Proc.tc.devRef main_arg2)) := by
  refine cat_congr _ ?_ ?_ ?_
  · show StableHlo.upto [hostOps0, hostOps0_1, hostOps0_2, hostOps0_3, hostOps0_4, hostOps0_5, hostOps0_6].flatten (fun b => m (c, b)) 21 (Proc.tc.devRef main_v14) = _
    after_reads_simp
    rfl
  · show StableHlo.upto [hostOps0, hostOps0_1, hostOps0_2, hostOps0_3, hostOps0_4, hostOps0_5, hostOps0_6].flatten (fun b => m (c, b)) 21 (Proc.tc.devRef main_v15) = _
    after_reads_simp
    rfl
  · show StableHlo.upto [hostOps0, hostOps0_1, hostOps0_2, hostOps0_3, hostOps0_4, hostOps0_5, hostOps0_6].flatten (fun b => m (c, b)) 21 (Proc.tc.devRef main_v16) = _
    after_reads_simp
    rfl

set_option backward.isDefEq.respectTransparency.types false in
/-- The logarithms of the row sums, as the kernel takes them. -/
theorem lse_word (c : Dev nD) : V m c main_v76 = shapeCast S4x128x512x1 (transpose S4x128x4x128x1 [1, 0, 2, 3, 4] (addf (val_main_v62 (F := F) (m (c, Proc.tc.devRef main_arg0)) (m (c, Proc.tc.devRef main_arg1)) (m (c, Proc.tc.devRef main_arg4))) (Host.log (val_main_v89 (F := F) (m (c, Proc.tc.devRef main_arg0)) (m (c, Proc.tc.devRef main_arg1)) (m (c, Proc.tc.devRef main_arg4))))) transposes_S128x4x4x128x1_S4x128x4x128x1_1_0_2_3_4) shapeCasts_S4x128x4x128x1_S4x128x512x1 := by
  unfold V
  after_reads_simp
  generalize hX : concatenate S128x384x4x64 1 _ _ = X
  obtain rfl : X = _ := hX.symm.trans (cat9 m c)
  rfl

set_option backward.isDefEq.respectTransparency.types false in
/-- The output of the attention, as the kernel takes it. -/
theorem out_word (c : Dev nD) : V m c main_v72 = truncf .bf16 (shapeCast S16384x1024 (val_main_v96 (F := F) (m (c, Proc.tc.devRef main_arg0)) (m (c, Proc.tc.devRef main_arg1)) (m (c, Proc.tc.devRef main_arg2)) (m (c, Proc.tc.devRef main_arg4))) shapeCasts_S128x128x4x4x64_S16384x1024) bitsLt_bf16_f32 := by
  unfold V
  after_reads_simp
  generalize hX : concatenate S128x384x4x64 1 _ _ = X
  obtain rfl : X = _ := hX.symm.trans (cat17 m c)
  generalize hY : concatenate S128x384x4x64 1 _ _ = Y
  obtain rfl : Y = _ := hY.symm.trans (cat9 m c)
  rfl

end words

section values
variable (m : (ℓ : Loc nD τ sig) → Buf (Elt Ideal) ℓ) (Q : Fin 16384 → Fin 1024 → ℝ) (K V' : Fin 16384 → Fin 256 → ℝ)
  (G : Fin 16384 → Fin 1024 → ℝ) (S : Fin 16 → ℝ)

/-- The arguments are real arrays. -/
structure Given (c : Dev nD) : Prop where
  q : m (c, Proc.tc.devRef main_arg0) = Ref.qarg Q
  k : m (c, Proc.tc.devRef main_arg1) = Ref.karg K
  v : m (c, Proc.tc.devRef main_arg2) = Ref.karg V'
  g : m (c, Proc.tc.devRef main_arg3) = Ref.qarg G
  s : m (c, Proc.tc.devRef main_arg4) = Ref.sarg S

variable {m Q K V' G S}

/-- A shifted logarithm laid out by group and stacked rows. -/
theorem lay_lse (x y : FVec Ideal S128x4x4x128x1 .f32) (ht hs) (b r : Fin 128) (g h : Fin 4) :
    shapeCast S4x128x512x1 (transpose S4x128x4x128x1 [1, 0, 2, 3, 4] (addf x (Host.log y)) ht) hs (ix4 g b (srow h r) 0)
      = x (ix5 b g h r 0) + Ideal.log (y (ix5 b g h r 0)) := by
  refine (shapeCast_apply _ _ _ (ix5 g b h r 0) ?_).trans ?_
  · rw [Shape.rowMajor_val_five, Shape.rowMajor_val_four]
    show (((g.val * 128 + b.val) * 4 + h.val) * 128 + r.val) * 1 + 0 = ((g.val * 128 + b.val) * 512 + (h.val * 128 + r.val)) * 1 + 0
    omega
  refine (transpose_apply _ _ _ _ (ix5 b g h r 0) ?_).trans rfl
  intro a
  match a with
  | ⟨0, _⟩ => rfl
  | ⟨1, _⟩ => rfl
  | ⟨2, _⟩ => rfl
  | ⟨3, _⟩ => rfl
  | ⟨4, _⟩ => rfl

/-- An output by block and head laid out by rows. -/
theorem lay_out (x : FVec Ideal S128x128x4x4x64 .f32) (hs hb) (b r : Fin 128) (g h : Fin 4) (d : Fin 64) :
    truncf .bf16 (shapeCast S16384x1024 x hs) hb (ix2 (row b r) (qcol g h d)) = x (ix5 b r g h d) := by
  refine Eq.trans (b := shapeCast S16384x1024 x hs (ix2 (row b r) (qcol g h d))) rfl ?_
  refine shapeCast_apply _ _ _ (ix5 b r g h d) ?_
  rw [Shape.rowMajor_val_five, Shape.rowMajor_val_two]
  show (((b.val * 128 + r.val) * 4 + g.val) * 4 + h.val) * 64 + d.val = (b.val * 128 + r.val) * 1024 + ((g.val * 4 + h.val) * 64 + d.val)
  omega

/-- The logarithms of the row sums. -/
theorem lse_at {c : Dev nD} (H : Given m Q K V' G S c) (b r : Fin 128) (g h : Fin 4) :
    V m c main_v76 (ix4 g b (srow h r) 0) = ((lse Q K S b g h r : ℝ) : EReal) := by
  rw [lse_word, H.q, H.k, H.s, lay_lse, Ref.v62_at, Ref.v89_at]
  exact Row.lse_coe _ _ _

/-- The output of the attention. -/
theorem out_at {c : Dev nD} (H : Given m Q K V' G S c) (b r : Fin 128) (g h : Fin 4) (d : Fin 64) :
    V m c main_v72 (ix2 (row b r) (qcol g h d)) = ((out Q K V' S b r g h d : ℝ) : EReal) := by
  rw [out_word, H.q, H.k, H.v, H.s, lay_out, val_main_v96_apply, Ref.v95_at]
  rfl

end values

end Cert.Kern
-- ==== Proof.Kern.Core.lean ====
module

public import proofs.«01_k».proof.Proof.Kern.Piece
public import proofs.«01_k».proof.Proof.Words

@[expose] public section

/-! One group of four heads on one block of 128 queries: the kernel's operations on real numbers. -/

set_option maxRecDepth 16384

namespace Cert.Kern
open Idealize.ShloMosaic Cert.KernelIdeal Cert.KernelIdeal.Gen Cert.Spec

/-- The word of zero. -/
theorem word_zero : (Scalar.ofBits (F := Ideal) .f32 0x00000000#32 : EReal) = ((0 : ℝ) : EReal) := by
  show Ideal.ofBits .f32 0x00000000#32 = _
  rw [Ideal.ofBits_zero_f32, EReal.coe_zero]

/-- The keys of the window, the blocks outside the sequence replaced by the nearest one. -/
noncomputable def cwin (A : Fin 16384 → Fin 256 → ℝ) (b : Fin 128) (j : Fin 384) (c : Fin 256) : ℝ :=
  A ⟨min (max (b.val + j.val / 128) 1 - 1) 127 * 128 + j.val % 128, by omega⟩ c

/-- A key that is seen lies in the sequence. -/
theorem cwin_eq (A : Fin 16384 → Fin 256 → ℝ) (b r : Fin 128) (j : Fin 384) (c : Fin 256) (h : sees b r j = true) :
    cwin A b j c = win A b j c := by
  unfold sees at h
  have h := of_decide_eq_true h
  unfold cwin win padded
  rw [dif_pos ⟨h.2.2.1, by omega⟩]
  exact congrArg (fun n => A n c) (Fin.ext (by
    show min (max (b.val + j.val / 128) 1 - 1) 127 * 128 + j.val % 128 = b.val * 128 + j.val - 128
    omega))

/-- Stacked rows of the queries of a block. -/
def IsQ (x : FVec Ideal S512x64 .bf16) (A : Fin 16384 → Fin 1024 → ℝ) (b : Fin 128) (g : Fin 4) : Prop :=
  ∀ h r d, x (ix2 (srow h r) d) = ((A (row b r) (qcol g h d) : ℝ) : EReal)

/-- A head of the keys of a window. -/
def IsK (x : FVec Ideal S384x64 .bf16) (A : Fin 16384 → Fin 256 → ℝ) (b : Fin 128) (g : Fin 4) : Prop :=
  ∀ j d, x (ix2 j d) = ((cwin A b j (kcol g d) : ℝ) : EReal)

/-- A stacked column of real numbers. -/
def IsC (x : FVec Ideal S512x1 .f32) (f : Fin 4 → Fin 128 → ℝ) : Prop :=
  ∀ h r, x (ix2 (srow h r) 0) = ((f h r : ℝ) : EReal)

/-- The mask of a block. -/
def IsM (m : IVec S512x384 1) (b : Fin 128) : Prop :=
  ∀ h r j, m (ix2 (srow h r) j) = BitVec.ofBool (sees b r j)

/-- The kernel's attention. -/
noncomputable def cPr (m : IVec S512x384 1) (qs : FVec Ideal S512x64 .bf16) (kg : FVec Ideal S384x64 .bf16) (lc : FVec Ideal S512x1 .f32) :
    FVec Ideal S512x384 .f32 :=
  select m (exp (F := Ideal) (subf (F := Ideal) (matmul (F := Ideal) dot_S512x64_S384x64_S512x384_1_1_0_0_n_n none qs kg (constant S512x384 .f32 0x00000000#32))
    (broadcastTo S512x384 lc broadcasts_S512x1_S512x384))) (broadcast S512x384 (Scalar.ofBits (F := Ideal) .f32 0x00000000#32))

/-- The kernel's row sums of output and cotangent. -/
noncomputable def cDelta (dos os : FVec Ideal S512x64 .bf16) : FVec Ideal S512x1 .f32 :=
  shapeCast S512x1 (multiReduction (F := Ideal) .add [1] S512 (mulf (F := Ideal) (extf (F := Ideal) .f32 dos bitsLt_bf16_f32) (extf (F := Ideal) .f32 os bitsLt_bf16_f32))
    0x00000000#32 reduces_S512x64_S512 (.inl rfl) rfl) shapeCasts_S512_S512x1

/-- The kernel's gradient of the scores. -/
noncomputable def cDs (pr : FVec Ideal S512x384 .f32) (dos : FVec Ideal S512x64 .bf16) (vg : FVec Ideal S384x64 .bf16) (dl : FVec Ideal S512x1 .f32) :
    FVec Ideal S512x384 .bf16 :=
  truncf (F := Ideal) .bf16 (mulf (F := Ideal) pr (subf (F := Ideal) (matmul (F := Ideal) dot_S512x64_S384x64_S512x384_1_1_0_0_n_n none dos vg (constant S512x384 .f32 0x00000000#32))
    (broadcastTo S512x384 dl broadcasts_S512x1_S512x384))) bitsLt_bf16_f32

/-- The kernel's gradient of stacked queries. -/
noncomputable def cDq (ds : FVec Ideal S512x384 .bf16) (kg : FVec Ideal S384x64 .bf16) : FVec Ideal S512x64 .f32 :=
  matmul (F := Ideal) dot_S512x384_S384x64_S512x64_1_0_0_1_n_n none ds kg (constant S512x64 .f32 0x00000000#32)

/-- The kernel's product over stacked rows. -/
noncomputable def cTn (x : FVec Ideal S512x384 .bf16) (y : FVec Ideal S512x64 .bf16) : FVec Ideal S384x64 .f32 :=
  matmul (F := Ideal) dot_S512x384_S512x64_S384x64_0_0_1_1_n_n none x y (constant S384x64 .f32 0x00000000#32)

/-- The kernel's rows of the sinks' gradient. -/
noncomputable def cPs (sc lc dl : FVec Ideal S512x1 .f32) : FVec Ideal S512x1 .f32 :=
  mulf (F := Ideal) (exp (F := Ideal) (subf (F := Ideal) sc lc)) dl

variable (Q : Fin 16384 → Fin 1024 → ℝ) (K V : Fin 16384 → Fin 256 → ℝ) (G : Fin 16384 → Fin 1024 → ℝ) (S : Fin 16 → ℝ)

/-- The attention's output as an array. -/
noncomputable def oArr (n : Fin 16384) (c : Fin 1024) : ℝ :=
  out Q K V S ⟨n.val / 128, by omega⟩ ⟨n.val % 128, by omega⟩ ⟨c.val / 256, by omega⟩ ⟨c.val / 64 % 4, by omega⟩ ⟨c.val % 64, by omega⟩

theorem oArr_at (b r : Fin 128) (g h : Fin 4) (d : Fin 64) : oArr Q K V S (row b r) (qcol g h d) = out Q K V S b r g h d := by
  unfold oArr
  congr 1 <;> apply Fin.ext
  · show (b.val * 128 + r.val) / 128 = _; omega
  · show (b.val * 128 + r.val) % 128 = _; omega
  · show ((g.val * 4 + h.val) * 64 + d.val) / 256 = _; omega
  · show ((g.val * 4 + h.val) * 64 + d.val) / 64 % 4 = _; omega
  · show ((g.val * 4 + h.val) * 64 + d.val) % 64 = _; omega

variable {Q K V G S} {b : Fin 128} {g : Fin 4}

/-- The kernel's scores. -/
theorem score_at {qs : FVec Ideal S512x64 .bf16} {kg : FVec Ideal S384x64 .bf16} (hq : IsQ qs Q b g) (hk : IsK kg K b g)
    (h : Fin 4) (r : Fin 128) (j : Fin 384) :
    matmul (F := Ideal) dot_S512x64_S384x64_S512x384_1_1_0_0_n_n none qs kg (constant S512x384 .f32 0x00000000#32) (ix2 (srow h r) j)
      = ((∑ d : Fin 64, Q (row b r) (qcol g h d) * cwin K b j (kcol g d) : ℝ) : EReal) := by
  rw [mm_nt, Row.coe_sum]
  refine Finset.sum_congr rfl fun d _ => ?_
  rw [hq, hk, EReal.coe_mul]

/-- The kernel's attention is the attention. -/
theorem cPr_at {m : IVec S512x384 1} {qs : FVec Ideal S512x64 .bf16} {kg : FVec Ideal S384x64 .bf16} {lc : FVec Ideal S512x1 .f32}
    (hm : IsM m b) (hq : IsQ qs Q b g) (hk : IsK kg K b g) (hl : IsC lc (lse Q K S b g)) (h : Fin 4) (r : Fin 128) (j : Fin 384) :
    cPr m qs kg lc (ix2 (srow h r) j) = ((att Q K S b g h r j : ℝ) : EReal) := by
  show Scalar.select (m (ix2 (srow h r) j))
    (Ideal.exp (matmul (F := Ideal) dot_S512x64_S384x64_S512x384_1_1_0_0_n_n none qs kg (constant S512x384 .f32 0x00000000#32) (ix2 (srow h r) j)
      - broadcastTo S512x384 lc broadcasts_S512x1_S512x384 (ix2 (srow h r) j))) (Scalar.ofBits (F := Ideal) .f32 0x00000000#32) = _
  rw [hm, Words.select_ofBool, word_zero, score_at hq hk, across_at, hl, ← EReal.coe_sub, Ideal.exp_coe]
  unfold att lse
  rw [← Row.att_eq]
  by_cases hv : sees b r j = true
  · rw [if_pos hv, if_pos hv]
    refine congrArg (fun x : ℝ => ((Real.exp (x - Row.lse (sees b r) (score Q K b g h r) (S (scol g h))) : ℝ) : EReal)) ?_
    exact Finset.sum_congr rfl fun d _ => by rw [cwin_eq K b r j _ hv, mul_comm]
  · rw [if_neg hv, if_neg hv]

/-- The kernel's row sums are the means. -/
theorem cDelta_at {dos os : FVec Ideal S512x64 .bf16} (hd : IsQ dos G b g) (ho : IsQ os (oArr Q K V S) b g) :
    IsC (cDelta dos os) (mean Q K V G S b g) := by
  intro h r
  unfold cDelta
  refine (rowsum_at _ _ _ _ _ _).trans ?_
  rw [← out_dot, Row.coe_sum]
  refine Finset.sum_congr rfl fun d _ => ?_
  show dos (ix2 (srow h r) d) * os (ix2 (srow h r) d) = _
  rw [hd, ho, oArr_at, EReal.coe_mul]

/-- The kernel's gradient of the scores is the gradient. -/
theorem cDs_at {pr : FVec Ideal S512x384 .f32} {dos : FVec Ideal S512x64 .bf16} {vg : FVec Ideal S384x64 .bf16} {dl : FVec Ideal S512x1 .f32}
    (hp : ∀ h r j, pr (ix2 (srow h r) j) = ((att Q K S b g h r j : ℝ) : EReal)) (hd : IsQ dos G b g) (hv : IsK vg V b g)
    (hl : IsC dl (mean Q K V G S b g)) (h : Fin 4) (r : Fin 128) (j : Fin 384) :
    cDs pr dos vg dl (ix2 (srow h r) j) = ((dscore Q K V G S b g h r j : ℝ) : EReal) := by
  show pr (ix2 (srow h r) j) * (matmul (F := Ideal) dot_S512x64_S384x64_S512x384_1_1_0_0_n_n none dos vg (constant S512x384 .f32 0x00000000#32) (ix2 (srow h r) j)
      - broadcastTo S512x384 dl broadcasts_S512x1_S512x384 (ix2 (srow h r) j)) = _
  rw [hp, score_at hd hv, across_at, hl, ← EReal.coe_sub, ← EReal.coe_mul]
  refine congrArg _ ?_
  by_cases hs : sees b r j = true
  · have e : (∑ d : Fin 64, G (row b r) (qcol g h d) * cwin V b j (kcol g d)) = datt V G b g h r j :=
      Finset.sum_congr rfl fun d _ => by rw [cwin_eq V b r j _ hs]
    rw [e]
    rfl
  · have e0 : sees b r j = false := Bool.eq_false_iff.2 hs
    have e1 : att Q K S b g h r j = 0 := Row.att_of_not _ _ _ j e0
    have e2 : dscore Q K V G S b g h r j = 0 := Row.dscore_of_not _ _ _ _ j e0
    rw [e1, e2, zero_mul]

/-- The kernel's gradient of the queries is the gradient. -/
theorem cDq_at {ds : FVec Ideal S512x384 .bf16} {kg : FVec Ideal S384x64 .bf16}
    (hs : ∀ h r j, ds (ix2 (srow h r) j) = ((dscore Q K V G S b g h r j : ℝ) : EReal)) (hk : IsK kg K b g)
    (h : Fin 4) (r : Fin 128) (d : Fin 64) : cDq ds kg (ix2 (srow h r) d) = ((dq Q K V G S b r g h d : ℝ) : EReal) := by
  unfold cDq dq
  rw [mm_nn, Row.coe_sum]
  refine Finset.sum_congr rfl fun j _ => ?_
  rw [hs, hk, ← EReal.coe_mul]
  by_cases hv : sees b r j = true
  · rw [cwin_eq K b r j _ hv]
  · have e2 : dscore Q K V G S b g h r j = 0 := Row.dscore_of_not _ _ _ _ j (Bool.eq_false_iff.2 hv)
    rw [e2, zero_mul, zero_mul]

/-- A product over stacked rows. -/
theorem cTn_at {x : FVec Ideal S512x384 .bf16} {y : FVec Ideal S512x64 .bf16} {f : Fin 4 → Fin 128 → Fin 384 → ℝ} {A : Fin 16384 → Fin 1024 → ℝ}
    (hx : ∀ h r j, x (ix2 (srow h r) j) = ((f h r j : ℝ) : EReal)) (hy : IsQ y A b g) (j : Fin 384) (d : Fin 64) :
    cTn x y (ix2 j d) = ((∑ h : Fin 4, ∑ r : Fin 128, f h r j * A (row b r) (qcol g h d) : ℝ) : EReal) := by
  unfold cTn
  rw [mm_tn, sum_srow, Row.coe_sum]
  refine Finset.sum_congr rfl fun h _ => ?_
  rw [Row.coe_sum]
  refine Finset.sum_congr rfl fun r _ => ?_
  rw [hx, hy, ← EReal.coe_mul]

/-- The kernel's rows of the sinks' gradient are the rows' parts. -/
theorem cPs_at {sc lc dl : FVec Ideal S512x1 .f32} (hs : IsC sc fun h _ => S (scol g h)) (hl : IsC lc (lse Q K S b g))
    (hd : IsC dl (mean Q K V G S b g)) : IsC (cPs sc lc dl) (sinkPart Q K V G S b g) := by
  intro h r
  show Ideal.exp (sc (ix2 (srow h r) 0) - lc (ix2 (srow h r) 0)) * dl (ix2 (srow h r) 0) = _
  rw [hs, hl, hd, ← EReal.coe_sub, Ideal.exp_coe, ← EReal.coe_mul]
  unfold lse sinkPart
  rw [Row.satt_eq]

end Cert.Kern
-- ==== Proof.Kern.Group.lean ====
module

public import proofs.«01_k».proof.Proof.Kern.Core

@[expose] public section

/-! What one group reads: stacked heads of a block of rows, a head of a window of keys, the mask, a column of sinks;
    and the step a group takes in the sinks' gradient. -/

set_option maxRecDepth 16384

namespace Cert.Kern
open Idealize.ShloMosaic Cert.KernelIdeal Cert.KernelIdeal.Gen Cert.Spec

/-- The 256 rows of grid step `t`. -/
def IsRows (v : FVec Ideal S256x1024 .bf16) (A : Fin 16384 → Fin 1024 → ℝ) (t : Fin 64) : Prop :=
  ∀ (i : Fin 256) (c : Fin 1024), v (ix2 i c) = ((A ⟨t.val * 256 + i.val, by omega⟩ c : ℝ) : EReal)

/-- The 512 keys of grid step `t`. -/
def IsWin (w : FVec Ideal S512x256 .bf16) (A : Fin 16384 → Fin 256 → ℝ) (t : Fin 64) : Prop :=
  ∀ (i : Fin 512) (c : Fin 256), w (ix2 i c)
    = ((A ⟨min (max (t.val * 2 + i.val / 128) 1 - 1) 127 * 128 + i.val % 128, by omega⟩ c : ℝ) : EReal)

theorem stk_at {v : FVec Ideal S256x1024 .bf16} {A : Fin 16384 → Fin 1024 → ℝ} {t : Fin 64} (hv : IsRows v A t) (s : Fin 2) (g : Fin 4)
    (r0 c0 c1 c2 c3 : ℕ) (s0 s1 s2 s3 hc) (e : r0 = s.val * 128 ∧ c0 = g.val * 256 ∧ c1 = g.val * 256 + 64 ∧ c2 = g.val * 256 + 128 ∧ c3 = g.val * 256 + 192) :
    IsQ (concatenate S512x64 0 [⟨S128x64, extractStridedSlice S128x64 ![r0, c0] v s0⟩, ⟨S128x64, extractStridedSlice S128x64 ![r0, c1] v s1⟩,
      ⟨S128x64, extractStridedSlice S128x64 ![r0, c2] v s2⟩, ⟨S128x64, extractStridedSlice S128x64 ![r0, c3] v s3⟩] hc) A (blk t s) g := by
  intro h r d
  rw [stack_at]
  obtain ⟨e0, e1, e2, e3, e4⟩ := e
  have hr : row (blk t s) r = ⟨t.val * 256 + (s.val * 128 + r.val), by omega⟩ :=
    Fin.ext (by show (t.val * 2 + s.val) * 128 + r.val = t.val * 256 + (s.val * 128 + r.val); omega)
  rw [hr]
  have P : ∀ (c0 : ℕ) (s0 : S256x1024.Slices ![r0, c0] S128x64) (c : Fin 1024), c.val = c0 + d.val →
      extractStridedSlice S128x64 ![r0, c0] v s0 (ix2 r d) = ((A ⟨t.val * 256 + (s.val * 128 + r.val), by omega⟩ c : ℝ) : EReal) := fun c0 s0 c hc => by
    rw [piece_at v r0 c0 s0 r d ⟨s.val * 128 + r.val, by omega⟩ c (congrArg (· + r.val) e0.symm) hc]
    exact hv _ _
  match h with
  | ⟨0, _⟩ => exact P c0 s0 _ (by show (g.val * 4 + 0) * 64 + d.val = _; omega)
  | ⟨1, _⟩ => exact P c1 s1 _ (by show (g.val * 4 + 1) * 64 + d.val = _; omega)
  | ⟨2, _⟩ => exact P c2 s2 _ (by show (g.val * 4 + 2) * 64 + d.val = _; omega)
  | ⟨3, _⟩ => exact P c3 s3 _ (by show (g.val * 4 + 3) * 64 + d.val = _; omega)

theorem kg_at {w : FVec Ideal S512x256 .bf16} {A : Fin 16384 → Fin 256 → ℝ} {t : Fin 64} (hw : IsWin w A t) (s : Fin 2) (g : Fin 4)
    (r0 c0 : ℕ) (s0) (e : r0 = s.val * 128 ∧ c0 = g.val * 64) :
    IsK (extractStridedSlice S384x64 ![r0, c0] w s0) A (blk t s) g := by
  intro j d
  rw [keys_at w r0 c0 s0 j d ⟨s.val * 128 + j.val, by omega⟩ (kcol g d) (congrArg (· + j.val) e.1.symm) (by show g.val * 64 + d.val = _; omega)]
  refine (hw _ _).trans (congrArg (fun n => ((A n (kcol g d) : ℝ) : EReal)) (Fin.ext ?_))
  show min (max (t.val * 2 + (s.val * 128 + j.val) / 128) 1 - 1) 127 * 128 + (s.val * 128 + j.val) % 128
    = min (max (t.val * 2 + s.val + j.val / 128) 1 - 1) 127 * 128 + j.val % 128
  omega

/-- The mask over a first row's number. -/
def cMask (base : BitVec 32) : IVec S512x384 1 :=
  andi (andi (cmpi .sle (absi (subi (addi (broadcast S512x384 base) (andi (iota .tc S512x384 32 [0] iota_S512x384_d0_w32) (broadcast S512x384 127#32)))
      (addi (broadcast S512x384 (Scalar.subi base 128#32)) (iota .tc S512x384 32 [1] iota_S512x384_d1_w32)))) (broadcast S512x384 128#32))
    (cmpi .sge (addi (broadcast S512x384 (Scalar.subi base 128#32)) (iota .tc S512x384 32 [1] iota_S512x384_d1_w32)) (broadcast S512x384 0#32)))
    (cmpi .slt (addi (broadcast S512x384 (Scalar.subi base 128#32)) (iota .tc S512x384 32 [1] iota_S512x384_d1_w32)) (broadcast S512x384 16384#32))

theorem cMask_at (base : BitVec 32) (b : Fin 128) (e : base = BitVec.ofInt 32 (b.val * 128 : ℤ)) : IsM (cMask base) b := by
  subst e
  intro h r j
  have k : IntOp.addi (IntOp.subi (BitVec.ofInt 32 (b.val * 128 : ℤ)) 128#32) (BitVec.ofNat 32 j.val) = BitVec.ofInt 32 (b.val * 128 - 128 + j.val : ℤ) := by
    rw [show (128#32) = BitVec.ofInt 32 128 from rfl, Words.subi_ofInt, Words.ofNat_eq, Words.addi_ofInt]
  have q : IntOp.addi (BitVec.ofInt 32 (b.val * 128 : ℤ)) (IntOp.andi (BitVec.ofNat 32 (h.val * 128 + r.val)) 127#32) = BitVec.ofInt 32 (b.val * 128 + r.val : ℤ) := by
    rw [Words.andi_127 _ (by omega), Words.addi_ofInt]
    congr 1
    have : (h.val * 128 + r.val) % 128 = r.val := by omega
    rw [this]
  have i0 : iota .tc S512x384 32 [0] iota_S512x384_d0_w32 (ix2 (srow h r) j) = BitVec.ofNat 32 (h.val * 128 + r.val) := iota_single_apply ..
  have i1 : iota .tc S512x384 32 [1] iota_S512x384_d1_w32 (ix2 (srow h r) j) = BitVec.ofNat 32 j.val := iota_single_apply ..
  show IntOp.andi (IntOp.andi (IntOp.cmpi .sle (IntOp.absi (IntOp.subi (IntOp.addi (BitVec.ofInt 32 (b.val * 128 : ℤ)) (IntOp.andi (iota .tc S512x384 32 [0] iota_S512x384_d0_w32 (ix2 (srow h r) j)) 127#32))
      (IntOp.addi (IntOp.subi (BitVec.ofInt 32 (b.val * 128 : ℤ)) 128#32) (iota .tc S512x384 32 [1] iota_S512x384_d1_w32 (ix2 (srow h r) j))))) (BitVec.ofInt 32 128))
      (IntOp.cmpi .sge (IntOp.addi (IntOp.subi (BitVec.ofInt 32 (b.val * 128 : ℤ)) 128#32) (iota .tc S512x384 32 [1] iota_S512x384_d1_w32 (ix2 (srow h r) j))) (BitVec.ofInt 32 0)))
      (IntOp.cmpi .slt (IntOp.addi (IntOp.subi (BitVec.ofInt 32 (b.val * 128 : ℤ)) 128#32) (iota .tc S512x384 32 [1] iota_S512x384_d1_w32 (ix2 (srow h r) j))) (BitVec.ofInt 32 16384)) = _
  rw [i0, i1, k, q, Words.subi_ofInt, Words.absi_ofInt _ (by omega), Words.sle_ofInt _ _ (by rw [abs_eq_max_neg]; omega) (by omega),
    Words.sge_ofInt _ _ (by omega) (by omega), Words.slt_ofInt _ _ (by omega) (by omega), Words.andi_ofBool, Words.andi_ofBool]
  congr 1
  unfold sees
  rw [← Bool.decide_and, ← Bool.decide_and, decide_eq_decide, abs_le]
  omega

/-- A column of sinks. -/
theorem sinkcol_at {S : Fin 16 → ℝ} (g : Fin 4) (x0 x1 x2 x3 : Elt Ideal .f32) (hc) (e0 : x0 = ((S (scol g 0) : ℝ) : EReal))
    (e1 : x1 = ((S (scol g 1) : ℝ) : EReal)) (e2 : x2 = ((S (scol g 2) : ℝ) : EReal)) (e3 : x3 = ((S (scol g 3) : ℝ) : EReal)) :
    IsC (concatenate S512x1 0 [⟨S128x1, broadcast S128x1 x0⟩, ⟨S128x1, broadcast S128x1 x1⟩, ⟨S128x1, broadcast S128x1 x2⟩, ⟨S128x1, broadcast S128x1 x3⟩] hc)
      fun h _ => S (scol g h) := by
  intro h r
  rw [column_at]
  match h with
  | ⟨0, _⟩ => exact e0
  | ⟨1, _⟩ => exact e1
  | ⟨2, _⟩ => exact e2
  | ⟨3, _⟩ => exact e3

/-- A row of sixteen real numbers. -/
def IsD (x : FVec Ideal S1x16 .f32) (f : Fin 16 → ℝ) : Prop := ∀ c, x (ix2 0 c) = ((f c : ℝ) : EReal)

/-- The step of one head. -/
noncomputable def cStep (acc : FVec Ideal S1x16 .f32) (lane : IVec S1x16 32) (n : BitVec 32) (p : FVec Ideal S128x1 .f32) : FVec Ideal S1x16 .f32 :=
  subf (F := Ideal) acc (select (cmpi .eq lane (broadcast S1x16 n))
    (broadcastTo S1x16 (shapeCast S1x1 (shapeCast S1x1 (multiReduction (F := Ideal) .add [0] S1 p 0x00000000#32 reduces_S128x1_S1 (.inl rfl) rfl) shapeCasts_S1_S1x1)
      shapeCasts_S1x1_S1x1) broadcasts_S1x1_S1x16) (broadcast S1x16 (Scalar.ofBits (F := Ideal) .f32 0x00000000#32)))

theorem cStep_at {acc : FVec Ideal S1x16 .f32} {f : Fin 16 → ℝ} (ha : IsD acc f) (n : Fin 16) (w : BitVec 32) (hw : w = BitVec.ofNat 32 n.val)
    {p : FVec Ideal S128x1 .f32} {u : Fin 128 → ℝ} (hp : ∀ r, p (ix2 r 0) = ((u r : ℝ) : EReal)) :
    IsD (cStep acc (iota .tc S1x16 32 [1] iota_S1x16_d1_w32) w p) fun c => f c - if c = n then ∑ r, u r else 0 := by
  subst hw
  intro c
  have e : broadcastTo S1x16 (shapeCast S1x1 (shapeCast S1x1 (multiReduction (F := Ideal) .add [0] S1 p 0x00000000#32 reduces_S128x1_S1 (.inl rfl) rfl) shapeCasts_S1_S1x1)
      shapeCasts_S1x1_S1x1) broadcasts_S1x1_S1x16 (ix2 0 c) = ((∑ r, u r : ℝ) : EReal) := by
    refine (broadcastTo_apply _ _ _ (ix2 (n0 := 1) (n1 := 1) 0 0) fun a => by
      match a with
      | ⟨0, _⟩ => rfl
      | ⟨1, _⟩ => rfl).trans ?_
    refine (shapeCast_apply _ _ _ (ix2 (n0 := 1) (n1 := 1) 0 0) rfl).trans ?_
    refine (colsum_at _ _ _ _ _).trans ?_
    rw [Row.coe_sum]
    exact Finset.sum_congr rfl fun r _ => hp r
  have il : (iota .tc S1x16 32 [1] iota_S1x16_d1_w32 (ix2 0 c)) = BitVec.ofNat 32 c.val := iota_single_apply ..
  show acc (ix2 0 c) - Scalar.select (IntOp.cmpi .eq (iota .tc S1x16 32 [1] iota_S1x16_d1_w32 (ix2 0 c)) (BitVec.ofNat 32 n.val))
    (broadcastTo S1x16 (shapeCast S1x1 (shapeCast S1x1 (multiReduction (F := Ideal) .add [0] S1 p 0x00000000#32 reduces_S128x1_S1 (.inl rfl) rfl) shapeCasts_S1_S1x1)
      shapeCasts_S1x1_S1x1) broadcasts_S1x1_S1x16 (ix2 0 c)) (Scalar.ofBits (F := Ideal) .f32 0x00000000#32) = _
  have hc : IntOp.cmpi .eq (BitVec.ofNat 32 c.val) (BitVec.ofNat 32 n.val) = BitVec.ofBool (decide (c = n)) := by
    exact (by decide : ∀ c n : Fin 16, IntOp.cmpi .eq (BitVec.ofNat 32 c.val) (BitVec.ofNat 32 n.val) = BitVec.ofBool (decide (c = n))) c n
  rw [e, il, hc, Words.select_ofBool, word_zero, ha, EReal.coe_sub]
  by_cases h : c = n
  · rw [if_pos (decide_eq_true h), if_pos h]
  · rw [if_neg (by simpa using h), if_neg h]

/-- The row of sixteen after one group. -/
noncomputable def upd (g : Fin 4) (f : Fin 16 → ℝ) (p : Fin 4 → Fin 128 → ℝ) (c : Fin 16) : ℝ :=
  f c - if c.val / 4 = g.val then ∑ r, p ⟨c.val % 4, by omega⟩ r else 0

/-- The four steps of a group. -/
noncomputable def cGrp (acc : FVec Ideal S1x16 .f32) (n0 n1 n2 n3 : BitVec 32) (ps : FVec Ideal S512x1 .f32) : FVec Ideal S1x16 .f32 :=
  cStep (cStep (cStep (cStep acc (iota .tc S1x16 32 [1] iota_S1x16_d1_w32) n0 (extractStridedSlice S128x1 ![0, 0] ps slices_S512x1_o0_0_S128x1))
      (iota .tc S1x16 32 [1] iota_S1x16_d1_w32) n1 (extractStridedSlice S128x1 ![128, 0] ps slices_S512x1_o128_0_S128x1))
    (iota .tc S1x16 32 [1] iota_S1x16_d1_w32) n2 (extractStridedSlice S128x1 ![256, 0] ps slices_S512x1_o256_0_S128x1))
    (iota .tc S1x16 32 [1] iota_S1x16_d1_w32) n3 (extractStridedSlice S128x1 ![384, 0] ps slices_S512x1_o384_0_S128x1)

theorem cGrp_at {acc : FVec Ideal S1x16 .f32} {f : Fin 16 → ℝ} (ha : IsD acc f) (g : Fin 4) (n0 n1 n2 n3 : BitVec 32)
    {ps : FVec Ideal S512x1 .f32} {p : Fin 4 → Fin 128 → ℝ} (hp : IsC ps p)
    (e : n0 = BitVec.ofNat 32 (scol g 0).val ∧ n1 = BitVec.ofNat 32 (scol g 1).val ∧ n2 = BitVec.ofNat 32 (scol g 2).val ∧ n3 = BitVec.ofNat 32 (scol g 3).val) :
    IsD (cGrp acc n0 n1 n2 n3 ps) (upd g f p) := by
  obtain ⟨e0, e1, e2, e3⟩ := e
  have H := cStep_at (cStep_at (cStep_at (cStep_at ha (scol g 0) n0 e0 (p := extractStridedSlice S128x1 ![0, 0] ps slices_S512x1_o0_0_S128x1) (u := p 0) fun r =>
      (headcol_at ps 0 _ 0 rfl r).trans (hp 0 r)) (scol g 1) n1 e1 (p := extractStridedSlice S128x1 ![128, 0] ps slices_S512x1_o128_0_S128x1) (u := p 1) fun r =>
      (headcol_at ps 128 _ 1 rfl r).trans (hp 1 r)) (scol g 2) n2 e2 (p := extractStridedSlice S128x1 ![256, 0] ps slices_S512x1_o256_0_S128x1) (u := p 2) fun r =>
      (headcol_at ps 256 _ 2 rfl r).trans (hp 2 r)) (scol g 3) n3 e3 (p := extractStridedSlice S128x1 ![384, 0] ps slices_S512x1_o384_0_S128x1) (u := p 3) fun r =>
      (headcol_at ps 384 _ 3 rfl r).trans (hp 3 r)
  intro c
  refine (H c).trans (congrArg _ ?_)
  show f c - (if c = scol g 0 then _ else _) - (if c = scol g 1 then _ else _) - (if c = scol g 2 then _ else _) - (if c = scol g 3 then _ else _) = _
  unfold upd
  obtain ⟨g', h', rfl⟩ : ∃ g' h', c = scol g' h' := ⟨⟨c.val / 4, by omega⟩, ⟨c.val % 4, by omega⟩, Fin.ext (by show c.val = c.val / 4 * 4 + c.val % 4; omega)⟩
  have q : ∀ h, (scol g' h' = scol g h) ↔ (g' = g ∧ h' = h) := by
    intro h
    rw [Fin.ext_iff]
    show g'.val * 4 + h'.val = g.val * 4 + h.val ↔ _
    constructor
    · intro hh; exact ⟨Fin.ext (by omega), Fin.ext (by omega)⟩
    · rintro ⟨rfl, rfl⟩; rfl
  have q2 : ((scol g' h').val / 4 = g.val) ↔ g' = g := by
    show (g'.val * 4 + h'.val) / 4 = g.val ↔ _
    rw [Fin.ext_iff]; omega
  have q3 : (⟨(scol g' h').val % 4, by omega⟩ : Fin 4) = h' := Fin.ext (by show (g'.val * 4 + h'.val) % 4 = _; omega)
  simp only [q, q2, q3]
  by_cases hg : g' = g
  · simp only [hg, true_and, if_true]
    fin_cases h' <;> simp
  · simp [hg]

end Cert.Kern
-- ==== Proof.Kern.Point.lean ====
module

public import proofs.«01_k».proof.Proof.Kern.Group

@[expose] public section

/-! The values that one grid step computes for each half and group. -/

set_option maxRecDepth 16384

namespace Cert.Kern
open Idealize.ShloMosaic Cert.KernelIdeal Cert.KernelIdeal.Gen Cert.Spec

variable {Q : Fin 16384 → Fin 1024 → ℝ} {K V : Fin 16384 → Fin 256 → ℝ} {G : Fin 16384 → Fin 1024 → ℝ} {S : Fin 16 → ℝ}

section
variable {b : Fin 128} {g : Fin 4} {m : IVec S512x384 1} {qs dos os : FVec Ideal S512x64 .bf16} {kg vg : FVec Ideal S384x64 .bf16}
  {lc : FVec Ideal S512x1 .f32}

theorem grp_dq (hm : IsM m b) (hq : IsQ qs Q b g) (hk : IsK kg K b g) (hl : IsC lc (lse Q K S b g)) (hd : IsQ dos G b g)
    (hv : IsK vg V b g) (ho : IsQ os (oArr Q K V S) b g) (h : Fin 4) (r : Fin 128) (d : Fin 64) :
    cDq (cDs (cPr m qs kg lc) dos vg (cDelta dos os)) kg (ix2 (srow h r) d) = ((dq Q K V G S b r g h d : ℝ) : EReal) :=
  cDq_at (cDs_at (cPr_at hm hq hk hl) hd hv (cDelta_at hd ho)) hk h r d

theorem grp_dk (hm : IsM m b) (hq : IsQ qs Q b g) (hk : IsK kg K b g) (hl : IsC lc (lse Q K S b g)) (hd : IsQ dos G b g)
    (hv : IsK vg V b g) (ho : IsQ os (oArr Q K V S) b g) (j : Fin 384) (d : Fin 64) :
    cTn (cDs (cPr m qs kg lc) dos vg (cDelta dos os)) qs (ix2 j d) = ((dk Q K V G S b j g d : ℝ) : EReal) :=
  cTn_at (cDs_at (cPr_at hm hq hk hl) hd hv (cDelta_at hd ho)) hq j d

theorem grp_dv (hm : IsM m b) (hq : IsQ qs Q b g) (hk : IsK kg K b g) (hl : IsC lc (lse Q K S b g)) (hd : IsQ dos G b g)
    (j : Fin 384) (d : Fin 64) :
    cTn (truncf (F := Ideal) .bf16 (cPr m qs kg lc) bitsLt_bf16_f32) dos (ix2 j d) = ((dv Q K G S b j g d : ℝ) : EReal) :=
  cTn_at (cPr_at hm hq hk hl) hd j d

end

/-- What a grid step reads is real. -/
structure Reads (Q : Fin 16384 → Fin 1024 → ℝ) (K V : Fin 16384 → Fin 256 → ℝ) (G : Fin 16384 → Fin 1024 → ℝ) (S : Fin 16 → ℝ) (t : Fin 64)
    (x0 : FVec Ideal S16 .f32) (x1 x2 x3 : FVec Ideal S256x1024 .bf16) (x4 : FVec Ideal S4x2x512x1 .f32) (x5 x6 : FVec Ideal S512x256 .bf16) : Prop where
  sink : ∀ n, x0 (ix1 n) = ((S n : ℝ) : EReal)
  q : IsRows x1 Q t
  o : IsRows x2 (oArr Q K V S) t
  g : IsRows x3 G t
  l : ∀ (g : Fin 4) (s : Fin 2) (h : Fin 4) (r : Fin 128), x4 (ix4 g s (srow h r) 0) = ((lse Q K S (blk t s) g h r : ℝ) : EReal)
  k : IsWin x5 K t
  v : IsWin x6 V t

variable {t : Fin 64} {x0 : FVec Ideal S16 .f32} {x1 x2 x3 : FVec Ideal S256x1024 .bf16} {x4 : FVec Ideal S4x2x512x1 .f32} {x5 x6 : FVec Ideal S512x256 .bf16}

theorem Reads.o' (R : Reads Q K V G S t x0 x1 x2 x3 x4 x5 x6) : IsRows (k0_pay1 x2) (oArr Q K V S) t := fun i c =>
  (shapeCast_apply x2 _ (ix2 i c) (ix2 i c) rfl).trans (R.o i c)

/-- A group's column of logarithms. -/
theorem Reads.lc (R : Reads Q K V G S t x0 x1 x2 x3 x4 x5 x6) (g : Fin 4) (s : Fin 2) (n0 n1 : ℕ) (inb) (e : n0 = g.val ∧ n1 = s.val) :
    ∀ hs, IsC (shapeCast S512x1 (s := S1x1x512x1) (View.ld (Val := Elt Ideal) (e' := .f32) x4 (Rect.unit (s := S4x2x512x1) ![n0, n1, 0, 0] ![1, 1, 512, 1] inb)) hs) (lse Q K S (blk t s) g) := by
  obtain ⟨rfl, rfl⟩ := e
  intro hs h r
  refine (shapeCast_apply (s := S1x1x512x1) _ _ _ (ix4 (n0 := 1) (n1 := 1) (n2 := 512) (n3 := 1) 0 0 (srow h r) 0) ?_).trans ?_
  · rw [Shape.rowMajor_val_four, Shape.rowMajor_val_two]
    show ((0 * 1 + 0) * 512 + (srow h r).val) * 1 + 0 = (srow h r).val * 1 + 0
    omega
  · refine (View.ld_unit_apply_of _ _ _ _ _ (ix4 g s (srow h r) 0) fun a => ?_).trans (R.l g s h r)
    match a with
    | ⟨0, _⟩ => rfl
    | ⟨1, _⟩ => rfl
    | ⟨2, _⟩ => exact (Nat.zero_add _).symm
    | ⟨3, _⟩ => rfl

/-- A sink loaded as a scalar. -/
theorem Reads.sk (R : Reads Q K V G S t x0 x1 x2 x3 x4 x5 x6) (n : Fin 16) (k : ℕ) (inb hp) (e : k = n.val) :
    View.ld (Val := Elt Ideal) (e' := .f32) x0 (Rect.unit (s := S16) ![k] ![1] inb) (Shape.Idx.first hp) = ((S n : ℝ) : EReal) := by
  subst e
  refine (View.ld_unit_apply_of _ _ _ _ _ (ix1 n) fun a => ?_).trans (R.sink n)
  match a with
  | ⟨0, _⟩ => rfl

variable (i : grid0.Coords)

theorem mask0 (hi : (i 0).val = t.val) : IsM (k0_pay8 (k0_pay5 i) (k0_pay6 i) k0_pay7) (blk t 0) := by
  refine cMask_at (IntOp.addi (IntOp.muli (BitVec.ofNat 32 (i 0).val) 256#32) 0#32) _ ?_
  rw [hi, Words.ofNat_eq, show (256#32) = BitVec.ofInt 32 256 from rfl, show (0#32) = BitVec.ofInt 32 0 from rfl, Words.muli_ofInt, Words.addi_ofInt]
  congr 1
  show (t.val : ℤ) * 256 + 0 = ((t.val * 2 + 0 : ℕ) : ℤ) * 128
  omega

theorem mask1 (hi : (i 0).val = t.val) : IsM (k0_pay78 (BitVec.ofNat 32 (i 0).val)) (blk t 1) := by
  refine cMask_at (IntOp.addi (IntOp.muli (BitVec.ofNat 32 (i 0).val) 256#32) 128#32) _ ?_
  rw [hi, Words.ofNat_eq, show (256#32) = BitVec.ofInt 32 256 from rfl, show (128#32) = BitVec.ofInt 32 128 from rfl, Words.muli_ofInt, Words.addi_ofInt]
  congr 1
  show (t.val : ℤ) * 256 + 128 = ((t.val * 2 + 1 : ℕ) : ℤ) * 128
  omega

variable (R : Reads Q K V G S t x0 x1 x2 x3 x4 x5 x6) (hi : (i 0).val = t.val)
include R hi

theorem dq_0_0 {L : FVec Ideal S1x1x512x1 .f32} (hL : ∀ hs, IsC (shapeCast S512x1 L hs) (lse Q K S (blk t 0) 0)) (h : Fin 4) (r : Fin 128) (d : Fin 64) :
    k0_pay16 x1 (k0_pay1 x2) x3 x5 x6 (k0_pay5 i) (k0_pay6 i) k0_pay7 L (ix2 (srow h r) d) = ((dq Q K V G S (blk t 0) r 0 h d : ℝ) : EReal) := by
  refine grp_dq (mask0 i hi) ?_ ?_ ?_ ?_ ?_ ?_ h r d
  · exact stk_at R.q 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩
  · exact kg_at R.k 0 0 _ _ slices_S512x256_o0_0_S384x64 ⟨rfl, rfl⟩
  · exact hL shapeCasts_S1x1x512x1_S512x1
  · exact stk_at R.g 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩
  · exact kg_at R.v 0 0 _ _ slices_S512x256_o0_0_S384x64 ⟨rfl, rfl⟩
  · exact stk_at R.o' 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩

theorem dk_0_0 {L : FVec Ideal S1x1x512x1 .f32} (hL : ∀ hs, IsC (shapeCast S512x1 L hs) (lse Q K S (blk t 0) 0)) (j : Fin 384) (d : Fin 64) :
    k0_pay17 x1 (k0_pay1 x2) x3 x5 x6 (k0_pay5 i) (k0_pay6 i) k0_pay7 L (ix2 j d) = ((dk Q K V G S (blk t 0) j 0 d : ℝ) : EReal) := by
  refine grp_dk (mask0 i hi) ?_ ?_ ?_ ?_ ?_ ?_ j d
  · exact stk_at R.q 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩
  · exact kg_at R.k 0 0 _ _ slices_S512x256_o0_0_S384x64 ⟨rfl, rfl⟩
  · exact hL shapeCasts_S1x1x512x1_S512x1
  · exact stk_at R.g 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩
  · exact kg_at R.v 0 0 _ _ slices_S512x256_o0_0_S384x64 ⟨rfl, rfl⟩
  · exact stk_at R.o' 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩

theorem dv_0_0 {L : FVec Ideal S1x1x512x1 .f32} (hL : ∀ hs, IsC (shapeCast S512x1 L hs) (lse Q K S (blk t 0) 0)) (j : Fin 384) (d : Fin 64) :
    k0_pay18 x1 x3 x5 (k0_pay5 i) (k0_pay6 i) k0_pay7 L (ix2 j d) = ((dv Q K G S (blk t 0) j 0 d : ℝ) : EReal) := by
  refine grp_dv (mask0 i hi) ?_ ?_ ?_ ?_ j d
  · exact stk_at R.q 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩
  · exact kg_at R.k 0 0 _ _ slices_S512x256_o0_0_S384x64 ⟨rfl, rfl⟩
  · exact hL shapeCasts_S1x1x512x1_S512x1
  · exact stk_at R.g 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩

theorem dq_0_1 {L : FVec Ideal S1x1x512x1 .f32} (hL : ∀ hs, IsC (shapeCast S512x1 L hs) (lse Q K S (blk t 0) 1)) (h : Fin 4) (r : Fin 128) (d : Fin 64) :
    k0_pay29 x1 (k0_pay1 x2) x3 x5 x6 (k0_pay8 (k0_pay5 i) (k0_pay6 i) k0_pay7) L (ix2 (srow h r) d) = ((dq Q K V G S (blk t 0) r 1 h d : ℝ) : EReal) := by
  refine grp_dq (mask0 i hi) ?_ ?_ ?_ ?_ ?_ ?_ h r d
  · exact stk_at R.q 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩
  · exact kg_at R.k 0 1 _ _ slices_S512x256_o0_64_S384x64 ⟨rfl, rfl⟩
  · exact hL shapeCasts_S1x1x512x1_S512x1
  · exact stk_at R.g 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩
  · exact kg_at R.v 0 1 _ _ slices_S512x256_o0_64_S384x64 ⟨rfl, rfl⟩
  · exact stk_at R.o' 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩

theorem dk_0_1 {L : FVec Ideal S1x1x512x1 .f32} (hL : ∀ hs, IsC (shapeCast S512x1 L hs) (lse Q K S (blk t 0) 1)) (j : Fin 384) (d : Fin 64) :
    k0_pay30 x1 (k0_pay1 x2) x3 x5 x6 (k0_pay8 (k0_pay5 i) (k0_pay6 i) k0_pay7) L (ix2 j d) = ((dk Q K V G S (blk t 0) j 1 d : ℝ) : EReal) := by
  refine grp_dk (mask0 i hi) ?_ ?_ ?_ ?_ ?_ ?_ j d
  · exact stk_at R.q 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩
  · exact kg_at R.k 0 1 _ _ slices_S512x256_o0_64_S384x64 ⟨rfl, rfl⟩
  · exact hL shapeCasts_S1x1x512x1_S512x1
  · exact stk_at R.g 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩
  · exact kg_at R.v 0 1 _ _ slices_S512x256_o0_64_S384x64 ⟨rfl, rfl⟩
  · exact stk_at R.o' 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩

theorem dv_0_1 {L : FVec Ideal S1x1x512x1 .f32} (hL : ∀ hs, IsC (shapeCast S512x1 L hs) (lse Q K S (blk t 0) 1)) (j : Fin 384) (d : Fin 64) :
    k0_pay31 x1 x3 x5 (k0_pay8 (k0_pay5 i) (k0_pay6 i) k0_pay7) L (ix2 j d) = ((dv Q K G S (blk t 0) j 1 d : ℝ) : EReal) := by
  refine grp_dv (mask0 i hi) ?_ ?_ ?_ ?_ j d
  · exact stk_at R.q 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩
  · exact kg_at R.k 0 1 _ _ slices_S512x256_o0_64_S384x64 ⟨rfl, rfl⟩
  · exact hL shapeCasts_S1x1x512x1_S512x1
  · exact stk_at R.g 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩

theorem dq_0_2 {L : FVec Ideal S1x1x512x1 .f32} (hL : ∀ hs, IsC (shapeCast S512x1 L hs) (lse Q K S (blk t 0) 2)) (h : Fin 4) (r : Fin 128) (d : Fin 64) :
    k0_pay45 x1 (k0_pay1 x2) x3 x5 x6 (k0_pay8 (k0_pay5 i) (k0_pay6 i) k0_pay7) (k0_pay36 x1) (k0_pay37 x1) L (ix2 (srow h r) d) = ((dq Q K V G S (blk t 0) r 2 h d : ℝ) : EReal) := by
  refine grp_dq (mask0 i hi) ?_ ?_ ?_ ?_ ?_ ?_ h r d
  · exact stk_at R.q 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩
  · exact kg_at R.k 0 2 _ _ slices_S512x256_o0_128_S384x64 ⟨rfl, rfl⟩
  · exact hL shapeCasts_S1x1x512x1_S512x1
  · exact stk_at R.g 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩
  · exact kg_at R.v 0 2 _ _ slices_S512x256_o0_128_S384x64 ⟨rfl, rfl⟩
  · exact stk_at R.o' 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩

theorem dk_0_2 {L : FVec Ideal S1x1x512x1 .f32} (hL : ∀ hs, IsC (shapeCast S512x1 L hs) (lse Q K S (blk t 0) 2)) (j : Fin 384) (d : Fin 64) :
    k0_pay46 x1 (k0_pay1 x2) x3 x5 x6 (k0_pay8 (k0_pay5 i) (k0_pay6 i) k0_pay7) (k0_pay36 x1) (k0_pay37 x1) L (ix2 j d) = ((dk Q K V G S (blk t 0) j 2 d : ℝ) : EReal) := by
  refine grp_dk (mask0 i hi) ?_ ?_ ?_ ?_ ?_ ?_ j d
  · exact stk_at R.q 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩
  · exact kg_at R.k 0 2 _ _ slices_S512x256_o0_128_S384x64 ⟨rfl, rfl⟩
  · exact hL shapeCasts_S1x1x512x1_S512x1
  · exact stk_at R.g 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩
  · exact kg_at R.v 0 2 _ _ slices_S512x256_o0_128_S384x64 ⟨rfl, rfl⟩
  · exact stk_at R.o' 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩

theorem dv_0_2 {L : FVec Ideal S1x1x512x1 .f32} (hL : ∀ hs, IsC (shapeCast S512x1 L hs) (lse Q K S (blk t 0) 2)) (j : Fin 384) (d : Fin 64) :
    k0_pay47 x1 x3 x5 (k0_pay8 (k0_pay5 i) (k0_pay6 i) k0_pay7) (k0_pay36 x1) (k0_pay37 x1) L (ix2 j d) = ((dv Q K G S (blk t 0) j 2 d : ℝ) : EReal) := by
  refine grp_dv (mask0 i hi) ?_ ?_ ?_ ?_ j d
  · exact stk_at R.q 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩
  · exact kg_at R.k 0 2 _ _ slices_S512x256_o0_128_S384x64 ⟨rfl, rfl⟩
  · exact hL shapeCasts_S1x1x512x1_S512x1
  · exact stk_at R.g 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩

theorem dq_0_3 {L : FVec Ideal S1x1x512x1 .f32} (hL : ∀ hs, IsC (shapeCast S512x1 L hs) (lse Q K S (blk t 0) 3)) (h : Fin 4) (r : Fin 128) (d : Fin 64) :
    k0_pay64 (k0_pay1 x2) x3 x5 x6 (k0_pay8 (k0_pay5 i) (k0_pay6 i) k0_pay7) (k0_pay53 x1) (k0_pay54 x1) (k0_pay55 x1) (k0_pay56 x1) L (ix2 (srow h r) d) = ((dq Q K V G S (blk t 0) r 3 h d : ℝ) : EReal) := by
  refine grp_dq (mask0 i hi) ?_ ?_ ?_ ?_ ?_ ?_ h r d
  · exact stk_at R.q 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩
  · exact kg_at R.k 0 3 _ _ slices_S512x256_o0_192_S384x64 ⟨rfl, rfl⟩
  · exact hL shapeCasts_S1x1x512x1_S512x1
  · exact stk_at R.g 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩
  · exact kg_at R.v 0 3 _ _ slices_S512x256_o0_192_S384x64 ⟨rfl, rfl⟩
  · exact stk_at R.o' 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩

theorem dk_0_3 {L : FVec Ideal S1x1x512x1 .f32} (hL : ∀ hs, IsC (shapeCast S512x1 L hs) (lse Q K S (blk t 0) 3)) (j : Fin 384) (d : Fin 64) :
    k0_pay65 (k0_pay1 x2) x3 x5 x6 (k0_pay8 (k0_pay5 i) (k0_pay6 i) k0_pay7) (k0_pay53 x1) (k0_pay54 x1) (k0_pay55 x1) (k0_pay56 x1) L (ix2 j d) = ((dk Q K V G S (blk t 0) j 3 d : ℝ) : EReal) := by
  refine grp_dk (mask0 i hi) ?_ ?_ ?_ ?_ ?_ ?_ j d
  · exact stk_at R.q 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩
  · exact kg_at R.k 0 3 _ _ slices_S512x256_o0_192_S384x64 ⟨rfl, rfl⟩
  · exact hL shapeCasts_S1x1x512x1_S512x1
  · exact stk_at R.g 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩
  · exact kg_at R.v 0 3 _ _ slices_S512x256_o0_192_S384x64 ⟨rfl, rfl⟩
  · exact stk_at R.o' 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩

theorem dv_0_3 {L : FVec Ideal S1x1x512x1 .f32} (hL : ∀ hs, IsC (shapeCast S512x1 L hs) (lse Q K S (blk t 0) 3)) (j : Fin 384) (d : Fin 64) :
    k0_pay66 x3 x5 (k0_pay8 (k0_pay5 i) (k0_pay6 i) k0_pay7) (k0_pay53 x1) (k0_pay54 x1) (k0_pay55 x1) (k0_pay56 x1) L (ix2 j d) = ((dv Q K G S (blk t 0) j 3 d : ℝ) : EReal) := by
  refine grp_dv (mask0 i hi) ?_ ?_ ?_ ?_ j d
  · exact stk_at R.q 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩
  · exact kg_at R.k 0 3 _ _ slices_S512x256_o0_192_S384x64 ⟨rfl, rfl⟩
  · exact hL shapeCasts_S1x1x512x1_S512x1
  · exact stk_at R.g 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩

theorem dq_1_0 {L : FVec Ideal S1x1x512x1 .f32} (hL : ∀ hs, IsC (shapeCast S512x1 L hs) (lse Q K S (blk t 1) 0)) (h : Fin 4) (r : Fin 128) (d : Fin 64) :
    k0_pay86 x1 (k0_pay1 x2) x3 x5 x6 (k0_pay78 (BitVec.ofNat 32 (i 0).val)) L (ix2 (srow h r) d) = ((dq Q K V G S (blk t 1) r 0 h d : ℝ) : EReal) := by
  refine grp_dq (mask1 i hi) ?_ ?_ ?_ ?_ ?_ ?_ h r d
  · exact stk_at R.q 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩
  · exact kg_at R.k 1 0 _ _ slices_S512x256_o128_0_S384x64 ⟨rfl, rfl⟩
  · exact hL shapeCasts_S1x1x512x1_S512x1
  · exact stk_at R.g 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩
  · exact kg_at R.v 1 0 _ _ slices_S512x256_o128_0_S384x64 ⟨rfl, rfl⟩
  · exact stk_at R.o' 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩

theorem dk_1_0 {L : FVec Ideal S1x1x512x1 .f32} (hL : ∀ hs, IsC (shapeCast S512x1 L hs) (lse Q K S (blk t 1) 0)) (j : Fin 384) (d : Fin 64) :
    k0_pay87 x1 (k0_pay1 x2) x3 x5 x6 (k0_pay78 (BitVec.ofNat 32 (i 0).val)) L (ix2 j d) = ((dk Q K V G S (blk t 1) j 0 d : ℝ) : EReal) := by
  refine grp_dk (mask1 i hi) ?_ ?_ ?_ ?_ ?_ ?_ j d
  · exact stk_at R.q 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩
  · exact kg_at R.k 1 0 _ _ slices_S512x256_o128_0_S384x64 ⟨rfl, rfl⟩
  · exact hL shapeCasts_S1x1x512x1_S512x1
  · exact stk_at R.g 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩
  · exact kg_at R.v 1 0 _ _ slices_S512x256_o128_0_S384x64 ⟨rfl, rfl⟩
  · exact stk_at R.o' 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩

theorem dv_1_0 {L : FVec Ideal S1x1x512x1 .f32} (hL : ∀ hs, IsC (shapeCast S512x1 L hs) (lse Q K S (blk t 1) 0)) (j : Fin 384) (d : Fin 64) :
    k0_pay88 x1 x3 x5 (k0_pay78 (BitVec.ofNat 32 (i 0).val)) L (ix2 j d) = ((dv Q K G S (blk t 1) j 0 d : ℝ) : EReal) := by
  refine grp_dv (mask1 i hi) ?_ ?_ ?_ ?_ j d
  · exact stk_at R.q 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩
  · exact kg_at R.k 1 0 _ _ slices_S512x256_o128_0_S384x64 ⟨rfl, rfl⟩
  · exact hL shapeCasts_S1x1x512x1_S512x1
  · exact stk_at R.g 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩

theorem dq_1_1 {L : FVec Ideal S1x1x512x1 .f32} (hL : ∀ hs, IsC (shapeCast S512x1 L hs) (lse Q K S (blk t 1) 1)) (h : Fin 4) (r : Fin 128) (d : Fin 64) :
    k0_pay102 x1 (k0_pay1 x2) x3 x5 x6 (k0_pay78 (BitVec.ofNat 32 (i 0).val)) (k0_pay93 x1) (k0_pay94 x1) L (ix2 (srow h r) d) = ((dq Q K V G S (blk t 1) r 1 h d : ℝ) : EReal) := by
  refine grp_dq (mask1 i hi) ?_ ?_ ?_ ?_ ?_ ?_ h r d
  · exact stk_at R.q 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩
  · exact kg_at R.k 1 1 _ _ slices_S512x256_o128_64_S384x64 ⟨rfl, rfl⟩
  · exact hL shapeCasts_S1x1x512x1_S512x1
  · exact stk_at R.g 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩
  · exact kg_at R.v 1 1 _ _ slices_S512x256_o128_64_S384x64 ⟨rfl, rfl⟩
  · exact stk_at R.o' 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩

theorem dk_1_1 {L : FVec Ideal S1x1x512x1 .f32} (hL : ∀ hs, IsC (shapeCast S512x1 L hs) (lse Q K S (blk t 1) 1)) (j : Fin 384) (d : Fin 64) :
    k0_pay103 x1 (k0_pay1 x2) x3 x5 x6 (k0_pay78 (BitVec.ofNat 32 (i 0).val)) (k0_pay93 x1) (k0_pay94 x1) L (ix2 j d) = ((dk Q K V G S (blk t 1) j 1 d : ℝ) : EReal) := by
  refine grp_dk (mask1 i hi) ?_ ?_ ?_ ?_ ?_ ?_ j d
  · exact stk_at R.q 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩
  · exact kg_at R.k 1 1 _ _ slices_S512x256_o128_64_S384x64 ⟨rfl, rfl⟩
  · exact hL shapeCasts_S1x1x512x1_S512x1
  · exact stk_at R.g 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩
  · exact kg_at R.v 1 1 _ _ slices_S512x256_o128_64_S384x64 ⟨rfl, rfl⟩
  · exact stk_at R.o' 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩

theorem dv_1_1 {L : FVec Ideal S1x1x512x1 .f32} (hL : ∀ hs, IsC (shapeCast S512x1 L hs) (lse Q K S (blk t 1) 1)) (j : Fin 384) (d : Fin 64) :
    k0_pay104 x1 x3 x5 (k0_pay78 (BitVec.ofNat 32 (i 0).val)) (k0_pay93 x1) (k0_pay94 x1) L (ix2 j d) = ((dv Q K G S (blk t 1) j 1 d : ℝ) : EReal) := by
  refine grp_dv (mask1 i hi) ?_ ?_ ?_ ?_ j d
  · exact stk_at R.q 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩
  · exact kg_at R.k 1 1 _ _ slices_S512x256_o128_64_S384x64 ⟨rfl, rfl⟩
  · exact hL shapeCasts_S1x1x512x1_S512x1
  · exact stk_at R.g 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩

theorem dq_1_2 {L : FVec Ideal S1x1x512x1 .f32} (hL : ∀ hs, IsC (shapeCast S512x1 L hs) (lse Q K S (blk t 1) 2)) (h : Fin 4) (r : Fin 128) (d : Fin 64) :
    k0_pay121 (k0_pay1 x2) x3 x5 x6 (k0_pay78 (BitVec.ofNat 32 (i 0).val)) (k0_pay110 x1) (k0_pay111 x1) (k0_pay112 x1) (k0_pay113 x1) L (ix2 (srow h r) d) = ((dq Q K V G S (blk t 1) r 2 h d : ℝ) : EReal) := by
  refine grp_dq (mask1 i hi) ?_ ?_ ?_ ?_ ?_ ?_ h r d
  · exact stk_at R.q 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩
  · exact kg_at R.k 1 2 _ _ slices_S512x256_o128_128_S384x64 ⟨rfl, rfl⟩
  · exact hL shapeCasts_S1x1x512x1_S512x1
  · exact stk_at R.g 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩
  · exact kg_at R.v 1 2 _ _ slices_S512x256_o128_128_S384x64 ⟨rfl, rfl⟩
  · exact stk_at R.o' 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩

theorem dk_1_2 {L : FVec Ideal S1x1x512x1 .f32} (hL : ∀ hs, IsC (shapeCast S512x1 L hs) (lse Q K S (blk t 1) 2)) (j : Fin 384) (d : Fin 64) :
    k0_pay122 (k0_pay1 x2) x3 x5 x6 (k0_pay78 (BitVec.ofNat 32 (i 0).val)) (k0_pay110 x1) (k0_pay111 x1) (k0_pay112 x1) (k0_pay113 x1) L (ix2 j d) = ((dk Q K V G S (blk t 1) j 2 d : ℝ) : EReal) := by
  refine grp_dk (mask1 i hi) ?_ ?_ ?_ ?_ ?_ ?_ j d
  · exact stk_at R.q 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩
  · exact kg_at R.k 1 2 _ _ slices_S512x256_o128_128_S384x64 ⟨rfl, rfl⟩
  · exact hL shapeCasts_S1x1x512x1_S512x1
  · exact stk_at R.g 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩
  · exact kg_at R.v 1 2 _ _ slices_S512x256_o128_128_S384x64 ⟨rfl, rfl⟩
  · exact stk_at R.o' 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩

theorem dv_1_2 {L : FVec Ideal S1x1x512x1 .f32} (hL : ∀ hs, IsC (shapeCast S512x1 L hs) (lse Q K S (blk t 1) 2)) (j : Fin 384) (d : Fin 64) :
    k0_pay123 x3 x5 (k0_pay78 (BitVec.ofNat 32 (i 0).val)) (k0_pay110 x1) (k0_pay111 x1) (k0_pay112 x1) (k0_pay113 x1) L (ix2 j d) = ((dv Q K G S (blk t 1) j 2 d : ℝ) : EReal) := by
  refine grp_dv (mask1 i hi) ?_ ?_ ?_ ?_ j d
  · exact stk_at R.q 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩
  · exact kg_at R.k 1 2 _ _ slices_S512x256_o128_128_S384x64 ⟨rfl, rfl⟩
  · exact hL shapeCasts_S1x1x512x1_S512x1
  · exact stk_at R.g 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩

theorem dq_1_3 {L : FVec Ideal S1x1x512x1 .f32} (hL : ∀ hs, IsC (shapeCast S512x1 L hs) (lse Q K S (blk t 1) 3)) (h : Fin 4) (r : Fin 128) (d : Fin 64) :
    k0_pay134 (k0_pay1 x2) x3 x5 x6 (k0_pay78 (BitVec.ofNat 32 (i 0).val)) (k0_pay126 x1) (k0_pay127 x3) L (ix2 (srow h r) d) = ((dq Q K V G S (blk t 1) r 3 h d : ℝ) : EReal) := by
  refine grp_dq (mask1 i hi) ?_ ?_ ?_ ?_ ?_ ?_ h r d
  · exact stk_at R.q 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩
  · exact kg_at R.k 1 3 _ _ slices_S512x256_o128_192_S384x64 ⟨rfl, rfl⟩
  · exact hL shapeCasts_S1x1x512x1_S512x1
  · exact stk_at R.g 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩
  · exact kg_at R.v 1 3 _ _ slices_S512x256_o128_192_S384x64 ⟨rfl, rfl⟩
  · exact stk_at R.o' 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩

theorem dk_1_3 {L : FVec Ideal S1x1x512x1 .f32} (hL : ∀ hs, IsC (shapeCast S512x1 L hs) (lse Q K S (blk t 1) 3)) (j : Fin 384) (d : Fin 64) :
    k0_pay135 (k0_pay1 x2) x3 x5 x6 (k0_pay78 (BitVec.ofNat 32 (i 0).val)) (k0_pay126 x1) (k0_pay127 x3) L (ix2 j d) = ((dk Q K V G S (blk t 1) j 3 d : ℝ) : EReal) := by
  refine grp_dk (mask1 i hi) ?_ ?_ ?_ ?_ ?_ ?_ j d
  · exact stk_at R.q 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩
  · exact kg_at R.k 1 3 _ _ slices_S512x256_o128_192_S384x64 ⟨rfl, rfl⟩
  · exact hL shapeCasts_S1x1x512x1_S512x1
  · exact stk_at R.g 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩
  · exact kg_at R.v 1 3 _ _ slices_S512x256_o128_192_S384x64 ⟨rfl, rfl⟩
  · exact stk_at R.o' 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩

theorem dv_1_3 {L : FVec Ideal S1x1x512x1 .f32} (hL : ∀ hs, IsC (shapeCast S512x1 L hs) (lse Q K S (blk t 1) 3)) (j : Fin 384) (d : Fin 64) :
    k0_pay136 x3 x5 (k0_pay78 (BitVec.ofNat 32 (i 0).val)) (k0_pay126 x1) (k0_pay127 x3) L (ix2 j d) = ((dv Q K G S (blk t 1) j 3 d : ℝ) : EReal) := by
  refine grp_dv (mask1 i hi) ?_ ?_ ?_ ?_ j d
  · exact stk_at R.q 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩
  · exact kg_at R.k 1 3 _ _ slices_S512x256_o128_192_S384x64 ⟨rfl, rfl⟩
  · exact hL shapeCasts_S1x1x512x1_S512x1
  · exact stk_at R.g 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩

omit hi
theorem ds_0_0 {L : FVec Ideal S1x1x512x1 .f32} (hL : ∀ hs, IsC (shapeCast S512x1 L hs) (lse Q K S (blk t 0) 0))
    {k0 k1 k2 k3 : Elt Ideal .f32} (e0 : k0 = ((S (scol 0 0) : ℝ) : EReal)) (e1 : k1 = ((S (scol 0 1) : ℝ) : EReal)) (e2 : k2 = ((S (scol 0 2) : ℝ) : EReal)) (e3 : k3 = ((S (scol 0 3) : ℝ) : EReal))
    {acc : FVec Ideal S1x16 .f32} {f : Fin 16 → ℝ} (ha : IsD acc f) :
    IsD (k0_pay21 (iota .tc S1x16 32 [1] iota_S1x16_d1_w32) acc (k0_pay11 (k0_pay1 x2) x3) (k0_pay13 L) (k0_pay19 k0) (k0_pay20 k1) k2 k3) (upd 0 f (sinkPart Q K V G S (blk t 0) 0)) := by
  refine cGrp_at ha 0 _ _ _ _ (cPs_at (b := blk t 0) (g := 0) ?_ ?_ (cDelta_at ?_ ?_)) ⟨rfl, rfl, rfl, rfl⟩
  · exact sinkcol_at 0 _ _ _ _ concatenates_S128x1_S128x1_S128x1_S128x1_S512x1_d0 e0 e1 e2 e3
  · exact hL shapeCasts_S1x1x512x1_S512x1
  · exact stk_at R.g 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩
  · exact stk_at R.o' 0 0 _ _ _ _ _ slices_S256x1024_o0_0_S128x64 slices_S256x1024_o0_64_S128x64 slices_S256x1024_o0_128_S128x64 slices_S256x1024_o0_192_S128x64 concatenates_S128x64_S128x64_S128x64_S128x64_S512x64_d0 ⟨rfl, rfl, rfl, rfl, rfl⟩

theorem ds_0_1 {L : FVec Ideal S1x1x512x1 .f32} (hL : ∀ hs, IsC (shapeCast S512x1 L hs) (lse Q K S (blk t 0) 1))
    {k0 k1 k2 k3 : Elt Ideal .f32} (e0 : k0 = ((S (scol 1 0) : ℝ) : EReal)) (e1 : k1 = ((S (scol 1 1) : ℝ) : EReal)) (e2 : k2 = ((S (scol 1 2) : ℝ) : EReal)) (e3 : k3 = ((S (scol 1 3) : ℝ) : EReal))
    {acc : FVec Ideal S1x16 .f32} {f : Fin 16 → ℝ} (ha : IsD acc f) :
    IsD (k0_pay35 (iota .tc S1x16 32 [1] iota_S1x16_d1_w32) acc (k0_pay24 (k0_pay1 x2) x3) (k0_pay26 L) (k0_pay32 k0) (k0_pay33 k1) (k0_pay34 k2) k3) (upd 1 f (sinkPart Q K V G S (blk t 0) 1)) := by
  refine cGrp_at ha 1 _ _ _ _ (cPs_at (b := blk t 0) (g := 1) ?_ ?_ (cDelta_at ?_ ?_)) ⟨rfl, rfl, rfl, rfl⟩
  · exact sinkcol_at 1 _ _ _ _ concatenates_S128x1_S128x1_S128x1_S128x1_S512x1_d0 e0 e1 e2 e3
  · exact hL shapeCasts_S1x1x512x1_S512x1
  · exact stk_at R.g 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩
  · exact stk_at R.o' 0 1 _ _ _ _ _ slices_S256x1024_o0_256_S128x64 slices_S256x1024_o0_320_S128x64 slices_S256x1024_o0_384_S128x64 slices_S256x1024_o0_448_S128x64 concatenates_S128x64_S128x64_S128x64_S128x64_S512x64_d0 ⟨rfl, rfl, rfl, rfl, rfl⟩

theorem ds_0_2 {L : FVec Ideal S1x1x512x1 .f32} (hL : ∀ hs, IsC (shapeCast S512x1 L hs) (lse Q K S (blk t 0) 2))
    {k0 k1 k2 k3 : Elt Ideal .f32} (e0 : k0 = ((S (scol 2 0) : ℝ) : EReal)) (e1 : k1 = ((S (scol 2 1) : ℝ) : EReal)) (e2 : k2 = ((S (scol 2 2) : ℝ) : EReal)) (e3 : k3 = ((S (scol 2 3) : ℝ) : EReal))
    {acc : FVec Ideal S1x16 .f32} {f : Fin 16 → ℝ} (ha : IsD acc f) :
    IsD (k0_pay52 (iota .tc S1x16 32 [1] iota_S1x16_d1_w32) acc (k0_pay40 (k0_pay1 x2) x3) (k0_pay42 L) (k0_pay48 k0) (k0_pay49 k1) (k0_pay50 k2) (k0_pay51 k3)) (upd 2 f (sinkPart Q K V G S (blk t 0) 2)) := by
  refine cGrp_at ha 2 _ _ _ _ (cPs_at (b := blk t 0) (g := 2) ?_ ?_ (cDelta_at ?_ ?_)) ⟨rfl, rfl, rfl, rfl⟩
  · exact sinkcol_at 2 _ _ _ _ concatenates_S128x1_S128x1_S128x1_S128x1_S512x1_d0 e0 e1 e2 e3
  · exact hL shapeCasts_S1x1x512x1_S512x1
  · exact stk_at R.g 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩
  · exact stk_at R.o' 0 2 _ _ _ _ _ slices_S256x1024_o0_512_S128x64 slices_S256x1024_o0_576_S128x64 slices_S256x1024_o0_640_S128x64 slices_S256x1024_o0_704_S128x64 concatenates_S128x64_S128x64_S128x64_S128x64_S512x64_d0 ⟨rfl, rfl, rfl, rfl, rfl⟩

theorem ds_0_3 {L : FVec Ideal S1x1x512x1 .f32} (hL : ∀ hs, IsC (shapeCast S512x1 L hs) (lse Q K S (blk t 0) 3))
    {k0 k1 k2 k3 : Elt Ideal .f32} (e0 : k0 = ((S (scol 3 0) : ℝ) : EReal)) (e1 : k1 = ((S (scol 3 1) : ℝ) : EReal)) (e2 : k2 = ((S (scol 3 2) : ℝ) : EReal)) (e3 : k3 = ((S (scol 3 3) : ℝ) : EReal))
    {acc : FVec Ideal S1x16 .f32} {f : Fin 16 → ℝ} (ha : IsD acc f) :
    IsD (k0_pay68 (iota .tc S1x16 32 [1] iota_S1x16_d1_w32) acc (k0_pay59 (k0_pay1 x2) x3) (k0_pay67 L k0 k1 k2 k3)) (upd 3 f (sinkPart Q K V G S (blk t 0) 3)) := by
  refine cGrp_at ha 3 _ _ _ _ (cPs_at (b := blk t 0) (g := 3) ?_ ?_ (cDelta_at ?_ ?_)) ⟨rfl, rfl, rfl, rfl⟩
  · exact sinkcol_at 3 _ _ _ _ concatenates_S128x1_S128x1_S128x1_S128x1_S512x1_d0 e0 e1 e2 e3
  · exact hL shapeCasts_S1x1x512x1_S512x1
  · exact stk_at R.g 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩
  · exact stk_at R.o' 0 3 _ _ _ _ _ slices_S256x1024_o0_768_S128x64 slices_S256x1024_o0_832_S128x64 slices_S256x1024_o0_896_S128x64 slices_S256x1024_o0_960_S128x64 concatenates_S128x64_S128x64_S128x64_S128x64_S512x64_d0 ⟨rfl, rfl, rfl, rfl, rfl⟩

theorem ds_1_0 {L : FVec Ideal S1x1x512x1 .f32} (hL : ∀ hs, IsC (shapeCast S512x1 L hs) (lse Q K S (blk t 1) 0))
    {k0 k1 k2 k3 : Elt Ideal .f32} (e0 : k0 = ((S (scol 0 0) : ℝ) : EReal)) (e1 : k1 = ((S (scol 0 1) : ℝ) : EReal)) (e2 : k2 = ((S (scol 0 2) : ℝ) : EReal)) (e3 : k3 = ((S (scol 0 3) : ℝ) : EReal))
    {acc : FVec Ideal S1x16 .f32} {f : Fin 16 → ℝ} (ha : IsD acc f) :
    IsD (k0_pay92 (iota .tc S1x16 32 [1] iota_S1x16_d1_w32) acc (k0_pay81 (k0_pay1 x2) x3) (k0_pay83 L) (k0_pay89 k0) (k0_pay90 k1) (k0_pay91 k2) k3) (upd 0 f (sinkPart Q K V G S (blk t 1) 0)) := by
  refine cGrp_at ha 0 _ _ _ _ (cPs_at (b := blk t 1) (g := 0) ?_ ?_ (cDelta_at ?_ ?_)) ⟨rfl, rfl, rfl, rfl⟩
  · exact sinkcol_at 0 _ _ _ _ concatenates_S128x1_S128x1_S128x1_S128x1_S512x1_d0 e0 e1 e2 e3
  · exact hL shapeCasts_S1x1x512x1_S512x1
  · exact stk_at R.g 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩
  · exact stk_at R.o' 1 0 _ _ _ _ _ slices_S256x1024_o128_0_S128x64 slices_S256x1024_o128_64_S128x64 slices_S256x1024_o128_128_S128x64 slices_S256x1024_o128_192_S128x64 concatenates_S128x64_S128x64_S128x64_S128x64_S512x64_d0 ⟨rfl, rfl, rfl, rfl, rfl⟩

theorem ds_1_1 {L : FVec Ideal S1x1x512x1 .f32} (hL : ∀ hs, IsC (shapeCast S512x1 L hs) (lse Q K S (blk t 1) 1))
    {k0 k1 k2 k3 : Elt Ideal .f32} (e0 : k0 = ((S (scol 1 0) : ℝ) : EReal)) (e1 : k1 = ((S (scol 1 1) : ℝ) : EReal)) (e2 : k2 = ((S (scol 1 2) : ℝ) : EReal)) (e3 : k3 = ((S (scol 1 3) : ℝ) : EReal))
    {acc : FVec Ideal S1x16 .f32} {f : Fin 16 → ℝ} (ha : IsD acc f) :
    IsD (k0_pay109 (iota .tc S1x16 32 [1] iota_S1x16_d1_w32) acc (k0_pay97 (k0_pay1 x2) x3) (k0_pay99 L) (k0_pay105 k0) (k0_pay106 k1) (k0_pay107 k2) (k0_pay108 k3)) (upd 1 f (sinkPart Q K V G S (blk t 1) 1)) := by
  refine cGrp_at ha 1 _ _ _ _ (cPs_at (b := blk t 1) (g := 1) ?_ ?_ (cDelta_at ?_ ?_)) ⟨rfl, rfl, rfl, rfl⟩
  · exact sinkcol_at 1 _ _ _ _ concatenates_S128x1_S128x1_S128x1_S128x1_S512x1_d0 e0 e1 e2 e3
  · exact hL shapeCasts_S1x1x512x1_S512x1
  · exact stk_at R.g 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩
  · exact stk_at R.o' 1 1 _ _ _ _ _ slices_S256x1024_o128_256_S128x64 slices_S256x1024_o128_320_S128x64 slices_S256x1024_o128_384_S128x64 slices_S256x1024_o128_448_S128x64 concatenates_S128x64_S128x64_S128x64_S128x64_S512x64_d0 ⟨rfl, rfl, rfl, rfl, rfl⟩

theorem ds_1_2 {L : FVec Ideal S1x1x512x1 .f32} (hL : ∀ hs, IsC (shapeCast S512x1 L hs) (lse Q K S (blk t 1) 2))
    {k0 k1 k2 k3 : Elt Ideal .f32} (e0 : k0 = ((S (scol 2 0) : ℝ) : EReal)) (e1 : k1 = ((S (scol 2 1) : ℝ) : EReal)) (e2 : k2 = ((S (scol 2 2) : ℝ) : EReal)) (e3 : k3 = ((S (scol 2 3) : ℝ) : EReal))
    {acc : FVec Ideal S1x16 .f32} {f : Fin 16 → ℝ} (ha : IsD acc f) :
    IsD (k0_pay125 (iota .tc S1x16 32 [1] iota_S1x16_d1_w32) acc (k0_pay116 (k0_pay1 x2) x3) (k0_pay124 L k0 k1 k2 k3)) (upd 2 f (sinkPart Q K V G S (blk t 1) 2)) := by
  refine cGrp_at ha 2 _ _ _ _ (cPs_at (b := blk t 1) (g := 2) ?_ ?_ (cDelta_at ?_ ?_)) ⟨rfl, rfl, rfl, rfl⟩
  · exact sinkcol_at 2 _ _ _ _ concatenates_S128x1_S128x1_S128x1_S128x1_S512x1_d0 e0 e1 e2 e3
  · exact hL shapeCasts_S1x1x512x1_S512x1
  · exact stk_at R.g 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩
  · exact stk_at R.o' 1 2 _ _ _ _ _ slices_S256x1024_o128_512_S128x64 slices_S256x1024_o128_576_S128x64 slices_S256x1024_o128_640_S128x64 slices_S256x1024_o128_704_S128x64 concatenates_S128x64_S128x64_S128x64_S128x64_S512x64_d0 ⟨rfl, rfl, rfl, rfl, rfl⟩

theorem ds_1_3 {L : FVec Ideal S1x1x512x1 .f32} (hL : ∀ hs, IsC (shapeCast S512x1 L hs) (lse Q K S (blk t 1) 3))
    {k0 k1 k2 k3 : Elt Ideal .f32} (e0 : k0 = ((S (scol 3 0) : ℝ) : EReal)) (e1 : k1 = ((S (scol 3 1) : ℝ) : EReal)) (e2 : k2 = ((S (scol 3 2) : ℝ) : EReal)) (e3 : k3 = ((S (scol 3 3) : ℝ) : EReal))
    {acc : FVec Ideal S1x16 .f32} {f : Fin 16 → ℝ} (ha : IsD acc f) :
    IsD (k0_pay138 (iota .tc S1x16 32 [1] iota_S1x16_d1_w32) acc (k0_pay137 (k0_pay1 x2) x3 (k0_pay127 x3) L k0 k1 k2 k3)) (upd 3 f (sinkPart Q K V G S (blk t 1) 3)) := by
  refine cGrp_at ha 3 _ _ _ _ (cPs_at (b := blk t 1) (g := 3) ?_ ?_ (cDelta_at ?_ ?_)) ⟨rfl, rfl, rfl, rfl⟩
  · exact sinkcol_at 3 _ _ _ _ concatenates_S128x1_S128x1_S128x1_S128x1_S512x1_d0 e0 e1 e2 e3
  · exact hL shapeCasts_S1x1x512x1_S512x1
  · exact stk_at R.g 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩
  · exact stk_at R.o' 1 3 _ _ _ _ _ slices_S256x1024_o128_768_S128x64 slices_S256x1024_o128_832_S128x64 slices_S256x1024_o128_896_S128x64 slices_S256x1024_o128_960_S128x64 concatenates_S128x64_S128x64_S128x64_S128x64_S512x64_d0 ⟨rfl, rfl, rfl, rfl, rfl⟩

end Cert.Kern
-- ==== Proof.Kern.Out.lean ====
module

public import proofs.«01_k».proof.Proof.Kern.Point

@[expose] public section

/-! What a grid step leaves in its four outputs. -/

set_option maxRecDepth 16384

namespace Cert.Kern
open Idealize.ShloMosaic Cert.KernelIdeal Cert.KernelIdeal.Gen Cert.Spec

/-- A family over blocks, rows, groups, heads and coordinates as an array of rows. -/
def qArr (f : Fin 128 → Fin 128 → Fin 4 → Fin 4 → Fin 64 → ℝ) (n : Fin 16384) (c : Fin 1024) : ℝ :=
  f ⟨n.val / 128, by omega⟩ ⟨n.val % 128, by omega⟩ ⟨c.val / 256, by omega⟩ ⟨c.val / 64 % 4, by omega⟩ ⟨c.val % 64, by omega⟩

/-- A family over groups and coordinates as a row of key heads. -/
def kRow (f : Fin 4 → Fin 64 → ℝ) (c : Fin 256) : ℝ := f ⟨c.val / 64, by omega⟩ ⟨c.val % 64, by omega⟩

theorem qcol_split (c : Fin 1024) : qcol ⟨c.val / 256, by omega⟩ ⟨c.val / 64 % 4, by omega⟩ ⟨c.val % 64, by omega⟩ = c :=
  Fin.ext (by show (c.val / 256 * 4 + c.val / 64 % 4) * 64 + c.val % 64 = c.val; omega)

theorem kcol_split (c : Fin 256) : kcol ⟨c.val / 64, by omega⟩ ⟨c.val % 64, by omega⟩ = c :=
  Fin.ext (by show c.val / 64 * 64 + c.val % 64 = c.val; omega)

/-- A piece holds the indices between its bounds. -/
theorem mem_piece {s : Shape} {off size : Fin s.rank → ℕ} (inb : ∀ a, off a + size a ≤ s.size a) (y : s.Idx)
    (h : ∀ a, off a ≤ (y a : ℕ) ∧ (y a : ℕ) < off a + size a) : y ∈ (Rect.unit off size inb).set := Rect.mem_set_unit.mpr h

/-- Two halves of rows. -/
theorem halves_at {w1 w0 : FVec Ideal S128x1024 .bf16} {f : Fin 128 → Fin 128 → Fin 4 → Fin 4 → Fin 64 → ℝ} (t : Fin 64) (i1 i0)
    (h1 : ∀ r g h d, w1 (ix2 r (qcol g h d)) = ((f (blk t 1) r g h d : ℝ) : EReal))
    (h0 : ∀ r g h d, w0 (ix2 r (qcol g h d)) = ((f (blk t 0) r g h d : ℝ) : EReal)) (i : Fin 256) (c : Fin 1024) :
    View.canon (Val := Elt Ideal) (s := S256x1024) (e := .bf16) [⟨Rect.unit ![128, 0] ![128, 1024] i1, w1⟩, ⟨Rect.unit ![0, 0] ![128, 1024] i0, w0⟩] (ix2 i c)
      = ((qArr f ⟨t.val * 256 + i.val, by omega⟩ c : ℝ) : EReal) := by
  have hcov : ∃ p ∈ ([⟨Rect.unit ![128, 0] ![128, 1024] i1, w1⟩, ⟨Rect.unit ![0, 0] ![128, 1024] i0, w0⟩] : List (View.Piece (Elt Ideal) S256x1024 .bf16)), ix2 i c ∈ p.1.set := by
    by_cases hi : 128 ≤ i.val
    · refine ⟨⟨Rect.unit ![128, 0] ![128, 1024] i1, w1⟩, List.mem_cons_self, mem_piece i1 _ fun a => ?_⟩
      match a with
      | ⟨0, _⟩ => exact ⟨hi, by show i.val < 128 + 128; omega⟩
      | ⟨1, _⟩ => exact ⟨Nat.zero_le _, by show c.val < 0 + 1024; omega⟩
    · refine ⟨⟨Rect.unit ![0, 0] ![128, 1024] i0, w0⟩, List.mem_cons_of_mem _ List.mem_cons_self, mem_piece i0 _ fun a => ?_⟩
      match a with
      | ⟨0, _⟩ => exact ⟨Nat.zero_le _, by show i.val < 0 + 128; omega⟩
      | ⟨1, _⟩ => exact ⟨Nat.zero_le _, by show c.val < 0 + 1024; omega⟩
  refine View.canon_eq_of_allAt _ _ _ hcov (View.allAt_cons_unit _ _ _ _ _ ?_ (View.allAt_cons_unit _ _ _ _ _ ?_ (View.allAt_nil _ _)))
  · intro x hx
    obtain ⟨r, c', rfl⟩ : ∃ (r : Fin 128) (c' : Fin 1024), x = ix2 r c' := ⟨x 0, x 1, by funext a; match a with | ⟨0, _⟩ => rfl | ⟨1, _⟩ => rfl⟩
    have e0 : i.val = 128 + r.val := hx 0
    have e1 : c.val = 0 + c'.val := hx 1
    obtain rfl : c' = c := Fin.ext (by omega)
    have := h1 r ⟨c'.val / 256, by omega⟩ ⟨c'.val / 64 % 4, by omega⟩ ⟨c'.val % 64, by omega⟩
    rw [qcol_split] at this
    refine this.trans (congrArg _ ?_)
    unfold qArr
    congr 1 <;> apply Fin.ext
    · show t.val * 2 + 1 = (t.val * 256 + i.val) / 128; omega
    · show r.val = (t.val * 256 + i.val) % 128; omega
  · intro x hx
    obtain ⟨r, c', rfl⟩ : ∃ (r : Fin 128) (c' : Fin 1024), x = ix2 r c' := ⟨x 0, x 1, by funext a; match a with | ⟨0, _⟩ => rfl | ⟨1, _⟩ => rfl⟩
    have e0 : i.val = 0 + r.val := hx 0
    have e1 : c.val = 0 + c'.val := hx 1
    obtain rfl : c' = c := Fin.ext (by omega)
    have := h0 r ⟨c'.val / 256, by omega⟩ ⟨c'.val / 64 % 4, by omega⟩ ⟨c'.val % 64, by omega⟩
    rw [qcol_split] at this
    refine this.trans (congrArg _ ?_)
    unfold qArr
    congr 1 <;> apply Fin.ext
    · show t.val * 2 + 0 = (t.val * 256 + i.val) / 128; omega
    · show r.val = (t.val * 256 + i.val) % 128; omega

/-- Two windows of keys. -/
theorem windows_at {w1 w0 : FVec Ideal S1x384x256 .f32} {f : Fin 128 → Fin 384 → Fin 4 → Fin 64 → ℝ} (t : Fin 64) (i1 i0)
    (h1 : ∀ j g d, w1 (ix3 0 j (kcol g d)) = ((f (blk t 1) j g d : ℝ) : EReal))
    (h0 : ∀ j g d, w0 (ix3 0 j (kcol g d)) = ((f (blk t 0) j g d : ℝ) : EReal)) (s : Fin 2) (j : Fin 384) (c : Fin 256) :
    View.canon (Val := Elt Ideal) (s := S2x384x256) (e := .f32) [⟨Rect.unit ![1, 0, 0] ![1, 384, 256] i1, w1⟩, ⟨Rect.unit ![0, 0, 0] ![1, 384, 256] i0, w0⟩] (ix3 s j c)
      = ((kRow (f (blk t s) j) c : ℝ) : EReal) := by
  have hcov : ∃ p ∈ ([⟨Rect.unit ![1, 0, 0] ![1, 384, 256] i1, w1⟩, ⟨Rect.unit ![0, 0, 0] ![1, 384, 256] i0, w0⟩] : List (View.Piece (Elt Ideal) S2x384x256 .f32)), ix3 s j c ∈ p.1.set := by
    by_cases hi : 1 ≤ s.val
    · refine ⟨⟨Rect.unit ![1, 0, 0] ![1, 384, 256] i1, w1⟩, List.mem_cons_self, mem_piece i1 _ fun a => ?_⟩
      match a with
      | ⟨0, _⟩ => exact ⟨hi, by show s.val < 1 + 1; omega⟩
      | ⟨1, _⟩ => exact ⟨Nat.zero_le _, by show j.val < 0 + 384; omega⟩
      | ⟨2, _⟩ => exact ⟨Nat.zero_le _, by show c.val < 0 + 256; omega⟩
    · refine ⟨⟨Rect.unit ![0, 0, 0] ![1, 384, 256] i0, w0⟩, List.mem_cons_of_mem _ List.mem_cons_self, mem_piece i0 _ fun a => ?_⟩
      match a with
      | ⟨0, _⟩ => exact ⟨Nat.zero_le _, by show s.val < 0 + 1; omega⟩
      | ⟨1, _⟩ => exact ⟨Nat.zero_le _, by show j.val < 0 + 384; omega⟩
      | ⟨2, _⟩ => exact ⟨Nat.zero_le _, by show c.val < 0 + 256; omega⟩
  refine View.canon_eq_of_allAt _ _ _ hcov (View.allAt_cons_unit _ _ _ _ _ ?_ (View.allAt_cons_unit _ _ _ _ _ ?_ (View.allAt_nil _ _)))
  · intro x hx
    obtain ⟨z, j', c', rfl⟩ : ∃ (z : Fin 1) (j' : Fin 384) (c' : Fin 256), x = ix3 z j' c' :=
      ⟨x 0, x 1, x 2, by funext a; match a with | ⟨0, _⟩ => rfl | ⟨1, _⟩ => rfl | ⟨2, _⟩ => rfl⟩
    obtain rfl : z = 0 := Subsingleton.elim _ _
    have e0 : s.val = 1 + 0 := hx 0
    have e1 : j.val = 0 + j'.val := hx 1
    have e2 : c.val = 0 + c'.val := hx 2
    obtain rfl : c' = c := Fin.ext (by omega)
    obtain rfl : j' = j := Fin.ext (by omega)
    obtain rfl : s = 1 := Fin.ext e0
    have := h1 j' ⟨c'.val / 64, by omega⟩ ⟨c'.val % 64, by omega⟩
    rw [kcol_split] at this
    exact this
  · intro x hx
    obtain ⟨z, j', c', rfl⟩ : ∃ (z : Fin 1) (j' : Fin 384) (c' : Fin 256), x = ix3 z j' c' :=
      ⟨x 0, x 1, x 2, by funext a; match a with | ⟨0, _⟩ => rfl | ⟨1, _⟩ => rfl | ⟨2, _⟩ => rfl⟩
    obtain rfl : z = 0 := Subsingleton.elim _ _
    have e0 : s.val = 0 + 0 := hx 0
    have e1 : j.val = 0 + j'.val := hx 1
    have e2 : c.val = 0 + c'.val := hx 2
    obtain rfl : c' = c := Fin.ext (by omega)
    obtain rfl : j' = j := Fin.ext (by omega)
    obtain rfl : s = 0 := Fin.ext e0
    have := h0 j' ⟨c'.val / 64, by omega⟩ ⟨c'.val % 64, by omega⟩
    rw [kcol_split] at this
    exact this

/-- A head cut out of a stack. -/
def cut (v : FVec Ideal S512x64 .f32) (h : Fin 4) : FVec Ideal S128x64 .f32 :=
  ![extractStridedSlice S128x64 ![0, 0] v slices_S512x64_o0_0_S128x64, extractStridedSlice S128x64 ![128, 0] v slices_S512x64_o128_0_S128x64,
    extractStridedSlice S128x64 ![256, 0] v slices_S512x64_o256_0_S128x64, extractStridedSlice S128x64 ![384, 0] v slices_S512x64_o384_0_S128x64] h

theorem cut_at (v : FVec Ideal S512x64 .f32) (h : Fin 4) (r : Fin 128) (d : Fin 64) : cut v h (ix2 r d) = v (ix2 (srow h r) d) := by
  match h with
  | ⟨0, _⟩ => exact head_at v 0 slices_S512x64_o0_0_S128x64 0 rfl r d
  | ⟨1, _⟩ => exact head_at v 128 slices_S512x64_o128_0_S128x64 1 rfl r d
  | ⟨2, _⟩ => exact head_at v 256 slices_S512x64_o256_0_S128x64 2 rfl r d
  | ⟨3, _⟩ => exact head_at v 384 slices_S512x64_o384_0_S128x64 3 rfl r d

/-- The four stacks side by side. -/
theorem unst_at (v : Fin 4 → FVec Ideal S512x64 .f32) (hc) (r : Fin 128) (g h : Fin 4) (d : Fin 64) :
    concatenate S128x1024 1 [⟨S128x64, cut (v 0) 0⟩, ⟨S128x64, cut (v 0) 1⟩, ⟨S128x64, cut (v 0) 2⟩, ⟨S128x64, cut (v 0) 3⟩, ⟨S128x64, cut (v 1) 0⟩, ⟨S128x64, cut (v 1) 1⟩, ⟨S128x64, cut (v 1) 2⟩, ⟨S128x64, cut (v 1) 3⟩, ⟨S128x64, cut (v 2) 0⟩, ⟨S128x64, cut (v 2) 1⟩, ⟨S128x64, cut (v 2) 2⟩, ⟨S128x64, cut (v 2) 3⟩, ⟨S128x64, cut (v 3) 0⟩, ⟨S128x64, cut (v 3) 1⟩, ⟨S128x64, cut (v 3) 2⟩, ⟨S128x64, cut (v 3) 3⟩] hc (ix2 r (qcol g h d)) = v g (ix2 (srow h r) d) := by
  refine (unstack_at (fun n : Fin 16 => cut (v ⟨n.val / 4, by omega⟩) ⟨n.val % 4, by omega⟩) hc r g h d).trans ?_
  refine (cut_at _ _ r d).trans ?_
  have e : (⟨(hd g h).val / 4, by omega⟩ : Fin 4) = g := Fin.ext (by show (g.val * 4 + h.val) / 4 = _; omega)
  have e' : (⟨(hd g h).val % 4, by omega⟩ : Fin 4) = h := Fin.ext (by show (g.val * 4 + h.val) % 4 = _; omega)
  rw [e, e']

theorem pay75_at (v0 v1 v2 v3 : FVec Ideal S512x64 .f32) (r : Fin 128) (g h : Fin 4) (d : Fin 64) :
    k0_pay75 (F := Ideal) v1 v2 v3 (k0_pay69 v0) (k0_pay70 v0) (k0_pay71 v0) (k0_pay72 v0) (k0_pay73 v1) (k0_pay74 v1) (ix2 r (qcol g h d))
      = (![v0, v1, v2, v3] g) (ix2 (srow h r) d) :=
  unst_at ![v0, v1, v2, v3] concatenates_S128x64_S128x64_S128x64_S128x64_S128x64_S128x64_S128x64_S128x64_S128x64_S128x64_S128x64_S128x64_S128x64_S128x64_S128x64_S128x64_S128x1024_d1 r g h d

theorem pay147_at (v0 v1 v2 v3 : FVec Ideal S512x64 .f32) (r : Fin 128) (g h : Fin 4) (d : Fin 64) :
    k0_pay147 (F := Ideal) v2 v3 (k0_pay139 v0) (k0_pay140 v0) (k0_pay141 v0) (k0_pay142 v0) (k0_pay143 v1) (k0_pay144 v1) (k0_pay145 v1) (k0_pay146 v1) (ix2 r (qcol g h d))
      = (![v0, v1, v2, v3] g) (ix2 (srow h r) d) :=
  unst_at ![v0, v1, v2, v3] concatenates_S128x64_S128x64_S128x64_S128x64_S128x64_S128x64_S128x64_S128x64_S128x64_S128x64_S128x64_S128x64_S128x64_S128x64_S128x64_S128x64_S128x1024_d1 r g h d

/-- The four key heads in a window's slab. -/
theorem slab_at (v0 v1 v2 v3 : FVec Ideal S384x64 .f32) (hc hs) (j : Fin 384) (g : Fin 4) (d : Fin 64) :
    shapeCast S1x384x256 (concatenate S384x256 1 [⟨S384x64, v0⟩, ⟨S384x64, v1⟩, ⟨S384x64, v2⟩, ⟨S384x64, v3⟩] hc) hs (ix3 0 j (kcol g d))
      = (![v0, v1, v2, v3] g) (ix2 j d) := by
  refine (shapeCast_apply _ _ _ (ix2 j (kcol g d)) ?_).trans (heads_at v0 v1 v2 v3 hc j g d)
  rw [Shape.rowMajor_val_two, Shape.rowMajor_val_three]
  show j.val * 256 + (kcol g d).val = (0 * 384 + j.val) * 256 + (kcol g d).val
  omega

variable {Q : Fin 16384 → Fin 1024 → ℝ} {K V : Fin 16384 → Fin 256 → ℝ} {G : Fin 16384 → Fin 1024 → ℝ} {S : Fin 16 → ℝ}
variable {t : Fin 64} {x0 : FVec Ideal S16 .f32} {x1 x2 x3 : FVec Ideal S256x1024 .bf16} {x4 : FVec Ideal S4x2x512x1 .f32} {x5 x6 : FVec Ideal S512x256 .bf16}

variable (m : (ℓ : Loc nD τ sig) → Buf (Elt Ideal) ℓ)

theorem coords_val : ∀ t : Fin cfg0.N, (grid0.coords t 0).val = t.val :=
  (by decide +kernel : ∀ t : Fin grid0.N, (grid0.coords t 0).val = t.val)

/-- A grid step's number. -/
def stp (t : Fin cfg0.N) : Fin 64 := ⟨t.val, t.isLt⟩

/-- The step's blocks are real. -/
def BlockReads (Q : Fin 16384 → Fin 1024 → ℝ) (K V : Fin 16384 → Fin 256 → ℝ) (G : Fin 16384 → Fin 1024 → ℝ) (S : Fin 16 → ℝ) (c : Dev nD) (t : Fin cfg0.N) : Prop :=
  Reads Q K V G S (stp t) (iblk m c 0 t) (iblk m c 1 t) (iblk m c 2 t) (iblk m c 3 t) (iblk m c 4 t)
    (k0_pay2 (F := Ideal) (iblk m c 5 t) (iblk m c 6 t) (iblk m c 7 t)) (k0_pay3 (F := Ideal) (iblk m c 8 t) (iblk m c 9 t) (iblk m c 10 t))

/-- What a step leaves in window 11. -/
theorem step11 (c : Dev nD) (t : Fin cfg0.N) (R : BlockReads m Q K V G S c t) (i : Fin 256) (j : Fin 1024) :
    (outsAt0 m c t.val t.isLt).1 (ix2 i j) = ((qArr (dq Q K V G S) ⟨(stp t).val * 256 + i.val, by omega⟩ j : ℝ) : EReal) := by
  unfold BlockReads at R
  by_cases h0 : t.val % 64 = 0
  · rw [outsAt0_A m c t h0]
    dsimp only
    frame_out
    refine halves_at (stp t) _ _ (fun r g h d => (pay147_at _ _ _ _ r g h d).trans ?_) (fun r g h d => (pay75_at _ _ _ _ r g h d).trans ?_) i j
    · match g with
      | ⟨0, _⟩ => exact dq_1_0 _ R (coords_val t) (R.lc 0 1 0 1 inb_S4x2x512x1_S1x1x512x1_0_1_0_0 ⟨rfl, rfl⟩) h r d
      | ⟨1, _⟩ => exact dq_1_1 _ R (coords_val t) (R.lc 1 1 1 1 inb_S4x2x512x1_S1x1x512x1_1_1_0_0 ⟨rfl, rfl⟩) h r d
      | ⟨2, _⟩ => exact dq_1_2 _ R (coords_val t) (R.lc 2 1 2 1 inb_S4x2x512x1_S1x1x512x1_2_1_0_0 ⟨rfl, rfl⟩) h r d
      | ⟨3, _⟩ => exact dq_1_3 _ R (coords_val t) (R.lc 3 1 3 1 inb_S4x2x512x1_S1x1x512x1_3_1_0_0 ⟨rfl, rfl⟩) h r d
    · match g with
      | ⟨0, _⟩ => exact dq_0_0 _ R (coords_val t) (R.lc 0 0 0 0 inb_S4x2x512x1_S1x1x512x1_0_0_0_0 ⟨rfl, rfl⟩) h r d
      | ⟨1, _⟩ => exact dq_0_1 _ R (coords_val t) (R.lc 1 0 1 0 inb_S4x2x512x1_S1x1x512x1_1_0_0_0 ⟨rfl, rfl⟩) h r d
      | ⟨2, _⟩ => exact dq_0_2 _ R (coords_val t) (R.lc 2 0 2 0 inb_S4x2x512x1_S1x1x512x1_2_0_0_0 ⟨rfl, rfl⟩) h r d
      | ⟨3, _⟩ => exact dq_0_3 _ R (coords_val t) (R.lc 3 0 3 0 inb_S4x2x512x1_S1x1x512x1_3_0_0_0 ⟨rfl, rfl⟩) h r d
  · rw [outsAt0_B m c t h0]
    dsimp only
    frame_out
    refine halves_at (stp t) _ _ (fun r g h d => (pay147_at _ _ _ _ r g h d).trans ?_) (fun r g h d => (pay75_at _ _ _ _ r g h d).trans ?_) i j
    · match g with
      | ⟨0, _⟩ => exact dq_1_0 _ R (coords_val t) (R.lc 0 1 0 1 inb_S4x2x512x1_S1x1x512x1_0_1_0_0 ⟨rfl, rfl⟩) h r d
      | ⟨1, _⟩ => exact dq_1_1 _ R (coords_val t) (R.lc 1 1 1 1 inb_S4x2x512x1_S1x1x512x1_1_1_0_0 ⟨rfl, rfl⟩) h r d
      | ⟨2, _⟩ => exact dq_1_2 _ R (coords_val t) (R.lc 2 1 2 1 inb_S4x2x512x1_S1x1x512x1_2_1_0_0 ⟨rfl, rfl⟩) h r d
      | ⟨3, _⟩ => exact dq_1_3 _ R (coords_val t) (R.lc 3 1 3 1 inb_S4x2x512x1_S1x1x512x1_3_1_0_0 ⟨rfl, rfl⟩) h r d
    · match g with
      | ⟨0, _⟩ => exact dq_0_0 _ R (coords_val t) (R.lc 0 0 0 0 inb_S4x2x512x1_S1x1x512x1_0_0_0_0 ⟨rfl, rfl⟩) h r d
      | ⟨1, _⟩ => exact dq_0_1 _ R (coords_val t) (R.lc 1 0 1 0 inb_S4x2x512x1_S1x1x512x1_1_0_0_0 ⟨rfl, rfl⟩) h r d
      | ⟨2, _⟩ => exact dq_0_2 _ R (coords_val t) (R.lc 2 0 2 0 inb_S4x2x512x1_S1x1x512x1_2_0_0_0 ⟨rfl, rfl⟩) h r d
      | ⟨3, _⟩ => exact dq_0_3 _ R (coords_val t) (R.lc 3 0 3 0 inb_S4x2x512x1_S1x1x512x1_3_0_0_0 ⟨rfl, rfl⟩) h r d

/-- What a step leaves in window 12. -/
theorem step12 (c : Dev nD) (t : Fin cfg0.N) (R : BlockReads m Q K V G S c t) (s : Fin 2) (j : Fin 384) (k : Fin 256) :
    (outsAt0 m c t.val t.isLt).2.1 (ix3 s j k) = ((kRow (dk Q K V G S (blk (stp t) s) j) k : ℝ) : EReal) := by
  unfold BlockReads at R
  by_cases h0 : t.val % 64 = 0
  · rw [outsAt0_A m c t h0]
    dsimp only
    frame_out
    refine windows_at (f := dk Q K V G S) (stp t) _ _ (fun j g d => (slab_at _ _ _ _ _ _ j g d).trans ?_) (fun j g d => (slab_at _ _ _ _ _ _ j g d).trans ?_) s j k
    · match g with
      | ⟨0, _⟩ => exact dk_1_0 _ R (coords_val t) (R.lc 0 1 0 1 inb_S4x2x512x1_S1x1x512x1_0_1_0_0 ⟨rfl, rfl⟩) j d
      | ⟨1, _⟩ => exact dk_1_1 _ R (coords_val t) (R.lc 1 1 1 1 inb_S4x2x512x1_S1x1x512x1_1_1_0_0 ⟨rfl, rfl⟩) j d
      | ⟨2, _⟩ => exact dk_1_2 _ R (coords_val t) (R.lc 2 1 2 1 inb_S4x2x512x1_S1x1x512x1_2_1_0_0 ⟨rfl, rfl⟩) j d
      | ⟨3, _⟩ => exact dk_1_3 _ R (coords_val t) (R.lc 3 1 3 1 inb_S4x2x512x1_S1x1x512x1_3_1_0_0 ⟨rfl, rfl⟩) j d
    · match g with
      | ⟨0, _⟩ => exact dk_0_0 _ R (coords_val t) (R.lc 0 0 0 0 inb_S4x2x512x1_S1x1x512x1_0_0_0_0 ⟨rfl, rfl⟩) j d
      | ⟨1, _⟩ => exact dk_0_1 _ R (coords_val t) (R.lc 1 0 1 0 inb_S4x2x512x1_S1x1x512x1_1_0_0_0 ⟨rfl, rfl⟩) j d
      | ⟨2, _⟩ => exact dk_0_2 _ R (coords_val t) (R.lc 2 0 2 0 inb_S4x2x512x1_S1x1x512x1_2_0_0_0 ⟨rfl, rfl⟩) j d
      | ⟨3, _⟩ => exact dk_0_3 _ R (coords_val t) (R.lc 3 0 3 0 inb_S4x2x512x1_S1x1x512x1_3_0_0_0 ⟨rfl, rfl⟩) j d
  · rw [outsAt0_B m c t h0]
    dsimp only
    frame_out
    refine windows_at (f := dk Q K V G S) (stp t) _ _ (fun j g d => (slab_at _ _ _ _ _ _ j g d).trans ?_) (fun j g d => (slab_at _ _ _ _ _ _ j g d).trans ?_) s j k
    · match g with
      | ⟨0, _⟩ => exact dk_1_0 _ R (coords_val t) (R.lc 0 1 0 1 inb_S4x2x512x1_S1x1x512x1_0_1_0_0 ⟨rfl, rfl⟩) j d
      | ⟨1, _⟩ => exact dk_1_1 _ R (coords_val t) (R.lc 1 1 1 1 inb_S4x2x512x1_S1x1x512x1_1_1_0_0 ⟨rfl, rfl⟩) j d
      | ⟨2, _⟩ => exact dk_1_2 _ R (coords_val t) (R.lc 2 1 2 1 inb_S4x2x512x1_S1x1x512x1_2_1_0_0 ⟨rfl, rfl⟩) j d
      | ⟨3, _⟩ => exact dk_1_3 _ R (coords_val t) (R.lc 3 1 3 1 inb_S4x2x512x1_S1x1x512x1_3_1_0_0 ⟨rfl, rfl⟩) j d
    · match g with
      | ⟨0, _⟩ => exact dk_0_0 _ R (coords_val t) (R.lc 0 0 0 0 inb_S4x2x512x1_S1x1x512x1_0_0_0_0 ⟨rfl, rfl⟩) j d
      | ⟨1, _⟩ => exact dk_0_1 _ R (coords_val t) (R.lc 1 0 1 0 inb_S4x2x512x1_S1x1x512x1_1_0_0_0 ⟨rfl, rfl⟩) j d
      | ⟨2, _⟩ => exact dk_0_2 _ R (coords_val t) (R.lc 2 0 2 0 inb_S4x2x512x1_S1x1x512x1_2_0_0_0 ⟨rfl, rfl⟩) j d
      | ⟨3, _⟩ => exact dk_0_3 _ R (coords_val t) (R.lc 3 0 3 0 inb_S4x2x512x1_S1x1x512x1_3_0_0_0 ⟨rfl, rfl⟩) j d

/-- What a step leaves in window 13. -/
theorem step13 (c : Dev nD) (t : Fin cfg0.N) (R : BlockReads m Q K V G S c t) (s : Fin 2) (j : Fin 384) (k : Fin 256) :
    (outsAt0 m c t.val t.isLt).2.2.1 (ix3 s j k) = ((kRow (dv Q K G S (blk (stp t) s) j) k : ℝ) : EReal) := by
  unfold BlockReads at R
  by_cases h0 : t.val % 64 = 0
  · rw [outsAt0_A m c t h0]
    dsimp only
    frame_out
    refine windows_at (f := dv Q K G S) (stp t) _ _ (fun j g d => (slab_at _ _ _ _ _ _ j g d).trans ?_) (fun j g d => (slab_at _ _ _ _ _ _ j g d).trans ?_) s j k
    · match g with
      | ⟨0, _⟩ => exact dv_1_0 _ R (coords_val t) (R.lc 0 1 0 1 inb_S4x2x512x1_S1x1x512x1_0_1_0_0 ⟨rfl, rfl⟩) j d
      | ⟨1, _⟩ => exact dv_1_1 _ R (coords_val t) (R.lc 1 1 1 1 inb_S4x2x512x1_S1x1x512x1_1_1_0_0 ⟨rfl, rfl⟩) j d
      | ⟨2, _⟩ => exact dv_1_2 _ R (coords_val t) (R.lc 2 1 2 1 inb_S4x2x512x1_S1x1x512x1_2_1_0_0 ⟨rfl, rfl⟩) j d
      | ⟨3, _⟩ => exact dv_1_3 _ R (coords_val t) (R.lc 3 1 3 1 inb_S4x2x512x1_S1x1x512x1_3_1_0_0 ⟨rfl, rfl⟩) j d
    · match g with
      | ⟨0, _⟩ => exact dv_0_0 _ R (coords_val t) (R.lc 0 0 0 0 inb_S4x2x512x1_S1x1x512x1_0_0_0_0 ⟨rfl, rfl⟩) j d
      | ⟨1, _⟩ => exact dv_0_1 _ R (coords_val t) (R.lc 1 0 1 0 inb_S4x2x512x1_S1x1x512x1_1_0_0_0 ⟨rfl, rfl⟩) j d
      | ⟨2, _⟩ => exact dv_0_2 _ R (coords_val t) (R.lc 2 0 2 0 inb_S4x2x512x1_S1x1x512x1_2_0_0_0 ⟨rfl, rfl⟩) j d
      | ⟨3, _⟩ => exact dv_0_3 _ R (coords_val t) (R.lc 3 0 3 0 inb_S4x2x512x1_S1x1x512x1_3_0_0_0 ⟨rfl, rfl⟩) j d
  · rw [outsAt0_B m c t h0]
    dsimp only
    frame_out
    refine windows_at (f := dv Q K G S) (stp t) _ _ (fun j g d => (slab_at _ _ _ _ _ _ j g d).trans ?_) (fun j g d => (slab_at _ _ _ _ _ _ j g d).trans ?_) s j k
    · match g with
      | ⟨0, _⟩ => exact dv_1_0 _ R (coords_val t) (R.lc 0 1 0 1 inb_S4x2x512x1_S1x1x512x1_0_1_0_0 ⟨rfl, rfl⟩) j d
      | ⟨1, _⟩ => exact dv_1_1 _ R (coords_val t) (R.lc 1 1 1 1 inb_S4x2x512x1_S1x1x512x1_1_1_0_0 ⟨rfl, rfl⟩) j d
      | ⟨2, _⟩ => exact dv_1_2 _ R (coords_val t) (R.lc 2 1 2 1 inb_S4x2x512x1_S1x1x512x1_2_1_0_0 ⟨rfl, rfl⟩) j d
      | ⟨3, _⟩ => exact dv_1_3 _ R (coords_val t) (R.lc 3 1 3 1 inb_S4x2x512x1_S1x1x512x1_3_1_0_0 ⟨rfl, rfl⟩) j d
    · match g with
      | ⟨0, _⟩ => exact dv_0_0 _ R (coords_val t) (R.lc 0 0 0 0 inb_S4x2x512x1_S1x1x512x1_0_0_0_0 ⟨rfl, rfl⟩) j d
      | ⟨1, _⟩ => exact dv_0_1 _ R (coords_val t) (R.lc 1 0 1 0 inb_S4x2x512x1_S1x1x512x1_1_0_0_0 ⟨rfl, rfl⟩) j d
      | ⟨2, _⟩ => exact dv_0_2 _ R (coords_val t) (R.lc 2 0 2 0 inb_S4x2x512x1_S1x1x512x1_2_0_0_0 ⟨rfl, rfl⟩) j d
      | ⟨3, _⟩ => exact dv_0_3 _ R (coords_val t) (R.lc 3 0 3 0 inb_S4x2x512x1_S1x1x512x1_3_0_0_0 ⟨rfl, rfl⟩) j d

/-- What a step takes from the sinks' gradient. -/
noncomputable def part (Q : Fin 16384 → Fin 1024 → ℝ) (K V : Fin 16384 → Fin 256 → ℝ) (G : Fin 16384 → Fin 1024 → ℝ) (S : Fin 16 → ℝ) (t : Fin 64) (c : Fin 16) : ℝ :=
  (∑ r, sinkPart Q K V G S (blk t 0) ⟨c.val / 4, by omega⟩ ⟨c.val % 4, by omega⟩ r) + ∑ r, sinkPart Q K V G S (blk t 1) ⟨c.val / 4, by omega⟩ ⟨c.val % 4, by omega⟩ r

theorem upd_of (f : Fin 16 → ℝ) (p : Fin 4 → Fin 4 → Fin 128 → ℝ) (c : Fin 16) :
    upd 3 (upd 2 (upd 1 (upd 0 f (p 0)) (p 1)) (p 2)) (p 3) c = f c - ∑ r, p ⟨c.val / 4, by omega⟩ ⟨c.val % 4, by omega⟩ r := by
  unfold upd
  obtain ⟨g', h', rfl⟩ : ∃ g' h', c = scol g' h' := ⟨⟨c.val / 4, by omega⟩, ⟨c.val % 4, by omega⟩, Fin.ext (by show c.val = c.val / 4 * 4 + c.val % 4; omega)⟩
  have e : (scol g' h').val / 4 = g'.val := by show (g'.val * 4 + h'.val) / 4 = _; omega
  have e' : (⟨(scol g' h').val / 4, by omega⟩ : Fin 4) = g' := Fin.ext e
  rw [e']
  simp only [e]
  fin_cases g' <;> simp

/-- The eight groups of a step. -/
theorem chain_at {x : FVec Ideal S1x16 .f32}
    (hx : IsD x (upd 3 (upd 2 (upd 1 (upd 0 (upd 3 (upd 2 (upd 1 (upd 0 (fun _ => 0) (sinkPart Q K V G S (blk t 0) 0)) (sinkPart Q K V G S (blk t 0) 1))
      (sinkPart Q K V G S (blk t 0) 2)) (sinkPart Q K V G S (blk t 0) 3)) (sinkPart Q K V G S (blk t 1) 0)) (sinkPart Q K V G S (blk t 1) 1))
      (sinkPart Q K V G S (blk t 1) 2)) (sinkPart Q K V G S (blk t 1) 3))) : IsD x fun c => -part Q K V G S t c := by
  intro c
  refine (hx c).trans (congrArg _ ?_)
  rw [upd_of _ (sinkPart Q K V G S (blk t 1)), upd_of _ (sinkPart Q K V G S (blk t 0))]
  unfold part
  ring

/-- A step adds what it found to what was there. -/
theorem add_at (x y : FVec Ideal S1x16 .f32) (f u : Fin 16 → ℝ) (hy : IsD y f) (hx : IsD x u) : IsD (k0_pay151 (F := Ideal) x y) fun k => f k + u k := by
  intro k
  show shapeCast S1x16 y shapeCasts_S1x16_S1x16 (ix2 0 k) + x (ix2 0 k) = _
  rw [hx k, EReal.coe_add]
  exact congrArg (· + _) ((shapeCast_apply y _ (ix2 0 k) (ix2 0 k) rfl).trans (hy k))

theorem zero_isD : IsD (k0_pay4 (F := Ideal)) fun _ => 0 := fun _ => word_zero

/-- What the first step leaves in window 14. -/
theorem first14 (c : Dev nD) (t : Fin cfg0.N) (h0 : t.val % 64 = 0) (R : BlockReads m Q K V G S c t) (k : Fin 16) :
    (outsAt0 m c t.val t.isLt).2.2.2 (ix2 0 k) = ((0 - part Q K V G S (stp t) k : ℝ) : EReal) := by
  unfold BlockReads at R
  rw [outsAt0_A m c t h0]
  dsimp only
  frame_out
  refine (add_at _ _ (fun _ => 0) (fun k => -part Q K V G S (stp t) k) (fun _ => word_zero) ?_ k).trans (congrArg _ (by ring))
  exact chain_at (ds_1_3 R (R.lc 3 1 3 1 inb_S4x2x512x1_S1x1x512x1_3_1_0_0 ⟨rfl, rfl⟩) (R.sk 12 12 inb_S16_S1_12 (by decide) rfl) (R.sk 13 13 inb_S16_S1_13 (by decide) rfl) (R.sk 14 14 inb_S16_S1_14 (by decide) rfl) (R.sk 15 15 inb_S16_S1_15 (by decide) rfl) (ds_1_2 R (R.lc 2 1 2 1 inb_S4x2x512x1_S1x1x512x1_2_1_0_0 ⟨rfl, rfl⟩) (R.sk 8 8 inb_S16_S1_8 (by decide) rfl) (R.sk 9 9 inb_S16_S1_9 (by decide) rfl) (R.sk 10 10 inb_S16_S1_10 (by decide) rfl) (R.sk 11 11 inb_S16_S1_11 (by decide) rfl) (ds_1_1 R (R.lc 1 1 1 1 inb_S4x2x512x1_S1x1x512x1_1_1_0_0 ⟨rfl, rfl⟩) (R.sk 4 4 inb_S16_S1_4 (by decide) rfl) (R.sk 5 5 inb_S16_S1_5 (by decide) rfl) (R.sk 6 6 inb_S16_S1_6 (by decide) rfl) (R.sk 7 7 inb_S16_S1_7 (by decide) rfl) (ds_1_0 R (R.lc 0 1 0 1 inb_S4x2x512x1_S1x1x512x1_0_1_0_0 ⟨rfl, rfl⟩) (R.sk 0 0 inb_S16_S1_0 (by decide) rfl) (R.sk 1 1 inb_S16_S1_1 (by decide) rfl) (R.sk 2 2 inb_S16_S1_2 (by decide) rfl) (R.sk 3 3 inb_S16_S1_3 (by decide) rfl) (ds_0_3 R (R.lc 3 0 3 0 inb_S4x2x512x1_S1x1x512x1_3_0_0_0 ⟨rfl, rfl⟩) (R.sk 12 12 inb_S16_S1_12 (by decide) rfl) (R.sk 13 13 inb_S16_S1_13 (by decide) rfl) (R.sk 14 14 inb_S16_S1_14 (by decide) rfl) (R.sk 15 15 inb_S16_S1_15 (by decide) rfl) (ds_0_2 R (R.lc 2 0 2 0 inb_S4x2x512x1_S1x1x512x1_2_0_0_0 ⟨rfl, rfl⟩) (R.sk 8 8 inb_S16_S1_8 (by decide) rfl) (R.sk 9 9 inb_S16_S1_9 (by decide) rfl) (R.sk 10 10 inb_S16_S1_10 (by decide) rfl) (R.sk 11 11 inb_S16_S1_11 (by decide) rfl) (ds_0_1 R (R.lc 1 0 1 0 inb_S4x2x512x1_S1x1x512x1_1_0_0_0 ⟨rfl, rfl⟩) (R.sk 4 4 inb_S16_S1_4 (by decide) rfl) (R.sk 5 5 inb_S16_S1_5 (by decide) rfl) (R.sk 6 6 inb_S16_S1_6 (by decide) rfl) (R.sk 7 7 inb_S16_S1_7 (by decide) rfl) (ds_0_0 R (R.lc 0 0 0 0 inb_S4x2x512x1_S1x1x512x1_0_0_0_0 ⟨rfl, rfl⟩) (R.sk 0 0 inb_S16_S1_0 (by decide) rfl) (R.sk 1 1 inb_S16_S1_1 (by decide) rfl) (R.sk 2 2 inb_S16_S1_2 (by decide) rfl) (R.sk 3 3 inb_S16_S1_3 (by decide) rfl) zero_isD))))))))

/-- What a later step leaves in window 14. -/
theorem next14 (c : Dev nD) (t : Fin cfg0.N) (h0 : ¬ t.val % 64 = 0) (R : BlockReads m Q K V G S c t) (f : Fin 16 → ℝ)
    (hp : IsD (outsAt0 m c (t.val - 1) (by have := t.isLt; omega)).2.2.2 f) (k : Fin 16) :
    (outsAt0 m c t.val t.isLt).2.2.2 (ix2 0 k) = ((f k - part Q K V G S (stp t) k : ℝ) : EReal) := by
  unfold BlockReads at R
  rw [outsAt0_B m c t h0]
  dsimp only
  frame_out
  refine (add_at _ _ f (fun k => -part Q K V G S (stp t) k) hp ?_ k).trans (congrArg _ (by ring))
  exact chain_at (ds_1_3 R (R.lc 3 1 3 1 inb_S4x2x512x1_S1x1x512x1_3_1_0_0 ⟨rfl, rfl⟩) (R.sk 12 12 inb_S16_S1_12 (by decide) rfl) (R.sk 13 13 inb_S16_S1_13 (by decide) rfl) (R.sk 14 14 inb_S16_S1_14 (by decide) rfl) (R.sk 15 15 inb_S16_S1_15 (by decide) rfl) (ds_1_2 R (R.lc 2 1 2 1 inb_S4x2x512x1_S1x1x512x1_2_1_0_0 ⟨rfl, rfl⟩) (R.sk 8 8 inb_S16_S1_8 (by decide) rfl) (R.sk 9 9 inb_S16_S1_9 (by decide) rfl) (R.sk 10 10 inb_S16_S1_10 (by decide) rfl) (R.sk 11 11 inb_S16_S1_11 (by decide) rfl) (ds_1_1 R (R.lc 1 1 1 1 inb_S4x2x512x1_S1x1x512x1_1_1_0_0 ⟨rfl, rfl⟩) (R.sk 4 4 inb_S16_S1_4 (by decide) rfl) (R.sk 5 5 inb_S16_S1_5 (by decide) rfl) (R.sk 6 6 inb_S16_S1_6 (by decide) rfl) (R.sk 7 7 inb_S16_S1_7 (by decide) rfl) (ds_1_0 R (R.lc 0 1 0 1 inb_S4x2x512x1_S1x1x512x1_0_1_0_0 ⟨rfl, rfl⟩) (R.sk 0 0 inb_S16_S1_0 (by decide) rfl) (R.sk 1 1 inb_S16_S1_1 (by decide) rfl) (R.sk 2 2 inb_S16_S1_2 (by decide) rfl) (R.sk 3 3 inb_S16_S1_3 (by decide) rfl) (ds_0_3 R (R.lc 3 0 3 0 inb_S4x2x512x1_S1x1x512x1_3_0_0_0 ⟨rfl, rfl⟩) (R.sk 12 12 inb_S16_S1_12 (by decide) rfl) (R.sk 13 13 inb_S16_S1_13 (by decide) rfl) (R.sk 14 14 inb_S16_S1_14 (by decide) rfl) (R.sk 15 15 inb_S16_S1_15 (by decide) rfl) (ds_0_2 R (R.lc 2 0 2 0 inb_S4x2x512x1_S1x1x512x1_2_0_0_0 ⟨rfl, rfl⟩) (R.sk 8 8 inb_S16_S1_8 (by decide) rfl) (R.sk 9 9 inb_S16_S1_9 (by decide) rfl) (R.sk 10 10 inb_S16_S1_10 (by decide) rfl) (R.sk 11 11 inb_S16_S1_11 (by decide) rfl) (ds_0_1 R (R.lc 1 0 1 0 inb_S4x2x512x1_S1x1x512x1_1_0_0_0 ⟨rfl, rfl⟩) (R.sk 4 4 inb_S16_S1_4 (by decide) rfl) (R.sk 5 5 inb_S16_S1_5 (by decide) rfl) (R.sk 6 6 inb_S16_S1_6 (by decide) rfl) (R.sk 7 7 inb_S16_S1_7 (by decide) rfl) (ds_0_0 R (R.lc 0 0 0 0 inb_S4x2x512x1_S1x1x512x1_0_0_0_0 ⟨rfl, rfl⟩) (R.sk 0 0 inb_S16_S1_0 (by decide) rfl) (R.sk 1 1 inb_S16_S1_1 (by decide) rfl) (R.sk 2 2 inb_S16_S1_2 (by decide) rfl) (R.sk 3 3 inb_S16_S1_3 (by decide) rfl) zero_isD))))))))

end Cert.Kern
-- ==== Proof.Kern.Blocks.lean ====
module

public import proofs.«01_k».proof.Proof.Kern.Host
public import proofs.«01_k».proof.Proof.Kern.Out

@[expose] public section

/-! What a grid step reads. -/

set_option maxRecDepth 16384

namespace Cert.Kern
open Cert.KernelIdeal Cert.KernelIdeal.Gen Idealize.ShloMosaic Idealize.ShloMosaic.TcCoe Idealize.SL.Sem Cert.Spec

theorem idx_0 : ∀ t : Fin cfg0.N, win0_0.index t = ![0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![0, t.val, 0, 0] := by decide +kernel
theorem idx_5 : ∀ t : Fin cfg0.N, win0_5.index t = ![t.val * 2 - 1, 0] := by decide +kernel
theorem idx_6 : ∀ t : Fin cfg0.N, win0_6.index t = ![t.val, 0] := by decide +kernel
theorem idx_7 : ∀ t : Fin cfg0.N, win0_7.index t = ![min (t.val * 2 + 2) 127, 0] := by decide +kernel
theorem idx_8 : ∀ t : Fin cfg0.N, win0_8.index t = ![t.val * 2 - 1, 0] := by decide +kernel
theorem idx_9 : ∀ t : Fin cfg0.N, win0_9.index t = ![t.val, 0] := by decide +kernel
theorem idx_10 : ∀ t : Fin cfg0.N, win0_10.index t = ![min (t.val * 2 + 2) 127, 0] := by decide +kernel

variable {m : (ℓ : Loc nD τ sig) → Buf (Elt Ideal) ℓ} {Q : Fin 16384 → Fin 1024 → ℝ} {K V' : Fin 16384 → Fin 256 → ℝ}
  {G : Fin 16384 → Fin 1024 → ℝ} {S : Fin 16 → ℝ} {c : Dev nD}

/-- A block read at an index. -/
theorem block_2 (t : Fin cfg0.N) (y) : iblk m c 2 t y = V m c main_v72 (((cfg0.win 2).blk t).view.emb y) := by
  unfold iblk
  rw [View.read_apply]
  exact cast_eq _ _

/-- A block read at an index. -/
theorem block_4 (t : Fin cfg0.N) (y) : iblk m c 4 t y = V m c main_v76 (((cfg0.win 4).blk t).view.emb y) := by
  unfold iblk
  rw [View.read_apply]
  exact cast_eq _ _

/-- A block of logarithms lies in its array. -/
theorem emb_4 (t : Fin cfg0.N) (g : Fin 4) (s : Fin 2) (n : Fin 512) :
    ((cfg0.win 4).blk t).view.emb (ix4 (n0 := 4) (n1 := 2) (n2 := 512) (n3 := 1) g s n 0)
      = ix4 (n0 := 4) (n1 := 128) (n2 := 512) (n3 := 1) g (blk (stp t) s) n 0 := by
  blk_ext [idx_4]
  rfl

/-- The sinks. -/
theorem read_0 (H : Given m Q K V' G S c) (t : Fin cfg0.N) (n : Fin 16) : iblk m c 0 t (ix1 n) = ((S n : ℝ) : EReal) := by
  have e : V m c main_arg4 = Ref.sarg S := (V_main_arg4 m c).trans H.s
  have p : ((cfg0.win 0).blk t).view.emb (ix1 n) = ix1 (n0 := 16) n := by blk_ext [idx_0]
  show V m c main_arg4 (((cfg0.win 0).blk t).view.emb (ix1 n)) = _
  rw [p, e]
  rfl

/-- The queries. -/
theorem read_1 (H : Given m Q K V' G S c) (t : Fin cfg0.N) : IsRows (iblk m c 1 t) Q (stp t) := by
  intro i k
  have p : ((cfg0.win 1).blk t).view.emb (ix2 i k) = ix2 (n0 := 16384) (n1 := 1024) ⟨(stp t).val * 256 + i.val, by omega⟩ k := by
    blk_ext [idx_1]
    rfl
  show V m c main_arg0 (((cfg0.win 1).blk t).view.emb (ix2 i k)) = _
  rw [p]
  rw [(V_main_arg0 m c).trans H.q]
  rfl

/-- The output as an array of rows. -/
theorem out_row (H : Given m Q K V' G S c) (n : Fin 16384) (k : Fin 1024) : V m c main_v72 (ix2 n k) = ((oArr Q K V' S n k : ℝ) : EReal) := by
  have e : row ⟨n.val / 128, by omega⟩ ⟨n.val % 128, by omega⟩ = n := Fin.ext (by show n.val / 128 * 128 + n.val % 128 = n.val; omega)
  have e' := qcol_split k
  rw [← e, ← e', oArr_at]
  exact out_at H _ _ _ _ _

/-- The outputs. -/
theorem read_2 (H : Given m Q K V' G S c) (t : Fin cfg0.N) : IsRows (iblk m c 2 t) (oArr Q K V' S) (stp t) := by
  intro i k
  have p : ((cfg0.win 2).blk t).view.emb (ix2 i k) = ix2 (n0 := 16384) (n1 := 1024) ⟨(stp t).val * 256 + i.val, by omega⟩ k := by
    blk_ext [idx_2]
    rfl
  exact ((block_2 t _).trans (congrArg (V m c main_v72) p)).trans (out_row H _ k)

/-- The cotangents. -/
theorem read_3 (H : Given m Q K V' G S c) (t : Fin cfg0.N) : IsRows (iblk m c 3 t) G (stp t) := by
  intro i k
  have p : ((cfg0.win 3).blk t).view.emb (ix2 i k) = ix2 (n0 := 16384) (n1 := 1024) ⟨(stp t).val * 256 + i.val, by omega⟩ k := by
    blk_ext [idx_3]
    rfl
  show V m c main_arg3 (((cfg0.win 3).blk t).view.emb (ix2 i k)) = _
  rw [p]
  rw [(V_main_arg3 m c).trans H.g]
  rfl

/-- The logarithms. -/
theorem read_4 (H : Given m Q K V' G S c) (t : Fin cfg0.N) (g : Fin 4) (s : Fin 2) (h : Fin 4) (r : Fin 128) :
    iblk m c 4 t (ix4 (n0 := 4) (n1 := 2) (n2 := 512) (n3 := 1) g s (srow h r) 0) = ((lse Q K S (blk (stp t) s) g h r : ℝ) : EReal) :=
  ((block_4 t _).trans (congrArg (V m c main_v76) (emb_4 t g s (srow h r)))).trans (lse_at H (blk (stp t) s) r g h)

/-- Three pieces of keys make a step's window. -/
theorem isWin_of (x0 x2 : FVec Ideal S128x256 .bf16) (x1 : FVec Ideal S256x256 .bf16) (hc) (A : Fin 16384 → Fin 256 → ℝ) (t : Fin 64)
    (h0 : ∀ (i : Fin 128) k, x0 (ix2 i k) = ((A ⟨(t.val * 2 - 1) * 128 + i.val, by omega⟩ k : ℝ) : EReal))
    (h1 : ∀ (i : Fin 256) k, x1 (ix2 i k) = ((A ⟨t.val * 256 + i.val, by omega⟩ k : ℝ) : EReal))
    (h2 : ∀ (i : Fin 128) k, x2 (ix2 i k) = ((A ⟨min (t.val * 2 + 2) 127 * 128 + i.val, by omega⟩ k : ℝ) : EReal)) :
    IsWin (concatenate S512x256 0 [⟨S128x256, x0⟩, ⟨S256x256, x1⟩, ⟨S128x256, x2⟩] hc) A t := by
  intro i k
  by_cases c0 : i.val < 128
  · refine (concatenate_apply_piece 0 _ hc (ix2 i k) 0 (by simp) S128x256 x0 rfl rfl 0 rfl (ix2 ⟨i.val, c0⟩ k)
      (fun b hb => by
        match b with
        | ⟨0, _⟩ => exact absurd rfl hb
        | ⟨1, _⟩ => rfl) (Nat.zero_add _)).trans ((h0 _ _).trans (congrArg (fun n : Fin 16384 => ((A n k : ℝ) : EReal)) (Fin.ext ?_)))
    show (t.val * 2 - 1) * 128 + i.val = min (max (t.val * 2 + i.val / 128) 1 - 1) 127 * 128 + i.val % 128
    omega
  by_cases c1 : i.val < 384
  · refine (concatenate_apply_piece 0 _ hc (ix2 i k) 1 (by simp) S256x256 x1 rfl rfl 128 rfl (ix2 ⟨i.val - 128, by omega⟩ k)
      (fun b hb => by
        match b with
        | ⟨0, _⟩ => exact absurd rfl hb
        | ⟨1, _⟩ => rfl) (by show 128 + (i.val - 128) = i.val; omega)).trans ((h1 _ _).trans (congrArg (fun n : Fin 16384 => ((A n k : ℝ) : EReal)) (Fin.ext ?_)))
    show t.val * 256 + (i.val - 128) = min (max (t.val * 2 + i.val / 128) 1 - 1) 127 * 128 + i.val % 128
    omega
  · refine (concatenate_apply_piece 0 _ hc (ix2 i k) 2 (by simp) S128x256 x2 rfl rfl 384 rfl (ix2 ⟨i.val - 384, by omega⟩ k)
      (fun b hb => by
        match b with
        | ⟨0, _⟩ => exact absurd rfl hb
        | ⟨1, _⟩ => rfl) (by show 384 + (i.val - 384) = i.val; omega)).trans ((h2 _ _).trans (congrArg (fun n : Fin 16384 => ((A n k : ℝ) : EReal)) (Fin.ext ?_)))
    show min (t.val * 2 + 2) 127 * 128 + (i.val - 384) = min (max (t.val * 2 + i.val / 128) 1 - 1) 127 * 128 + i.val % 128
    omega

/-- A piece of the keys. -/
theorem read_5 (H : Given m Q K V' G S c) (t : Fin cfg0.N) (i : Fin 128) (k : Fin 256) :
    iblk m c 5 t (ix2 i k) = ((K ⟨((stp t).val * 2 - 1) * 128 + i.val, by omega⟩ k : ℝ) : EReal) := by
  have p : ((cfg0.win 5).blk t).view.emb (ix2 i k) = ix2 (n0 := 16384) (n1 := 256) ⟨((stp t).val * 2 - 1) * 128 + i.val, by omega⟩ k := by
    blk_ext [idx_5]
    rfl
  show V m c main_arg1 (((cfg0.win 5).blk t).view.emb (ix2 i k)) = _
  rw [p, (V_main_arg1 m c).trans H.k]
  rfl

/-- A piece of the keys. -/
theorem read_6 (H : Given m Q K V' G S c) (t : Fin cfg0.N) (i : Fin 256) (k : Fin 256) :
    iblk m c 6 t (ix2 i k) = ((K ⟨(stp t).val * 256 + i.val, by omega⟩ k : ℝ) : EReal) := by
  have p : ((cfg0.win 6).blk t).view.emb (ix2 i k) = ix2 (n0 := 16384) (n1 := 256) ⟨(stp t).val * 256 + i.val, by omega⟩ k := by
    blk_ext [idx_6]
    rfl
  show V m c main_arg1 (((cfg0.win 6).blk t).view.emb (ix2 i k)) = _
  rw [p, (V_main_arg1 m c).trans H.k]
  rfl

/-- A piece of the keys. -/
theorem read_7 (H : Given m Q K V' G S c) (t : Fin cfg0.N) (i : Fin 128) (k : Fin 256) :
    iblk m c 7 t (ix2 i k) = ((K ⟨min ((stp t).val * 2 + 2) 127 * 128 + i.val, by omega⟩ k : ℝ) : EReal) := by
  have p : ((cfg0.win 7).blk t).view.emb (ix2 i k) = ix2 (n0 := 16384) (n1 := 256) ⟨min ((stp t).val * 2 + 2) 127 * 128 + i.val, by omega⟩ k := by
    blk_ext [idx_7]
    rfl
  show V m c main_arg1 (((cfg0.win 7).blk t).view.emb (ix2 i k)) = _
  rw [p, (V_main_arg1 m c).trans H.k]
  rfl

/-- A piece of the values. -/
theorem read_8 (H : Given m Q K V' G S c) (t : Fin cfg0.N) (i : Fin 128) (k : Fin 256) :
    iblk m c 8 t (ix2 i k) = ((V' ⟨((stp t).val * 2 - 1) * 128 + i.val, by omega⟩ k : ℝ) : EReal) := by
  have p : ((cfg0.win 8).blk t).view.emb (ix2 i k) = ix2 (n0 := 16384) (n1 := 256) ⟨((stp t).val * 2 - 1) * 128 + i.val, by omega⟩ k := by
    blk_ext [idx_8]
    rfl
  show V m c main_arg2 (((cfg0.win 8).blk t).view.emb (ix2 i k)) = _
  rw [p, (V_main_arg2 m c).trans H.v]
  rfl

/-- A piece of the values. -/
theorem read_9 (H : Given m Q K V' G S c) (t : Fin cfg0.N) (i : Fin 256) (k : Fin 256) :
    iblk m c 9 t (ix2 i k) = ((V' ⟨(stp t).val * 256 + i.val, by omega⟩ k : ℝ) : EReal) := by
  have p : ((cfg0.win 9).blk t).view.emb (ix2 i k) = ix2 (n0 := 16384) (n1 := 256) ⟨(stp t).val * 256 + i.val, by omega⟩ k := by
    blk_ext [idx_9]
    rfl
  show V m c main_arg2 (((cfg0.win 9).blk t).view.emb (ix2 i k)) = _
  rw [p, (V_main_arg2 m c).trans H.v]
  rfl

/-- A piece of the values. -/
theorem read_10 (H : Given m Q K V' G S c) (t : Fin cfg0.N) (i : Fin 128) (k : Fin 256) :
    iblk m c 10 t (ix2 i k) = ((V' ⟨min ((stp t).val * 2 + 2) 127 * 128 + i.val, by omega⟩ k : ℝ) : EReal) := by
  have p : ((cfg0.win 10).blk t).view.emb (ix2 i k) = ix2 (n0 := 16384) (n1 := 256) ⟨min ((stp t).val * 2 + 2) 127 * 128 + i.val, by omega⟩ k := by
    blk_ext [idx_10]
    rfl
  show V m c main_arg2 (((cfg0.win 10).blk t).view.emb (ix2 i k)) = _
  rw [p, (V_main_arg2 m c).trans H.v]
  rfl

/-- Every step's blocks are real. -/
theorem blockReads (H : Given m Q K V' G S c) (t : Fin cfg0.N) : BlockReads m Q K V' G S c t where
  sink := read_0 H t
  q := read_1 H t
  o := read_2 H t
  g := read_3 H t
  l := read_4 H t
  k := isWin_of _ _ _ concatenates_S128x256_S256x256_S128x256_S512x256_d0 _ _ (read_5 H t) (read_6 H t) (read_7 H t)
  v := isWin_of _ _ _ concatenates_S128x256_S256x256_S128x256_S512x256_d0 _ _ (read_8 H t) (read_9 H t) (read_10 H t)

end Cert.Kern
-- ==== Proof.Kern.Arrays.lean ====
module

public import proofs.«01_k».proof.Proof.Kern.Blocks

@[expose] public section

/-! The four arrays the kernel leaves. -/

set_option maxRecDepth 16384

namespace Cert.Kern
open Cert.KernelIdeal Cert.KernelIdeal.Gen Idealize.ShloMosaic Idealize.ShloMosaic.TcCoe Idealize.SL.Sem Cert.Spec
open Idealize.ShloMosaic.Pipeline (Dat)

theorem idx_11 : ∀ t : Fin cfg0.N, win0_11.index t = ![t.val, 0] := by decide +kernel
theorem idx_12 : ∀ t : Fin cfg0.N, win0_12.index t = ![t.val, 0, 0] := by decide +kernel
theorem idx_13 : ∀ t : Fin cfg0.N, win0_13.index t = ![t.val, 0, 0] := by decide +kernel

variable {m : (ℓ : Loc nD τ sig) → Buf (Elt Ideal) ℓ} {Q : Fin 16384 → Fin 1024 → ℝ} {K V' : Fin 16384 → Fin 256 → ℝ}
  {G : Fin 16384 → Fin 1024 → ℝ} {S : Fin 16 → ℝ} {c : Dev nD}

/-- The gradient of the queries as an array. -/
noncomputable def dqArr (Q : Fin 16384 → Fin 1024 → ℝ) (K V' : Fin 16384 → Fin 256 → ℝ) (G : Fin 16384 → Fin 1024 → ℝ) (S : Fin 16 → ℝ) :
    FVec Ideal S16384x1024 .bf16 := fun i => ((qArr (dq Q K V' G S) (i 0) (i 1) : ℝ) : EReal)

/-- The gradient of the keys' windows as an array. -/
noncomputable def dkArr (Q : Fin 16384 → Fin 1024 → ℝ) (K V' : Fin 16384 → Fin 256 → ℝ) (G : Fin 16384 → Fin 1024 → ℝ) (S : Fin 16 → ℝ) :
    FVec Ideal S128x384x256 .f32 := fun i => ((kRow (dk Q K V' G S (i 0) (i 1)) (i 2) : ℝ) : EReal)

/-- The gradient of the values' windows as an array. -/
noncomputable def dvArr (Q : Fin 16384 → Fin 1024 → ℝ) (K : Fin 16384 → Fin 256 → ℝ) (G : Fin 16384 → Fin 1024 → ℝ) (S : Fin 16 → ℝ) :
    FVec Ideal S128x384x256 .f32 := fun i => ((kRow (dv Q K G S (i 0) (i 1)) (i 2) : ℝ) : EReal)

/-- The kernel's gradient of the queries. -/
theorem arr_11 (H : Given m Q K V' G S c) : (dats m 0 c).arrAt 11 cfg0.N = dqArr Q K V' G S := by
  refine (dats m 0 c).arrAt_eq_of_covers 11 _ (by decide +kernel) fun t hf y => ?_
  rw [after0_11]
  obtain ⟨i, j, rfl⟩ : ∃ (i : Fin 256) (j : Fin 1024), y = ix2 i j := ⟨y 0, y 1, by funext a; match a with | ⟨0, _⟩ => rfl | ⟨1, _⟩ => rfl⟩
  have p : ((cfg0.win 11).blk t).view.emb (ix2 i j) = ix2 (n0 := 16384) (n1 := 1024) ⟨(stp t).val * 256 + i.val, by omega⟩ j := by
    blk_ext [idx_11]
    rfl
  have q : (cfg0.win 11).xinj (cfg0.grid.coords t) (ix2 i j) = ix2 (n0 := 256) (n1 := 1024) i j := by
    funext a; match a with | ⟨0, _⟩ => rfl | ⟨1, _⟩ => rfl
  rw [p, q]
  exact (cast_eq _ _).trans (step11 m c t (blockReads H t) i j)

/-- The kernel's gradient of the windows of keys. -/
theorem arr_12 (H : Given m Q K V' G S c) : (dats m 0 c).arrAt 12 cfg0.N = dkArr Q K V' G S := by
  refine (dats m 0 c).arrAt_eq_of_covers 12 _ (by decide +kernel) fun t hf y => ?_
  rw [after0_12]
  obtain ⟨i, j, k, rfl⟩ : ∃ (i : Fin 2) (j : Fin 384) (k : Fin 256), y = ix3 i j k :=
    ⟨y 0, y 1, y 2, by funext a; match a with | ⟨0, _⟩ => rfl | ⟨1, _⟩ => rfl | ⟨2, _⟩ => rfl⟩
  have p : ((cfg0.win 12).blk t).view.emb (ix3 i j k) = ix3 (n0 := 128) (n1 := 384) (n2 := 256) (blk (stp t) i) j k := by
    blk_ext [idx_12]
    rfl
  have q : (cfg0.win 12).xinj (cfg0.grid.coords t) (ix3 i j k) = ix3 (n0 := 2) (n1 := 384) (n2 := 256) i j k := by
    funext a; match a with | ⟨0, _⟩ => rfl | ⟨1, _⟩ => rfl | ⟨2, _⟩ => rfl
  rw [p, q]
  exact (cast_eq _ _).trans (step12 m c t (blockReads H t) i j k)

/-- The kernel's gradient of the windows of values. -/
theorem arr_13 (H : Given m Q K V' G S c) : (dats m 0 c).arrAt 13 cfg0.N = dvArr Q K G S := by
  refine (dats m 0 c).arrAt_eq_of_covers 13 _ (by decide +kernel) fun t hf y => ?_
  rw [after0_13]
  obtain ⟨i, j, k, rfl⟩ : ∃ (i : Fin 2) (j : Fin 384) (k : Fin 256), y = ix3 i j k :=
    ⟨y 0, y 1, y 2, by funext a; match a with | ⟨0, _⟩ => rfl | ⟨1, _⟩ => rfl | ⟨2, _⟩ => rfl⟩
  have p : ((cfg0.win 13).blk t).view.emb (ix3 i j k) = ix3 (n0 := 128) (n1 := 384) (n2 := 256) (blk (stp t) i) j k := by
    blk_ext [idx_13]
    rfl
  have q : (cfg0.win 13).xinj (cfg0.grid.coords t) (ix3 i j k) = ix3 (n0 := 2) (n1 := 384) (n2 := 256) i j k := by
    funext a; match a with | ⟨0, _⟩ => rfl | ⟨1, _⟩ => rfl | ⟨2, _⟩ => rfl
  rw [p, q]
  exact (cast_eq _ _).trans (step13 m c t (blockReads H t) i j k)

/-- A step's part of the sinks' gradient, by number. -/
noncomputable def partAt (Q : Fin 16384 → Fin 1024 → ℝ) (K V' : Fin 16384 → Fin 256 → ℝ) (G : Fin 16384 → Fin 1024 → ℝ) (S : Fin 16 → ℝ) (k : Fin 16) (n : ℕ) : ℝ :=
  if h : n < 64 then part Q K V' G S ⟨n, h⟩ k else 0

/-- The running sum of the sinks' gradient. -/
theorem acc_14 (H : Given m Q K V' G S c) : ∀ (n : ℕ) (hn : n < cfg0.N),
    IsD (outsAt0 m c n hn).2.2.2 fun k => -∑ i ∈ Finset.range (n + 1), partAt Q K V' G S k i
  | 0, hn => fun k => (first14 m c ⟨0, hn⟩ rfl (blockReads H _) k).trans (congrArg _ (by
      beta_reduce
      rw [zero_sub, zero_add, Finset.sum_range_one, partAt, dif_pos (by decide)]; rfl))
  | n + 1, hn => fun k => by
    have hn' : n + 1 < 64 := hn
    refine (next14 m c ⟨n + 1, hn⟩ (by show ¬ (n + 1) % 64 = 0; omega) (blockReads H _) _ (acc_14 H n (by omega)) k).trans (congrArg _ ?_)
    beta_reduce
    rw [Finset.sum_range_succ _ (n + 1), neg_add, ← sub_eq_add_neg]
    congr 1
    rw [partAt, dif_pos hn']
    rfl

/-- The last grid step. -/
def lastStep : Fin cfg0.N := ⟨63, by decide⟩

/-- The sum over the steps is the sum over the blocks. -/
theorem sum_parts (g h : Fin 4) : (∑ i ∈ Finset.range 64, partAt Q K V' G S (scol g h) i) = ∑ b : Fin 128, ∑ r : Fin 128, sinkPart Q K V' G S b g h r := by
  have e : ∀ n : ℕ, ∀ hn : n < 64, partAt Q K V' G S (scol g h) n
      = (∑ r, sinkPart Q K V' G S (blk ⟨n, hn⟩ 0) g h r) + ∑ r, sinkPart Q K V' G S (blk ⟨n, hn⟩ 1) g h r := by
    intro n hn
    have e1 : (⟨(scol g h).val / 4, by omega⟩ : Fin 4) = g := Fin.ext (by show (g.val * 4 + h.val) / 4 = _; omega)
    have e2 : (⟨(scol g h).val % 4, by omega⟩ : Fin 4) = h := Fin.ext (by show (g.val * 4 + h.val) % 4 = _; omega)
    rw [partAt, dif_pos hn, part, e1, e2]
  set f : ℕ → ℝ := fun b => if hb : b < 128 then ∑ r, sinkPart Q K V' G S ⟨b, hb⟩ g h r else 0 with hf
  have two : ∀ n : ℕ, n ≤ 64 → (∑ i ∈ Finset.range n, partAt Q K V' G S (scol g h) i) = ∑ b ∈ Finset.range (n * 2), f b := by
    intro n
    induction n with
    | zero => intro _; rfl
    | succ n ih =>
      intro hn
      have h0 : n * 2 < 128 := by omega
      have h1 : n * 2 + 1 < 128 := by omega
      rw [Finset.sum_range_succ, ih (by omega), e n (by omega), show (n + 1) * 2 = n * 2 + 1 + 1 by omega, Finset.sum_range_succ,
        Finset.sum_range_succ, add_assoc]
      congr 1
      simp only [hf, dif_pos h0, dif_pos h1]
      rfl
  rw [two 64 le_rfl, Finset.sum_range]
  exact Finset.sum_congr rfl fun b _ => by simp only [hf, dif_pos b.isLt]

/-- The kernel's gradient of the sinks. -/
theorem arr_14 (H : Given m Q K V' G S c) (g h : Fin 4) :
    ((dats m 0 c).arrAt 14 cfg0.N : S1x16.Idx → EReal) (ix2 0 (scol g h)) = ((dsink Q K V' G S g h : ℝ) : EReal) := by
  have e : (dats m 0 c).arrAt 14 cfg0.N = (outsAt0 m c lastStep.val lastStep.isLt).2.2.2 := by
    refine (dats m 0 c).arrAt_eq_of_after_last 14 lastStep (by decide +kernel) _ fun j => ?_
    rw [after0_14]
    generalize (outsAt0 m c lastStep.val lastStep.isLt).2.2.2 = X
    exact (cast_eq _ _).trans (congrArg X (funext fun a => Fin.ext rfl))
  rw [e]
  refine (acc_14 H lastStep.val lastStep.isLt (scol g h)).trans (congrArg _ ?_)
  rw [dsink, ← sum_parts]
  rfl

end Cert.Kern
-- ==== Proof.Same.lean ====
module

public import proofs.«01_k».proof.Proof.Ref.Out
public import proofs.«01_k».proof.Proof.Kern.Arrays
public import proofs.«01_k».proof.Proof.Gen.ReferenceIdeal.Run

@[expose] public section

/-! The kernel's arrays are the reference's. -/

namespace Cert.Same
open Idealize.ShloMosaic Idealize.ShloMosaic.TcCoe Idealize.SL.Sem Cert.Spec

variable (Q : Fin 16384 → Fin 1024 → ℝ) (K V : Fin 16384 → Fin 256 → ℝ) (G : Fin 16384 → Fin 1024 → ℝ) (S : Fin 16 → ℝ)

/-- A row by its block and its place there. -/
theorem row_split (n : Fin 16384) : row ⟨n.val / 128, by omega⟩ ⟨n.val % 128, by omega⟩ = n :=
  Fin.ext (by show n.val / 128 * 128 + n.val % 128 = n.val; omega)

/-- A sink by its group and its place there. -/
theorem scol_split (k : Fin 16) : scol ⟨k.val / 4, by omega⟩ ⟨k.val % 4, by omega⟩ = k :=
  Fin.ext (by show k.val / 4 * 4 + k.val % 4 = k.val; omega)

/-- The gradient of the queries. -/
theorem dq_eq : Cert.ReferenceIdeal.Read.val_main_v142 (F := Ideal) (Ref.qarg Q) (Ref.karg K) (Ref.karg V) (Ref.qarg G) (Ref.sarg S) = Kern.dqArr Q K V G S := by
  funext i
  obtain ⟨n, c, rfl⟩ : ∃ (n : Fin 16384) (c : Fin 1024), i = ix2 n c := ⟨i 0, i 1, by funext a; match a with | ⟨0, _⟩ => rfl | ⟨1, _⟩ => rfl⟩
  have h := Ref.v142_at Q K V G S ⟨n.val / 128, by omega⟩ ⟨n.val % 128, by omega⟩ ⟨c.val / 256, by omega⟩ ⟨c.val / 64 % 4, by omega⟩ ⟨c.val % 64, by omega⟩
  rw [row_split, Kern.qcol_split] at h
  exact h

/-- The gradient of the windows of keys. -/
theorem dk_eq : Cert.ReferenceIdeal.Read.val_main_v143 (F := Ideal) (Ref.qarg Q) (Ref.karg K) (Ref.karg V) (Ref.qarg G) (Ref.sarg S) = Kern.dkArr Q K V G S := by
  funext i
  obtain ⟨b, j, c, rfl⟩ : ∃ (b : Fin 128) (j : Fin 384) (c : Fin 256), i = ix3 b j c :=
    ⟨i 0, i 1, i 2, by funext a; match a with | ⟨0, _⟩ => rfl | ⟨1, _⟩ => rfl | ⟨2, _⟩ => rfl⟩
  have h := Ref.v143_at Q K V G S b j ⟨c.val / 64, by omega⟩ ⟨c.val % 64, by omega⟩
  rw [Kern.kcol_split] at h
  exact h

/-- The gradient of the windows of values. -/
theorem dv_eq : Cert.ReferenceIdeal.Read.val_main_v144 (F := Ideal) (Ref.qarg Q) (Ref.karg K) (Ref.qarg G) (Ref.sarg S) = Kern.dvArr Q K G S := by
  funext i
  obtain ⟨b, j, c, rfl⟩ : ∃ (b : Fin 128) (j : Fin 384) (c : Fin 256), i = ix3 b j c :=
    ⟨i 0, i 1, i 2, by funext a; match a with | ⟨0, _⟩ => rfl | ⟨1, _⟩ => rfl | ⟨2, _⟩ => rfl⟩
  have h := Ref.v144_at Q K G S b j ⟨c.val / 64, by omega⟩ ⟨c.val % 64, by omega⟩
  rw [Kern.kcol_split] at h
  exact h

open Cert.KernelIdeal Cert.KernelIdeal.Gen in
/-- The gradient of the sinks. -/
theorem dsink_eq {m : (ℓ : Loc nD τ sig) → Buf (Elt Ideal) ℓ} {c : Dev nD} {Q : Fin 16384 → Fin 1024 → ℝ} {K V : Fin 16384 → Fin 256 → ℝ}
    {G : Fin 16384 → Fin 1024 → ℝ} {S : Fin 16 → ℝ} (H : Kern.Given m Q K V G S c) :
    Cert.ReferenceIdeal.Read.val_main_v145 (F := Ideal) (Ref.qarg Q) (Ref.karg K) (Ref.karg V) (Ref.qarg G) (Ref.sarg S) = (dats m 0 c).arrAt 14 cfg0.N := by
  funext i
  obtain ⟨z, k, rfl⟩ : ∃ (z : Fin 1) (k : Fin 16), i = ix2 z k := ⟨i 0, i 1, by funext a; match a with | ⟨0, _⟩ => rfl | ⟨1, _⟩ => rfl⟩
  obtain rfl : z = 0 := Subsingleton.elim _ _
  have h1 := Ref.v145_at Q K V G S ⟨k.val / 4, by omega⟩ ⟨k.val % 4, by omega⟩
  have h2 := Kern.arr_14 H ⟨k.val / 4, by omega⟩ ⟨k.val % 4, by omega⟩
  rw [scol_split] at h1 h2
  exact h1.trans h2.symm

end Cert.Same
-- ==== Proof.Ffn.Slope.lean ====
module

public import proofs.«01_k».proof.Proof.Row

@[expose] public section

/-! The gate of the feed-forward layer on real numbers: the logistic function, the hidden value `a · sig a · b` and its two slopes. -/

namespace Cert.Slope
open Idealize.ShloMosaic

/-- The word of one. -/
noncomputable abbrev oneW : EReal := Ideal.ofBits .f32 0x3F800000#32

theorem oneW_eq : oneW = ((1 : ℝ) : EReal) := by
  simp [oneW, Ideal.ofBits, Ideal.ieee]
  rw [← EReal.coe_mul, ← EReal.coe_one]
  norm_num

/-- A matrix of real numbers as an array. -/
noncomputable def mat {a b : ℕ} (f : Fin a → Fin b → ℝ) : (⟨2, ![a, b]⟩ : Shape).Idx → EReal := fun i => ((f (i 0) (i 1) : ℝ) : EReal)

/-- The logistic function. -/
noncomputable def sig (a : ℝ) : ℝ := 1 / (1 + Real.exp (-a))

/-- The hidden value. -/
noncomputable def hid (a b : ℝ) : ℝ := a * sig a * b

/-- The slope of the hidden value in its gate. -/
noncomputable def slopeG (a b : ℝ) : ℝ := b * sig a + a * b * (sig a * (1 - sig a))

/-- The slope of the hidden value in its linear factor. -/
noncomputable def slopeU (a : ℝ) : ℝ := a * sig a

theorem den_ne (a : ℝ) : 1 + Real.exp (-a) ≠ 0 := (add_pos one_pos (Real.exp_pos _)).ne'

/-- The reference's logistic. -/
theorem host_sig (a : ℝ) : Ideal.div oneW (oneW + Ideal.exp (-(a : EReal))) = ((sig a : ℝ) : EReal) := by
  rw [oneW_eq, ← EReal.coe_neg, Ideal.exp_coe, ← EReal.coe_add, Row.div_coe_coe _ (den_ne a)]
  rfl

/-- The kernel's logistic. -/
theorem logistic_coe (a : ℝ) : Ideal.logistic (a : EReal) = ((sig a : ℝ) : EReal) := by
  have h := host_sig a
  rw [oneW_eq, EReal.coe_one] at h
  exact h

/-- The kernel's slope in the gate. -/
theorem kern_slopeG (a b : ℝ) : ((b : EReal) * Ideal.logistic (a : EReal)) * (oneW + (a : EReal) * (oneW - Ideal.logistic (a : EReal)))
    = ((slopeG a b : ℝ) : EReal) := by
  rw [logistic_coe, oneW_eq, ← EReal.coe_sub, ← EReal.coe_mul, ← EReal.coe_mul, ← EReal.coe_add, ← EReal.coe_mul]
  congr 1
  rw [slopeG]
  ring

/-- The kernel's slope in the linear factor. -/
theorem kern_slopeU (a : ℝ) : (a : EReal) * Ideal.logistic (a : EReal) = ((slopeU a : ℝ) : EReal) := by
  rw [logistic_coe, ← EReal.coe_mul]
  rfl

/-- The kernel's hidden value. -/
theorem kern_hid (a b : ℝ) : (a : EReal) * Ideal.logistic (a : EReal) * (b : EReal) = ((hid a b : ℝ) : EReal) := by
  rw [logistic_coe, ← EReal.coe_mul, ← EReal.coe_mul]
  rfl

/-- The reference's cotangent of the gate, from the cotangent `z` of the hidden value. -/
theorem ref_gate (a b z : ℝ) (s : EReal) (hs : s = ((sig a : ℝ) : EReal)) :
    ((z : EReal) * (b : EReal)) * s + (a : EReal) * ((z : EReal) * (b : EReal)) * (s * (oneW - s)) = ((z * slopeG a b : ℝ) : EReal) := by
  rw [hs, oneW_eq, ← EReal.coe_sub, ← EReal.coe_mul, ← EReal.coe_mul, ← EReal.coe_mul, ← EReal.coe_mul, ← EReal.coe_mul, ← EReal.coe_add]
  congr 1
  rw [slopeG]
  ring

/-- The reference's cotangent of the linear factor. -/
theorem ref_up (a z : ℝ) (s : EReal) (hs : s = ((sig a : ℝ) : EReal)) :
    ((a : EReal) * s) * (z : EReal) = ((z * slopeU a : ℝ) : EReal) := by
  rw [hs, ← EReal.coe_mul, ← EReal.coe_mul]
  congr 1
  rw [slopeU]
  ring

/-- A sum of products of real numbers. -/
theorem sum_mul {n : ℕ} (f g : Fin n → ℝ) : ∑ k, (f k : EReal) * (g k : EReal) = ((∑ k, f k * g k : ℝ) : EReal) := by
  rw [Row.coe_sum]
  exact Finset.sum_congr rfl fun k _ => (EReal.coe_mul _ _).symm

/-- The number of blocks of columns and the place in one as a column. -/
abbrev col (s : Fin 2) (j : Fin 1408) : Fin 2816 := ⟨s.val * 1408 + j.val, by omega⟩

/-- A gate's column among the gates and linear factors. -/
abbrev gcol (j : Fin 2816) : Fin 5632 := ⟨j.val, by omega⟩

/-- A linear factor's column among the gates and linear factors. -/
abbrev ucol (j : Fin 2816) : Fin 5632 := ⟨2816 + j.val, by omega⟩

end Cert.Slope
-- ==== Proof.Ffn.GateRef.lean ====
module

public import proofs.«01_k».proof.Proof.Gen.GateRefIdeal.Read
public import proofs.«01_k».proof.Proof.Ffn.Slope
public import Idealize.ShloMosaic.Lib.Pointwise.Index

@[expose] public section

/-! The reference of the gate on real arguments. -/

set_option maxRecDepth 16384

namespace Cert.GateRef
open Idealize.ShloMosaic Cert.GateRefIdeal Cert.GateRefIdeal.Gen Cert.GateRefIdeal.Read Cert.Slope

variable (X : Fin 16384 → Fin 1024 → ℝ) (W : Fin 1024 → Fin 5632 → ℝ)

/-- The input of the gate: the product with the weight. -/
noncomputable def lin (i : Fin 16384) (j : Fin 5632) : ℝ := ∑ k, X i k * W k j

/-- The product. -/
theorem v2_at (i : S16384x5632.Idx) : val_main_v2 (F := Ideal) (mat X) (mat W) i = ((lin X W (i 0) (i 1) : ℝ) : EReal) := by
  rw [val_main_v2_apply]
  exact sum_mul _ _

theorem v3_at (i : S16384x2816.Idx) : val_main_v3 (F := Ideal) (mat X) (mat W) i = ((lin X W (i 0) (gcol (i 1)) : ℝ) : EReal) := by
  rw [val_main_v3_apply, v2_at]
  rfl

theorem v4_at (i : S16384x2816.Idx) : val_main_v4 (F := Ideal) (mat X) (mat W) i = ((lin X W (i 0) (ucol (i 1)) : ℝ) : EReal) := by
  rw [val_main_v4_apply, v2_at]
  rfl

theorem v16_at (i : S16384x2816.Idx) : val_main_v16 (F := Ideal) (mat X) (mat W) i = ((lin X W (i 0) (gcol (i 1)) : ℝ) : EReal) := by
  rw [val_main_v16_apply, v2_at]
  rfl

theorem v17_at (i : S16384x2816.Idx) : val_main_v17 (F := Ideal) (mat X) (mat W) i = ((lin X W (i 0) (ucol (i 1)) : ℝ) : EReal) := by
  rw [val_main_v17_apply, v2_at]
  rfl

/-- The logistic of the gate. -/
theorem sig_at (i : S16384x2816.Idx) : val_main_v5_2 (F := Ideal) (mat X) (mat W) i = ((sig (lin X W (i 0) (gcol (i 1))) : ℝ) : EReal) := by
  rw [val_main_v5_2_apply, val_main_call0_v4_apply, val_main_call0_cst_0_apply, val_main_call0_v3_apply, val_main_call0_v2_apply,
    val_main_call0_cst_apply, val_main_call0_v1_apply, val_main_call0_v0_apply, v3_at]
  exact host_sig _

theorem sig2_at (i : S16384x2816.Idx) : val_main_call2_v5 (F := Ideal) (mat X) (mat W) i = ((sig (lin X W (i 0) (gcol (i 1))) : ℝ) : EReal) := by
  rw [val_main_call2_v5_apply, val_main_call2_v4_apply, val_main_call2_cst_0_apply, val_main_call2_v3_apply, val_main_call2_v2_apply,
    val_main_call2_cst_apply, val_main_call2_v1_apply, val_main_call2_v0_apply, v16_at]
  exact host_sig _

/-- The slope in the gate. -/
theorem v10_at (i : S16384x2816.Idx) : val_main_v10 (F := Ideal) (mat X) (mat W) i
    = ((slopeG (lin X W (i 0) (gcol (i 1))) (lin X W (i 0) (ucol (i 1))) : ℝ) : EReal) := by
  rw [val_main_v10_apply, val_main_call1_v1_apply, val_main_call1_v2_apply, val_main_call1_v0_apply, val_main_v9_apply, val_main_v7_apply,
    val_main_cst_apply, val_main_v5_1_apply, val_main_call0_v7_apply, val_main_call0_v6_apply, val_main_call0_cst_1_apply, v4_at, v3_at, sig_at]
  have h := ref_gate (lin X W (i 0) (gcol (i 1))) (lin X W (i 0) (ucol (i 1))) 1 _ rfl
  rw [← oneW_eq, one_mul] at h
  exact h

/-- The slope in the linear factor. -/
theorem v8_at (i : S16384x2816.Idx) : val_main_v8 (F := Ideal) (mat X) (mat W) i = ((slopeU (lin X W (i 0) (gcol (i 1))) : ℝ) : EReal) := by
  rw [val_main_v8_apply, val_main_v7_apply, val_main_cst_apply, val_main_v5_0_apply, v3_at, sig_at]
  have h := ref_up (lin X W (i 0) (gcol (i 1))) 1 _ rfl
  rw [← oneW_eq, one_mul] at h
  exact h

/-- The first result. -/
theorem v14_eq : val_main_v14 (F := Ideal) (mat X) (mat W) = mat fun i j => slopeG (lin X W i (gcol j)) (lin X W i (ucol j)) := by
  funext i
  rw [val_main_v14_apply, val_main_v12_apply]
  show val_main_v11 (F := Ideal) (mat X) (mat W) (idx_main_v12 i) = _
  refine Eq.trans ?_ (v10_at X W i)
  unfold val_main_v11
  generalize val_main_v10 (F := Ideal) (mat X) (mat W) = a
  generalize val_main_v8 (F := Ideal) (mat X) (mat W) = b
  exact concatenate_pair_apply_left 1 a b concatenates_S16384x2816_S16384x2816_S16384x5632_d1 _ rfl i fun d => match d with | ⟨0, _⟩ => rfl | ⟨1, _⟩ => rfl

/-- The second result. -/
theorem v15_eq : val_main_v15 (F := Ideal) (mat X) (mat W) = mat fun i j => slopeU (lin X W i (gcol j)) := by
  funext i
  rw [val_main_v15_apply, val_main_v13_apply]
  show val_main_v11 (F := Ideal) (mat X) (mat W) (idx_main_v13 i) = _
  refine Eq.trans ?_ (v8_at X W i)
  unfold val_main_v11
  generalize val_main_v10 (F := Ideal) (mat X) (mat W) = a
  generalize val_main_v8 (F := Ideal) (mat X) (mat W) = b
  exact concatenate_pair_apply_right 1 a b concatenates_S16384x2816_S16384x2816_S16384x5632_d1 _ rfl rfl i (fun d hd => match d with | ⟨0, _⟩ => rfl | ⟨1, _⟩ => absurd rfl hd)
    (Nat.add_comm _ _)

/-- The third result. -/
theorem v20_eq : val_main_v20 (F := Ideal) (mat X) (mat W) = mat fun i j => hid (lin X W i (gcol j)) (lin X W i (ucol j)) := by
  funext i
  rw [val_main_v20_apply, val_main_v19_apply, val_main_v18_apply, v16_at, v17_at, sig2_at]
  show (_ * _) * _ = _
  rw [← EReal.coe_mul, ← EReal.coe_mul]
  rfl

end Cert.GateRef
-- ==== Proof.Ffn.GateKern.lean ====
module

public import proofs.«01_k».proof.Proof.Gen.GateIdeal.Value
public import proofs.«01_k».proof.Proof.Ffn.Slope
public import Idealize.ShloMosaic.Lib.Pipeline.ValueKit
public import Idealize.ShloMosaic.Lib.StableHlo.RunRead
public import Idealize.ShloMosaic.Lib.Pointwise.Index

@[expose] public section

/-! The kernel's gate on real arguments: 64 steps, each a block of 512 rows by 1408 columns. -/

set_option maxRecDepth 16384

namespace Cert.GateKern
open Idealize.ShloMosaic Idealize.ShloMosaic.TcCoe Idealize.SL.Sem Cert.GateIdeal Cert.GateIdeal.Gen Cert.Slope

/-- A product of two blocks. -/
theorem dot_at (x : FVec Ideal S512x1024 .bf16) (y : FVec Ideal S1024x1408 .bf16) (i : Fin 512) (j : Fin 1408) :
    matmul (F := Ideal) dot_S512x1024_S1024x1408_S512x1408_1_0_0_1_n_n none x y (constant S512x1408 .f32 0x00000000#32) (ix2 i j)
      = ∑ q : Fin 1024, x (ix2 i q) * y (ix2 q j) := by
  pointwise

/-- A slab without its axis of size one. -/
theorem cast_at (y : Vec Ideal S1x1024x1408 .bf16) (q : Fin 1024) (j : Fin 1408) :
    shapeCast S1024x1408 y shapeCasts_S1x1024x1408_S1024x1408 (ix2 q j) = y (ix3 0 q j) :=
  shapeCast_apply _ shapeCasts_S1x1024x1408_S1024x1408 (ix2 q j) (ix3 0 q j)
    (by rewrite [Shape.rowMajor_val_two, Shape.rowMajor_val_three]; show (0 * 1024 + q.val) * 1408 + j.val = q.val * 1408 + j.val; omega)

/-- The gates of a block. -/
theorem pay1_at (x : Vec Ideal S512x1024 .bf16) (y : Vec Ideal S1x1024x1408 .bf16) (i : Fin 512) (j : Fin 1408) :
    k0_pay1 (F := Ideal) x y (ix2 i j) = ∑ q : Fin 1024, x (ix2 i q) * y (ix3 0 q j) := by
  unfold k0_pay1
  exact (dot_at x _ i j).trans (Finset.sum_congr rfl fun q _ => congrArg (x (ix2 i q) * ·) (cast_at y q j))

/-- The linear factors of a block. -/
theorem pay2_at (x : Vec Ideal S512x1024 .bf16) (y : Vec Ideal S1x1024x1408 .bf16) (i : Fin 512) (j : Fin 1408) :
    k0_pay2 (F := Ideal) x y (ix2 i j) = ∑ q : Fin 1024, x (ix2 i q) * y (ix3 0 q j) := by
  unfold k0_pay2
  exact (dot_at x _ i j).trans (Finset.sum_congr rfl fun q _ => congrArg (x (ix2 i q) * ·) (cast_at y q j))

/-- The slopes in the gates, pointwise. -/
theorem pay5_word (x : Vec Ideal S512x1024 .bf16) (y z : Vec Ideal S1x1024x1408 .bf16) (i : S512x1408.Idx) :
    k0_pay5 (F := Ideal) x y z i = (k0_pay2 (F := Ideal) x z i * Ideal.logistic (k0_pay1 (F := Ideal) x y i))
      * (oneW + k0_pay1 (F := Ideal) x y i * (oneW - Ideal.logistic (k0_pay1 (F := Ideal) x y i))) := by
  unfold k0_pay5 k0_pay3
  generalize k0_pay2 (F := Ideal) x z = a
  generalize k0_pay1 (F := Ideal) x y = b
  rfl

/-- The slopes in the linear factors, pointwise. -/
theorem pay6_word (x : Vec Ideal S512x1024 .bf16) (y : Vec Ideal S1x1024x1408 .bf16) (i : S512x1408.Idx) :
    k0_pay6 (F := Ideal) x y i = k0_pay1 (F := Ideal) x y i * Ideal.logistic (k0_pay1 (F := Ideal) x y i) := by
  unfold k0_pay6 k0_pay4 k0_pay3
  generalize k0_pay1 (F := Ideal) x y = b
  rfl

/-- The hidden values, pointwise. -/
theorem pay7_word (x : Vec Ideal S512x1024 .bf16) (y z : Vec Ideal S1x1024x1408 .bf16) (i : S512x1408.Idx) :
    k0_pay7 (F := Ideal) x y z i = k0_pay1 (F := Ideal) x y i * Ideal.logistic (k0_pay1 (F := Ideal) x y i) * k0_pay2 (F := Ideal) x z i := by
  unfold k0_pay7 k0_pay4 k0_pay3
  generalize k0_pay2 (F := Ideal) x z = a
  generalize k0_pay1 (F := Ideal) x y = b
  rfl

theorem idx_0 : ∀ t : Fin cfg0.N, win0_0.index t = ![t.val % 32, 0] := by decide +kernel
theorem idx_1 : ∀ t : Fin cfg0.N, win0_1.index t = ![t.val / 32, 0, 0] := by decide +kernel
theorem idx_2 : ∀ t : Fin cfg0.N, win0_2.index t = ![t.val / 32 + 2, 0, 0] := by decide +kernel
theorem idx_3 : ∀ t : Fin cfg0.N, win0_3.index t = ![t.val % 32, t.val / 32] := by decide +kernel
theorem idx_4 : ∀ t : Fin cfg0.N, win0_4.index t = ![t.val % 32, t.val / 32] := by decide +kernel
theorem idx_5 : ∀ t : Fin cfg0.N, win0_5.index t = ![t.val % 32, t.val / 32] := by decide +kernel

variable (m : (ℓ : Loc nD τ sig) → Buf (Elt Ideal) ℓ) (c : Dev nD)

set_option backward.isDefEq.respectTransparency.types false in
/-- The weight in slabs, as the host lays it. -/
theorem slabs_word : V m c main_v1 = transpose S4x1024x1408 [1, 0, 2]
    (shapeCast S1024x4x1408 (m (c, Proc.tc.devRef main_arg1)) shapeCasts_S1024x5632_S1024x4x1408) transposes_S1024x4x1408_S4x1024x1408_1_0_2 := by
  unfold V
  after_reads_simp
  rfl

/-- A slab of the weight is 1408 of its columns. -/
theorem slabs_at (w : Vec Ideal S1024x5632 .bf16) (ht hs) (s : Fin 4) (q : Fin 1024) (j : Fin 1408) :
    transpose S4x1024x1408 [1, 0, 2] (shapeCast S1024x4x1408 w hs) ht (ix3 s q j)
      = w (ix2 q ⟨s.val * 1408 + j.val, by omega⟩) := by
  refine (transpose_apply _ _ _ _ (ix3 q s j) ?_).trans (shapeCast_apply _ _ _ _ ?_)
  · intro a
    match a with
    | ⟨0, _⟩ => rfl
    | ⟨1, _⟩ => rfl
    | ⟨2, _⟩ => rfl
  · rw [Shape.rowMajor_val_two, Shape.rowMajor_val_three]
    show q.val * 5632 + (s.val * 1408 + j.val) = (q.val * 4 + s.val) * 1408 + j.val
    omega

/-- The rows of a step. -/
abbrev rows (t : Fin cfg0.N) (i : Fin 512) : Fin 16384 := ⟨t.val % 32 * 512 + i.val, by omega⟩

/-- The columns of a step. -/
abbrev cols (t : Fin cfg0.N) (j : Fin 1408) : Fin 2816 := ⟨t.val / 32 * 1408 + j.val, by have h : t.val < 64 := t.isLt; omega⟩

/-- The rows of the input a step reads. -/
theorem read_0 (t : Fin cfg0.N) (i : Fin 512) (q : Fin 1024) : (iblk m c 0 t : S512x1024.Idx → EReal) (ix2 i q)
    = m (c, Proc.tc.devRef main_arg0) (ix2 (rows t i) q) := by
  have p : ((cfg0.win 0).blk t).view.emb (ix2 i q) = ix2 (n0 := 16384) (n1 := 1024) (rows t i) q := by blk_ext [idx_0]
  show V m c main_arg0 (((cfg0.win 0).blk t).view.emb (ix2 i q)) = _
  rw [p, V_main_arg0]

/-- The gates' columns of the weight a step reads. -/
theorem read_1 (t : Fin cfg0.N) (q : Fin 1024) (j : Fin 1408) : (iblk m c 1 t : S1x1024x1408.Idx → EReal) (ix3 0 q j)
    = m (c, Proc.tc.devRef main_arg1) (ix2 q (gcol (cols t j))) := by
  have ht : t.val < 64 := t.isLt
  have p : ((cfg0.win 1).blk t).view.emb (ix3 0 q j) = ix3 (n0 := 4) (n1 := 1024) (n2 := 1408) ⟨t.val / 32, by omega⟩ q j := by
    blk_ext [idx_1]
  show V m c main_v1 (((cfg0.win 1).blk t).view.emb (ix3 0 q j)) = _
  rw [p, slabs_word, slabs_at]

/-- The linear factors' columns of the weight a step reads. -/
theorem read_2 (t : Fin cfg0.N) (q : Fin 1024) (j : Fin 1408) : (iblk m c 2 t : S1x1024x1408.Idx → EReal) (ix3 0 q j)
    = m (c, Proc.tc.devRef main_arg1) (ix2 q (ucol (cols t j))) := by
  have ht : t.val < 64 := t.isLt
  have p : ((cfg0.win 2).blk t).view.emb (ix3 0 q j) = ix3 (n0 := 4) (n1 := 1024) (n2 := 1408) ⟨t.val / 32 + 2, by omega⟩ q j := by
    blk_ext [idx_2]
  show V m c main_v1 (((cfg0.win 2).blk t).view.emb (ix3 0 q j)) = _
  rw [p, slabs_word, slabs_at]
  refine congrArg _ (congrArg (ix2 q) (Fin.ext ?_))
  show (t.val / 32 + 2) * 1408 + j.val = 2816 + (t.val / 32 * 1408 + j.val)
  omega

/-- The arguments are real arrays. -/
structure Given (X : Fin 16384 → Fin 1024 → ℝ) (W : Fin 1024 → Fin 5632 → ℝ) : Prop where
  x : m (c, Proc.tc.devRef main_arg0) = mat X
  w : m (c, Proc.tc.devRef main_arg1) = mat W

variable {m c} {X : Fin 16384 → Fin 1024 → ℝ} {W : Fin 1024 → Fin 5632 → ℝ}

/-- The gates of a step. -/
theorem gates (H : Given m c X W) (t : Fin cfg0.N) (i : Fin 512) (j : Fin 1408) :
    k0_pay1 (F := Ideal) (iblk m c 0 t) (iblk m c 1 t) (ix2 i j) = ((∑ k, X (rows t i) k * W k (gcol (cols t j)) : ℝ) : EReal) := by
  refine (pay1_at _ _ i j).trans (Eq.trans (Finset.sum_congr rfl fun q _ => ?_) (sum_mul _ _))
  exact congrArg₂ (· * ·) ((read_0 m c t i q).trans (congrFun H.x _)) ((read_1 m c t q j).trans (congrFun H.w _))

/-- The linear factors of a step. -/
theorem ups (H : Given m c X W) (t : Fin cfg0.N) (i : Fin 512) (j : Fin 1408) :
    k0_pay2 (F := Ideal) (iblk m c 0 t) (iblk m c 2 t) (ix2 i j) = ((∑ k, X (rows t i) k * W k (ucol (cols t j)) : ℝ) : EReal) := by
  refine (pay2_at _ _ i j).trans (Eq.trans (Finset.sum_congr rfl fun q _ => ?_) (sum_mul _ _))
  exact congrArg₂ (· * ·) ((read_0 m c t i q).trans (congrFun H.x _)) ((read_2 m c t q j).trans (congrFun H.w _))

/-- One store over a whole block, at its index. -/
theorem whole_at (w : S512x1408.Idx → EReal) (i : Fin 512) (j : Fin 1408) :
    View.canon (Val := Elt Ideal) (e := .bf16) [⟨r0_2, w⟩] (ix2 i j) = w (ix2 i j) := by
  have e : r0_2.emb (ix2 i j) = ix2 (n0 := 512) (n1 := 1408) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .bf16) r0_2 w [] (ix2 (n0 := 512) (n1 := 1408) i j)
  rw [e] at h
  exact h

/-- A load of a whole block is the block. -/
theorem ld_0 (x : S512x1024.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

theorem ld_1 (x : S1x1024x1408.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 0 + 1 * (i 2).val = (i 2).val; omega)

/-- A step's slopes in the gates. -/
theorem step3 (H : Given m c X W) (t : Fin cfg0.N) (i : Fin 512) (j : Fin 1408) :
    out0_3 (F := Ideal) (iblk m c 0 t) (iblk m c 1 t) (iblk m c 2 t) (ix2 i j)
      = ((slopeG (∑ k, X (rows t i) k * W k (gcol (cols t j))) (∑ k, X (rows t i) k * W k (ucol (cols t j))) : ℝ) : EReal) := by
  unfold out0_3
  refine (whole_at _ i j).trans ?_
  rw [ld_0, ld_1, ld_1, pay5_word, gates H, ups H]
  exact kern_slopeG _ _

/-- A step's slopes in the linear factors. -/
theorem step4 (H : Given m c X W) (t : Fin cfg0.N) (i : Fin 512) (j : Fin 1408) :
    out0_4 (F := Ideal) (iblk m c 0 t) (iblk m c 1 t) (iblk m c 2 t) (ix2 i j)
      = ((slopeU (∑ k, X (rows t i) k * W k (gcol (cols t j))) : ℝ) : EReal) := by
  unfold out0_4
  refine (whole_at _ i j).trans ?_
  rw [ld_0, ld_1, pay6_word, gates H]
  exact kern_slopeU _

/-- A step's hidden values. -/
theorem step5 (H : Given m c X W) (t : Fin cfg0.N) (i : Fin 512) (j : Fin 1408) :
    out0_5 (F := Ideal) (iblk m c 0 t) (iblk m c 1 t) (iblk m c 2 t) (ix2 i j)
      = ((hid (∑ k, X (rows t i) k * W k (gcol (cols t j))) (∑ k, X (rows t i) k * W k (ucol (cols t j))) : ℝ) : EReal) := by
  unfold out0_5
  refine (whole_at _ i j).trans ?_
  rw [ld_0, ld_1, ld_1, pay7_word, gates H, ups H]
  exact kern_hid _ _

/-- The array of slopes in the gates. -/
theorem arr_3 (H : Given m c X W) : (dats m 0 c).arrAt 3 cfg0.N
    = mat (a := 16384) (b := 2816) fun i j => slopeG (∑ k, X i k * W k (gcol j)) (∑ k, X i k * W k (ucol j)) := by
  refine (dats m 0 c).arrAt_eq_of_covers 3 _ (by decide +kernel) fun t hf y => ?_
  rw [after0_3]
  obtain ⟨i, j, rfl⟩ : ∃ (i : Fin 512) (j : Fin 1408), y = ix2 i j := ⟨y 0, y 1, (ix2_eta y).symm⟩
  have p : ((cfg0.win 3).blk t).view.emb (ix2 i j) = ix2 (n0 := 16384) (n1 := 2816) (rows t i) (cols t j) := by blk_ext [idx_3]
  have q : (cfg0.win 3).xinj (cfg0.grid.coords t) (ix2 i j) = ix2 (n0 := 512) (n1 := 1408) i j := by
    funext a; match a with | ⟨0, _⟩ => rfl | ⟨1, _⟩ => rfl
  rw [p, q]
  exact (cast_eq _ _).trans (step3 H t i j)

/-- The array of slopes in the linear factors. -/
theorem arr_4 (H : Given m c X W) : (dats m 0 c).arrAt 4 cfg0.N
    = mat (a := 16384) (b := 2816) fun i j => slopeU (∑ k, X i k * W k (gcol j)) := by
  refine (dats m 0 c).arrAt_eq_of_covers 4 _ (by decide +kernel) fun t hf y => ?_
  rw [after0_4]
  obtain ⟨i, j, rfl⟩ : ∃ (i : Fin 512) (j : Fin 1408), y = ix2 i j := ⟨y 0, y 1, (ix2_eta y).symm⟩
  have p : ((cfg0.win 4).blk t).view.emb (ix2 i j) = ix2 (n0 := 16384) (n1 := 2816) (rows t i) (cols t j) := by blk_ext [idx_4]
  have q : (cfg0.win 4).xinj (cfg0.grid.coords t) (ix2 i j) = ix2 (n0 := 512) (n1 := 1408) i j := by
    funext a; match a with | ⟨0, _⟩ => rfl | ⟨1, _⟩ => rfl
  rw [p, q]
  exact (cast_eq _ _).trans (step4 H t i j)

/-- The array of hidden values. -/
theorem arr_5 (H : Given m c X W) : (dats m 0 c).arrAt 5 cfg0.N
    = mat (a := 16384) (b := 2816) fun i j => hid (∑ k, X i k * W k (gcol j)) (∑ k, X i k * W k (ucol j)) := by
  refine (dats m 0 c).arrAt_eq_of_covers 5 _ (by decide +kernel) fun t hf y => ?_
  rw [after0_5]
  obtain ⟨i, j, rfl⟩ : ∃ (i : Fin 512) (j : Fin 1408), y = ix2 i j := ⟨y 0, y 1, (ix2_eta y).symm⟩
  have p : ((cfg0.win 5).blk t).view.emb (ix2 i j) = ix2 (n0 := 16384) (n1 := 2816) (rows t i) (cols t j) := by blk_ext [idx_5]
  have q : (cfg0.win 5).xinj (cfg0.grid.coords t) (ix2 i j) = ix2 (n0 := 512) (n1 := 1408) i j := by
    funext a; match a with | ⟨0, _⟩ => rfl | ⟨1, _⟩ => rfl
  rw [p, q]
  exact (cast_eq _ _).trans (step5 H t i j)

end Cert.GateKern
-- ==== Proof.Finite.lean ====
module

public import proofs.«01_k».proof.Proof.Ffn.Slope
public import Idealize.ShloMosaic.PureOps
public import Idealize.ShloMosaic.Lib.StableHlo
public import Idealize.ShloMosaic.Lib.Pointwise.Index

@[expose] public section

/-! Matrices of finite entries are matrices of real numbers. -/

namespace Cert.Finite
open Idealize.ShloMosaic Cert.Slope

/-- An entry whose magnitude is below infinity is a real number. -/
theorem real_of (x : EReal) (h : Ideal.cmp .olt (max x (-x)) (Ideal.ofBits .f32 0x7F800000#32) = 1#1) : ((x.toReal : ℝ) : EReal) = x := by
  have t : Ideal.ofBits .f32 0x7F800000#32 = ⊤ := by simp [Ideal.ofBits, Ideal.ieee]
  rw [t] at h
  have lt : max x (-x) < ⊤ := by
    by_contra hn
    simp [Ideal.cmp, hn] at h
  have h1 : x ≠ ⊤ := fun e => by simp [e] at lt
  have h2 : x ≠ ⊥ := fun e => by simp [e] at lt
  exact EReal.coe_toReal h1 h2

/-- A matrix in the narrow format. -/
theorem narrow {a b : ℕ} (x : FVec Ideal ⟨2, ![a, b]⟩ .bf16) (hb) (hc)
    (h : cmpf .olt (Host.absf (extf .f32 x hb)) (broadcastInDim (s := ⟨0, ![]⟩) ⟨2, ![a, b]⟩ ![] hc (constant ⟨0, ![]⟩ .f32 0x7F800000#32)) = fun _ => 1#1) :
    x = mat fun i j => (x (ix2 (n0 := a) (n1 := b) i j) : EReal).toReal := by
  funext i
  obtain ⟨p, q, rfl⟩ : ∃ (p : Fin a) (q : Fin b), i = ix2 p q := ⟨i 0, i 1, by funext d; match d with | ⟨0, _⟩ => rfl | ⟨1, _⟩ => rfl⟩
  exact (real_of (x (ix2 p q)) (congrFun h (ix2 p q))).symm

/-- A matrix in the wide format. -/
theorem wide {a b : ℕ} (x : FVec Ideal ⟨2, ![a, b]⟩ .f32) (hc)
    (h : cmpf .olt (Host.absf x) (broadcastInDim (s := ⟨0, ![]⟩) ⟨2, ![a, b]⟩ ![] hc (constant ⟨0, ![]⟩ .f32 0x7F800000#32)) = fun _ => 1#1) :
    x = mat fun i j => (x (ix2 (n0 := a) (n1 := b) i j) : EReal).toReal := by
  funext i
  obtain ⟨p, q, rfl⟩ : ∃ (p : Fin a) (q : Fin b), i = ix2 p q := ⟨i 0, i 1, by funext d; match d with | ⟨0, _⟩ => rfl | ⟨1, _⟩ => rfl⟩
  exact (real_of (x (ix2 p q)) (congrFun h (ix2 p q))).symm

end Cert.Finite
-- ==== Proof.Claims.Gate.lean ====
module

public import proofs.«01_k».proof.Defs
public import proofs.«01_k».proof.Proof.Gen.Pre_finite_gate
public import proofs.«01_k».proof.Proof.Gen.GateRefIdeal.Run
public import proofs.«01_k».proof.Proof.Ffn.GateRef
public import proofs.«01_k».proof.Proof.Ffn.GateKern
public import proofs.«01_k».proof.Proof.Finite

@[expose] public section

/-! The claims about the gate of the feed-forward layer. -/

namespace Cert.Claims.Gate
open Idealize.ShloMosaic Idealize.SL.Sem Cert.Slope

/-- The reference declares no semaphore, so its counters are at zero at every final state. -/
theorem sems (s : MemSt Cert.GateRefIdeal.nD Cert.GateRefIdeal.τ Cert.GateRefIdeal.sig (Elt Ideal)) : s.sem = fun _ => 0 := by
  have none : IsEmpty (SemLoc Cert.GateRefIdeal.sig) := Finset.univ_eq_empty_iff.mp (by decide)
  exact funext fun x => none.elim x.2

/-- The reference runs, its arguments end unchanged and its counters at zero. -/
theorem frame : Cert.quiescent_GateRefIdeal (hGateRefIdeal := Cert.GateRefIdeal.Gen.facts) := fun m ρ _ =>
  (θ_run Cert.GateRefIdeal.defs _ _).mono (fun r h => ⟨fun c => (h c).2.2.2, sems r.2⟩) (Cert.GateRefIdeal.Value.run (F := Ideal) m ρ)

/-- At finite arguments the kernel's three arrays are the reference's results, and both programs keep their arguments. -/
theorem algebraic : Cert.algebraic_GateIdeal_GateRefIdeal_pre_finite_gate (hGateIdeal := Cert.GateIdeal.Gen.facts)
    (hGateRefIdeal := Cert.GateRefIdeal.Gen.facts) (hPre_finite_gate := Cert.Pre_finite_gate.Gen.facts) := by
  intro m g m' g' pre same
  have H : ∀ c, ∃ (X : Fin 16384 → Fin 1024 → ℝ) (W : Fin 1024 → Fin 5632 → ℝ), Cert.GateKern.Given m c X W := fun c =>
    ⟨_, _, ⟨Cert.Finite.narrow _ _ _ (pre c).1, Cert.Finite.narrow _ _ _ (pre c).2⟩⟩
  refine ⟨fun c => (Cert.GateIdeal.Gen.dats m 0 c).arrAt 3 Cert.GateIdeal.cfg0.N, fun c => (Cert.GateIdeal.Gen.dats m 0 c).arrAt 4 Cert.GateIdeal.cfg0.N,
    fun c => (Cert.GateIdeal.Gen.dats m 0 c).arrAt 5 Cert.GateIdeal.cfg0.N, Cert.GateIdeal.Value.run_blocks (F := Ideal) m g, ?_⟩
  refine (θ_run Cert.GateRefIdeal.defs _ _).mono (fun r h c => ?_) (Cert.GateRefIdeal.Value.run (F := Ideal) m' g')
  obtain ⟨h0, h1, h2, rest⟩ := h c
  obtain ⟨X, W, given⟩ := H c
  obtain ⟨s0, s1⟩ := same c
  have a0 := s0.trans given.x
  have a1 := s1.trans given.w
  have e0 := h0.trans (Cert.GateRefIdeal.Read.val_main_v14_eq _ _)
  have e1 := h1.trans (Cert.GateRefIdeal.Read.val_main_v15_eq _ _)
  have e2 := h2.trans (Cert.GateRefIdeal.Read.val_main_v20_eq _ _)
  rw [a0, a1] at e0 e1 e2
  exact ⟨e0.trans ((Cert.GateRef.v14_eq X W).trans (Cert.GateKern.arr_3 given).symm),
    e1.trans ((Cert.GateRef.v15_eq X W).trans (Cert.GateKern.arr_4 given).symm),
    e2.trans ((Cert.GateRef.v20_eq X W).trans (Cert.GateKern.arr_5 given).symm), rest⟩

end Cert.Claims.Gate
-- ==== Proof.Ffn.BackRef.lean ====
module

public import proofs.«01_k».proof.Proof.Gen.GateBackRefIdeal.Read
public import proofs.«01_k».proof.Proof.Ffn.Slope
public import Idealize.ShloMosaic.Lib.Pointwise.Index

@[expose] public section

/-! The reference of the way back through the gate on real arguments. -/

set_option maxRecDepth 16384

namespace Cert.BackRef
open Idealize.ShloMosaic Cert.GateBackRefIdeal Cert.GateBackRefIdeal.Gen Cert.GateBackRefIdeal.Read Cert.Slope

variable (G : Fin 16384 → Fin 5632 → ℝ) (W : Fin 2816 → Fin 1024 → ℝ) (Y : Fin 16384 → Fin 1024 → ℝ)

/-- The cotangent of the hidden value. -/
noncomputable def ct (i : Fin 16384) (j : Fin 2816) : ℝ := ∑ k, Y i k * W j k

/-- The product of the cotangent with the weight. -/
theorem v7_at (i : S16384x2816.Idx) : val_main_v7 (F := Ideal) (mat W) (mat Y) i = ((ct W Y (i 0) (i 1) : ℝ) : EReal) := by
  rw [val_main_v7_apply]
  exact sum_mul _ _

theorem v0_at (i : S16384x2816.Idx) : val_main_v0 (F := Ideal) (mat G) i = ((G (i 0) (gcol (i 1)) : ℝ) : EReal) := by
  rw [val_main_v0_apply]
  rfl

theorem v1_at (i : S16384x2816.Idx) : val_main_v1 (F := Ideal) (mat G) i = ((G (i 0) (ucol (i 1)) : ℝ) : EReal) := by
  rw [val_main_v1_apply]
  rfl

/-- The logistic of the gate. -/
theorem sig_at (i : S16384x2816.Idx) : val_main_v2_2 (F := Ideal) (mat G) i = ((sig (G (i 0) (gcol (i 1))) : ℝ) : EReal) := by
  rw [val_main_v2_2_apply, val_main_call0_v4_apply, val_main_call0_cst_0_apply, val_main_call0_v3_apply, val_main_call0_v2_apply,
    val_main_call0_cst_apply, val_main_call0_v1_apply, val_main_call0_v0_apply, v0_at]
  exact host_sig _

/-- The cotangent of the gate. -/
theorem v10_at (i : S16384x2816.Idx) : val_main_v10 (F := Ideal) (mat G) (mat W) (mat Y) i
    = ((ct W Y (i 0) (i 1) * slopeG (G (i 0) (gcol (i 1))) (G (i 0) (ucol (i 1))) : ℝ) : EReal) := by
  rw [val_main_v10_apply, val_main_call1_v1_apply, val_main_call1_v2_apply, val_main_call1_v0_apply, val_main_v9_apply,
    val_main_v2_1_apply, val_main_call0_v7_apply, val_main_call0_v6_apply, val_main_call0_cst_1_apply, v7_at, v1_at, v0_at, sig_at]
  exact ref_gate _ _ _ _ rfl

/-- The cotangent of the linear factor. -/
theorem v8_at (i : S16384x2816.Idx) : val_main_v8 (F := Ideal) (mat G) (mat W) (mat Y) i
    = ((ct W Y (i 0) (i 1) * slopeU (G (i 0) (gcol (i 1))) : ℝ) : EReal) := by
  rw [val_main_v8_apply, val_main_v2_0_apply, v7_at, v0_at, sig_at]
  exact ref_up _ _ _ rfl

/-- The first result. -/
theorem v14_eq : val_main_v14 (F := Ideal) (mat G) (mat W) (mat Y)
    = mat fun i j => (∑ k, Y i k * W j k) * slopeG (G i (gcol j)) (G i (ucol j)) := by
  funext i
  rw [val_main_v14_apply, val_main_v12_apply]
  show val_main_v11 (F := Ideal) (mat G) (mat W) (mat Y) (idx_main_v12 i) = _
  refine Eq.trans ?_ (v10_at G W Y i)
  unfold val_main_v11
  generalize val_main_v10 (F := Ideal) (mat G) (mat W) (mat Y) = a
  generalize val_main_v8 (F := Ideal) (mat G) (mat W) (mat Y) = b
  exact concatenate_pair_apply_left 1 a b concatenates_S16384x2816_S16384x2816_S16384x5632_d1 _ rfl i
    fun d => match d with | ⟨0, _⟩ => rfl | ⟨1, _⟩ => rfl

/-- The second result. -/
theorem v15_eq : val_main_v15 (F := Ideal) (mat G) (mat W) (mat Y)
    = mat fun i j => (∑ k, Y i k * W j k) * slopeU (G i (gcol j)) := by
  funext i
  rw [val_main_v15_apply, val_main_v13_apply]
  show val_main_v11 (F := Ideal) (mat G) (mat W) (mat Y) (idx_main_v13 i) = _
  refine Eq.trans ?_ (v8_at G W Y i)
  unfold val_main_v11
  generalize val_main_v10 (F := Ideal) (mat G) (mat W) (mat Y) = a
  generalize val_main_v8 (F := Ideal) (mat G) (mat W) (mat Y) = b
  exact concatenate_pair_apply_right 1 a b concatenates_S16384x2816_S16384x2816_S16384x5632_d1 _ rfl rfl i
    (fun d hd => match d with | ⟨0, _⟩ => rfl | ⟨1, _⟩ => absurd rfl hd) (Nat.add_comm _ _)

end Cert.BackRef
-- ==== Proof.Ffn.BackKern.lean ====
module

public import proofs.«01_k».proof.Proof.Gen.GateBackIdeal.Value
public import proofs.«01_k».proof.Proof.Ffn.Slope
public import Idealize.ShloMosaic.Lib.Pipeline.ValueKit
public import Idealize.ShloMosaic.Lib.StableHlo.RunRead
public import Idealize.ShloMosaic.Lib.Pointwise.Index

@[expose] public section

/-! The kernel's way back through the gate on real arguments: 64 steps, each a block of 512 rows by 1408 columns, with the slopes from the host. -/

set_option maxRecDepth 16384

namespace Cert.BackKern
open Idealize.ShloMosaic Idealize.ShloMosaic.TcCoe Idealize.SL.Sem Cert.GateBackIdeal Cert.GateBackIdeal.Gen Cert.Slope

/-- The product of a block of the cotangent with a block of the weight's rows. -/
theorem pay1_at (x : Vec Ideal S512x1024 .bf16) (y : Vec Ideal S1408x1024 .bf16) (i : Fin 512) (j : Fin 1408) :
    k0_pay1 (F := Ideal) x y (ix2 i j) = ∑ q : Fin 1024, x (ix2 i q) * y (ix2 j q) := by
  unfold k0_pay1
  pointwise

/-- The first result of a step, pointwise. -/
theorem pay2_word (x : Vec Ideal S512x1024 .bf16) (y : Vec Ideal S1408x1024 .bf16) (s : Vec Ideal S512x1408 .bf16) (i : Fin 512) (j : Fin 1408) :
    k0_pay2 (F := Ideal) x y s (ix2 i j) = k0_pay1 (F := Ideal) x y (ix2 i j) * s (ix2 i j) := by
  unfold k0_pay2
  generalize k0_pay1 (F := Ideal) x y = a
  pointwise

/-- The second result of a step, pointwise. -/
theorem pay3_word (x : Vec Ideal S512x1024 .bf16) (y : Vec Ideal S1408x1024 .bf16) (s : Vec Ideal S512x1408 .bf16) (i : Fin 512) (j : Fin 1408) :
    k0_pay3 (F := Ideal) x y s (ix2 i j) = k0_pay1 (F := Ideal) x y (ix2 i j) * s (ix2 i j) := by
  unfold k0_pay3
  generalize k0_pay1 (F := Ideal) x y = a
  pointwise

theorem idx_0 : ∀ t : Fin cfg0.N, win0_0.index t = ![t.val % 32, 0] := by decide +kernel
theorem idx_1 : ∀ t : Fin cfg0.N, win0_1.index t = ![t.val / 32, 0] := by decide +kernel
theorem idx_2 : ∀ t : Fin cfg0.N, win0_2.index t = ![t.val % 32, t.val / 32] := by decide +kernel
theorem idx_3 : ∀ t : Fin cfg0.N, win0_3.index t = ![t.val % 32, t.val / 32] := by decide +kernel
theorem idx_4 : ∀ t : Fin cfg0.N, win0_4.index t = ![t.val % 32, t.val / 32] := by decide +kernel
theorem idx_5 : ∀ t : Fin cfg0.N, win0_5.index t = ![t.val % 32, t.val / 32] := by decide +kernel

/-! The slopes, as the host computes them. -/

/-- The gates among the columns. -/
abbrev hG (x : FVec Ideal S16384x5632 .f32) : FVec Ideal S16384x2816 .f32 := extractStridedSlice S16384x2816 ![0, 0] x slices_S16384x5632_S16384x2816_0_0

/-- The linear factors among the columns. -/
abbrev hU (x : FVec Ideal S16384x5632 .f32) : FVec Ideal S16384x2816 .f32 := extractStridedSlice S16384x2816 ![0, 2816] x slices_S16384x5632_S16384x2816_0_2816

/-- Ones. -/
noncomputable abbrev hOne : FVec Ideal S16384x2816 .f32 := broadcastInDim S16384x2816 ![] bcast_S_S16384x2816 (constant S_ .f32 0x3F800000#32)

/-- The logistic of an array. -/
noncomputable abbrev hSig (g : FVec Ideal S16384x2816 .f32) : FVec Ideal S16384x2816 .f32 := Host.divf hOne (addf hOne (Host.exp (Host.negf g)))

/-- The slopes in the gates. -/
noncomputable abbrev hDg (g u : FVec Ideal S16384x2816 .f32) : FVec Ideal S16384x2816 .f32 :=
  addf (mulf (mulf hOne u) (hSig g)) (mulf (mulf g (mulf hOne u)) (mulf (hSig g) (subf hOne (hSig g))))

/-- The slopes in the linear factors. -/
noncomputable abbrev hDu (g : FVec Ideal S16384x2816 .f32) : FVec Ideal S16384x2816 .f32 := mulf (mulf g (hSig g)) hOne

/-- Both side by side. -/
noncomputable abbrev hBoth (g u : FVec Ideal S16384x2816 .f32) : FVec Ideal S16384x5632 .f32 :=
  concatenate S16384x5632 1 [⟨S16384x2816, hDg g u⟩, ⟨S16384x2816, hDu g⟩] concatenates_S16384x2816_S16384x2816_S16384x5632_d1

variable (m : (ℓ : Loc nD τ sig) → Buf (Elt Ideal) ℓ) (c : Dev nD)

set_option backward.isDefEq.respectTransparency.types false in
/-- The first slopes are the first half. -/
theorem v11_word : V m c main_v11 = (truncf .bf16 (hG (hBoth (hG (m (c, Proc.tc.devRef main_arg0))) (hU (m (c, Proc.tc.devRef main_arg0))))) bitsLt_bf16_f32
    : FVec Ideal S16384x2816 .bf16) := by
  unfold V
  after_reads_simp
  rfl

set_option backward.isDefEq.respectTransparency.types false in
/-- The second slopes are the second half. -/
theorem v12_word : V m c main_v12 = (truncf .bf16 (hU (hBoth (hG (m (c, Proc.tc.devRef main_arg0))) (hU (m (c, Proc.tc.devRef main_arg0))))) bitsLt_bf16_f32
    : FVec Ideal S16384x2816 .bf16) := by
  unfold V
  after_reads_simp
  rfl

variable {G : Fin 16384 → Fin 5632 → ℝ}

theorem hG_at (x : FVec Ideal S16384x5632 .f32) (i : Fin 16384) (j : Fin 2816) : hG x (ix2 i j) = x (ix2 i (gcol j)) :=
  extractStridedSlice_apply ![0, 0] x slices_S16384x5632_S16384x2816_0_0 (ix2 i j) (ix2 i (gcol j)) (fun a => match a with
    | ⟨0, _⟩ => by show i.val = 0 + i.val; omega
    | ⟨1, _⟩ => by show j.val = 0 + j.val; omega)

theorem hU_at (x : FVec Ideal S16384x5632 .f32) (i : Fin 16384) (j : Fin 2816) : hU x (ix2 i j) = x (ix2 i (ucol j)) :=
  extractStridedSlice_apply ![0, 2816] x slices_S16384x5632_S16384x2816_0_2816 (ix2 i j) (ix2 i (ucol j)) (fun a => match a with
    | ⟨0, _⟩ => by show i.val = 0 + i.val; omega
    | ⟨1, _⟩ => by show 2816 + j.val = 2816 + j.val; omega)

theorem both_left (g u : FVec Ideal S16384x2816 .f32) (i : Fin 16384) (j : Fin 2816) : hBoth g u (ix2 i (gcol j)) = hDg g u (ix2 i j) :=
  concatenate_pair_apply_left 1 (hDg g u) (hDu g) concatenates_S16384x2816_S16384x2816_S16384x5632_d1 _ rfl (ix2 i j)
    fun d => match d with | ⟨0, _⟩ => rfl | ⟨1, _⟩ => rfl

theorem both_right (g u : FVec Ideal S16384x2816 .f32) (i : Fin 16384) (j : Fin 2816) : hBoth g u (ix2 i (ucol j)) = hDu g (ix2 i j) :=
  concatenate_pair_apply_right 1 (hDg g u) (hDu g) concatenates_S16384x2816_S16384x2816_S16384x5632_d1 _ rfl rfl (ix2 i j)
    (fun d hd => match d with | ⟨0, _⟩ => rfl | ⟨1, _⟩ => absurd rfl hd) (Nat.add_comm _ _)

/-- The host's slope in the gate. -/
theorem hDg_at (g u : FVec Ideal S16384x2816 .f32) (i : S16384x2816.Idx) (a b : ℝ) (hg : g i = (a : EReal)) (hu : u i = (b : EReal)) :
    hDg g u i = ((slopeG a b : ℝ) : EReal) := by
  show ((oneW * u i) * Ideal.div oneW (oneW + Ideal.exp (-(g i)))) + (g i * (oneW * u i)) * (Ideal.div oneW (oneW + Ideal.exp (-(g i)))
    * (oneW - Ideal.div oneW (oneW + Ideal.exp (-(g i))))) = _
  rw [hg, hu, host_sig]
  have h := ref_gate a b 1 _ rfl
  rw [← oneW_eq, one_mul] at h
  exact h

/-- The host's slope in the linear factor. -/
theorem hDu_at (g : FVec Ideal S16384x2816 .f32) (i : S16384x2816.Idx) (a : ℝ) (hg : g i = (a : EReal)) :
    hDu g i = ((slopeU a : ℝ) : EReal) := by
  show (g i * Ideal.div oneW (oneW + Ideal.exp (-(g i)))) * oneW = _
  rw [hg, host_sig]
  have h := ref_up a 1 _ rfl
  rw [← oneW_eq, one_mul] at h
  exact h

/-- The rows of a step. -/
abbrev rows (t : Fin cfg0.N) (i : Fin 512) : Fin 16384 := ⟨t.val % 32 * 512 + i.val, by omega⟩

/-- The columns of a step. -/
abbrev cols (t : Fin cfg0.N) (j : Fin 1408) : Fin 2816 := ⟨t.val / 32 * 1408 + j.val, by have h : t.val < 64 := t.isLt; omega⟩

/-- The arguments are real arrays. -/
structure Given (G : Fin 16384 → Fin 5632 → ℝ) (W : Fin 2816 → Fin 1024 → ℝ) (Y : Fin 16384 → Fin 1024 → ℝ) : Prop where
  g : m (c, Proc.tc.devRef main_arg0) = mat G
  w : m (c, Proc.tc.devRef main_arg1) = mat W
  y : m (c, Proc.tc.devRef main_arg2) = mat Y

/-- The rows of the cotangent a step reads. -/
theorem read_0 (t : Fin cfg0.N) (i : Fin 512) (q : Fin 1024) : (iblk m c 0 t : S512x1024.Idx → EReal) (ix2 i q)
    = m (c, Proc.tc.devRef main_arg2) (ix2 (rows t i) q) := by
  have p : ((cfg0.win 0).blk t).view.emb (ix2 i q) = ix2 (n0 := 16384) (n1 := 1024) (rows t i) q := by blk_ext [idx_0]
  show V m c main_arg2 (((cfg0.win 0).blk t).view.emb (ix2 i q)) = _
  rw [p, V_main_arg2]

/-- The rows of the weight a step reads. -/
theorem read_1 (t : Fin cfg0.N) (j : Fin 1408) (q : Fin 1024) : (iblk m c 1 t : S1408x1024.Idx → EReal) (ix2 j q)
    = m (c, Proc.tc.devRef main_arg1) (ix2 (cols t j) q) := by
  have p : ((cfg0.win 1).blk t).view.emb (ix2 j q) = ix2 (n0 := 2816) (n1 := 1024) (cols t j) q := by blk_ext [idx_1]
  show V m c main_arg1 (((cfg0.win 1).blk t).view.emb (ix2 j q)) = _
  rw [p, V_main_arg1]

variable {m c} {W : Fin 2816 → Fin 1024 → ℝ} {Y : Fin 16384 → Fin 1024 → ℝ}

/-- The slopes in the gates a step reads. -/
theorem read_2 (H : Given m c G W Y) (t : Fin cfg0.N) (i : Fin 512) (j : Fin 1408) : (iblk m c 2 t : S512x1408.Idx → EReal) (ix2 i j)
    = ((slopeG (G (rows t i) (gcol (cols t j))) (G (rows t i) (ucol (cols t j))) : ℝ) : EReal) := by
  have p : ((cfg0.win 2).blk t).view.emb (ix2 i j) = ix2 (n0 := 16384) (n1 := 2816) (rows t i) (cols t j) := by blk_ext [idx_2]
  show V m c main_v11 (((cfg0.win 2).blk t).view.emb (ix2 i j)) = _
  rw [p, v11_word]
  refine (hG_at _ _ _).trans ((both_left _ _ _ _).trans (hDg_at _ _ _ _ _ ?_ ?_))
  · exact (hG_at _ _ _).trans (congrFun H.g _)
  · exact (hU_at _ _ _).trans (congrFun H.g _)

/-- The slopes in the linear factors a step reads. -/
theorem read_3 (H : Given m c G W Y) (t : Fin cfg0.N) (i : Fin 512) (j : Fin 1408) : (iblk m c 3 t : S512x1408.Idx → EReal) (ix2 i j)
    = ((slopeU (G (rows t i) (gcol (cols t j))) : ℝ) : EReal) := by
  have p : ((cfg0.win 3).blk t).view.emb (ix2 i j) = ix2 (n0 := 16384) (n1 := 2816) (rows t i) (cols t j) := by blk_ext [idx_3]
  show V m c main_v12 (((cfg0.win 3).blk t).view.emb (ix2 i j)) = _
  rw [p, v12_word]
  refine (hU_at _ _ _).trans ((both_right _ _ _ _).trans (hDu_at _ _ _ ?_))
  exact (hG_at _ _ _).trans (congrFun H.g _)

/-- The cotangents of the hidden values of a step. -/
theorem cts (H : Given m c G W Y) (t : Fin cfg0.N) (i : Fin 512) (j : Fin 1408) :
    k0_pay1 (F := Ideal) (iblk m c 0 t) (iblk m c 1 t) (ix2 i j) = ((∑ k, Y (rows t i) k * W (cols t j) k : ℝ) : EReal) := by
  refine (pay1_at _ _ i j).trans (Eq.trans (Finset.sum_congr rfl fun q _ => ?_) (sum_mul _ _))
  exact congrArg₂ (· * ·) ((read_0 m c t i q).trans (congrFun H.y _)) ((read_1 m c t j q).trans (congrFun H.w _))

/-- One store over a whole block, at its index. -/
theorem whole_at (w : S512x1408.Idx → EReal) (i : Fin 512) (j : Fin 1408) :
    View.canon (Val := Elt Ideal) (e := .bf16) [⟨r0_2, w⟩] (ix2 i j) = w (ix2 i j) := by
  have e : r0_2.emb (ix2 i j) = ix2 (n0 := 512) (n1 := 1408) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .bf16) r0_2 w [] (ix2 (n0 := 512) (n1 := 1408) i j)
  rw [e] at h
  exact h

/-- A load of a whole block is the block. -/
theorem ld_0 (x : S512x1024.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

theorem ld_1 (x : S1408x1024.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

theorem ld_2 (x : S512x1408.Idx → EReal) : View.ld (Val := Elt Ideal) (e' := .bf16) x r0_2 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A step's cotangents of the gates. -/
theorem step4 (H : Given m c G W Y) (t : Fin cfg0.N) (i : Fin 512) (j : Fin 1408) :
    out0_4 (F := Ideal) (iblk m c 0 t) (iblk m c 1 t) (iblk m c 2 t) (iblk m c 3 t) (ix2 i j)
      = (((∑ k, Y (rows t i) k * W (cols t j) k) * slopeG (G (rows t i) (gcol (cols t j))) (G (rows t i) (ucol (cols t j))) : ℝ) : EReal) := by
  unfold out0_4
  refine (whole_at _ i j).trans ?_
  rw [ld_0, ld_1, ld_2, pay2_word, cts H, read_2 H, ← EReal.coe_mul]

/-- A step's cotangents of the linear factors. -/
theorem step5 (H : Given m c G W Y) (t : Fin cfg0.N) (i : Fin 512) (j : Fin 1408) :
    out0_5 (F := Ideal) (iblk m c 0 t) (iblk m c 1 t) (iblk m c 2 t) (iblk m c 3 t) (ix2 i j)
      = (((∑ k, Y (rows t i) k * W (cols t j) k) * slopeU (G (rows t i) (gcol (cols t j))) : ℝ) : EReal) := by
  unfold out0_5
  refine (whole_at _ i j).trans ?_
  rw [ld_0, ld_1, ld_2, pay3_word, cts H, read_3 H, ← EReal.coe_mul]

/-- The array of cotangents of the gates. -/
theorem arr_4 (H : Given m c G W Y) : (dats m 0 c).arrAt 4 cfg0.N
    = mat (a := 16384) (b := 2816) fun i j => (∑ k, Y i k * W j k) * slopeG (G i (gcol j)) (G i (ucol j)) := by
  refine (dats m 0 c).arrAt_eq_of_covers 4 _ (by decide +kernel) fun t hf y => ?_
  rw [after0_4]
  obtain ⟨i, j, rfl⟩ : ∃ (i : Fin 512) (j : Fin 1408), y = ix2 i j := ⟨y 0, y 1, (ix2_eta y).symm⟩
  have p : ((cfg0.win 4).blk t).view.emb (ix2 i j) = ix2 (n0 := 16384) (n1 := 2816) (rows t i) (cols t j) := by blk_ext [idx_4]
  have q : (cfg0.win 4).xinj (cfg0.grid.coords t) (ix2 i j) = ix2 (n0 := 512) (n1 := 1408) i j := by
    funext a; match a with | ⟨0, _⟩ => rfl | ⟨1, _⟩ => rfl
  rw [p, q]
  exact (cast_eq _ _).trans (step4 H t i j)

/-- The array of cotangents of the linear factors. -/
theorem arr_5 (H : Given m c G W Y) : (dats m 0 c).arrAt 5 cfg0.N
    = mat (a := 16384) (b := 2816) fun i j => (∑ k, Y i k * W j k) * slopeU (G i (gcol j)) := by
  refine (dats m 0 c).arrAt_eq_of_covers 5 _ (by decide +kernel) fun t hf y => ?_
  rw [after0_5]
  obtain ⟨i, j, rfl⟩ : ∃ (i : Fin 512) (j : Fin 1408), y = ix2 i j := ⟨y 0, y 1, (ix2_eta y).symm⟩
  have p : ((cfg0.win 5).blk t).view.emb (ix2 i j) = ix2 (n0 := 16384) (n1 := 2816) (rows t i) (cols t j) := by blk_ext [idx_5]
  have q : (cfg0.win 5).xinj (cfg0.grid.coords t) (ix2 i j) = ix2 (n0 := 512) (n1 := 1408) i j := by
    funext a; match a with | ⟨0, _⟩ => rfl | ⟨1, _⟩ => rfl
  rw [p, q]
  exact (cast_eq _ _).trans (step5 H t i j)

end Cert.BackKern
-- ==== Proof.Claims.GateBack.lean ====
module

public import proofs.«01_k».proof.Defs
public import proofs.«01_k».proof.Proof.Gen.Pre_finite_gate_back
public import proofs.«01_k».proof.Proof.Gen.GateBackRefIdeal.Run
public import proofs.«01_k».proof.Proof.Ffn.BackRef
public import proofs.«01_k».proof.Proof.Ffn.BackKern
public import proofs.«01_k».proof.Proof.Finite

@[expose] public section

/-! The claims about the way back through the gate of the feed-forward layer. -/

namespace Cert.Claims.GateBack
open Idealize.ShloMosaic Idealize.SL.Sem Cert.Slope

/-- The reference declares no semaphore, so its counters are at zero at every final state. -/
theorem sems (s : MemSt Cert.GateBackRefIdeal.nD Cert.GateBackRefIdeal.τ Cert.GateBackRefIdeal.sig (Elt Ideal)) : s.sem = fun _ => 0 := by
  have none : IsEmpty (SemLoc Cert.GateBackRefIdeal.sig) := Finset.univ_eq_empty_iff.mp (by decide)
  exact funext fun x => none.elim x.2

/-- The reference runs, its arguments end unchanged and its counters at zero. -/
theorem frame : Cert.quiescent_GateBackRefIdeal (hGateBackRefIdeal := Cert.GateBackRefIdeal.Gen.facts) := fun m ρ _ =>
  (θ_run Cert.GateBackRefIdeal.defs _ _).mono (fun r h => ⟨fun c => (h c).2.2, sems r.2⟩) (Cert.GateBackRefIdeal.Value.run (F := Ideal) m ρ)

/-- At finite arguments the kernel's two arrays are the reference's results, and both programs keep their arguments. -/
theorem algebraic : Cert.algebraic_GateBackIdeal_GateBackRefIdeal_pre_finite_gate_back (hGateBackIdeal := Cert.GateBackIdeal.Gen.facts)
    (hGateBackRefIdeal := Cert.GateBackRefIdeal.Gen.facts) (hPre_finite_gate_back := Cert.Pre_finite_gate_back.Gen.facts) := by
  intro m g m' g' pre same
  have H : ∀ c, ∃ (G : Fin 16384 → Fin 5632 → ℝ) (W : Fin 2816 → Fin 1024 → ℝ) (Y : Fin 16384 → Fin 1024 → ℝ), Cert.BackKern.Given m c G W Y := fun c =>
    ⟨_, _, _, ⟨Cert.Finite.wide _ _ (pre c).1, Cert.Finite.narrow _ _ _ (pre c).2.1, Cert.Finite.narrow _ _ _ (pre c).2.2⟩⟩
  refine ⟨fun c => (Cert.GateBackIdeal.Gen.dats m 0 c).arrAt 4 Cert.GateBackIdeal.cfg0.N,
    fun c => (Cert.GateBackIdeal.Gen.dats m 0 c).arrAt 5 Cert.GateBackIdeal.cfg0.N, Cert.GateBackIdeal.Value.run_blocks (F := Ideal) m g, ?_⟩
  refine (θ_run Cert.GateBackRefIdeal.defs _ _).mono (fun r h c => ?_) (Cert.GateBackRefIdeal.Value.run (F := Ideal) m' g')
  obtain ⟨h0, h1, rest⟩ := h c
  obtain ⟨G, W, Y, given⟩ := H c
  obtain ⟨s0, s1, s2⟩ := same c
  have a0 := s0.trans given.g
  have a1 := s1.trans given.w
  have a2 := s2.trans given.y
  have e0 := h0.trans (Cert.GateBackRefIdeal.Read.val_main_v14_eq _ _ _)
  have e1 := h1.trans (Cert.GateBackRefIdeal.Read.val_main_v15_eq _ _ _)
  rw [a0, a1, a2] at e0 e1
  exact ⟨e0.trans ((Cert.BackRef.v14_eq G W Y).trans (Cert.BackKern.arr_4 given).symm),
    e1.trans ((Cert.BackRef.v15_eq G W Y).trans (Cert.BackKern.arr_5 given).symm), rest⟩

end Cert.Claims.GateBack
-- ==== Proof.Weight.In.lean ====
module

public import proofs.«01_k».proof.Proof.Gen.DwInIdeal.Value
public import proofs.«01_k».proof.Proof.Gen.DwInRefIdeal.Read
public import Idealize.ShloMosaic.Lib.Pipeline.ValueKit
public import Idealize.ShloMosaic.Lib.Pipeline.ReadBack
public import Idealize.ShloMosaic.Lib.Pointwise.Index

@[expose] public section

/-! The gradient of the first feed-forward weight: 32 products of 512 rows, summed into slabs of 1408 columns. -/

set_option maxRecDepth 16384

namespace Cert.Weight.In
open Idealize.ShloMosaic Idealize.ShloMosaic.TcCoe Idealize.SL.Sem Cert.DwInIdeal Cert.DwInIdeal.Gen

/-- A product of two blocks over their rows. -/
theorem part_at (x : FVec Ideal S512x1024 .bf16) (y : FVec Ideal S512x2816 .bf16) (i : Fin 1024) (j : Fin 2816) :
    matmul (F := Ideal) dot_S512x1024_S512x2816_S1024x2816_0_0_1_1_n_n none x y (constant S1024x2816 .f32 0x00000000#32) (ix2 i j)
      = ∑ q : Fin 512, x (ix2 q i) * y (ix2 q j) := by
  pointwise

/-- A slab's number and column as a column of the whole. -/
abbrev col (s : Fin 2) (j : Fin 1408) : Fin 2816 := ⟨s.val * 1408 + j.val, by omega⟩

/-- The first slab's store adds its columns. -/
theorem pay3_at (x : Vec Ideal S512x1024 .bf16) (y : Vec Ideal S512x2816 .bf16) (a : Vec Ideal S1x1024x1408 .f32) (i : Fin 1024) (j : Fin 1408) :
    k0_pay3 (F := Ideal) x y a (ix3 0 i j) = a (ix3 0 i j) + ∑ q : Fin 512, x (ix2 q i) * y (ix2 q (col 0 j)) := by
  unfold k0_pay3
  rw [shapeCast_apply _ shapeCasts_S1024x1408_S1x1024x1408 (ix3 0 i j) (ix2 i j)
    (by rewrite [Shape.rowMajor_val_two, Shape.rowMajor_val_three]; show i.val * 1408 + j.val = (0 * 1024 + i.val) * 1408 + j.val; omega)]
  refine congrArg₂ (· + ·) ?_ ?_
  · exact shapeCast_apply _ shapeCasts_S1x1024x1408_S1024x1408 (ix2 i j) (ix3 0 i j)
      (by rewrite [Shape.rowMajor_val_two, Shape.rowMajor_val_three]; show (0 * 1024 + i.val) * 1408 + j.val = i.val * 1408 + j.val; omega)
  · refine (extractStridedSlice_apply _ _ _ (ix2 i j) (ix2 i (col 0 j)) fun a => ?_).trans (part_at x y i (col 0 j))
    match a with
    | ⟨0, _⟩ => show i.val = 0 + i.val; omega
    | ⟨1, _⟩ => show 0 * 1408 + j.val = 0 + j.val; omega

/-- The second slab's store adds its columns. -/
theorem pay4_at (x : Vec Ideal S512x1024 .bf16) (y : Vec Ideal S512x2816 .bf16) (a : Vec Ideal S1x1024x1408 .f32) (i : Fin 1024) (j : Fin 1408) :
    k0_pay4 (F := Ideal) x y a (ix3 0 i j) = a (ix3 0 i j) + ∑ q : Fin 512, x (ix2 q i) * y (ix2 q (col 1 j)) := by
  unfold k0_pay4
  rw [shapeCast_apply _ shapeCasts_S1024x1408_S1x1024x1408 (ix3 0 i j) (ix2 i j)
    (by rewrite [Shape.rowMajor_val_two, Shape.rowMajor_val_three]; show i.val * 1408 + j.val = (0 * 1024 + i.val) * 1408 + j.val; omega)]
  refine congrArg₂ (· + ·) ?_ ?_
  · exact shapeCast_apply _ shapeCasts_S1x1024x1408_S1024x1408 (ix2 i j) (ix3 0 i j)
      (by rewrite [Shape.rowMajor_val_two, Shape.rowMajor_val_three]; show (0 * 1024 + i.val) * 1408 + j.val = i.val * 1408 + j.val; omega)
  · refine (extractStridedSlice_apply _ _ _ (ix2 i j) (ix2 i (col 1 j)) fun a => ?_).trans (part_at x y i (col 1 j))
    match a with
    | ⟨0, _⟩ => show i.val = 0 + i.val; omega
    | ⟨1, _⟩ => show 1 * 1408 + j.val = 1408 + j.val; omega

/-- The rectangle of the first slab. -/
abbrev slab0 : Rect S2x1024x1408 := Rect.unit ![0, 0, 0] ![1, 1024, 1408] inb_S2x1024x1408_S1x1024x1408_0_0_0
/-- The rectangle of the second slab. -/
abbrev slab1 : Rect S2x1024x1408 := Rect.unit ![1, 0, 0] ![1, 1024, 1408] inb_S2x1024x1408_S1x1024x1408_1_0_0

theorem emb0 (i : Fin 1024) (j : Fin 1408) : slab0.emb (ix3 (n0 := 1) 0 i j) = ix3 (n0 := 2) (n1 := 1024) (n2 := 1408) 0 i j := by
  funext a
  match a with
  | ⟨0, _⟩ => exact Fin.ext rfl
  | ⟨1, _⟩ => exact Fin.ext (by show 0 + 1 * i.val = i.val; omega)
  | ⟨2, _⟩ => exact Fin.ext (by show 0 + 1 * j.val = j.val; omega)

theorem emb1 (i : Fin 1024) (j : Fin 1408) : slab1.emb (ix3 (n0 := 1) 0 i j) = ix3 (n0 := 2) (n1 := 1024) (n2 := 1408) 1 i j := by
  funext a
  match a with
  | ⟨0, _⟩ => exact Fin.ext rfl
  | ⟨1, _⟩ => exact Fin.ext (by show 0 + 1 * i.val = i.val; omega)
  | ⟨2, _⟩ => exact Fin.ext (by show 0 + 1 * j.val = j.val; omega)

theorem off (y : S2x1024x1408.Idx) (h0 : (y 0).val = 0) : y ∉ slab1.set := by
  rw [Rect.mem_set_unit]
  exact fun h => absurd (h 0).1 (by rw [h0]; exact Nat.not_succ_le_zero 0)

theorem off1 (i : Fin 1024) (j : Fin 1408) : ix3 (n0 := 2) (n1 := 1024) (n2 := 1408) 0 i j ∉ slab1.set := off _ rfl

/-- The first slab of a stack of stores. -/
theorem over0 (w1 w0 : S1x1024x1408.Idx → EReal) (L : List (View.Piece (Elt Ideal) S2x1024x1408 .f32)) (i : Fin 1024) (j : Fin 1408) :
    View.canon (Val := Elt Ideal) (⟨slab1, w1⟩ :: ⟨slab0, w0⟩ :: L) (ix3 (n0 := 2) (n1 := 1024) (n2 := 1408) 0 i j)
      = w0 (ix3 (n0 := 1) (n1 := 1024) (n2 := 1408) 0 i j) := by
  have h1 := View.canon_cons_of_not_mem (Val := Elt Ideal) (e := .f32) ⟨slab1, w1⟩ (⟨slab0, w0⟩ :: L) (off1 i j)
  have h2 := View.canon_cons_emb (Val := Elt Ideal) (e := .f32) slab0 w0 L (ix3 (n0 := 1) (n1 := 1024) (n2 := 1408) 0 i j)
  rw [emb0] at h2
  exact h1.trans h2

/-- The second slab of a stack of stores. -/
theorem over1 (w1 w0 : S1x1024x1408.Idx → EReal) (L : List (View.Piece (Elt Ideal) S2x1024x1408 .f32)) (i : Fin 1024) (j : Fin 1408) :
    View.canon (Val := Elt Ideal) (⟨slab1, w1⟩ :: ⟨slab0, w0⟩ :: L) (ix3 (n0 := 2) (n1 := 1024) (n2 := 1408) 1 i j)
      = w1 (ix3 (n0 := 1) (n1 := 1024) (n2 := 1408) 0 i j) := by
  have h2 := View.canon_cons_emb (Val := Elt Ideal) (e := .f32) slab1 w1 (⟨slab0, w0⟩ :: L) (ix3 (n0 := 1) (n1 := 1024) (n2 := 1408) 0 i j)
  rw [emb1] at h2
  exact h2

/-- What two stores over an accumulator leave. -/
theorem stores_at (x : Vec Ideal S512x1024 .bf16) (y : Vec Ideal S512x2816 .bf16) (a : S2x1024x1408.Idx → EReal)
    (L : List (View.Piece (Elt Ideal) S2x1024x1408 .f32)) (s : Fin 2) (i : Fin 1024) (j : Fin 1408) :
    View.canon (Val := Elt Ideal) (⟨slab1, k0_pay4 (F := Ideal) x y (View.ld (Val := Elt Ideal) (e' := .f32) a slab1)⟩
      :: ⟨slab0, k0_pay3 (F := Ideal) x y (View.ld (Val := Elt Ideal) (e' := .f32) a slab0)⟩ :: L) (ix3 s i j)
      = a (ix3 s i j) + ∑ q : Fin 512, x (ix2 q i) * y (ix2 q (col s j)) := by
  match s with
  | 0 => exact (over0 _ _ L i j).trans ((pay3_at _ _ _ i j).trans (congrArg (fun z => a z + _) (emb0 i j)))
  | 1 => exact (over1 _ _ L i j).trans ((pay4_at _ _ _ i j).trans (congrArg (fun z => a z + _) (emb1 i j)))

/-- The accumulator starts at zero. -/
theorem zero_at (i : S2x1024x1408.Idx) : k0_pay1 (F := Ideal) i = 0 := by
  show Ideal.ofBits .f32 0x00000000#32 = 0
  simp [Ideal.ofBits, Ideal.ieee]

theorem idx_0 : ∀ t : Fin cfg0.N, win0_0.index t = ![t.val % 32, 0] := by decide +kernel
theorem idx_1 : ∀ t : Fin cfg0.N, win0_1.index t = ![t.val % 32, 0] := by decide +kernel

variable (m : (ℓ : Loc nD τ sig) → Buf (Elt Ideal) ℓ) (c : Dev nD)

/-- The left argument. -/
abbrev left : S16384x1024.Idx → EReal := m ((c : Thread nD τ).loc main_arg0)
/-- The right argument. -/
abbrev right : S16384x2816.Idx → EReal := m ((c : Thread nD τ).loc main_arg1)
/-- The left block of a step. -/
abbrev lblk (t : Fin cfg0.N) : S512x1024.Idx → EReal := iblk m c 0 t
/-- The right block of a step. -/
abbrev rblk (t : Fin cfg0.N) : S512x2816.Idx → EReal := iblk m c 1 t

/-- The rows of the left argument a step reads. -/
theorem read_0 (t : Fin cfg0.N) (q : Fin 512) (i : Fin 1024) : lblk m c t (ix2 q i)
    = left m c (ix2 ⟨t.val % 32 * 512 + q.val, by omega⟩ i) := by
  have p : ((cfg0.win 0).blk t).view.emb (ix2 q i)
      = ix2 (n0 := 16384) (n1 := 1024) ⟨t.val % 32 * 512 + q.val, by omega⟩ i := by blk_ext [idx_0]
  show V m c main_arg0 (((cfg0.win 0).blk t).view.emb (ix2 q i)) = _
  rw [p, V_main_arg0]

/-- The rows of the right argument a step reads. -/
theorem read_1 (t : Fin cfg0.N) (q : Fin 512) (j : Fin 2816) : rblk m c t (ix2 q j)
    = right m c (ix2 ⟨t.val % 32 * 512 + q.val, by omega⟩ j) := by
  have p : ((cfg0.win 1).blk t).view.emb (ix2 q j)
      = ix2 (n0 := 16384) (n1 := 2816) ⟨t.val % 32 * 512 + q.val, by omega⟩ j := by blk_ext [idx_1]
  show V m c main_arg1 (((cfg0.win 1).blk t).view.emb (ix2 q j)) = _
  rw [p, V_main_arg1]

/-- What a grid step adds to the accumulator. -/
noncomputable def term (t : Fin cfg0.N) (y : S2x1024x1408.Idx) : EReal :=
  ∑ q : Fin 512, lblk m c t (ix2 q (y 1)) * rblk m c t (ix2 q (col (y 0) (y 2)))

/-- The first step. -/
theorem first (t : Fin cfg0.N) (h : t.val % 32 = 0) (y : S2x1024x1408.Idx) :
    (outsAt0 m c t.val t.isLt : S2x1024x1408.Idx → EReal) y = 0 + term m c t y := by
  obtain ⟨s, i, j, rfl⟩ : ∃ (s : Fin 2) (i : Fin 1024) (j : Fin 1408), y = ix3 s i j := ⟨y 0, y 1, y 2, (ix3_eta y).symm⟩
  rw [outsAt0_A m c t h]
  frame_out
  rw [View.readCov_skip _ _ _ _ _ (by decide +kernel)]
  rw [View.readCov_fill _ _ _ _ _ (by decide), View.readCov_fill _ _ _ _ _ (by decide)]
  exact (stores_at _ _ _ _ s i j).trans (congrArg (· + _) (zero_at _))

/-- A later step. -/
theorem next (t : Fin cfg0.N) (h : ¬t.val % 32 = 0) (y : S2x1024x1408.Idx) :
    (outsAt0 m c t.val t.isLt : S2x1024x1408.Idx → EReal) y
      = (outsAt0 m c (t.val - 1) (Nat.lt_of_le_of_lt (Nat.sub_le _ _) t.isLt) : S2x1024x1408.Idx → EReal) y + term m c t y := by
  obtain ⟨s, i, j, rfl⟩ : ∃ (s : Fin 2) (i : Fin 1024) (j : Fin 1408), y = ix3 s i j := ⟨y 0, y 1, y 2, (ix3_eta y).symm⟩
  rw [outsAt0_B m c t h]
  frame_out
  exact stores_at _ _ _ _ s i j

/-- The last grid step. -/
abbrev lastStep : Fin cfg0.N := ⟨31, by decide⟩

/-- The array after the run, at an index: the product over all 16384 rows. -/
theorem value (s : Fin 2) (i : Fin 1024) (j : Fin 1408) :
    ((dats m 0 c).arrAt 2 cfg0.N : S2x1024x1408.Idx → EReal) (ix3 s i j)
      = ∑ k : Fin 16384, left m c (ix2 k i) * right m c (ix2 k (col s j)) := by
  have e : (dats m 0 c).arrAt 2 cfg0.N = outsAt0 m c lastStep.val lastStep.isLt := by
    refine (dats m 0 c).arrAt_eq_of_after_last 2 lastStep (by decide +kernel) _ fun j => ?_
    rw [after0_2]
    generalize outsAt0 m c lastStep.val lastStep.isLt = X
    exact (cast_eq _ _).trans (congrArg X (funext fun a => Fin.ext rfl))
  suffices main : (outsAt0 m c lastStep.val lastStep.isLt : S2x1024x1408.Idx → EReal) (ix3 s i j)
      = ∑ k : Fin 16384, left m c (ix2 k i) * right m c (ix2 k (col s j)) by
    rw [e]
    exact main
  rw [Pipeline.eq_sum_fin_of_reset_step_apply_of_flush (fun n h => (outsAt0 m c n h : S2x1024x1408.Idx → EReal)) 32 (fun _ => 0) (term m c)
    (first m c) (next m c) lastStep rfl (ix3 s i j), zero_add]
  refine (Finset.sum_congr rfl fun r _ => ?_).trans (Fin.sum_mul_add_fin 32 512 fun k : Fin 16384 => left m c (ix2 k i) * right m c (ix2 k (col s j)))
  have hr := r.isLt
  refine Finset.sum_congr rfl fun q _ => ?_
  refine congrArg₂ (· * ·) ((read_0 m c _ q _).trans (congrArg (left m c) (congrArg₂ ix2 (Fin.ext ?_) rfl)))
    ((read_1 m c _ q _).trans (congrArg (right m c) (congrArg₂ ix2 (Fin.ext ?_) rfl)))
  · show (32 * (31 / 32) + r.val) % 32 * 512 + q.val = r.val * 512 + q.val
    omega
  · show (32 * (31 / 32) + r.val) % 32 * 512 + q.val = r.val * 512 + q.val
    omega

/-- The reference's result at an index is the same product. -/
theorem reference (x : S16384x1024.Idx → EReal) (y : S16384x2816.Idx → EReal) (s : Fin 2) (i : Fin 1024) (j : Fin 1408) :
    Cert.DwInRefIdeal.Read.val_main_v7 (F := Ideal) x y (ix3 s i j) = ∑ k : Fin 16384, x (ix2 k i) * y (ix2 k (col s j)) := by
  have hi := i.isLt
  have hj := j.isLt
  have hs := s.isLt
  rw [Cert.DwInRefIdeal.Read.val_main_v7_apply, Cert.DwInRefIdeal.Read.val_main_v6_apply, Cert.DwInRefIdeal.Read.val_main_v5_apply,
    Cert.DwInRefIdeal.Read.val_main_v4_apply]
  refine Finset.sum_congr rfl fun k _ => (mul_comm _ _).trans ?_
  refine congrArg₂ (· * ·) (congrArg x (funext fun a => ?_)) (congrArg y (funext fun a => ?_))
  · match a with
    | ⟨0, _⟩ => rfl
    | ⟨1, _⟩ => exact Fin.ext (by show ((i.val * 2 + s.val) * 1408 + j.val) / 2816 = i.val; omega)
  · match a with
    | ⟨0, _⟩ => rfl
    | ⟨1, _⟩ => exact Fin.ext (by show ((i.val * 2 + s.val) * 1408 + j.val) % 2816 = s.val * 1408 + j.val; omega)

/-- The kernel's array is the reference's result. -/
theorem same : Cert.DwInRefIdeal.Read.val_main_v7 (F := Ideal) (left m c) (right m c) = (dats m 0 c).arrAt 2 cfg0.N := by
  funext y
  obtain ⟨s, i, j, rfl⟩ : ∃ (s : Fin 2) (i : Fin 1024) (j : Fin 1408), y = ix3 s i j := ⟨y 0, y 1, y 2, (ix3_eta y).symm⟩
  exact (reference _ _ s i j).trans (value m c s i j).symm

end Cert.Weight.In
-- ==== Proof.Claims.In.lean ====
module

public import proofs.«01_k».proof.Defs
public import proofs.«01_k».proof.Proof.Gen.DwInRefIdeal.Run
public import proofs.«01_k».proof.Proof.Weight.In

@[expose] public section

/-! The claims about the gradient of the first feed-forward weight. -/

namespace Cert.Claims.In
open Idealize.ShloMosaic Idealize.SL.Sem

/-- The reference declares no semaphore, so its counters are at zero at every final state. -/
theorem sems (s : MemSt Cert.DwInRefIdeal.nD Cert.DwInRefIdeal.τ Cert.DwInRefIdeal.sig (Elt Ideal)) : s.sem = fun _ => 0 := by
  have none : IsEmpty (SemLoc Cert.DwInRefIdeal.sig) := Finset.univ_eq_empty_iff.mp (by decide)
  exact funext fun x => none.elim x.2

/-- The reference runs, its arguments end unchanged and its counters at zero. -/
theorem frame : Cert.quiescent_DwInRefIdeal (hDwInRefIdeal := Cert.DwInRefIdeal.Gen.facts) := fun m ρ _ =>
  (θ_run Cert.DwInRefIdeal.defs _ _).mono (fun r h => ⟨fun c => (h c).2, sems r.2⟩) (Cert.DwInRefIdeal.Value.run (F := Ideal) m ρ)

/-- The kernel's array is the reference's result, and both programs keep their arguments. -/
theorem algebraic : Cert.algebraic_DwInIdeal_DwInRefIdeal (hDwInIdeal := Cert.DwInIdeal.Gen.facts)
    (hDwInRefIdeal := Cert.DwInRefIdeal.Gen.facts) := by
  intro m g m' g' _ same
  refine ⟨fun c => (Cert.DwInIdeal.Gen.dats m 0 c).arrAt 2 Cert.DwInIdeal.cfg0.N, Cert.DwInIdeal.Value.run_blocks (F := Ideal) m g, ?_⟩
  refine (θ_run Cert.DwInRefIdeal.defs _ _).mono (fun r h c => ?_) (Cert.DwInRefIdeal.Value.run (F := Ideal) m' g')
  obtain ⟨h0, rest⟩ := h c
  obtain ⟨s0, s1⟩ := same c
  have e := h0.trans (Cert.DwInRefIdeal.Read.val_main_v7_eq _ _)
  rw [s0, s1] at e
  exact ⟨e.trans (Cert.Weight.In.same m c), rest⟩

end Cert.Claims.In
-- ==== Proof.Weight.Out.lean ====
module

public import proofs.«01_k».proof.Proof.Gen.DwOutIdeal.Value
public import proofs.«01_k».proof.Proof.Gen.DwOutRefIdeal.Read
public import Idealize.ShloMosaic.Lib.Pipeline.ValueKit
public import Idealize.ShloMosaic.Lib.Pointwise.Index

@[expose] public section

/-! The gradient of the last feed-forward weight: 32 products of 512 rows, summed into blocks of 1408 rows. -/

set_option maxRecDepth 16384

namespace Cert.Weight.Out
open Idealize.ShloMosaic Idealize.ShloMosaic.TcCoe Idealize.SL.Sem Cert.DwOutIdeal Cert.DwOutIdeal.Gen

/-- A product of two blocks over their rows. -/
theorem part_at (x : FVec Ideal S512x1408 .bf16) (y : FVec Ideal S512x1024 .bf16) (i : Fin 1408) (j : Fin 1024) :
    matmul (F := Ideal) dot_S512x1408_S512x1024_S1408x1024_0_0_1_1_n_n none x y (constant S1408x1024 .f32 0x00000000#32) (ix2 i j)
      = ∑ q : Fin 512, x (ix2 q i) * y (ix2 q j) := by
  pointwise

/-- A step adds its product to the accumulator. -/
theorem step_at (x : Vec Ideal S512x1408 .bf16) (y : Vec Ideal S512x1024 .bf16) (a : Vec Ideal S1408x1024 .f32) (i : Fin 1408) (j : Fin 1024) :
    k0_pay2 (F := Ideal) x y a (ix2 i j) = a (ix2 i j) + ∑ q : Fin 512, x (ix2 q i) * y (ix2 q j) := by
  have e : shapeCast S1408x1024 a shapeCasts_S1408x1024_S1408x1024 (ix2 i j) = a (ix2 i j) := shapeCast_apply _ _ _ _ rfl
  exact congrArg₂ (· + ·) e (part_at x y i j)

/-- The accumulator starts at zero. -/
theorem zero_at (i : S1408x1024.Idx) : k0_pay1 (F := Ideal) i = 0 := by
  show Ideal.ofBits .f32 0x00000000#32 = 0
  simp [Ideal.ofBits, Ideal.ieee]

theorem idx_0 : ∀ t : Fin cfg0.N, win0_0.index t = ![t.val % 32, t.val / 32] := by decide +kernel
theorem idx_1 : ∀ t : Fin cfg0.N, win0_1.index t = ![t.val % 32, 0] := by decide +kernel

variable (m : (ℓ : Loc nD τ sig) → Buf (Elt Ideal) ℓ) (c : Dev nD)

/-- The left argument. -/
abbrev left : S16384x2816.Idx → EReal := m ((c : Thread nD τ).loc main_arg0)
/-- The right argument. -/
abbrev right : S16384x1024.Idx → EReal := m ((c : Thread nD τ).loc main_arg1)

/-- The rows of the left argument a step reads. -/
theorem read_0 (t : Fin cfg0.N) (q : Fin 512) (i : Fin 1408) (h : t.val / 32 * 1408 + i.val < 2816) : iblk m c 0 t (ix2 q i)
    = left m c (ix2 ⟨t.val % 32 * 512 + q.val, by omega⟩ ⟨t.val / 32 * 1408 + i.val, h⟩) := by
  have p : ((cfg0.win 0).blk t).view.emb (ix2 q i)
      = ix2 (n0 := 16384) (n1 := 2816) ⟨t.val % 32 * 512 + q.val, by omega⟩ ⟨t.val / 32 * 1408 + i.val, h⟩ := by blk_ext [idx_0]
  show V m c main_arg0 (((cfg0.win 0).blk t).view.emb (ix2 q i)) = _
  rw [p, V_main_arg0]

/-- The rows of the right argument a step reads. -/
theorem read_1 (t : Fin cfg0.N) (q : Fin 512) (j : Fin 1024) : iblk m c 1 t (ix2 q j)
    = right m c (ix2 ⟨t.val % 32 * 512 + q.val, by omega⟩ j) := by
  have p : ((cfg0.win 1).blk t).view.emb (ix2 q j)
      = ix2 (n0 := 16384) (n1 := 1024) ⟨t.val % 32 * 512 + q.val, by omega⟩ j := by blk_ext [idx_1]
  show V m c main_arg1 (((cfg0.win 1).blk t).view.emb (ix2 q j)) = _
  rw [p, V_main_arg1]

/-- The left block of a step. -/
abbrev lblk (t : Fin cfg0.N) : S512x1408.Idx → EReal := iblk m c 0 t
/-- The right block of a step. -/
abbrev rblk (t : Fin cfg0.N) : S512x1024.Idx → EReal := iblk m c 1 t

/-- What grid step `n` adds to the accumulator. -/
noncomputable def term (n : ℕ) (y : S1408x1024.Idx) : EReal :=
  if h : n < cfg0.N then ∑ q : Fin 512, lblk m c ⟨n, h⟩ (ix2 q (y 0)) * rblk m c ⟨n, h⟩ (ix2 q (y 1)) else 0

/-- A step adds its term. -/
theorem step_term (n : ℕ) (h : n < cfg0.N) (a : S1408x1024.Idx → EReal) (y : S1408x1024.Idx) :
    k0_pay2 (F := Ideal) (lblk m c ⟨n, h⟩) (rblk m c ⟨n, h⟩) a y = a y + term m c n y := by
  obtain ⟨i, j, rfl⟩ : ∃ (i : Fin 1408) (j : Fin 1024), y = ix2 i j := ⟨y 0, y 1, (ix2_eta y).symm⟩
  unfold term
  rw [dif_pos h, step_at]
  rfl

/-- The array after the run, at an index: the product over all 16384 rows. -/
theorem value (i : Fin 2816) (j : Fin 1024) :
    Value.G2 m c (ix2 i j) = ∑ k : Fin 16384, left m c (ix2 k i) * right m c (ix2 k j) := by
  have hi := i.isLt
  have hj := j.isLt
  have hN : cfg0.N = 64 := N_0
  have hr : Value.run2Of (ix2 i j) = i.val / 1408 := by
    show 1 * (i.val / 1408 - 0) + 1 * (j.val / 1024 - 0) = _
    omega
  have hl : Value.loc2Of (ix2 i j) = ix2 ⟨i.val % 1408, by omega⟩ j := by
    funext a
    match a with
    | ⟨0, _⟩ => rfl
    | ⟨1, _⟩ => exact Fin.ext (Nat.mod_eq_of_lt hj)
  unfold Value.G2
  rw [dif_pos (by rw [hr, hN]; omega), hl]
  refine (Pipeline.accAt_add_apply (Value.reset2 m c) (Value.step2 m c) (fun _ => (0 : EReal)) (term m c) _ 31 (fun h y => ?_)
    (fun n h a y _ _ => step_term m c n h a y) 31 le_rfl _ _).trans ?_
  · exact (step_term m c _ h _ y).trans (congrArg (· + _) (zero_at y))
  · rw [zero_add, Finset.sum_range]
    refine (Finset.sum_congr rfl fun s _ => ?_).trans (Fin.sum_mul_add_fin 32 512 fun k : Fin 16384 => left m c (ix2 k i) * right m c (ix2 k j))
    have hs := s.isLt
    have hn : 32 * Value.run2Of (ix2 i j) + s.val < cfg0.N := by rw [hr, hN]; omega
    unfold term
    rw [dif_pos hn]
    refine Finset.sum_congr rfl fun q _ => ?_
    have d : (32 * Value.run2Of (ix2 i j) + s.val) / 32 = i.val / 1408 := by rw [hr]; omega
    have r : (32 * Value.run2Of (ix2 i j) + s.val) % 32 = s.val := by omega
    refine congrArg₂ (· * ·) ((read_0 m c ⟨_, hn⟩ q _ (by show (32 * Value.run2Of (ix2 i j) + s.val) / 32 * 1408 + i.val % 1408 < 2816; omega)).trans
      (congrArg (left m c) (congrArg₂ ix2 (Fin.ext ?_) (Fin.ext ?_)))) ((read_1 m c ⟨_, hn⟩ q _).trans
      (congrArg (right m c) (congrArg₂ ix2 (Fin.ext ?_) rfl)))
    · show (32 * Value.run2Of (ix2 i j) + s.val) % 32 * 512 + q.val = s.val * 512 + q.val
      rw [r]
    · show (32 * Value.run2Of (ix2 i j) + s.val) / 32 * 1408 + i.val % 1408 = i.val
      omega
    · show (32 * Value.run2Of (ix2 i j) + s.val) % 32 * 512 + q.val = s.val * 512 + q.val
      rw [r]

/-- The reference's result at an index is the same product. -/
theorem reference (x : S16384x2816.Idx → EReal) (y : S16384x1024.Idx → EReal) (i : Fin 2816) (j : Fin 1024) :
    Cert.DwOutRefIdeal.Read.val_main_v5 (F := Ideal) x y (ix2 i j) = ∑ k : Fin 16384, x (ix2 k i) * y (ix2 k j) := by
  rw [Cert.DwOutRefIdeal.Read.val_main_v5_apply, Cert.DwOutRefIdeal.Read.val_main_v4_apply]
  refine Finset.sum_congr rfl fun k _ => (mul_comm _ _).trans ?_
  refine congrArg₂ (· * ·) (congrArg x (funext fun a => ?_)) (congrArg y (funext fun a => ?_))
  · match a with
    | ⟨0, _⟩ => rfl
    | ⟨1, _⟩ => rfl
  · match a with
    | ⟨0, _⟩ => rfl
    | ⟨1, _⟩ => rfl

/-- The kernel's array is the reference's result. -/
theorem same : Cert.DwOutRefIdeal.Read.val_main_v5 (F := Ideal) (left m c) (right m c) = Value.G2 m c := by
  funext y
  obtain ⟨i, j, rfl⟩ : ∃ (i : Fin 2816) (j : Fin 1024), y = ix2 i j := ⟨y 0, y 1, (ix2_eta y).symm⟩
  exact (reference _ _ i j).trans (value m c i j).symm

end Cert.Weight.Out
-- ==== Proof.Claims.Out.lean ====
module

public import proofs.«01_k».proof.Defs
public import proofs.«01_k».proof.Proof.Gen.DwOutRefIdeal.Run
public import proofs.«01_k».proof.Proof.Weight.Out

@[expose] public section

/-! The claims about the gradient of the last feed-forward weight. -/

namespace Cert.Claims.Out
open Idealize.ShloMosaic Idealize.SL.Sem

/-- The reference declares no semaphore, so its counters are at zero at every final state. -/
theorem sems (s : MemSt Cert.DwOutRefIdeal.nD Cert.DwOutRefIdeal.τ Cert.DwOutRefIdeal.sig (Elt Ideal)) : s.sem = fun _ => 0 := by
  have none : IsEmpty (SemLoc Cert.DwOutRefIdeal.sig) := Finset.univ_eq_empty_iff.mp (by decide)
  exact funext fun x => none.elim x.2

/-- The reference runs, its arguments end unchanged and its counters at zero. -/
theorem frame : Cert.quiescent_DwOutRefIdeal (hDwOutRefIdeal := Cert.DwOutRefIdeal.Gen.facts) := fun m ρ _ =>
  (θ_run Cert.DwOutRefIdeal.defs _ _).mono (fun r h => ⟨fun c => (h c).2, sems r.2⟩) (Cert.DwOutRefIdeal.Value.run (F := Ideal) m ρ)

/-- The kernel's array is the reference's result, and both programs keep their arguments. -/
theorem algebraic : Cert.algebraic_DwOutIdeal_DwOutRefIdeal (hDwOutIdeal := Cert.DwOutIdeal.Gen.facts)
    (hDwOutRefIdeal := Cert.DwOutRefIdeal.Gen.facts) := by
  intro m g m' g' _ same
  refine ⟨fun c => Cert.DwOutIdeal.Value.G2 m c, Cert.DwOutIdeal.Value.run (F := Ideal) m g, ?_⟩
  refine (θ_run Cert.DwOutRefIdeal.defs _ _).mono (fun r h c => ?_) (Cert.DwOutRefIdeal.Value.run (F := Ideal) m' g')
  obtain ⟨h0, rest⟩ := h c
  obtain ⟨s0, s1⟩ := same c
  have e := h0.trans (Cert.DwOutRefIdeal.Read.val_main_v5_eq _ _)
  rw [s0, s1] at e
  exact ⟨e.trans (Cert.Weight.Out.same m c), rest⟩

end Cert.Claims.Out
-- ==== Proof.Weight.Square.lean ====
module

public import proofs.«01_k».proof.Proof.Gen.DwIdeal.Value
public import proofs.«01_k».proof.Proof.Gen.DwRefIdeal.Read
public import Idealize.ShloMosaic.Lib.Pipeline.ValueKit
public import Idealize.ShloMosaic.Lib.Pointwise.Index

@[expose] public section

/-! The gradient of a square weight: 32 products of 512 rows, summed. -/

set_option maxRecDepth 16384

namespace Cert.Weight.Square
open Idealize.ShloMosaic Idealize.ShloMosaic.TcCoe Idealize.SL.Sem Cert.DwIdeal Cert.DwIdeal.Gen

/-- A product of two blocks over their rows. -/
theorem part_at (x : FVec Ideal S512x1024 .bf16) (y : FVec Ideal S512x1024 .bf16) (i : Fin 1024) (j : Fin 1024) :
    matmul (F := Ideal) dot_S512x1024_S512x1024_S1024x1024_0_0_1_1_n_n none x y (constant S1024x1024 .f32 0x00000000#32) (ix2 i j)
      = ∑ q : Fin 512, x (ix2 q i) * y (ix2 q j) := by
  pointwise

/-- A step adds its product to the accumulator. -/
theorem step_at (x : Vec Ideal S512x1024 .bf16) (y : Vec Ideal S512x1024 .bf16) (a : Vec Ideal S1024x1024 .f32) (i : Fin 1024) (j : Fin 1024) :
    k0_pay2 (F := Ideal) x y a (ix2 i j) = a (ix2 i j) + ∑ q : Fin 512, x (ix2 q i) * y (ix2 q j) := by
  have e : shapeCast S1024x1024 a shapeCasts_S1024x1024_S1024x1024 (ix2 i j) = a (ix2 i j) := shapeCast_apply _ _ _ _ rfl
  exact congrArg₂ (· + ·) e (part_at x y i j)

/-- The accumulator starts at zero. -/
theorem zero_at (i : S1024x1024.Idx) : k0_pay1 (F := Ideal) i = 0 := by
  show Ideal.ofBits .f32 0x00000000#32 = 0
  simp [Ideal.ofBits, Ideal.ieee]

theorem idx_0 : ∀ t : Fin cfg0.N, win0_0.index t = ![t.val % 32, t.val / 32] := by decide +kernel
theorem idx_1 : ∀ t : Fin cfg0.N, win0_1.index t = ![t.val % 32, 0] := by decide +kernel

variable (m : (ℓ : Loc nD τ sig) → Buf (Elt Ideal) ℓ) (c : Dev nD)

/-- The left argument. -/
abbrev left : S16384x1024.Idx → EReal := m ((c : Thread nD τ).loc main_arg0)
/-- The right argument. -/
abbrev right : S16384x1024.Idx → EReal := m ((c : Thread nD τ).loc main_arg1)

/-- The rows of the left argument a step reads. -/
theorem read_0 (t : Fin cfg0.N) (q : Fin 512) (i : Fin 1024) (h : t.val / 32 * 1024 + i.val < 1024) : iblk m c 0 t (ix2 q i)
    = left m c (ix2 ⟨t.val % 32 * 512 + q.val, by omega⟩ ⟨t.val / 32 * 1024 + i.val, h⟩) := by
  have p : ((cfg0.win 0).blk t).view.emb (ix2 q i)
      = ix2 (n0 := 16384) (n1 := 1024) ⟨t.val % 32 * 512 + q.val, by omega⟩ ⟨t.val / 32 * 1024 + i.val, h⟩ := by blk_ext [idx_0]
  show V m c main_arg0 (((cfg0.win 0).blk t).view.emb (ix2 q i)) = _
  rw [p, V_main_arg0]

/-- The rows of the right argument a step reads. -/
theorem read_1 (t : Fin cfg0.N) (q : Fin 512) (j : Fin 1024) : iblk m c 1 t (ix2 q j)
    = right m c (ix2 ⟨t.val % 32 * 512 + q.val, by omega⟩ j) := by
  have p : ((cfg0.win 1).blk t).view.emb (ix2 q j)
      = ix2 (n0 := 16384) (n1 := 1024) ⟨t.val % 32 * 512 + q.val, by omega⟩ j := by blk_ext [idx_1]
  show V m c main_arg1 (((cfg0.win 1).blk t).view.emb (ix2 q j)) = _
  rw [p, V_main_arg1]

/-- The left block of a step. -/
abbrev lblk (t : Fin cfg0.N) : S512x1024.Idx → EReal := iblk m c 0 t
/-- The right block of a step. -/
abbrev rblk (t : Fin cfg0.N) : S512x1024.Idx → EReal := iblk m c 1 t

/-- What grid step `n` adds to the accumulator. -/
noncomputable def term (n : ℕ) (y : S1024x1024.Idx) : EReal :=
  if h : n < cfg0.N then ∑ q : Fin 512, lblk m c ⟨n, h⟩ (ix2 q (y 0)) * rblk m c ⟨n, h⟩ (ix2 q (y 1)) else 0

/-- A step adds its term. -/
theorem step_term (n : ℕ) (h : n < cfg0.N) (a : S1024x1024.Idx → EReal) (y : S1024x1024.Idx) :
    k0_pay2 (F := Ideal) (lblk m c ⟨n, h⟩) (rblk m c ⟨n, h⟩) a y = a y + term m c n y := by
  obtain ⟨i, j, rfl⟩ : ∃ (i : Fin 1024) (j : Fin 1024), y = ix2 i j := ⟨y 0, y 1, (ix2_eta y).symm⟩
  unfold term
  rw [dif_pos h, step_at]
  rfl

/-- The array after the run, at an index: the product over all 16384 rows. -/
theorem value (i : Fin 1024) (j : Fin 1024) :
    Value.G2 m c (ix2 i j) = ∑ k : Fin 16384, left m c (ix2 k i) * right m c (ix2 k j) := by
  have hi := i.isLt
  have hj := j.isLt
  have hN : cfg0.N = 32 := N_0
  have hr : Value.run2Of (ix2 i j) = i.val / 1024 := by
    show 1 * (i.val / 1024 - 0) + 1 * (j.val / 1024 - 0) = _
    omega
  have hl : Value.loc2Of (ix2 i j) = ix2 ⟨i.val % 1024, by omega⟩ j := by
    funext a
    match a with
    | ⟨0, _⟩ => rfl
    | ⟨1, _⟩ => exact Fin.ext (Nat.mod_eq_of_lt hj)
  unfold Value.G2
  rw [dif_pos (by rw [hr, hN]; omega), hl]
  refine (Pipeline.accAt_add_apply (Value.reset2 m c) (Value.step2 m c) (fun _ => (0 : EReal)) (term m c) _ 31 (fun h y => ?_)
    (fun n h a y _ _ => step_term m c n h a y) 31 le_rfl _ _).trans ?_
  · exact (step_term m c _ h _ y).trans (congrArg (· + _) (zero_at y))
  · rw [zero_add, Finset.sum_range]
    refine (Finset.sum_congr rfl fun s _ => ?_).trans (Fin.sum_mul_add_fin 32 512 fun k : Fin 16384 => left m c (ix2 k i) * right m c (ix2 k j))
    have hs := s.isLt
    have hn : 32 * Value.run2Of (ix2 i j) + s.val < cfg0.N := by rw [hr, hN]; omega
    unfold term
    rw [dif_pos hn]
    refine Finset.sum_congr rfl fun q _ => ?_
    have d : (32 * Value.run2Of (ix2 i j) + s.val) / 32 = i.val / 1024 := by rw [hr]; omega
    have r : (32 * Value.run2Of (ix2 i j) + s.val) % 32 = s.val := by omega
    refine congrArg₂ (· * ·) ((read_0 m c ⟨_, hn⟩ q _ (by show (32 * Value.run2Of (ix2 i j) + s.val) / 32 * 1024 + i.val % 1024 < 1024; omega)).trans
      (congrArg (left m c) (congrArg₂ ix2 (Fin.ext ?_) (Fin.ext ?_)))) ((read_1 m c ⟨_, hn⟩ q _).trans
      (congrArg (right m c) (congrArg₂ ix2 (Fin.ext ?_) rfl)))
    · show (32 * Value.run2Of (ix2 i j) + s.val) % 32 * 512 + q.val = s.val * 512 + q.val
      rw [r]
    · show (32 * Value.run2Of (ix2 i j) + s.val) / 32 * 1024 + i.val % 1024 = i.val
      omega
    · show (32 * Value.run2Of (ix2 i j) + s.val) % 32 * 512 + q.val = s.val * 512 + q.val
      rw [r]

/-- The reference's result at an index is the same product. -/
theorem reference (x : S16384x1024.Idx → EReal) (y : S16384x1024.Idx → EReal) (i : Fin 1024) (j : Fin 1024) :
    Cert.DwRefIdeal.Read.val_main_v5 (F := Ideal) x y (ix2 i j) = ∑ k : Fin 16384, x (ix2 k i) * y (ix2 k j) := by
  rw [Cert.DwRefIdeal.Read.val_main_v5_apply, Cert.DwRefIdeal.Read.val_main_v4_apply]
  refine Finset.sum_congr rfl fun k _ => (mul_comm _ _).trans ?_
  refine congrArg₂ (· * ·) (congrArg x (funext fun a => ?_)) (congrArg y (funext fun a => ?_))
  · match a with
    | ⟨0, _⟩ => rfl
    | ⟨1, _⟩ => rfl
  · match a with
    | ⟨0, _⟩ => rfl
    | ⟨1, _⟩ => rfl

/-- The kernel's array is the reference's result. -/
theorem same : Cert.DwRefIdeal.Read.val_main_v5 (F := Ideal) (left m c) (right m c) = Value.G2 m c := by
  funext y
  obtain ⟨i, j, rfl⟩ : ∃ (i : Fin 1024) (j : Fin 1024), y = ix2 i j := ⟨y 0, y 1, (ix2_eta y).symm⟩
  exact (reference _ _ i j).trans (value m c i j).symm

end Cert.Weight.Square
-- ==== Proof.Claims.Square.lean ====
module

public import proofs.«01_k».proof.Defs
public import proofs.«01_k».proof.Proof.Gen.DwRefIdeal.Run
public import proofs.«01_k».proof.Proof.Weight.Square

@[expose] public section

/-! The claims about the gradient of a square weight. -/

namespace Cert.Claims.Square
open Idealize.ShloMosaic Idealize.SL.Sem

/-- The reference declares no semaphore, so its counters are at zero at every final state. -/
theorem sems (s : MemSt Cert.DwRefIdeal.nD Cert.DwRefIdeal.τ Cert.DwRefIdeal.sig (Elt Ideal)) : s.sem = fun _ => 0 := by
  have none : IsEmpty (SemLoc Cert.DwRefIdeal.sig) := Finset.univ_eq_empty_iff.mp (by decide)
  exact funext fun x => none.elim x.2

/-- The reference runs, its arguments end unchanged and its counters at zero. -/
theorem frame : Cert.quiescent_DwRefIdeal (hDwRefIdeal := Cert.DwRefIdeal.Gen.facts) := fun m ρ _ =>
  (θ_run Cert.DwRefIdeal.defs _ _).mono (fun r h => ⟨fun c => (h c).2, sems r.2⟩) (Cert.DwRefIdeal.Value.run (F := Ideal) m ρ)

/-- The kernel's array is the reference's result, and both programs keep their arguments. -/
theorem algebraic : Cert.algebraic_DwIdeal_DwRefIdeal (hDwIdeal := Cert.DwIdeal.Gen.facts)
    (hDwRefIdeal := Cert.DwRefIdeal.Gen.facts) := by
  intro m g m' g' _ same
  refine ⟨fun c => Cert.DwIdeal.Value.G2 m c, Cert.DwIdeal.Value.run (F := Ideal) m g, ?_⟩
  refine (θ_run Cert.DwRefIdeal.defs _ _).mono (fun r h c => ?_) (Cert.DwRefIdeal.Value.run (F := Ideal) m' g')
  obtain ⟨h0, rest⟩ := h c
  obtain ⟨s0, s1⟩ := same c
  have e := h0.trans (Cert.DwRefIdeal.Read.val_main_v5_eq _ _)
  rw [s0, s1] at e
  exact ⟨e.trans (Cert.Weight.Square.same m c), rest⟩

end Cert.Claims.Square
-- ==== Proof.Norm.Real.lean ====
module

public import proofs.«01_k».proof.Proof.Ffn.Slope

@[expose] public section

/-! One row of a layer norm on real numbers, its gradient in the two forms that meet, and the words the programs use. -/

namespace Cert.Norm
open Idealize.ShloMosaic Cert.Slope

/-- The word of 1024, the length of a row. -/
noncomputable abbrev nW : EReal := Ideal.ofBits .f32 0x44800000#32
/-- The word added to the variance. -/
noncomputable abbrev epsW : EReal := Ideal.ofBits .f32 0x3727C5AC#32
/-- The word of the residual's factor. -/
noncomputable abbrev alphaW : EReal := Ideal.ofBits .f32 0x3FD744FD#32
/-- The word of minus one half. -/
noncomputable abbrev halfW : EReal := Ideal.ofBits .f32 0xBF000000#32
/-- The word of two. -/
noncomputable abbrev twoW : EReal := Ideal.ofBits .f32 0x40000000#32
/-- The word of zero. -/
noncomputable abbrev zeroW : EReal := Ideal.ofBits .f32 0x00000000#32

theorem zeroW_eq : zeroW = 0 := by simp [zeroW, Ideal.ofBits, Ideal.ieee]

theorem nW_eq : nW = ((1024 : ℝ) : EReal) := by
  simp [nW, Ideal.ofBits, Ideal.ieee]
  rw [← EReal.coe_mul]
  norm_num

theorem twoW_eq : twoW = ((2 : ℝ) : EReal) := by
  simp [twoW, Ideal.ofBits, Ideal.ieee]
  rw [← EReal.coe_mul]
  norm_num

theorem halfW_eq : halfW = ((-(1 / 2) : ℝ) : EReal) := by
  simp [halfW, Ideal.ofBits, Ideal.ieee]
  rw [← EReal.coe_mul]
  norm_num

theorem epsW_real : ∃ r : ℝ, 0 < r ∧ epsW = (r : EReal) := by
  simp [epsW, Ideal.ofBits, Ideal.ieee]
  rw [← EReal.coe_mul]
  exact ⟨_, by positivity, rfl⟩

theorem alphaW_real : ∃ r : ℝ, alphaW = (r : EReal) := by
  simp [alphaW, Ideal.ofBits, Ideal.ieee]
  rw [← EReal.coe_mul]
  exact ⟨_, rfl⟩

/-- What is added to the variance. -/
noncomputable def eps : ℝ := epsW.toReal
theorem epsW_eq : epsW = (eps : EReal) := by
  obtain ⟨r, -, h⟩ := epsW_real
  rw [eps, h, EReal.toReal_coe]
theorem eps_pos : 0 < eps := by
  obtain ⟨r, p, h⟩ := epsW_real
  rw [eps, h, EReal.toReal_coe]
  exact p

/-- The residual's factor. -/
noncomputable def alpha : ℝ := alphaW.toReal
theorem alphaW_eq : alphaW = (alpha : EReal) := by
  obtain ⟨r, h⟩ := alphaW_real
  rw [alpha, h, EReal.toReal_coe]

/-- A vector of real numbers as an array. -/
noncomputable def vec {a : ℕ} (f : Fin a → ℝ) : (⟨1, ![a]⟩ : Shape).Idx → EReal := fun i => ((f (i 0) : ℝ) : EReal)

section row
variable (x g v : Fin 1024 → ℝ)

/-- The mean of a row. -/
noncomputable def mean : ℝ := (∑ j, x j) / 1024
/-- The deviation from the mean. -/
noncomputable def dev (j : Fin 1024) : ℝ := x j - mean x
/-- The variance of a row. -/
noncomputable def vary : ℝ := (∑ j, dev x j * dev x j) / 1024
/-- The reciprocal of the standard deviation. -/
noncomputable def rs : ℝ := (Real.sqrt (vary x + eps))⁻¹
/-- The row made normal. -/
noncomputable def hat (j : Fin 1024) : ℝ := dev x j * rs x

theorem vary_nonneg : 0 ≤ vary x := div_nonneg (Finset.sum_nonneg fun _ _ => mul_self_nonneg _) (by norm_num)
theorem var_pos : 0 < vary x + eps := add_pos_of_nonneg_of_pos (vary_nonneg x) eps_pos

/-- The reciprocal square root of the variance. -/
theorem rsqrt_at : Ideal.rsqrt ((vary x + eps : ℝ) : EReal) = ((rs x : ℝ) : EReal) := by
  rw [Ideal.rsqrt_coe, if_neg (not_lt.2 (var_pos x).le), if_neg (var_pos x).ne']
  rfl

theorem rs_sq : rs x * rs x = (vary x + eps)⁻¹ := by
  rw [rs, ← mul_inv, Real.mul_self_sqrt (var_pos x).le]

theorem sum_dev : ∑ j, dev x j = 0 := by
  simp only [dev, Finset.sum_sub_distrib, Finset.sum_const, Finset.card_univ, Fintype.card_fin, nsmul_eq_mul, mean]
  push_cast
  ring

/-- The gradient in the row, from the cotangent `v` of the scaled row with scales `g`. -/
noncomputable def grad (j : Fin 1024) : ℝ :=
  rs x * ((v j * g j - (∑ k, v k * g k) / 1024) - hat x j * ((∑ k, v k * g k * hat x k) / 1024))

/-- The cotangent of the variance, over the length. -/
noncomputable def tv : ℝ := (∑ k, dev x k * (v k * g k)) * (-(1 / 2) * (rs x / (vary x + eps))) / 1024

/-- The gradient through mean and variance one after the other is the same. -/
theorem grad_eq (j : Fin 1024) :
    (v j * g j * rs x + tv x g v * (2 * dev x j)) + (∑ k, -(v k * g k * rs x) + ∑ k, -(tv x g v * (2 * dev x k))) / 1024 = grad x g v j := by
  have h2 : ∑ k, -(tv x g v * (2 * dev x k)) = 0 := by
    rw [Finset.sum_neg_distrib, ← Finset.mul_sum, ← Finset.mul_sum, sum_dev]
    ring
  have h1 : ∑ k, -(v k * g k * rs x) = -((∑ k, v k * g k) * rs x) := by
    rw [Finset.sum_neg_distrib, Finset.sum_mul]
  have h3 : ∑ k, v k * g k * hat x k = (∑ k, dev x k * (v k * g k)) * rs x := by
    rw [Finset.sum_mul]
    exact Finset.sum_congr rfl fun k _ => by rw [hat]; ring
  rw [h1, h2, grad, h3, tv, hat, div_eq_mul_inv (rs x), ← rs_sq]
  ring

end row

/-- Two matrices side by side. -/
def cat (p q : Fin 16384 → Fin 2816 → ℝ) (i : Fin 16384) (k : Fin 5632) : ℝ :=
  if h : k.val < 2816 then p i ⟨k.val, h⟩ else q i ⟨k.val - 2816, by omega⟩

/-- The cotangent of the normal rows: a product with the weight, and the residual's part. -/
noncomputable def ct (W : Fin 1024 → Fin 5632 → ℝ) (p q : Fin 16384 → Fin 2816 → ℝ) (Y : Fin 16384 → Fin 1024 → ℝ) (i : Fin 16384) (j : Fin 1024) : ℝ :=
  (∑ k, cat p q i k * W j k) + alpha * Y i j

end Cert.Norm
-- ==== Proof.Norm.Ref.lean ====
module

public import proofs.«01_k».proof.Proof.Gen.NormRefIdeal.Read
public import proofs.«01_k».proof.Proof.Norm.Real
public import Idealize.ShloMosaic.Lib.Pointwise.Index

@[expose] public section

/-! The reference of the way back through the layer norm on real arguments. -/

set_option maxRecDepth 16384

namespace Cert.Norm.Ref
open Idealize.ShloMosaic Cert.NormRefIdeal Cert.NormRefIdeal.Gen Cert.NormRefIdeal.Read Cert.Slope Cert.Norm

variable (X : Fin 16384 → Fin 1024 → ℝ) (g : Fin 1024 → ℝ) (W : Fin 1024 → Fin 5632 → ℝ) (P Q : Fin 16384 → Fin 2816 → ℝ)
  (Y : Fin 16384 → Fin 1024 → ℝ)

/-- A sum of real numbers after the word of zero. -/
theorem sum_at {n : ℕ} (f : Fin n → EReal) (r : Fin n → ℝ) (h : ∀ k, f k = (r k : EReal)) : zeroW + ∑ k, f k = ((∑ k, r k : ℝ) : EReal) := by
  rw [zeroW_eq, zero_add, Row.coe_sum]
  exact Finset.sum_congr rfl fun k _ => h k

theorem n_ne : (1024 : ℝ) ≠ 0 := by norm_num

/-- A quotient by the length of a row. -/
theorem over_n (a : EReal) (r : ℝ) (h : a = (r : EReal)) : Ideal.div a nW = ((r / 1024 : ℝ) : EReal) := by
  rw [h, nW_eq, Row.div_coe_coe _ n_ne]

/-- A product, a sum, a difference and a negation of real numbers. -/
theorem mul_at {a b : EReal} {r s : ℝ} (ha : a = (r : EReal)) (hb : b = (s : EReal)) : a * b = ((r * s : ℝ) : EReal) := by
  rw [ha, hb, ← EReal.coe_mul]
theorem add_at {a b : EReal} {r s : ℝ} (ha : a = (r : EReal)) (hb : b = (s : EReal)) : a + b = ((r + s : ℝ) : EReal) := by
  rw [ha, hb, ← EReal.coe_add]
theorem sub_at {a b : EReal} {r s : ℝ} (ha : a = (r : EReal)) (hb : b = (s : EReal)) : a - b = ((r - s : ℝ) : EReal) := by
  rw [ha, hb, ← EReal.coe_sub]
theorem neg_at {a : EReal} {r : ℝ} (ha : a = (r : EReal)) : -a = ((-r : ℝ) : EReal) := by
  rw [ha, ← EReal.coe_neg]

/-- The means. -/
theorem v0_at (i : S16384.Idx) : val_main_v0 (F := Ideal) (mat X) i = ((∑ k, X (i 0) k : ℝ) : EReal) :=
  (val_main_v0_apply _ i).trans (sum_at _ (fun k => X (i 0) k) fun _ => rfl)

theorem v3_at (i : S16384x1.Idx) : val_main_v3 (F := Ideal) (mat X) i = ((mean (X (i 0)) : ℝ) : EReal) := by
  rw [val_main_v3_apply, val_main_v2_apply, val_main_v1_apply]
  exact over_n _ _ (v0_at X _)

/-- The deviations. -/
theorem v14_at (i : S16384x1024.Idx) : val_main_v14 (F := Ideal) (mat X) i = ((dev (X (i 0)) (i 1) : ℝ) : EReal) := by
  rw [val_main_v14_apply, val_main_v13_apply]
  exact sub_at rfl (v3_at X _)

theorem v5_at (i : S16384x1024.Idx) : val_main_v5 (F := Ideal) (mat X) i = ((dev (X (i 0)) (i 1) : ℝ) : EReal) := by
  rw [val_main_v5_apply, val_main_v4_apply]
  exact sub_at rfl (v3_at X _)

/-- The variances. -/
theorem v9_at (i : S16384.Idx) : val_main_v9 (F := Ideal) (mat X) i = ((∑ k, dev (X (i 0)) k * dev (X (i 0)) k : ℝ) : EReal) :=
  (val_main_v9_apply _ i).trans (sum_at _ (fun k => dev (X (i 0)) k * dev (X (i 0)) k) fun _ => mul_at (v5_at X _) (v5_at X _))

theorem v12_at (i : S16384x1.Idx) : val_main_v12 (F := Ideal) (mat X) i = ((vary (X (i 0)) : ℝ) : EReal) := by
  rw [val_main_v12_apply, val_main_v11_apply, val_main_v10_apply]
  exact over_n _ _ (v9_at X _)

theorem v16_at (i : S16384x1.Idx) : val_main_v16 (F := Ideal) (mat X) i = ((vary (X (i 0)) + eps : ℝ) : EReal) := by
  rw [val_main_v16_apply, val_main_v15_apply]
  exact add_at (v12_at X i) epsW_eq

/-- The reciprocals of the standard deviations. -/
theorem v17_at (i : S16384x1.Idx) : val_main_v17 (F := Ideal) (mat X) i = ((rs (X (i 0)) : ℝ) : EReal) := by
  rw [val_main_v17_apply]
  exact (congrArg Ideal.rsqrt (v16_at X i)).trans (rsqrt_at _)

/-- The normal rows. -/
theorem v22_at (i : S16384x1024.Idx) : val_main_v22 (F := Ideal) (mat X) i = ((hat (X (i 0)) (i 1) : ℝ) : EReal) := by
  rw [val_main_v22_apply, val_main_v21_apply]
  exact mul_at (v14_at X i) (v17_at X _)

/-- The cotangents side by side. -/
theorem v34_at (i : S16384x5632.Idx) : val_main_v34 (F := Ideal) (mat P) (mat Q) i = ((cat P Q (i 0) (i 1) : ℝ) : EReal) := by
  obtain ⟨p, q, rfl⟩ : ∃ (p : Fin 16384) (q : Fin 5632), i = ix2 p q := ⟨i 0, i 1, (ix2_eta i).symm⟩
  rw [val_main_v34_apply]
  show val_main_v33 (F := Ideal) (mat P) (mat Q) (ix2 p q) = ((cat P Q p q : ℝ) : EReal)
  unfold val_main_v33
  by_cases h : q.val < 2816
  · rw [cat, dif_pos h]
    exact concatenate_pair_apply_left 1 (mat P) (mat Q) concatenates_S16384x2816_S16384x2816_S16384x5632_d1 _ rfl
      (ix2 (n0 := 16384) (n1 := 2816) p ⟨q.val, h⟩) fun d => match d with | ⟨0, _⟩ => rfl | ⟨1, _⟩ => rfl
  · rw [cat, dif_neg h]
    exact concatenate_pair_apply_right 1 (mat P) (mat Q) concatenates_S16384x2816_S16384x2816_S16384x5632_d1 _ rfl rfl
      (ix2 (n0 := 16384) (n1 := 2816) p ⟨q.val - 2816, by omega⟩)
      (fun d hd => match d with | ⟨0, _⟩ => rfl | ⟨1, _⟩ => absurd rfl hd) (by show q.val - 2816 + 2816 = q.val; omega)

/-- The product of the cotangents with the weight. -/
theorem v37_at (i : S16384x1024.Idx) : val_main_v37 (F := Ideal) (mat W) (mat P) (mat Q) i = ((∑ k, cat P Q (i 0) k * W (i 1) k : ℝ) : EReal) := by
  rw [val_main_v37_apply]
  refine Eq.trans (Finset.sum_congr rfl fun k _ => ?_) (sum_mul _ _)
  exact congrArg₂ (· * ·) (v34_at P Q _) (val_main_v29_apply _ _)

/-- The cotangent of the normal rows with their scales and shifts. -/
theorem v38_at (i : S16384x1024.Idx) : val_main_v38 (F := Ideal) (mat W) (mat P) (mat Q) (mat Y) i = ((ct W P Q Y (i 0) (i 1) : ℝ) : EReal) := by
  rw [val_main_v38_apply, val_main_v36_apply, val_main_v35_apply]
  refine (add_at (r := alpha * Y (i 0) (i 1)) (mul_at alphaW_eq rfl) (v37_at W P Q i)).trans ?_
  rw [add_comm]
  rfl

/-- The cotangent of the normal rows. -/
theorem v46_at (i : S16384x1024.Idx) : val_main_v46 (F := Ideal) (vec g) (mat W) (mat P) (mat Q) (mat Y) i
    = ((ct W P Q Y (i 0) (i 1) * g (i 1) : ℝ) : EReal) := by
  rw [val_main_v46_apply, val_main_v45_apply, val_main_v23_apply]
  exact mul_at (v38_at W P Q Y i) rfl

/-- The cotangent of the deviations, the variance held. -/
theorem v52_at (i : S16384x1024.Idx) : val_main_v52 (F := Ideal) (mat X) (vec g) (mat W) (mat P) (mat Q) (mat Y) i
    = ((ct W P Q Y (i 0) (i 1) * g (i 1) * rs (X (i 0)) : ℝ) : EReal) := by
  rw [val_main_v52_apply, val_main_v51_apply]
  exact mul_at (v46_at g W P Q Y i) (v17_at X _)

/-- The slope of the reciprocal of the standard deviation. -/
theorem v20_at (i : S16384x1.Idx) : val_main_v20 (F := Ideal) (mat X) i
    = ((-(1 / 2) * (rs (X (i 0)) / (vary (X (i 0)) + eps)) : ℝ) : EReal) := by
  rw [val_main_v20_apply, val_main_v19_apply, val_main_v18_apply]
  exact mul_at halfW_eq ((congrArg₂ Ideal.div (v17_at X i) (v16_at X i)).trans (Row.div_coe_coe _ (var_pos _).ne'))

/-- The row of an index of a column. -/
theorem row_at (i : S16384x1.Idx) (r : S16384.Idx) (h : (r 0).val = (i 0).val * 1 + (i 1).val) (f : Fin 16384 → ℝ) :
    ((f (r 0) : ℝ) : EReal) = ((f (i 0) : ℝ) : EReal) := by
  have h1 : (i 1).val < 1 := (i 1).isLt
  exact congrArg (fun z => ((f z : ℝ) : EReal)) (Fin.ext (by omega))

/-- The cotangent of the variance, over the length. -/
theorem v49_at (i : S16384.Idx) : val_main_v49 (F := Ideal) (mat X) (vec g) (mat W) (mat P) (mat Q) (mat Y) i
    = ((∑ k, dev (X (i 0)) k * (ct W P Q Y (i 0) k * g k) : ℝ) : EReal) :=
  (val_main_v49_apply _ _ _ _ _ _ i).trans (sum_at _ (fun k => dev (X (i 0)) k * (ct W P Q Y (i 0) k * g k))
    fun _ => mul_at (v14_at X _) (v46_at g W P Q Y _))

theorem v50_at (i : S16384x1.Idx) : val_main_v50 (F := Ideal) (mat X) (vec g) (mat W) (mat P) (mat Q) (mat Y) i
    = ((∑ k, dev (X (i 0)) k * (ct W P Q Y (i 0) k * g k) : ℝ) : EReal) := by
  rw [val_main_v50_apply]
  exact (v49_at X g W P Q Y _).trans (row_at i _ rfl fun z => ∑ k, dev (X z) k * (ct W P Q Y z k * g k))

theorem v58_at (i : S16384x1.Idx) : val_main_v58 (F := Ideal) (mat X) (vec g) (mat W) (mat P) (mat Q) (mat Y) i
    = ((tv (X (i 0)) g (ct W P Q Y (i 0)) : ℝ) : EReal) := by
  rw [val_main_v58_apply, val_main_v57_apply, val_main_v53_apply]
  exact over_n _ _ (mul_at (v50_at X g W P Q Y i) (v20_at X i))

/-- A sum of one number. -/
theorem one_at (f : Fin 1 → EReal) (r : ℝ) (h : ∀ k, f k = (r : EReal)) : zeroW + ∑ k, f k = (r : EReal) := by
  rw [Fin.sum_univ_one, h, zeroW_eq, zero_add]

theorem v59_at (i : S16384.Idx) : val_main_v59 (F := Ideal) (mat X) (vec g) (mat W) (mat P) (mat Q) (mat Y) i
    = ((tv (X (i 0)) g (ct W P Q Y (i 0)) : ℝ) : EReal) :=
  (val_main_v59_apply _ _ _ _ _ _ i).trans (one_at _ _ fun _ => v58_at X g W P Q Y _)

/-- What the variance gives a deviation. -/
theorem v61_at (i : S16384x1024.Idx) : val_main_v61 (F := Ideal) (mat X) (vec g) (mat W) (mat P) (mat Q) (mat Y) i
    = ((tv (X (i 0)) g (ct W P Q Y (i 0)) * (2 * dev (X (i 0)) (i 1)) : ℝ) : EReal) := by
  rw [val_main_v61_apply, val_main_v60_apply, val_main_v8_apply, val_main_v7_apply]
  exact mul_at (v59_at X g W P Q Y _) (mul_at twoW_eq (v5_at X i))

/-- What the mean takes. -/
theorem v55_at (i : S16384.Idx) : val_main_v55 (F := Ideal) (mat X) (vec g) (mat W) (mat P) (mat Q) (mat Y) i
    = ((∑ k, -(ct W P Q Y (i 0) k * g k * rs (X (i 0))) : ℝ) : EReal) :=
  (val_main_v55_apply _ _ _ _ _ _ i).trans (sum_at _ (fun k => -(ct W P Q Y (i 0) k * g k * rs (X (i 0))))
    fun _ => neg_at (v52_at X g W P Q Y _))

theorem v63_at (i : S16384.Idx) : val_main_v63 (F := Ideal) (mat X) (vec g) (mat W) (mat P) (mat Q) (mat Y) i
    = ((∑ k, -(tv (X (i 0)) g (ct W P Q Y (i 0)) * (2 * dev (X (i 0)) k)) : ℝ) : EReal) :=
  (val_main_v63_apply _ _ _ _ _ _ i).trans (sum_at _ (fun k => -(tv (X (i 0)) g (ct W P Q Y (i 0)) * (2 * dev (X (i 0)) k)))
    fun _ => neg_at (v61_at X g W P Q Y _))

theorem v56_at (i : S16384x1.Idx) : val_main_v56 (F := Ideal) (mat X) (vec g) (mat W) (mat P) (mat Q) (mat Y) i
    = ((∑ k, -(ct W P Q Y (i 0) k * g k * rs (X (i 0))) : ℝ) : EReal) := by
  rw [val_main_v56_apply]
  exact (v55_at X g W P Q Y _).trans (row_at i _ rfl fun z => ∑ k, -(ct W P Q Y z k * g k * rs (X z)))

theorem v64_at (i : S16384x1.Idx) : val_main_v64 (F := Ideal) (mat X) (vec g) (mat W) (mat P) (mat Q) (mat Y) i
    = ((∑ k, -(tv (X (i 0)) g (ct W P Q Y (i 0)) * (2 * dev (X (i 0)) k)) : ℝ) : EReal) := by
  rw [val_main_v64_apply]
  exact (v63_at X g W P Q Y _).trans (row_at i _ rfl fun z => ∑ k, -(tv (X z) g (ct W P Q Y z) * (2 * dev (X z) k)))

theorem v68_at (i : S16384x1.Idx) : val_main_v68 (F := Ideal) (mat X) (vec g) (mat W) (mat P) (mat Q) (mat Y) i
    = (((∑ k, -(ct W P Q Y (i 0) k * g k * rs (X (i 0))) + ∑ k, -(tv (X (i 0)) g (ct W P Q Y (i 0)) * (2 * dev (X (i 0)) k))) / 1024 : ℝ) : EReal) := by
  rw [val_main_v68_apply, val_main_v67_apply, val_main_v66_apply]
  exact over_n _ _ (add_at (v56_at X g W P Q Y i) (v64_at X g W P Q Y i))

theorem v69_at (i : S16384.Idx) : val_main_v69 (F := Ideal) (mat X) (vec g) (mat W) (mat P) (mat Q) (mat Y) i
    = (((∑ k, -(ct W P Q Y (i 0) k * g k * rs (X (i 0))) + ∑ k, -(tv (X (i 0)) g (ct W P Q Y (i 0)) * (2 * dev (X (i 0)) k))) / 1024 : ℝ) : EReal) :=
  (val_main_v69_apply _ _ _ _ _ _ i).trans (one_at _ _ fun _ => v68_at X g W P Q Y _)

/-- The gradient in the rows. -/
theorem v71_at (i : S16384x1024.Idx) : val_main_v71 (F := Ideal) (mat X) (vec g) (mat W) (mat P) (mat Q) (mat Y) i
    = ((grad (X (i 0)) g (ct W P Q Y (i 0)) (i 1) : ℝ) : EReal) := by
  rw [val_main_v71_apply, val_main_v65_apply, val_main_v70_apply]
  refine (add_at (add_at (v52_at X g W P Q Y i) (v61_at X g W P Q Y i)) (v69_at X g W P Q Y _)).trans ?_
  exact congrArg _ (grad_eq (X (i 0)) g (ct W P Q Y (i 0)) (i 1))

/-- The first result. -/
theorem v71_eq : val_main_v71 (F := Ideal) (mat X) (vec g) (mat W) (mat P) (mat Q) (mat Y) = mat fun i j => grad (X i) g (ct W P Q Y i) j :=
  funext fun i => v71_at X g W P Q Y i

/-- The second result. -/
theorem v72_eq : val_main_v72 (F := Ideal) (mat X) (vec g) (mat W) (mat P) (mat Q) (mat Y) = mat fun i j => grad (X i) g (ct W P Q Y i) j :=
  funext fun i => (val_main_v72_apply _ _ _ _ _ _ i).trans (v71_at X g W P Q Y i)

/-- The column of an index of a row. -/
theorem col_at (i : S1x1024.Idx) (r : S1024.Idx) (h : (r 0).val = (i 0).val * 1024 + (i 1).val) (f : Fin 1024 → ℝ) :
    ((f (r 0) : ℝ) : EReal) = ((f (i 1) : ℝ) : EReal) := by
  have h1 : (i 0).val < 1 := (i 0).isLt
  exact congrArg (fun z => ((f z : ℝ) : EReal)) (Fin.ext (by omega))

theorem v43_at (i : S1024.Idx) : val_main_v43 (F := Ideal) (mat X) (mat W) (mat P) (mat Q) (mat Y) i
    = ((∑ k, hat (X k) (i 0) * ct W P Q Y k (i 0) : ℝ) : EReal) :=
  (val_main_v43_apply _ _ _ _ _ i).trans (sum_at _ (fun k => hat (X k) (i 0) * ct W P Q Y k (i 0)) fun _ => mul_at (v22_at X _) (v38_at W P Q Y _))

theorem v44_at (i : S1x1024.Idx) : val_main_v44 (F := Ideal) (mat X) (mat W) (mat P) (mat Q) (mat Y) i
    = ((∑ k, hat (X k) (i 1) * ct W P Q Y k (i 1) : ℝ) : EReal) := by
  rw [val_main_v44_apply]
  exact (v43_at X W P Q Y _).trans (col_at i _ rfl fun z => ∑ k, hat (X k) z * ct W P Q Y k z)

/-- The gradient in the scales. -/
theorem v73_eq : val_main_v73 (F := Ideal) (mat X) (mat W) (mat P) (mat Q) (mat Y)
    = mat (a := 1) (b := 1024) fun _ j => ∑ k, hat (X k) j * ct W P Q Y k j := by
  funext i
  rw [val_main_v73_apply, val_main_v47_apply]
  exact one_at _ _ fun _ => v44_at X W P Q Y _

theorem v39_at (i : S1024.Idx) : val_main_v39 (F := Ideal) (mat W) (mat P) (mat Q) (mat Y) i = ((∑ k, ct W P Q Y k (i 0) : ℝ) : EReal) :=
  (val_main_v39_apply _ _ _ _ i).trans (sum_at _ (fun k => ct W P Q Y k (i 0)) fun _ => v38_at W P Q Y _)

theorem v40_at (i : S1x1024.Idx) : val_main_v40 (F := Ideal) (mat W) (mat P) (mat Q) (mat Y) i = ((∑ k, ct W P Q Y k (i 1) : ℝ) : EReal) := by
  rw [val_main_v40_apply]
  exact (v39_at W P Q Y _).trans (col_at i _ rfl fun z => ∑ k, ct W P Q Y k z)

/-- The gradient in the shifts. -/
theorem v74_eq : val_main_v74 (F := Ideal) (mat W) (mat P) (mat Q) (mat Y) = mat (a := 1) (b := 1024) fun _ j => ∑ k, ct W P Q Y k j := by
  funext i
  rw [val_main_v74_apply, val_main_v41_apply]
  exact one_at _ _ fun _ => v40_at W P Q Y _

end Cert.Norm.Ref
-- ==== Proof.Norm.Host.lean ====
module

public import proofs.«01_k».proof.Proof.Gen.NormIdeal.Value
public import proofs.«01_k».proof.Proof.Norm.Ref
public import Idealize.ShloMosaic.Lib.StableHlo.RunRead

@[expose] public section

/-! What the host of the way back through the layer norm hands to the kernel. -/

set_option maxRecDepth 16384

namespace Cert.Norm.Host
open Idealize.ShloMosaic Idealize.ShloMosaic.TcCoe Idealize.SL.Sem Cert.NormIdeal Cert.NormIdeal.Gen Cert.Slope

variable (m : (ℓ : Loc nD τ sig) → Buf (Elt Ideal) ℓ) (c : Dev nD)

set_option backward.isDefEq.respectTransparency.types false in
/-- The normal rows. -/
theorem v23_word : V m c main_v23 = (truncf .bf16 (Cert.NormRefIdeal.Read.val_main_v22 (F := Ideal) (m (c, Proc.tc.devRef main_arg0)) : FVec Ideal S16384x1024 .f32) bitsLt_bf16_f32
    : FVec Ideal S16384x1024 .bf16) := by
  unfold V
  after_reads_simp
  rfl

set_option backward.isDefEq.respectTransparency.types false in
/-- The reciprocals of the standard deviations. -/
theorem v20_word : V m c main_v20 = (Cert.NormRefIdeal.Read.val_main_v17 (F := Ideal) (m (c, Proc.tc.devRef main_arg0)) : FVec Ideal S16384x1 .f32) := by
  unfold V
  after_reads_simp
  rfl

set_option backward.isDefEq.respectTransparency.types false in
/-- The slabs of the weight. -/
theorem v22_word : V m c main_v22 = (transpose S4x1024x1408 [1, 0, 2] (shapeCast S1024x4x1408 (m (c, Proc.tc.devRef main_arg3) : FVec Ideal S1024x5632 .bf16)
    shapeCasts_S1024x5632_S1024x4x1408 : FVec Ideal S1024x4x1408 .bf16) transposes_S1024x4x1408_S4x1024x1408_1_0_2 : FVec Ideal S4x1024x1408 .bf16) := by
  unfold V
  after_reads_simp
  rfl

set_option backward.isDefEq.respectTransparency.types false in
/-- The scales. -/
theorem v24_word : V m c main_v24 = (broadcastInDim S1x1024 ![1] bcast_S1024_S1x1024_1 (m (c, Proc.tc.devRef main_arg1) : FVec Ideal S1024 .f32)
    : FVec Ideal S1x1024 .f32) := by
  unfold V
  after_reads_simp

end Cert.Norm.Host
-- ==== Proof.Norm.Pay.lean ====
module

public import proofs.«01_k».proof.Proof.Gen.NormIdeal.Skeleton
public import proofs.«01_k».proof.Proof.Norm.Real
public import Idealize.ShloMosaic.Lib.Pointwise.Index
public import Idealize.ShloMosaic.Lib.Pipeline.ValueKit

@[expose] public section

/-! What a step of the way back through the layer norm computes, at an index. -/

set_option maxRecDepth 16384

namespace Cert.Norm.Pay
open Idealize.ShloMosaic Cert.NormIdeal Cert.NormIdeal.Gen Cert.Slope Cert.Norm

theorem dot_at (x : FVec Ideal S512x1408 .bf16) (y : FVec Ideal S1024x1408 .bf16) (i : Fin 512) (j : Fin 1024) :
    matmul (F := Ideal) dot_S512x1408_S1024x1408_S512x1024_1_1_0_0_n_n none x y (constant S512x1024 .f32 0x00000000#32) (ix2 i j)
      = ∑ q : Fin 1408, x (ix2 i q) * y (ix2 j q) := by
  pointwise

/-- A product of a block with a slab of the weight. -/
theorem part_at (x : FVec Ideal S512x1408 .bf16) (y : FVec Ideal S1x1024x1408 .bf16) (i : Fin 512) (j : Fin 1024) :
    matmul (F := Ideal) dot_S512x1408_S1024x1408_S512x1024_1_1_0_0_n_n none x (shapeCast S1024x1408 y shapeCasts_S1x1024x1408_S1024x1408)
      (constant S512x1024 .f32 0x00000000#32) (ix2 i j) = ∑ q : Fin 1408, x (ix2 i q) * y (ix3 0 j q) := by
  refine (dot_at _ _ i j).trans (Finset.sum_congr rfl fun q _ => congrArg (x (ix2 i q) * ·) ?_)
  exact shapeCast_apply _ shapeCasts_S1x1024x1408_S1024x1408 (ix2 j q) (ix3 0 j q)
    (by rewrite [Shape.rowMajor_val_two, Shape.rowMajor_val_three]; show (0 * 1024 + j.val) * 1408 + q.val = j.val * 1408 + q.val; omega)

/-- The cotangent of the normal rows: four products and the residual's part. -/
theorem pay2_at (x0 : Vec Ideal S512x1408 .bf16) (y0 : Vec Ideal S1x1024x1408 .bf16) (x1 : Vec Ideal S512x1408 .bf16) (y1 : Vec Ideal S1x1024x1408 .bf16)
    (x2 : Vec Ideal S512x1408 .bf16) (y2 : Vec Ideal S1x1024x1408 .bf16) (x3 : Vec Ideal S512x1408 .bf16) (y3 : Vec Ideal S1x1024x1408 .bf16)
    (z : Vec Ideal S512x1024 .f32) (i : Fin 512) (j : Fin 1024) :
    k0_pay2 (F := Ideal) x0 y0 x1 y1 x2 y2 x3 y3 z (ix2 i j)
      = ((((∑ q : Fin 1408, x0 (ix2 i q) * y0 (ix3 0 j q)) + ∑ q : Fin 1408, x1 (ix2 i q) * y1 (ix3 0 j q))
        + ∑ q : Fin 1408, x2 (ix2 i q) * y2 (ix3 0 j q)) + ∑ q : Fin 1408, x3 (ix2 i q) * y3 (ix3 0 j q)) + alphaW * z (ix2 i j) := by
  unfold k0_pay2
  exact congrArg₂ (· + ·) (congrArg₂ (· + ·) (congrArg₂ (· + ·) (congrArg₂ (· + ·) (part_at _ _ i j) (part_at _ _ i j)) (part_at _ _ i j)) (part_at _ _ i j)) rfl

/-- The gradient in the rows. -/
theorem pay5_at (v : FVec Ideal S512x1024 .f32) (h : FVec Ideal S512x1024 .f32) (r : FVec Ideal S512x1 .f32) (g : Vec Ideal S1x1024 .f32)
    (i : Fin 512) (j : Fin 1024) :
    k0_pay5 (F := Ideal) v h r g (ix2 i j)
      = r (ix2 i 0) * ((v (ix2 i j) * g (ix2 0 j) - Ideal.div (∑ k : Fin 1024, v (ix2 i k) * g (ix2 0 k)) nW)
        - h (ix2 i j) * Ideal.div (∑ k : Fin 1024, v (ix2 i k) * g (ix2 0 k) * h (ix2 i k)) nW) := by
  unfold k0_pay5
  pointwise

/-- The sums over a step's rows. -/
theorem pay6_at (v : FVec Ideal S512x1024 .f32) (j : Fin 1024) : k0_pay6 (F := Ideal) v (ix2 0 j) = ∑ q : Fin 512, v (ix2 q j) := by
  unfold k0_pay6
  pointwise

theorem pay10_at (v h : FVec Ideal S512x1024 .f32) (a : Vec Ideal S1x1024 .f32) (j : Fin 1024) :
    k0_pay10 (F := Ideal) v h a (ix2 0 j) = a (ix2 0 j) + ∑ q : Fin 512, v (ix2 q j) * h (ix2 q j) := by
  unfold k0_pay10
  pointwise

theorem pay1_at (v a : FVec Ideal S1x1024 .f32) (j : Fin 1024) : k0_pay1 (F := Ideal) v a (ix2 0 j) = a (ix2 0 j) + v (ix2 0 j) := by
  unfold k0_pay1
  pointwise

theorem pay3_eq (h : Vec Ideal S512x1024 .bf16) : k0_pay3 (F := Ideal) h = h := by
  funext i
  unfold k0_pay3
  exact shapeCast_apply h shapeCasts_S512x1024_S512x1024 i i rfl

theorem pay4_eq (r : Vec Ideal S512x1 .f32) : k0_pay4 (F := Ideal) r = r := by
  funext i
  unfold k0_pay4
  exact shapeCast_apply r shapeCasts_S512x1_S512x1 i i rfl

theorem zero_at (i : S1x1024.Idx) : k0_pay8 (F := Ideal) i = 0 := zeroW_eq
theorem zero_at' (i : S1x1024.Idx) : k0_pay9 (F := Ideal) i = 0 := zeroW_eq

end Cert.Norm.Pay
-- ==== Proof.Norm.Kern.lean ====
module

public import proofs.«01_k».proof.Proof.Norm.Host
public import proofs.«01_k».proof.Proof.Norm.Pay
public import Idealize.ShloMosaic.Lib.Pipeline.ValueKit
public import Idealize.ShloMosaic.Lib.Pipeline.ReadBack
public import Idealize.ShloMosaic.Lib.Pointwise.Index

@[expose] public section

/-! The kernel's way back through the layer norm on real arguments: 32 steps of 512 rows, the two sums over all rows kept across the steps. -/

set_option maxRecDepth 16384

namespace Cert.Norm.Kern
open Idealize.ShloMosaic Idealize.ShloMosaic.TcCoe Idealize.SL.Sem Cert.NormIdeal Cert.NormIdeal.Gen Cert.Slope Cert.Norm.Ref

/-- A quarter of the columns. -/
abbrev col (s : Fin 4) (q : Fin 1408) : Fin 5632 := ⟨s.val * 1408 + q.val, by omega⟩

/-- A half of the columns of one cotangent. -/
abbrev half (s : Fin 2) (q : Fin 1408) : Fin 2816 := ⟨s.val * 1408 + q.val, by omega⟩

/-- The rows of a step. -/
abbrev rows (t : Fin cfg0.N) (i : Fin 512) : Fin 16384 := ⟨t.val % 32 * 512 + i.val, by omega⟩

section split
variable (W : Fin 1024 → Fin 5632 → ℝ) (P Q : Fin 16384 → Fin 2816 → ℝ) (Y : Fin 16384 → Fin 1024 → ℝ) (i : Fin 16384) (j : Fin 1024)

theorem cat0 (q : Fin 1408) : cat P Q i (col 0 q) = P i (half 0 q) :=
  (dif_pos (by show 0 * 1408 + q.val < 2816; omega)).trans (congrArg (P i) (Fin.ext rfl))
theorem cat1 (q : Fin 1408) : cat P Q i (col 1 q) = P i (half 1 q) :=
  (dif_pos (by show 1 * 1408 + q.val < 2816; omega)).trans (congrArg (P i) (Fin.ext rfl))
theorem cat2 (q : Fin 1408) : cat P Q i (col 2 q) = Q i (half 0 q) :=
  (dif_neg (by show ¬2 * 1408 + q.val < 2816; omega)).trans (congrArg (Q i) (Fin.ext (by show 2 * 1408 + q.val - 2816 = 0 * 1408 + q.val; omega)))
theorem cat3 (q : Fin 1408) : cat P Q i (col 3 q) = Q i (half 1 q) :=
  (dif_neg (by show ¬3 * 1408 + q.val < 2816; omega)).trans (congrArg (Q i) (Fin.ext (by show 3 * 1408 + q.val - 2816 = 1 * 1408 + q.val; omega)))

/-- The product over the columns, quarter by quarter. -/
theorem ct_split : ((((∑ q, P i (half 0 q) * W j (col 0 q)) + ∑ q, P i (half 1 q) * W j (col 1 q)) + ∑ q, Q i (half 0 q) * W j (col 2 q))
    + ∑ q, Q i (half 1 q) * W j (col 3 q)) + alpha * Y i j = ct W P Q Y i j := by
  refine congrArg (· + alpha * Y i j) (Eq.trans ?_ (Fin.sum_mul_add_fin 4 1408 fun k : Fin 5632 => cat P Q i k * W j k))
  rw [Fin.sum_univ_four]
  refine congrArg₂ (· + ·) (congrArg₂ (· + ·) (congrArg₂ (· + ·) ?_ ?_) ?_) ?_
  · exact Finset.sum_congr rfl fun q _ => congrArg (· * W j (col 0 q)) (cat0 P Q i q).symm
  · exact Finset.sum_congr rfl fun q _ => congrArg (· * W j (col 1 q)) (cat1 P Q i q).symm
  · exact Finset.sum_congr rfl fun q _ => congrArg (· * W j (col 2 q)) (cat2 P Q i q).symm
  · exact Finset.sum_congr rfl fun q _ => congrArg (· * W j (col 3 q)) (cat3 P Q i q).symm

end split

/-- A sum of real numbers. -/
theorem sum_real {n : ℕ} (a : Fin n → EReal) (f : Fin n → ℝ) (h : ∀ k, a k = (f k : EReal)) : ∑ k, a k = ((∑ k, f k : ℝ) : EReal) := by
  rw [Row.coe_sum]
  exact Finset.sum_congr rfl fun k _ => h k

theorem idx_0 : ∀ t : Fin cfg0.N, win0_0.index t = ![t.val % 32, 0] := by decide +kernel
theorem idx_1 : ∀ t : Fin cfg0.N, win0_1.index t = ![t.val % 32, 0] := by decide +kernel
theorem idx_2 : ∀ t : Fin cfg0.N, win0_2.index t = ![0, 0, 0] := by decide +kernel
theorem idx_3 : ∀ t : Fin cfg0.N, win0_3.index t = ![t.val % 32, 0] := by decide +kernel
theorem idx_4 : ∀ t : Fin cfg0.N, win0_4.index t = ![t.val % 32, 0] := by decide +kernel
theorem idx_5 : ∀ t : Fin cfg0.N, win0_5.index t = ![t.val % 32, 0] := by decide +kernel
theorem idx_6 : ∀ t : Fin cfg0.N, win0_6.index t = ![0, 0] := by decide +kernel
theorem idx_7 : ∀ t : Fin cfg0.N, win0_7.index t = ![t.val % 32, 0] := by decide +kernel
theorem idx_8 : ∀ t : Fin cfg0.N, win0_8.index t = ![t.val % 32, 0] := by decide +kernel

variable (m : (ℓ : Loc nD τ sig) → Buf (Elt Ideal) ℓ) (c : Dev nD)

/-- The arguments are real arrays. -/
structure Given (X : Fin 16384 → Fin 1024 → ℝ) (g : Fin 1024 → ℝ) (W : Fin 1024 → Fin 5632 → ℝ) (P Q : Fin 16384 → Fin 2816 → ℝ)
    (Y : Fin 16384 → Fin 1024 → ℝ) : Prop where
  x : m (c, Proc.tc.devRef main_arg0) = mat X
  g : m (c, Proc.tc.devRef main_arg1) = vec g
  w : m (c, Proc.tc.devRef main_arg3) = mat W
  p : m (c, Proc.tc.devRef main_arg4) = mat P
  q : m (c, Proc.tc.devRef main_arg5) = mat Q
  y : m (c, Proc.tc.devRef main_arg6) = mat Y

variable {m c} {X : Fin 16384 → Fin 1024 → ℝ} {g : Fin 1024 → ℝ} {W : Fin 1024 → Fin 5632 → ℝ} {P Q : Fin 16384 → Fin 2816 → ℝ}
  {Y : Fin 16384 → Fin 1024 → ℝ}

/-- The cotangents of the gates a step reads. -/
theorem read_0 (H : Given m c X g W P Q Y) (t : Fin cfg0.N) (i : Fin 512) (k : Fin 2816) : (iblk m c 0 t : S512x2816.Idx → EReal) (ix2 i k)
    = ((P (rows t i) k : ℝ) : EReal) := by
  have p : ((cfg0.win 0).blk t).view.emb (ix2 i k) = ix2 (n0 := 16384) (n1 := 2816) (rows t i) k := by blk_ext [idx_0]
  show V m c main_arg4 (((cfg0.win 0).blk t).view.emb (ix2 i k)) = _
  rw [p, V_main_arg4]
  exact congrFun H.p _

/-- The cotangents of the linear factors a step reads. -/
theorem read_1 (H : Given m c X g W P Q Y) (t : Fin cfg0.N) (i : Fin 512) (k : Fin 2816) : (iblk m c 1 t : S512x2816.Idx → EReal) (ix2 i k)
    = ((Q (rows t i) k : ℝ) : EReal) := by
  have p : ((cfg0.win 1).blk t).view.emb (ix2 i k) = ix2 (n0 := 16384) (n1 := 2816) (rows t i) k := by blk_ext [idx_1]
  show V m c main_arg5 (((cfg0.win 1).blk t).view.emb (ix2 i k)) = _
  rw [p, V_main_arg5]
  exact congrFun H.q _

/-- The slabs of the weight. -/
theorem read_2 (H : Given m c X g W P Q Y) (t : Fin cfg0.N) (s : Fin 4) (j : Fin 1024) (q : Fin 1408) :
    (iblk m c 2 t : S4x1024x1408.Idx → EReal) (ix3 s j q) = ((W j (col s q) : ℝ) : EReal) := by
  have p : ((cfg0.win 2).blk t).view.emb (ix3 s j q) = ix3 (n0 := 4) (n1 := 1024) (n2 := 1408) s j q := by blk_ext [idx_2]
  show V m c main_v22 (((cfg0.win 2).blk t).view.emb (ix3 s j q)) = _
  rw [p, Host.v22_word]
  refine (transpose_apply _ _ _ _ (ix3 j s q) ?_).trans ((shapeCast_apply _ _ _ (ix2 j (col s q)) ?_).trans (congrFun H.w _))
  · intro b
    match b with
    | ⟨0, _⟩ => rfl
    | ⟨1, _⟩ => rfl
    | ⟨2, _⟩ => rfl
  · rewrite [Shape.rowMajor_val_two, Shape.rowMajor_val_three]
    show j.val * 5632 + (s.val * 1408 + q.val) = (j.val * 4 + s.val) * 1408 + q.val
    omega

/-- The residual's cotangent a step reads. -/
theorem read_3 (H : Given m c X g W P Q Y) (t : Fin cfg0.N) (i : Fin 512) (j : Fin 1024) : (iblk m c 3 t : S512x1024.Idx → EReal) (ix2 i j)
    = ((Y (rows t i) j : ℝ) : EReal) := by
  have p : ((cfg0.win 3).blk t).view.emb (ix2 i j) = ix2 (n0 := 16384) (n1 := 1024) (rows t i) j := by blk_ext [idx_3]
  show V m c main_arg6 (((cfg0.win 3).blk t).view.emb (ix2 i j)) = _
  rw [p, V_main_arg6]
  exact congrFun H.y _

/-- The normal rows a step reads. -/
theorem read_4 (H : Given m c X g W P Q Y) (t : Fin cfg0.N) (i : Fin 512) (j : Fin 1024) : (iblk m c 4 t : S512x1024.Idx → EReal) (ix2 i j)
    = ((hat (X (rows t i)) j : ℝ) : EReal) := by
  have p : ((cfg0.win 4).blk t).view.emb (ix2 i j) = ix2 (n0 := 16384) (n1 := 1024) (rows t i) j := by blk_ext [idx_4]
  show V m c main_v23 (((cfg0.win 4).blk t).view.emb (ix2 i j)) = _
  rw [p, Host.v23_word, H.x]
  exact v22_at X (ix2 (rows t i) j)

/-- The reciprocals of the standard deviations a step reads. -/
theorem read_5 (H : Given m c X g W P Q Y) (t : Fin cfg0.N) (i : Fin 512) : (iblk m c 5 t : S512x1.Idx → EReal) (ix2 i 0)
    = ((rs (X (rows t i)) : ℝ) : EReal) := by
  have p : ((cfg0.win 5).blk t).view.emb (ix2 i 0) = ix2 (n0 := 16384) (n1 := 1) (rows t i) 0 := by blk_ext [idx_5]
  show V m c main_v20 (((cfg0.win 5).blk t).view.emb (ix2 i 0)) = _
  rw [p, Host.v20_word, H.x]
  exact v17_at X (ix2 (rows t i) 0)

/-- The scales a step reads. -/
theorem read_6 (H : Given m c X g W P Q Y) (t : Fin cfg0.N) (j : Fin 1024) : (iblk m c 6 t : S1x1024.Idx → EReal) (ix2 0 j)
    = ((g j : ℝ) : EReal) := by
  have p : ((cfg0.win 6).blk t).view.emb (ix2 0 j) = ix2 (n0 := 1) (n1 := 1024) 0 j := by blk_ext [idx_6]
  show V m c main_v24 (((cfg0.win 6).blk t).view.emb (ix2 0 j)) = _
  rw [p, Host.v24_word, H.g]
  refine (broadcastInDim_apply _ _ _ _ (ix1 (n0 := 1024) j) fun a => ?_).trans rfl
  match a with
  | ⟨0, _⟩ => rfl

/-- The left half of the columns of a block. -/
theorem left_at (x : S512x2816.Idx → EReal) (i : Fin 512) (q : Fin 1408) :
    View.ld (Val := Elt Ideal) (e' := .bf16) x (Rect.unit ![0, 0] ![512, 1408] inb_S512x2816_S512x1408_0_0) (ix2 i q) = x (ix2 i (half 0 q)) := by
  refine congrArg x (funext fun a => ?_)
  match a with
  | ⟨0, _⟩ => exact Fin.ext (by show 0 + 1 * i.val = i.val; omega)
  | ⟨1, _⟩ => exact Fin.ext (by show 0 + 1 * q.val = 0 * 1408 + q.val; omega)

/-- The right half of the columns of a block. -/
theorem right_at (x : S512x2816.Idx → EReal) (i : Fin 512) (q : Fin 1408) :
    View.ld (Val := Elt Ideal) (e' := .bf16) x (Rect.unit ![0, 1408] ![512, 1408] inb_S512x2816_S512x1408_0_1408) (ix2 i q) = x (ix2 i (half 1 q)) := by
  refine congrArg x (funext fun a => ?_)
  match a with
  | ⟨0, _⟩ => exact Fin.ext (by show 0 + 1 * i.val = i.val; omega)
  | ⟨1, _⟩ => exact Fin.ext (by show 1408 + 1 * q.val = 1 * 1408 + q.val; omega)

/-- One slab of the weight. -/
theorem slab_at (x : S4x1024x1408.Idx → EReal) (s : Fin 4) (off : Fin 3 → ℕ) (h) (h0 : off 0 = s.val) (h1 : off 1 = 0) (h2 : off 2 = 0)
    (j : Fin 1024) (q : Fin 1408) :
    View.ld (Val := Elt Ideal) (e' := .bf16) x (Rect.unit off ![1, 1024, 1408] h) (ix3 (n0 := 1) 0 j q) = x (ix3 s j q) := by
  refine congrArg x (funext fun a => ?_)
  match a with
  | ⟨0, _⟩ => exact Fin.ext (by show off 0 + 1 * 0 = s.val; omega)
  | ⟨1, _⟩ => exact Fin.ext (by show off 1 + 1 * j.val = j.val; omega)
  | ⟨2, _⟩ => exact Fin.ext (by show off 2 + 1 * q.val = q.val; omega)

variable (m c) in
/-- A step's cotangents of the normal rows, as the kernel computes them. -/
noncomputable abbrev cot (t : Fin cfg0.N) : FVec Ideal S512x1024 .f32 :=
  k0_pay2 (F := Ideal) (View.ld (iblk m c 0 t) (Rect.unit ![0, 0] ![512, 1408] inb_S512x2816_S512x1408_0_0))
    (View.ld (iblk m c 2 t) (Rect.unit ![0, 0, 0] ![1, 1024, 1408] inb_S4x1024x1408_S1x1024x1408_0_0_0))
    (View.ld (iblk m c 0 t) (Rect.unit ![0, 1408] ![512, 1408] inb_S512x2816_S512x1408_0_1408))
    (View.ld (iblk m c 2 t) (Rect.unit ![1, 0, 0] ![1, 1024, 1408] inb_S4x1024x1408_S1x1024x1408_1_0_0))
    (View.ld (iblk m c 1 t) (Rect.unit ![0, 0] ![512, 1408] inb_S512x2816_S512x1408_0_0))
    (View.ld (iblk m c 2 t) (Rect.unit ![2, 0, 0] ![1, 1024, 1408] inb_S4x1024x1408_S1x1024x1408_2_0_0))
    (View.ld (iblk m c 1 t) (Rect.unit ![0, 1408] ![512, 1408] inb_S512x2816_S512x1408_0_1408))
    (View.ld (iblk m c 2 t) (Rect.unit ![3, 0, 0] ![1, 1024, 1408] inb_S4x1024x1408_S1x1024x1408_3_0_0))
    (iblk m c 3 t)

/-- They are the cotangents of the normal rows. -/
theorem cot_at (H : Given m c X g W P Q Y) (t : Fin cfg0.N) (i : Fin 512) (j : Fin 1024) :
    cot m c t (ix2 i j) = ((ct W P Q Y (rows t i) j : ℝ) : EReal) := by
  refine (Pay.pay2_at _ _ _ _ _ _ _ _ _ i j).trans (Eq.trans ?_ (congrArg (fun z : ℝ => (z : EReal)) (ct_split W P Q Y (rows t i) j)))
  refine add_at (add_at (add_at (add_at ?_ ?_) ?_) ?_) (mul_at alphaW_eq (read_3 H t i j))
  · exact sum_real _ _ fun q => mul_at ((left_at _ i q).trans (read_0 H t i _)) ((slab_at _ 0 _ _ rfl rfl rfl j q).trans (read_2 H t 0 j q))
  · exact sum_real _ _ fun q => mul_at ((right_at _ i q).trans (read_0 H t i _)) ((slab_at _ 1 _ _ rfl rfl rfl j q).trans (read_2 H t 1 j q))
  · exact sum_real _ _ fun q => mul_at ((left_at _ i q).trans (read_1 H t i _)) ((slab_at _ 2 _ _ rfl rfl rfl j q).trans (read_2 H t 2 j q))
  · exact sum_real _ _ fun q => mul_at ((right_at _ i q).trans (read_1 H t i _)) ((slab_at _ 3 _ _ rfl rfl rfl j q).trans (read_2 H t 3 j q))

/-- A step's gradient in the rows. -/
theorem row_at (H : Given m c X g W P Q Y) (t : Fin cfg0.N) (i : Fin 512) (j : Fin 1024) :
    k0_pay5 (F := Ideal) (cot m c t) (k0_pay3 (F := Ideal) (iblk m c 4 t)) (k0_pay4 (F := Ideal) (iblk m c 5 t)) (iblk m c 6 t) (ix2 i j)
      = ((grad (X (rows t i)) g (ct W P Q Y (rows t i)) j : ℝ) : EReal) := by
  have h3 := congrFun (Pay.pay3_eq (iblk m c 4 t))
  have h4 := congrFun (Pay.pay4_eq (iblk m c 5 t))
  have hh : ∀ k, k0_pay3 (F := Ideal) (iblk m c 4 t) (ix2 i k) = ((hat (X (rows t i)) k : ℝ) : EReal) := fun k => (h3 _).trans (read_4 H t i k)
  have hv : ∀ k, cot m c t (ix2 i k) * (iblk m c 6 t : S1x1024.Idx → EReal) (ix2 0 k) = ((ct W P Q Y (rows t i) k * g k : ℝ) : EReal) :=
    fun k => mul_at (cot_at H t i k) (read_6 H t k)
  refine (Pay.pay5_at _ _ _ _ i j).trans ?_
  refine mul_at ((h4 _).trans (read_5 H t i)) (sub_at (sub_at (hv j) (over_n _ _ (sum_real _ _ hv))) (mul_at (hh j) (over_n _ _ (sum_real _ _ fun k => mul_at (hv k) (hh k)))))

/-- The rows' gradients of a step, in the wide format. -/
theorem step_7 (H : Given m c X g W P Q Y) (t : Fin cfg0.N) (i : Fin 512) (j : Fin 1024) :
    ((outsAt0 m c t.val t.isLt).1 : S512x1024.Idx → EReal) (ix2 i j) = ((grad (X (rows t i)) g (ct W P Q Y (rows t i)) j : ℝ) : EReal) := by
  by_cases h0 : t.val % 32 = 0
  · rw [outsAt0_A m c t h0]
    dsimp only
    frame_out
    exact row_at H t i j
  · rw [outsAt0_B m c t h0]
    dsimp only
    frame_out
    exact row_at H t i j

/-- The rows' gradients of a step, in the narrow format. -/
theorem step_8 (H : Given m c X g W P Q Y) (t : Fin cfg0.N) (i : Fin 512) (j : Fin 1024) :
    ((outsAt0 m c t.val t.isLt).2.1 : S512x1024.Idx → EReal) (ix2 i j) = ((grad (X (rows t i)) g (ct W P Q Y (rows t i)) j : ℝ) : EReal) := by
  by_cases h0 : t.val % 32 = 0
  · rw [outsAt0_A m c t h0]
    dsimp only
    frame_out
    exact row_at H t i j
  · rw [outsAt0_B m c t h0]
    dsimp only
    frame_out
    exact row_at H t i j

/-- The array of the rows' gradients. -/
theorem arr_7 (H : Given m c X g W P Q Y) : (dats m 0 c).arrAt 7 cfg0.N
    = mat (a := 16384) (b := 1024) fun i j => grad (X i) g (ct W P Q Y i) j := by
  refine (dats m 0 c).arrAt_eq_of_covers 7 _ (by decide +kernel) fun t hf y => ?_
  rw [after0_7]
  obtain ⟨i, j, rfl⟩ : ∃ (i : Fin 512) (j : Fin 1024), y = ix2 i j := ⟨y 0, y 1, (ix2_eta y).symm⟩
  have p : ((cfg0.win 7).blk t).view.emb (ix2 i j) = ix2 (n0 := 16384) (n1 := 1024) (rows t i) j := by blk_ext [idx_7]
  have q : (cfg0.win 7).xinj (cfg0.grid.coords t) (ix2 i j) = ix2 (n0 := 512) (n1 := 1024) i j := by
    funext a; match a with | ⟨0, _⟩ => rfl | ⟨1, _⟩ => rfl
  rw [p, q]
  exact (cast_eq _ _).trans (step_7 H t i j)

/-- The same array in the narrow format. -/
theorem arr_8 (H : Given m c X g W P Q Y) : (dats m 0 c).arrAt 8 cfg0.N
    = mat (a := 16384) (b := 1024) fun i j => grad (X i) g (ct W P Q Y i) j := by
  refine (dats m 0 c).arrAt_eq_of_covers 8 _ (by decide +kernel) fun t hf y => ?_
  rw [after0_8]
  obtain ⟨i, j, rfl⟩ : ∃ (i : Fin 512) (j : Fin 1024), y = ix2 i j := ⟨y 0, y 1, (ix2_eta y).symm⟩
  have p : ((cfg0.win 8).blk t).view.emb (ix2 i j) = ix2 (n0 := 16384) (n1 := 1024) (rows t i) j := by blk_ext [idx_8]
  have q : (cfg0.win 8).xinj (cfg0.grid.coords t) (ix2 i j) = ix2 (n0 := 512) (n1 := 1024) i j := by
    funext a; match a with | ⟨0, _⟩ => rfl | ⟨1, _⟩ => rfl
  rw [p, q]
  exact (cast_eq _ _).trans (step_8 H t i j)

/-- The last grid step. -/
abbrev lastStep : Fin cfg0.N := ⟨31, by decide⟩

variable (m c) in
/-- What a step adds to the scales' gradients. -/
noncomputable def gterm (t : Fin cfg0.N) (y : S1x1024.Idx) : EReal :=
  ∑ q : Fin 512, cot m c t (ix2 q (y 1)) * k0_pay3 (F := Ideal) (iblk m c 4 t) (ix2 q (y 1))

variable (m c) in
/-- What a step adds to the shifts' gradients. -/
noncomputable def bterm (t : Fin cfg0.N) (y : S1x1024.Idx) : EReal := ∑ q : Fin 512, cot m c t (ix2 q (y 1))

/-- An index of a row. -/
theorem row_idx (y : S1x1024.Idx) : ∃ j : Fin 1024, y = ix2 (n0 := 1) (n1 := 1024) 0 j := by
  refine ⟨y 1, ?_⟩
  funext a
  match a with
  | ⟨0, _⟩ => exact Fin.ext (by have h : (y 0).val < 1 := (y 0).isLt; show (y 0).val = 0; omega)
  | ⟨1, _⟩ => rfl

variable (m c)

theorem gfirst (t : Fin cfg0.N) (h : t.val % 32 = 0) (y : S1x1024.Idx) :
    ((outsAt0 m c t.val t.isLt).2.2.1 : S1x1024.Idx → EReal) y = 0 + gterm m c t y := by
  obtain ⟨j, rfl⟩ := row_idx y
  rw [outsAt0_A m c t h]
  dsimp only
  frame_out
  exact (Pay.pay10_at _ _ _ j).trans (congrArg (· + _) (Pay.zero_at _))

theorem gnext (t : Fin cfg0.N) (h : ¬t.val % 32 = 0) (y : S1x1024.Idx) :
    ((outsAt0 m c t.val t.isLt).2.2.1 : S1x1024.Idx → EReal) y
      = ((outsAt0 m c (t.val - 1) (Nat.lt_of_le_of_lt (Nat.sub_le _ _) t.isLt)).2.2.1 : S1x1024.Idx → EReal) y + gterm m c t y := by
  obtain ⟨j, rfl⟩ := row_idx y
  rw [outsAt0_B m c t h]
  dsimp only
  frame_out
  exact Pay.pay10_at _ _ _ j

theorem bfirst (t : Fin cfg0.N) (h : t.val % 32 = 0) (y : S1x1024.Idx) :
    ((outsAt0 m c t.val t.isLt).2.2.2 : S1x1024.Idx → EReal) y = 0 + bterm m c t y := by
  obtain ⟨j, rfl⟩ := row_idx y
  rw [outsAt0_A m c t h]
  dsimp only
  frame_out
  exact (Pay.pay1_at _ _ j).trans (congrArg₂ (· + ·) (Pay.zero_at' _) (Pay.pay6_at _ j))

theorem bnext (t : Fin cfg0.N) (h : ¬t.val % 32 = 0) (y : S1x1024.Idx) :
    ((outsAt0 m c t.val t.isLt).2.2.2 : S1x1024.Idx → EReal) y
      = ((outsAt0 m c (t.val - 1) (Nat.lt_of_le_of_lt (Nat.sub_le _ _) t.isLt)).2.2.2 : S1x1024.Idx → EReal) y + bterm m c t y := by
  obtain ⟨j, rfl⟩ := row_idx y
  rw [outsAt0_B m c t h]
  dsimp only
  frame_out
  exact (Pay.pay1_at _ _ j).trans (congrArg (_ + ·) (Pay.pay6_at _ j))

variable {m c}

/-- The row of a step's block as a row of the whole. -/
theorem row_of (r : Fin 32) (h) (q : Fin 512) : rows ⟨32 * (31 / 32) + r.val, h⟩ q = ⟨r.val * 512 + q.val, by omega⟩ :=
  Fin.ext (by show (32 * (31 / 32) + r.val) % 32 * 512 + q.val = r.val * 512 + q.val; omega)

/-- The array of the scales' gradients. -/
theorem arr_9 (H : Given m c X g W P Q Y) : (dats m 0 c).arrAt 9 cfg0.N
    = mat (a := 1) (b := 1024) fun _ j => ∑ k, hat (X k) j * ct W P Q Y k j := by
  have e : (dats m 0 c).arrAt 9 cfg0.N = (outsAt0 m c lastStep.val lastStep.isLt).2.2.1 := by
    refine (dats m 0 c).arrAt_eq_of_after_last 9 lastStep (by decide +kernel) _ fun j => ?_
    rw [after0_9]
    generalize (outsAt0 m c lastStep.val lastStep.isLt).2.2.1 = Z
    exact (cast_eq _ _).trans (congrArg Z (funext fun a => Fin.ext rfl))
  refine e.trans (funext fun y => ?_)
  obtain ⟨j, rfl⟩ := row_idx y
  refine (Pipeline.eq_sum_fin_of_reset_step_apply_of_flush (fun n h => ((outsAt0 m c n h).2.2.1 : S1x1024.Idx → EReal)) 32 (fun _ => 0) (gterm m c)
    (gfirst m c) (gnext m c) lastStep rfl (ix2 0 j)).trans ((zero_add _).trans ?_)
  refine Eq.trans ?_ (congrArg (fun z : ℝ => (z : EReal)) (Fin.sum_mul_add_fin 32 512 fun k : Fin 16384 => hat (X k) j * ct W P Q Y k j))
  refine sum_real _ _ fun r => sum_real _ _ fun q => (mul_comm _ _).trans ?_
  refine (mul_at ((congrFun (Pay.pay3_eq (iblk m c 4 _)) _).trans (read_4 H _ q j)) (cot_at H _ q j)).trans ?_
  exact congrArg (fun k : Fin 16384 => ((hat (X k) j * ct W P Q Y k j : ℝ) : EReal)) (row_of r _ q)

/-- The array of the shifts' gradients. -/
theorem arr_10 (H : Given m c X g W P Q Y) : (dats m 0 c).arrAt 10 cfg0.N
    = mat (a := 1) (b := 1024) fun _ j => ∑ k, ct W P Q Y k j := by
  have e : (dats m 0 c).arrAt 10 cfg0.N = (outsAt0 m c lastStep.val lastStep.isLt).2.2.2 := by
    refine (dats m 0 c).arrAt_eq_of_after_last 10 lastStep (by decide +kernel) _ fun j => ?_
    rw [after0_10]
    generalize (outsAt0 m c lastStep.val lastStep.isLt).2.2.2 = Z
    exact (cast_eq _ _).trans (congrArg Z (funext fun a => Fin.ext rfl))
  refine e.trans (funext fun y => ?_)
  obtain ⟨j, rfl⟩ := row_idx y
  refine (Pipeline.eq_sum_fin_of_reset_step_apply_of_flush (fun n h => ((outsAt0 m c n h).2.2.2 : S1x1024.Idx → EReal)) 32 (fun _ => 0) (bterm m c)
    (bfirst m c) (bnext m c) lastStep rfl (ix2 0 j)).trans ((zero_add _).trans ?_)
  refine Eq.trans ?_ (congrArg (fun z : ℝ => (z : EReal)) (Fin.sum_mul_add_fin 32 512 fun k : Fin 16384 => ct W P Q Y k j))
  refine sum_real _ _ fun r => sum_real _ _ fun q => (cot_at H _ q j).trans ?_
  exact congrArg (fun k : Fin 16384 => ((ct W P Q Y k j : ℝ) : EReal)) (row_of r _ q)

end Cert.Norm.Kern
-- ==== Proof.Claims.Norm.lean ====
module

public import proofs.«01_k».proof.Defs
public import proofs.«01_k».proof.Proof.Gen.Pre_finite_in
public import proofs.«01_k».proof.Proof.Gen.NormRefIdeal.Run
public import proofs.«01_k».proof.Proof.Norm.Ref
public import proofs.«01_k».proof.Proof.Norm.Kern
public import proofs.«01_k».proof.Proof.Finite

@[expose] public section

/-! The claims about the way back through the first feed-forward product and its layer norm. -/

namespace Cert.Claims.Norm
open Idealize.ShloMosaic Idealize.SL.Sem Cert.Slope Cert.Norm

/-- A vector of finite entries is a vector of real numbers. -/
theorem vector {a : ℕ} (x : FVec Ideal ⟨1, ![a]⟩ .f32) (hc)
    (h : cmpf .olt (Host.absf x) (broadcastInDim (s := ⟨0, ![]⟩) ⟨1, ![a]⟩ ![] hc (constant ⟨0, ![]⟩ .f32 0x7F800000#32)) = fun _ => 1#1) :
    x = vec fun i => (x (ix1 (n0 := a) i) : EReal).toReal := by
  funext i
  obtain ⟨p, rfl⟩ : ∃ p : Fin a, i = ix1 p := ⟨i 0, by funext d; match d with | ⟨0, _⟩ => rfl⟩
  exact (Cert.Finite.real_of (x (ix1 p)) (congrFun h (ix1 p))).symm

/-- The reference declares no semaphore, so its counters are at zero at every final state. -/
theorem sems (s : MemSt Cert.NormRefIdeal.nD Cert.NormRefIdeal.τ Cert.NormRefIdeal.sig (Elt Ideal)) : s.sem = fun _ => 0 := by
  have none : IsEmpty (SemLoc Cert.NormRefIdeal.sig) := Finset.univ_eq_empty_iff.mp (by decide)
  exact funext fun x => none.elim x.2

/-- The reference runs, its arguments end unchanged and its counters at zero. -/
theorem frame : Cert.quiescent_NormRefIdeal (hNormRefIdeal := Cert.NormRefIdeal.Gen.facts) := fun m ρ _ =>
  (θ_run Cert.NormRefIdeal.defs _ _).mono (fun r h => ⟨fun c => (h c).2.2.2.2, sems r.2⟩) (Cert.NormRefIdeal.Value.run (F := Ideal) m ρ)

/-- At finite arguments the kernel's four arrays are the reference's results, and both programs keep their arguments. -/
theorem algebraic : Cert.algebraic_NormIdeal_NormRefIdeal_pre_finite_in (hNormIdeal := Cert.NormIdeal.Gen.facts)
    (hNormRefIdeal := Cert.NormRefIdeal.Gen.facts) (hPre_finite_in := Cert.Pre_finite_in.Gen.facts) := by
  intro m g m' g' pre same
  have H : ∀ c, ∃ (X : Fin 16384 → Fin 1024 → ℝ) (G : Fin 1024 → ℝ) (W : Fin 1024 → Fin 5632 → ℝ) (P Q : Fin 16384 → Fin 2816 → ℝ)
      (Y : Fin 16384 → Fin 1024 → ℝ), Cert.Norm.Kern.Given m c X G W P Q Y := fun c =>
    ⟨_, _, _, _, _, _, ⟨Cert.Finite.wide _ _ (pre c).1, vector _ _ (pre c).2.1, Cert.Finite.narrow _ _ _ (pre c).2.2.1,
      Cert.Finite.narrow _ _ _ (pre c).2.2.2.1, Cert.Finite.narrow _ _ _ (pre c).2.2.2.2.1, Cert.Finite.wide _ _ (pre c).2.2.2.2.2⟩⟩
  refine ⟨fun c => (Cert.NormIdeal.Gen.dats m 0 c).arrAt 7 Cert.NormIdeal.cfg0.N,
    fun c => (Cert.NormIdeal.Gen.dats m 0 c).arrAt 8 Cert.NormIdeal.cfg0.N, fun c => (Cert.NormIdeal.Gen.dats m 0 c).arrAt 9 Cert.NormIdeal.cfg0.N,
    fun c => (Cert.NormIdeal.Gen.dats m 0 c).arrAt 10 Cert.NormIdeal.cfg0.N, Cert.NormIdeal.Value.run_blocks (F := Ideal) m g, ?_⟩
  refine (θ_run Cert.NormRefIdeal.defs _ _).mono (fun r h c => ?_) (Cert.NormRefIdeal.Value.run (F := Ideal) m' g')
  obtain ⟨h0, h1, h2, h3, rest⟩ := h c
  obtain ⟨X, G, W, P, Q, Y, given⟩ := H c
  obtain ⟨s0, s1, s2, s3, s4, s5, s6⟩ := same c
  have a0 := s0.trans given.x
  have a1 := s1.trans given.g
  have a3 := s3.trans given.w
  have a4 := s4.trans given.p
  have a5 := s5.trans given.q
  have a6 := s6.trans given.y
  have e0 := h0.trans (Cert.NormRefIdeal.Read.val_main_v71_eq m' c)
  have e1 := h1.trans (Cert.NormRefIdeal.Read.val_main_v72_eq m' c)
  have e2 := h2.trans (Cert.NormRefIdeal.Read.val_main_v73_eq _ _ _ _ _)
  have e3 := h3.trans (Cert.NormRefIdeal.Read.val_main_v74_eq _ _ _ _)
  rw [a0, a1, a3, a4, a5, a6] at e0 e1
  rw [a0, a3, a4, a5, a6] at e2
  rw [a3, a4, a5, a6] at e3
  exact ⟨e0.trans ((Cert.Norm.Ref.v71_eq X G W P Q Y).trans (Cert.Norm.Kern.arr_7 given).symm),
    e1.trans ((Cert.Norm.Ref.v72_eq X G W P Q Y).trans (Cert.Norm.Kern.arr_8 given).symm),
    e2.trans ((Cert.Norm.Ref.v73_eq X W P Q Y).trans (Cert.Norm.Kern.arr_9 given).symm),
    e3.trans ((Cert.Norm.Ref.v74_eq W P Q Y).trans (Cert.Norm.Kern.arr_10 given).symm), rest⟩

end Cert.Claims.Norm
-- ==== Proof.Prod.HgrnIn.lean ====
module

public import proofs.«01_k».proof.Proof.Gen.HgrnInIdeal.Value
public import proofs.«01_k».proof.Proof.Gen.HgrnInRefIdeal.Read
public import Idealize.ShloMosaic.Lib.Pipeline.ValueKit
public import Idealize.ShloMosaic.Lib.Pointwise.Index

@[expose] public section

/-! The projection of the recurrent layer: 128 steps, each a block of 512 rows by 1280 columns. -/

set_option maxRecDepth 16384

namespace Cert.Prod.HgrnIn
open Idealize.ShloMosaic Idealize.ShloMosaic.TcCoe Idealize.SL.Sem Cert.HgrnInIdeal Cert.HgrnInIdeal.Gen

/-- The product of two blocks. -/
theorem pay1_at (x : Vec Ideal S512x1024 .bf16) (y : Vec Ideal S1024x1280 .bf16) (i : Fin 512) (j : Fin 1280) :
    k0_pay1 (F := Ideal) x y (ix2 i j) = ∑ q : Fin 1024, x (ix2 i q) * y (ix2 q j) := by
  unfold k0_pay1
  pointwise

theorem idx_0 : ∀ t : Fin cfg0.N, win0_0.index t = ![t.val % 32, 0] := by decide +kernel
theorem idx_1 : ∀ t : Fin cfg0.N, win0_1.index t = ![0, t.val / 32] := by decide +kernel
theorem idx_2 : ∀ t : Fin cfg0.N, win0_2.index t = ![t.val % 32, t.val / 32] := by decide +kernel

/-- The rows of a step. -/
abbrev rows (t : Fin cfg0.N) (i : Fin 512) : Fin 16384 := ⟨t.val % 32 * 512 + i.val, by omega⟩

/-- The columns of a step. -/
abbrev cols (t : Fin cfg0.N) (j : Fin 1280) : Fin 5120 := ⟨t.val / 32 * 1280 + j.val, by have h : t.val < 128 := t.isLt; omega⟩

variable (m : (ℓ : Loc nD τ sig) → Buf (Elt Ideal) ℓ) (c : Dev nD)

/-- The rows a step reads. -/
theorem read_0 (t : Fin cfg0.N) (i : Fin 512) (j : Fin 1024) : (iblk m c 0 t : S512x1024.Idx → EReal) (ix2 i j)
    = m (c, Proc.tc.devRef main_arg0) (ix2 (n0 := 16384) (n1 := 1024) (rows t i) j) := by
  have p : ((cfg0.win 0).blk t).view.emb (ix2 i j) = ix2 (n0 := 16384) (n1 := 1024) (rows t i) j := by blk_ext [idx_0]
  show V m c main_arg0 (((cfg0.win 0).blk t).view.emb (ix2 i j)) = _
  rw [p, V_main_arg0]

/-- The columns of the weight a step reads. -/
theorem read_1 (t : Fin cfg0.N) (i : Fin 1024) (j : Fin 1280) : (iblk m c 1 t : S1024x1280.Idx → EReal) (ix2 i j)
    = m (c, Proc.tc.devRef main_arg1) (ix2 (n0 := 1024) (n1 := 5120) i (cols t j)) := by
  have p : ((cfg0.win 1).blk t).view.emb (ix2 i j) = ix2 (n0 := 1024) (n1 := 5120) i (cols t j) := by blk_ext [idx_1]
  show V m c main_arg1 (((cfg0.win 1).blk t).view.emb (ix2 i j)) = _
  rw [p, V_main_arg1]

/-- One store over a whole block, at its index. -/
theorem whole_at (w : S512x1280.Idx → EReal) (i : Fin 512) (j : Fin 1280) :
    View.canon (Val := Elt Ideal) (e := .f32) [⟨r0_2, w⟩] (ix2 i j) = w (ix2 i j) := by
  have e : r0_2.emb (ix2 i j) = ix2 (n0 := 512) (n1 := 1280) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_2 w [] (ix2 (n0 := 512) (n1 := 1280) i j)
  rw [e] at h
  exact h

/-- A load of a whole block is the block. -/
theorem ld_0 (x : S512x1024.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_1 (x : S1024x1280.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- The reference's result at an index. -/
theorem reference (x : S16384x1024.Idx → EReal) (w : S1024x5120.Idx → EReal) (i : Fin 16384) (j : Fin 5120) :
    Cert.HgrnInRefIdeal.Read.val_main_v2 (F := Ideal) x w (ix2 i j) = ∑ q : Fin 1024, x (ix2 i q) * w (ix2 q j) := by
  rw [Cert.HgrnInRefIdeal.Read.val_main_v2_apply]
  refine Finset.sum_congr rfl fun k _ => congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

/-- A step's block of the result. -/
theorem step (t : Fin cfg0.N) (i : Fin 512) (j : Fin 1280) : out0_2 (F := Ideal) (iblk m c 0 t) (iblk m c 1 t) (ix2 i j)
    = Cert.HgrnInRefIdeal.Read.val_main_v2 (F := Ideal) (m (c, Proc.tc.devRef main_arg0)) (m (c, Proc.tc.devRef main_arg1)) (ix2 (rows t i) (cols t j)) := by
  unfold out0_2
  refine (whole_at _ i j).trans ?_
  rw [ld_0, ld_1]
  refine (pay1_at _ _ i j).trans (Eq.trans (Finset.sum_congr rfl fun q _ => ?_) (reference _ _ _ _).symm)
  exact congrArg₂ (· * ·) (read_0 m c t i q) (read_1 m c t q j)

/-- The kernel's array is the reference's result. -/
theorem same : Cert.HgrnInRefIdeal.Read.val_main_v2 (F := Ideal) (m (c, Proc.tc.devRef main_arg0)) (m (c, Proc.tc.devRef main_arg1)) = (dats m 0 c).arrAt 2 cfg0.N := by
  refine ((dats m 0 c).arrAt_eq_of_covers 2 _ (by decide +kernel) fun t hf y => ?_).symm
  rw [after0_2]
  obtain ⟨i, j, rfl⟩ : ∃ (i : Fin 512) (j : Fin 1280), y = ix2 i j := ⟨y 0, y 1, (ix2_eta y).symm⟩
  have p : ((cfg0.win 2).blk t).view.emb (ix2 i j) = ix2 (n0 := 16384) (n1 := 5120) (rows t i) (cols t j) := by blk_ext [idx_2]
  have q : (cfg0.win 2).xinj (cfg0.grid.coords t) (ix2 i j) = ix2 (n0 := 512) (n1 := 1280) i j := by
    funext a; match a with | ⟨0, _⟩ => rfl | ⟨1, _⟩ => rfl
  rw [p, q]
  exact (cast_eq _ _).trans (step m c t i j)

end Cert.Prod.HgrnIn
-- ==== Proof.Claims.HgrnIn.lean ====
module

public import proofs.«01_k».proof.Defs
public import proofs.«01_k».proof.Proof.Gen.HgrnInRefIdeal.Run
public import proofs.«01_k».proof.Proof.Prod.HgrnIn

@[expose] public section

/-! The claims about the projection of the recurrent layer. -/

namespace Cert.Claims.HgrnIn
open Idealize.ShloMosaic Idealize.SL.Sem

/-- The reference declares no semaphore, so its counters are at zero at every final state. -/
theorem sems (s : MemSt Cert.HgrnInRefIdeal.nD Cert.HgrnInRefIdeal.τ Cert.HgrnInRefIdeal.sig (Elt Ideal)) : s.sem = fun _ => 0 := by
  have none : IsEmpty (SemLoc Cert.HgrnInRefIdeal.sig) := Finset.univ_eq_empty_iff.mp (by decide)
  exact funext fun x => none.elim x.2

/-- The reference runs, its arguments end unchanged and its counters at zero. -/
theorem frame : Cert.quiescent_HgrnInRefIdeal (hHgrnInRefIdeal := Cert.HgrnInRefIdeal.Gen.facts) := fun m ρ _ =>
  (θ_run Cert.HgrnInRefIdeal.defs _ _).mono (fun r h => ⟨fun c => (h c).2, sems r.2⟩) (Cert.HgrnInRefIdeal.Value.run (F := Ideal) m ρ)

/-- The kernel's array is the reference's result, and both programs keep their arguments. -/
theorem algebraic : Cert.algebraic_HgrnInIdeal_HgrnInRefIdeal (hHgrnInIdeal := Cert.HgrnInIdeal.Gen.facts)
    (hHgrnInRefIdeal := Cert.HgrnInRefIdeal.Gen.facts) := by
  intro m g m' g' _ same
  refine ⟨fun c => (Cert.HgrnInIdeal.Gen.dats m 0 c).arrAt 2 Cert.HgrnInIdeal.cfg0.N, Cert.HgrnInIdeal.Value.run_blocks (F := Ideal) m g, ?_⟩
  refine (θ_run Cert.HgrnInRefIdeal.defs _ _).mono (fun r h c => ?_) (Cert.HgrnInRefIdeal.Value.run (F := Ideal) m' g')
  obtain ⟨h0, rest⟩ := h c
  obtain ⟨s0, s1⟩ := same c
  have e := h0.trans (Cert.HgrnInRefIdeal.Read.val_main_v2_eq _ _)
  rw [s0, s1] at e
  exact ⟨e.trans (Cert.Prod.HgrnIn.same m c), rest⟩

end Cert.Claims.HgrnIn
-- ==== Proof.Prod.HgrnBack.lean ====
module

public import proofs.«01_k».proof.Proof.Gen.HgrnBackIdeal.Value
public import proofs.«01_k».proof.Proof.Gen.HgrnBackRefIdeal.Read
public import Idealize.ShloMosaic.Lib.Pipeline.ValueKit
public import Idealize.ShloMosaic.Lib.Pointwise.Index

@[expose] public section

/-! The way back through the projection of the recurrent layer, its cotangent in five parts, with the residual's part: 32 steps of 512 rows. -/

set_option maxRecDepth 16384

namespace Cert.Prod.HgrnBack
open Idealize.ShloMosaic Idealize.ShloMosaic.TcCoe Idealize.SL.Sem Cert.HgrnBackIdeal Cert.HgrnBackIdeal.Gen

theorem dot_at (x : FVec Ideal S512x1024 .bf16) (y : FVec Ideal S1024x1024 .bf16) (i : Fin 512) (j : Fin 1024) :
    matmul (F := Ideal) dot_S512x1024_S1024x1024_S512x1024_1_1_0_0_n_n none x y (constant S512x1024 .f32 0x00000000#32) (ix2 i j)
      = ∑ q : Fin 1024, x (ix2 i q) * y (ix2 j q) := by
  pointwise

/-- Five products and the residual's part. -/
theorem pay1_at (x0 : Vec Ideal S512x1024 .bf16) (y0 : Vec Ideal S1024x1024 .bf16) (x1 : Vec Ideal S512x1024 .bf16) (y1 : Vec Ideal S1024x1024 .bf16) (x2 : Vec Ideal S512x1024 .bf16) (y2 : Vec Ideal S1024x1024 .bf16) (x3 : Vec Ideal S512x1024 .bf16) (y3 : Vec Ideal S1024x1024 .bf16) (x4 : Vec Ideal S512x1024 .bf16) (y4 : Vec Ideal S1024x1024 .bf16) (z : Vec Ideal S512x1024 .f32) (i : Fin 512) (j : Fin 1024) :
    k0_pay1 (F := Ideal) x0 y0 x1 y1 x2 y2 x3 y3 x4 y4 z (ix2 i j)
      = (((((∑ q : Fin 1024, x0 (ix2 i q) * y0 (ix2 j q)) + (∑ q : Fin 1024, x1 (ix2 i q) * y1 (ix2 j q))) + (∑ q : Fin 1024, x2 (ix2 i q) * y2 (ix2 j q))) + (∑ q : Fin 1024, x3 (ix2 i q) * y3 (ix2 j q))) + (∑ q : Fin 1024, x4 (ix2 i q) * y4 (ix2 j q))) + Ideal.ofBits .f32 0x3FD744FD#32 * z (ix2 i j) := by
  unfold k0_pay1
  exact congrArg₂ (· + ·) (congrArg₂ (· + ·) (congrArg₂ (· + ·) (congrArg₂ (· + ·) (congrArg₂ (· + ·) (dot_at _ _ i j) (dot_at _ _ i j)) (dot_at _ _ i j))
    (dot_at _ _ i j)) (dot_at _ _ i j)) rfl

theorem idx_0 : ∀ t : Fin cfg0.N, win0_0.index t = ![t.val % 32, 0] := by decide +kernel
theorem idx_1 : ∀ t : Fin cfg0.N, win0_1.index t = ![t.val % 32, 0] := by decide +kernel
theorem idx_2 : ∀ t : Fin cfg0.N, win0_2.index t = ![t.val % 32, 0] := by decide +kernel
theorem idx_3 : ∀ t : Fin cfg0.N, win0_3.index t = ![t.val % 32, 0] := by decide +kernel
theorem idx_4 : ∀ t : Fin cfg0.N, win0_4.index t = ![t.val % 32, 0] := by decide +kernel
theorem idx_5 : ∀ t : Fin cfg0.N, win0_5.index t = ![0, 0] := by decide +kernel
theorem idx_6 : ∀ t : Fin cfg0.N, win0_6.index t = ![t.val % 32, 0] := by decide +kernel
theorem idx_7 : ∀ t : Fin cfg0.N, win0_7.index t = ![t.val % 32, 0] := by decide +kernel

/-- The rows of a step. -/
abbrev rows (t : Fin cfg0.N) (i : Fin 512) : Fin 16384 := ⟨t.val % 32 * 512 + i.val, by omega⟩

/-- The columns of one part of the cotangent. -/
abbrev col (s : Fin 5) (q : Fin 1024) : Fin 5120 := ⟨s.val * 1024 + q.val, by omega⟩

variable (m : (ℓ : Loc nD τ sig) → Buf (Elt Ideal) ℓ) (c : Dev nD)

/-- The rows of a part of the cotangent a step reads. -/
theorem read_0 (t : Fin cfg0.N) (i : Fin 512) (j : Fin 1024) : (iblk m c 0 t : S512x1024.Idx → EReal) (ix2 i j)
    = m (c, Proc.tc.devRef main_arg1) (ix2 (n0 := 16384) (n1 := 1024) (rows t i) j) := by
  have p : ((cfg0.win 0).blk t).view.emb (ix2 i j) = ix2 (n0 := 16384) (n1 := 1024) (rows t i) j := by blk_ext [idx_0]
  show V m c main_arg1 (((cfg0.win 0).blk t).view.emb (ix2 i j)) = _
  rw [p, V_main_arg1]

/-- The rows of a part of the cotangent a step reads. -/
theorem read_1 (t : Fin cfg0.N) (i : Fin 512) (j : Fin 1024) : (iblk m c 1 t : S512x1024.Idx → EReal) (ix2 i j)
    = m (c, Proc.tc.devRef main_arg2) (ix2 (n0 := 16384) (n1 := 1024) (rows t i) j) := by
  have p : ((cfg0.win 1).blk t).view.emb (ix2 i j) = ix2 (n0 := 16384) (n1 := 1024) (rows t i) j := by blk_ext [idx_1]
  show V m c main_arg2 (((cfg0.win 1).blk t).view.emb (ix2 i j)) = _
  rw [p, V_main_arg2]

/-- The rows of a part of the cotangent a step reads. -/
theorem read_2 (t : Fin cfg0.N) (i : Fin 512) (j : Fin 1024) : (iblk m c 2 t : S512x1024.Idx → EReal) (ix2 i j)
    = m (c, Proc.tc.devRef main_arg3) (ix2 (n0 := 16384) (n1 := 1024) (rows t i) j) := by
  have p : ((cfg0.win 2).blk t).view.emb (ix2 i j) = ix2 (n0 := 16384) (n1 := 1024) (rows t i) j := by blk_ext [idx_2]
  show V m c main_arg3 (((cfg0.win 2).blk t).view.emb (ix2 i j)) = _
  rw [p, V_main_arg3]

/-- The rows of a part of the cotangent a step reads. -/
theorem read_3 (t : Fin cfg0.N) (i : Fin 512) (j : Fin 1024) : (iblk m c 3 t : S512x1024.Idx → EReal) (ix2 i j)
    = m (c, Proc.tc.devRef main_arg4) (ix2 (n0 := 16384) (n1 := 1024) (rows t i) j) := by
  have p : ((cfg0.win 3).blk t).view.emb (ix2 i j) = ix2 (n0 := 16384) (n1 := 1024) (rows t i) j := by blk_ext [idx_3]
  show V m c main_arg4 (((cfg0.win 3).blk t).view.emb (ix2 i j)) = _
  rw [p, V_main_arg4]

/-- The rows of a part of the cotangent a step reads. -/
theorem read_4 (t : Fin cfg0.N) (i : Fin 512) (j : Fin 1024) : (iblk m c 4 t : S512x1024.Idx → EReal) (ix2 i j)
    = m (c, Proc.tc.devRef main_arg5) (ix2 (n0 := 16384) (n1 := 1024) (rows t i) j) := by
  have p : ((cfg0.win 4).blk t).view.emb (ix2 i j) = ix2 (n0 := 16384) (n1 := 1024) (rows t i) j := by blk_ext [idx_4]
  show V m c main_arg5 (((cfg0.win 4).blk t).view.emb (ix2 i j)) = _
  rw [p, V_main_arg5]

/-- The weight. -/
theorem read_5 (t : Fin cfg0.N) (i : Fin 1024) (j : Fin 5120) : (iblk m c 5 t : S1024x5120.Idx → EReal) (ix2 i j)
    = m (c, Proc.tc.devRef main_arg0) (ix2 (n0 := 1024) (n1 := 5120) i j) := by
  have p : ((cfg0.win 5).blk t).view.emb (ix2 i j) = ix2 (n0 := 1024) (n1 := 5120) i j := by blk_ext [idx_5]
  show V m c main_arg0 (((cfg0.win 5).blk t).view.emb (ix2 i j)) = _
  rw [p, V_main_arg0]

/-- The residual's rows a step reads. -/
theorem read_6 (t : Fin cfg0.N) (i : Fin 512) (j : Fin 1024) : (iblk m c 6 t : S512x1024.Idx → EReal) (ix2 i j)
    = m (c, Proc.tc.devRef main_arg6) (ix2 (n0 := 16384) (n1 := 1024) (rows t i) j) := by
  have p : ((cfg0.win 6).blk t).view.emb (ix2 i j) = ix2 (n0 := 16384) (n1 := 1024) (rows t i) j := by blk_ext [idx_6]
  show V m c main_arg6 (((cfg0.win 6).blk t).view.emb (ix2 i j)) = _
  rw [p, V_main_arg6]

/-- One store over a whole block, at its index. -/
theorem whole_at (w : S512x1024.Idx → EReal) (i : Fin 512) (j : Fin 1024) :
    View.canon (Val := Elt Ideal) (e := .f32) [⟨r0_0, w⟩] (ix2 i j) = w (ix2 i j) := by
  have e : r0_0.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_0 w [] (ix2 (n0 := 512) (n1 := 1024) i j)
  rw [e] at h
  exact h

/-- A load of a whole block is the block. -/
theorem ld_0 (x : S512x1024.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block in the wide format is the block. -/
theorem ld_wide (x : S512x1024.Idx → EReal) : View.ld (Val := Elt Ideal) (e' := .f32) x r0_0 = x := ld_0 x

/-- A load of the columns of one part from the weight. -/
theorem part_at (x : S1024x5120.Idx → EReal) (s : Fin 5) (off : Fin 2 → ℕ) (h) (h0 : off 0 = 0) (h1 : off 1 = s.val * 1024)
    (i q : Fin 1024) : View.ld (Val := Elt Ideal) (e' := .bf16) x (Rect.unit off S1024x1024.size h) (ix2 i q) = x (ix2 i (col s q)) := by
  refine congrArg x (funext fun a => ?_)
  match a with
  | ⟨0, _⟩ => exact Fin.ext (by show off 0 + 1 * i.val = i.val; omega)
  | ⟨1, _⟩ => exact Fin.ext (by show off 1 + 1 * q.val = s.val * 1024 + q.val; omega)

variable {m c} in
theorem five (x1 x2 x3 x4 x5 : S16384x1024.Idx → EReal) (s : Fin 5) (i : Fin 16384) (q : Fin 1024) :
    Cert.HgrnBackRefIdeal.Read.val_main_v0 (F := Ideal) x1 x2 x3 x4 x5 (ix2 i (col s q)) = (![x1, x2, x3, x4, x5] : Fin 5 → S16384x1024.Idx → EReal) s (ix2 i q) := by
  refine concatenate_ofFn_apply (t := Cert.HgrnBackRefIdeal.S16384x5120) (s₁ := Cert.HgrnBackRefIdeal.S16384x1024) 1
    (![x1, x2, x3, x4, x5] : Fin 5 → S16384x1024.Idx → EReal) _ rfl 1024 rfl (ix2 i (col s q)) s ?_ (ix2 i q) ?_ fun b hb => ?_
  · show (s.val * 1024 + q.val) / 1024 = s.val
    omega
  · show q.val = (s.val * 1024 + q.val) % 1024
    omega
  · match b with
    | ⟨0, _⟩ => rfl
    | ⟨1, _⟩ => exact absurd rfl hb

/-- The reference's result at an index. -/
theorem reference (w : S1024x5120.Idx → EReal) (x1 x2 x3 x4 x5 y : S16384x1024.Idx → EReal) (i : Fin 16384) (j : Fin 1024) :
    Cert.HgrnBackRefIdeal.Read.val_main_v10 (F := Ideal) w x1 x2 x3 x4 x5 y (ix2 i j)
      = (((((∑ q : Fin 1024, x1 (ix2 i q) * w (ix2 j (col 0 q))) + (∑ q : Fin 1024, x2 (ix2 i q) * w (ix2 j (col 1 q)))) + (∑ q : Fin 1024, x3 (ix2 i q) * w (ix2 j (col 2 q)))) + (∑ q : Fin 1024, x4 (ix2 i q) * w (ix2 j (col 3 q)))) + (∑ q : Fin 1024, x5 (ix2 i q) * w (ix2 j (col 4 q)))) + Ideal.ofBits .f32 0x3FD744FD#32 * y (ix2 i j) := by
  refine Eq.trans ?_ (add_comm _ _)
  refine (Cert.HgrnBackRefIdeal.Read.val_main_v10_apply (F := Ideal) w x1 x2 x3 x4 x5 y (ix2 i j)).trans ?_
  show (Cert.HgrnBackRefIdeal.Read.val_main_v8 (F := Ideal) y (ix2 i j) + Cert.HgrnBackRefIdeal.Read.val_main_v9 (F := Ideal) w x1 x2 x3 x4 x5 (ix2 i j) : EReal) = _
  refine congrArg₂ (· + ·) ?_ ?_
  · refine (Cert.HgrnBackRefIdeal.Read.val_main_v8_apply (F := Ideal) y (ix2 i j)).trans ?_
    show (Cert.HgrnBackRefIdeal.Read.val_main_v7 (F := Ideal) (ix2 i j) * y (ix2 i j) : EReal) = _
    exact congrArg (· * y (ix2 i j)) (Cert.HgrnBackRefIdeal.Read.val_main_v7_apply (F := Ideal) (ix2 i j))
  · refine (Cert.HgrnBackRefIdeal.Read.val_main_v9_apply w x1 x2 x3 x4 x5 (ix2 i j)).trans ?_
    have e : ∀ k : Fin 5120, Cert.HgrnBackRefIdeal.Read.val_main_v1 (F := Ideal) x1 x2 x3 x4 x5 (Cert.HgrnBackRefIdeal.Read.lidx_main_v9 (ix2 i j) k)
        * Cert.HgrnBackRefIdeal.Read.val_main_v3 (F := Ideal) w (Cert.HgrnBackRefIdeal.Read.ridx_main_v9 (ix2 i j) k)
        = Cert.HgrnBackRefIdeal.Read.val_main_v0 (F := Ideal) x1 x2 x3 x4 x5 (ix2 i k) * w (ix2 j k) := by
      intro k
      refine congrArg₂ (· * ·) (congrArg (Cert.HgrnBackRefIdeal.Read.val_main_v0 (F := Ideal) x1 x2 x3 x4 x5) (funext fun a => ?_)) (congrArg w (funext fun a => ?_))
      · match a with
        | ⟨0, _⟩ => rfl
        | ⟨1, _⟩ => rfl
      · match a with
        | ⟨0, _⟩ => rfl
        | ⟨1, _⟩ => rfl
    refine (Finset.sum_congr rfl fun k _ => e k).trans ?_
    refine (Fin.sum_mul_add_fin 5 1024 fun k : Fin 5120 =>
      Cert.HgrnBackRefIdeal.Read.val_main_v0 (F := Ideal) x1 x2 x3 x4 x5 (ix2 i k) * w (ix2 j k)).symm.trans ?_
    rw [Fin.sum_univ_five]
    refine congrArg₂ (· + ·) (congrArg₂ (· + ·) (congrArg₂ (· + ·) (congrArg₂ (· + ·) ?_ ?_) ?_) ?_) ?_
    · exact Finset.sum_congr rfl fun q _ => congrArg (· * w (ix2 j (col 0 q))) (five x1 x2 x3 x4 x5 0 i q)
    · exact Finset.sum_congr rfl fun q _ => congrArg (· * w (ix2 j (col 1 q))) (five x1 x2 x3 x4 x5 1 i q)
    · exact Finset.sum_congr rfl fun q _ => congrArg (· * w (ix2 j (col 2 q))) (five x1 x2 x3 x4 x5 2 i q)
    · exact Finset.sum_congr rfl fun q _ => congrArg (· * w (ix2 j (col 3 q))) (five x1 x2 x3 x4 x5 3 i q)
    · exact Finset.sum_congr rfl fun q _ => congrArg (· * w (ix2 j (col 4 q))) (five x1 x2 x3 x4 x5 4 i q)

/-- A step's block of the result. -/
theorem step (t : Fin cfg0.N) (i : Fin 512) (j : Fin 1024) : out0_7 (F := Ideal) (iblk m c 0 t) (iblk m c 1 t) (iblk m c 2 t) (iblk m c 3 t) (iblk m c 4 t) (iblk m c 5 t) (iblk m c 6 t) (ix2 i j)
    = Cert.HgrnBackRefIdeal.Read.val_main_v10 (F := Ideal) (m (c, Proc.tc.devRef main_arg0)) (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6)) (ix2 (rows t i) j) := by
  unfold out0_7
  refine (whole_at _ i j).trans ?_
  rw [ld_0, ld_0, ld_0, ld_0, ld_0, ld_wide]
  refine (pay1_at _ _ _ _ _ _ _ _ _ _ _ i j).trans (Eq.trans ?_ (reference _ _ _ _ _ _ _ _ _).symm)
  refine congrArg₂ (· + ·) (congrArg₂ (· + ·) (congrArg₂ (· + ·) (congrArg₂ (· + ·) (congrArg₂ (· + ·) ?_ ?_) ?_) ?_) ?_) (congrArg (_ * ·) (read_6 m c t i j))
  · exact Finset.sum_congr rfl fun q _ => congrArg₂ (· * ·) (read_0 m c t i q) ((part_at _ 0 _ _ rfl rfl j q).trans (read_5 m c t j _))
  · exact Finset.sum_congr rfl fun q _ => congrArg₂ (· * ·) (read_1 m c t i q) ((part_at _ 1 _ _ rfl rfl j q).trans (read_5 m c t j _))
  · exact Finset.sum_congr rfl fun q _ => congrArg₂ (· * ·) (read_2 m c t i q) ((part_at _ 2 _ _ rfl rfl j q).trans (read_5 m c t j _))
  · exact Finset.sum_congr rfl fun q _ => congrArg₂ (· * ·) (read_3 m c t i q) ((part_at _ 3 _ _ rfl rfl j q).trans (read_5 m c t j _))
  · exact Finset.sum_congr rfl fun q _ => congrArg₂ (· * ·) (read_4 m c t i q) ((part_at _ 4 _ _ rfl rfl j q).trans (read_5 m c t j _))

/-- The kernel's array is the reference's result. -/
theorem same : Cert.HgrnBackRefIdeal.Read.val_main_v10 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) = (dats m 0 c).arrAt 7 cfg0.N := by
  refine ((dats m 0 c).arrAt_eq_of_covers 7 _ (by decide +kernel) fun t hf y => ?_).symm
  rw [after0_7]
  obtain ⟨i, j, rfl⟩ : ∃ (i : Fin 512) (j : Fin 1024), y = ix2 i j := ⟨y 0, y 1, (ix2_eta y).symm⟩
  have p : ((cfg0.win 7).blk t).view.emb (ix2 i j) = ix2 (n0 := 16384) (n1 := 1024) (rows t i) j := by blk_ext [idx_7]
  have q : (cfg0.win 7).xinj (cfg0.grid.coords t) (ix2 i j) = ix2 (n0 := 512) (n1 := 1024) i j := by
    funext a; match a with | ⟨0, _⟩ => rfl | ⟨1, _⟩ => rfl
  rw [p, q]
  exact (cast_eq _ _).trans (step m c t i j)

end Cert.Prod.HgrnBack
-- ==== Proof.Claims.HgrnBack.lean ====
module

public import proofs.«01_k».proof.Defs
public import proofs.«01_k».proof.Proof.Gen.HgrnBackRefIdeal.Run
public import proofs.«01_k».proof.Proof.Prod.HgrnBack

@[expose] public section

/-! The claims about the way back through the projection of the recurrent layer. -/

namespace Cert.Claims.HgrnBack
open Idealize.ShloMosaic Idealize.SL.Sem

/-- The reference declares no semaphore, so its counters are at zero at every final state. -/
theorem sems (s : MemSt Cert.HgrnBackRefIdeal.nD Cert.HgrnBackRefIdeal.τ Cert.HgrnBackRefIdeal.sig (Elt Ideal)) : s.sem = fun _ => 0 := by
  have none : IsEmpty (SemLoc Cert.HgrnBackRefIdeal.sig) := Finset.univ_eq_empty_iff.mp (by decide)
  exact funext fun x => none.elim x.2

/-- The reference runs, its arguments end unchanged and its counters at zero. -/
theorem frame : Cert.quiescent_HgrnBackRefIdeal (hHgrnBackRefIdeal := Cert.HgrnBackRefIdeal.Gen.facts) := fun m ρ _ =>
  (θ_run Cert.HgrnBackRefIdeal.defs _ _).mono (fun r h => ⟨fun c => (h c).2, sems r.2⟩) (Cert.HgrnBackRefIdeal.Value.run (F := Ideal) m ρ)

/-- The kernel's array is the reference's result, and both programs keep their arguments. -/
theorem algebraic : Cert.algebraic_HgrnBackIdeal_HgrnBackRefIdeal (hHgrnBackIdeal := Cert.HgrnBackIdeal.Gen.facts)
    (hHgrnBackRefIdeal := Cert.HgrnBackRefIdeal.Gen.facts) := by
  intro m g m' g' _ same
  refine ⟨fun c => (Cert.HgrnBackIdeal.Gen.dats m 0 c).arrAt 7 Cert.HgrnBackIdeal.cfg0.N, Cert.HgrnBackIdeal.Value.run_blocks (F := Ideal) m g, ?_⟩
  refine (θ_run Cert.HgrnBackRefIdeal.defs _ _).mono (fun r h c => ?_) (Cert.HgrnBackRefIdeal.Value.run (F := Ideal) m' g')
  obtain ⟨h0, rest⟩ := h c
  obtain ⟨s0, s1, s2, s3, s4, s5, s6⟩ := same c
  have e := h0.trans (Cert.HgrnBackRefIdeal.Read.val_main_v10_eq _ _ _ _ _ _ _)
  rw [s0, s1, s2, s3, s4, s5, s6] at e
  exact ⟨e.trans (Cert.Prod.HgrnBack.same m c), rest⟩

end Cert.Claims.HgrnBack
-- ==== Proof.Prod.QkvBack.lean ====
module

public import proofs.«01_k».proof.Proof.Gen.QkvBackIdeal.Value
public import proofs.«01_k».proof.Proof.Gen.QkvBackRefIdeal.Read
public import Idealize.ShloMosaic.Lib.Pipeline.ValueKit
public import Idealize.ShloMosaic.Lib.Pointwise.Index

@[expose] public section

/-! The way back through the projection of the queries, keys and values, with the residual's part: 32 steps of 512 rows. -/

set_option maxRecDepth 16384

namespace Cert.Prod.QkvBack
open Idealize.ShloMosaic Idealize.ShloMosaic.TcCoe Idealize.SL.Sem Cert.QkvBackIdeal Cert.QkvBackIdeal.Gen

theorem dot_at (x : FVec Ideal S512x1536 .bf16) (y : FVec Ideal S1024x1536 .bf16) (i : Fin 512) (j : Fin 1024) :
    matmul (F := Ideal) dot_S512x1536_S1024x1536_S512x1024_1_1_0_0_n_n none x y (constant S512x1024 .f32 0x00000000#32) (ix2 i j)
      = ∑ q : Fin 1536, x (ix2 i q) * y (ix2 j q) := by
  pointwise

/-- The product of a block with the rows of the weight, and the residual's part. -/
theorem pay1_at (x : Vec Ideal S512x1536 .bf16) (y : Vec Ideal S1024x1536 .bf16) (z : Vec Ideal S512x1024 .f32) (i : Fin 512) (j : Fin 1024) :
    k0_pay1 (F := Ideal) x y z (ix2 i j) = (∑ q : Fin 1536, x (ix2 i q) * y (ix2 j q)) + Ideal.ofBits .f32 0x3FD744FD#32 * z (ix2 i j) := by
  unfold k0_pay1
  exact congrArg₂ (· + ·) (dot_at _ _ i j) rfl

theorem idx_0 : ∀ t : Fin cfg0.N, win0_0.index t = ![t.val % 32, 0] := by decide +kernel
theorem idx_1 : ∀ t : Fin cfg0.N, win0_1.index t = ![0, 0] := by decide +kernel
theorem idx_2 : ∀ t : Fin cfg0.N, win0_2.index t = ![t.val % 32, 0] := by decide +kernel
theorem idx_3 : ∀ t : Fin cfg0.N, win0_3.index t = ![t.val % 32, 0] := by decide +kernel

/-- The rows of a step. -/
abbrev rows (t : Fin cfg0.N) (i : Fin 512) : Fin 16384 := ⟨t.val % 32 * 512 + i.val, by omega⟩

variable (m : (ℓ : Loc nD τ sig) → Buf (Elt Ideal) ℓ) (c : Dev nD)

/-- The rows a step reads. -/
theorem read_0 (t : Fin cfg0.N) (i : Fin 512) (j : Fin 1536) : (iblk m c 0 t : S512x1536.Idx → EReal) (ix2 i j)
    = m (c, Proc.tc.devRef main_arg1) (ix2 (n0 := 16384) (n1 := 1536) (rows t i) j) := by
  have p : ((cfg0.win 0).blk t).view.emb (ix2 i j) = ix2 (n0 := 16384) (n1 := 1536) (rows t i) j := by blk_ext [idx_0]
  show V m c main_arg1 (((cfg0.win 0).blk t).view.emb (ix2 i j)) = _
  rw [p, V_main_arg1]

/-- The weight. -/
theorem read_1 (t : Fin cfg0.N) (i : Fin 1024) (j : Fin 1536) : (iblk m c 1 t : S1024x1536.Idx → EReal) (ix2 i j)
    = m (c, Proc.tc.devRef main_arg0) (ix2 (n0 := 1024) (n1 := 1536) i j) := by
  have p : ((cfg0.win 1).blk t).view.emb (ix2 i j) = ix2 (n0 := 1024) (n1 := 1536) i j := by blk_ext [idx_1]
  show V m c main_arg0 (((cfg0.win 1).blk t).view.emb (ix2 i j)) = _
  rw [p, V_main_arg0]

/-- The residual's rows a step reads. -/
theorem read_2 (t : Fin cfg0.N) (i : Fin 512) (j : Fin 1024) : (iblk m c 2 t : S512x1024.Idx → EReal) (ix2 i j)
    = m (c, Proc.tc.devRef main_arg2) (ix2 (n0 := 16384) (n1 := 1024) (rows t i) j) := by
  have p : ((cfg0.win 2).blk t).view.emb (ix2 i j) = ix2 (n0 := 16384) (n1 := 1024) (rows t i) j := by blk_ext [idx_2]
  show V m c main_arg2 (((cfg0.win 2).blk t).view.emb (ix2 i j)) = _
  rw [p, V_main_arg2]

/-- One store over a whole block, at its index. -/
theorem whole_at (w : S512x1024.Idx → EReal) (i : Fin 512) (j : Fin 1024) :
    View.canon (Val := Elt Ideal) (e := .f32) [⟨r0_2, w⟩] (ix2 i j) = w (ix2 i j) := by
  have e : r0_2.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_2 w [] (ix2 (n0 := 512) (n1 := 1024) i j)
  rw [e] at h
  exact h

/-- A load of a whole block is the block. -/
theorem ld_0 (x : S512x1536.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_1 (x : S1024x1536.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_2 (x : S512x1024.Idx → EReal) : View.ld (Val := Elt Ideal) (e' := .f32) x r0_2 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- The reference's result at an index. -/
theorem reference (w : S1024x1536.Idx → EReal) (x : S16384x1536.Idx → EReal) (y : S16384x1024.Idx → EReal) (i : Fin 16384) (j : Fin 1024) :
    Cert.QkvBackRefIdeal.Read.val_main_v9 (F := Ideal) w x y (ix2 i j)
      = (∑ q : Fin 1536, x (ix2 i q) * w (ix2 j q)) + Ideal.ofBits .f32 0x3FD744FD#32 * y (ix2 i j) := by
  refine Eq.trans ?_ (add_comm _ _)
  refine (Cert.QkvBackRefIdeal.Read.val_main_v9_apply (F := Ideal) w x y (ix2 i j)).trans ?_
  show (Cert.QkvBackRefIdeal.Read.val_main_v7 (F := Ideal) y (ix2 i j) + Cert.QkvBackRefIdeal.Read.val_main_v8 (F := Ideal) w x (ix2 i j) : EReal) = _
  refine congrArg₂ (· + ·) ?_ ?_
  · refine (Cert.QkvBackRefIdeal.Read.val_main_v7_apply (F := Ideal) y (ix2 i j)).trans ?_
    show (Cert.QkvBackRefIdeal.Read.val_main_v6 (F := Ideal) (ix2 i j) * y (ix2 i j) : EReal) = _
    exact congrArg (· * y (ix2 i j)) (Cert.QkvBackRefIdeal.Read.val_main_v6_apply (F := Ideal) (ix2 i j))
  · refine (Cert.QkvBackRefIdeal.Read.val_main_v8_apply w x (ix2 i j)).trans ?_
    refine Finset.sum_congr rfl fun k _ => congrArg₂ (· * ·) (congrArg x (funext fun a => ?_)) (congrArg w (funext fun a => ?_))
    · match a with
      | ⟨0, _⟩ => rfl
      | ⟨1, _⟩ => rfl
    · match a with
      | ⟨0, _⟩ => rfl
      | ⟨1, _⟩ => rfl

/-- A step's block of the result. -/
theorem step (t : Fin cfg0.N) (i : Fin 512) (j : Fin 1024) : out0_3 (F := Ideal) (iblk m c 0 t) (iblk m c 1 t) (iblk m c 2 t) (ix2 i j)
    = Cert.QkvBackRefIdeal.Read.val_main_v9 (F := Ideal) (m (c, Proc.tc.devRef main_arg0)) (m (c, Proc.tc.devRef main_arg1))
      (m (c, Proc.tc.devRef main_arg2)) (ix2 (rows t i) j) := by
  unfold out0_3
  refine (whole_at _ i j).trans ?_
  rw [ld_0, ld_1, ld_2]
  refine (pay1_at _ _ _ i j).trans (Eq.trans (congrArg₂ (· + ·) (Finset.sum_congr rfl fun q _ => ?_) (congrArg (_ * ·) (read_2 m c t i j))) (reference _ _ _ _ _).symm)
  exact congrArg₂ (· * ·) (read_0 m c t i q) (read_1 m c t j q)

/-- The kernel's array is the reference's result. -/
theorem same : Cert.QkvBackRefIdeal.Read.val_main_v9 (F := Ideal) (m (c, Proc.tc.devRef main_arg0)) (m (c, Proc.tc.devRef main_arg1)) (m (c, Proc.tc.devRef main_arg2)) = (dats m 0 c).arrAt 3 cfg0.N := by
  refine ((dats m 0 c).arrAt_eq_of_covers 3 _ (by decide +kernel) fun t hf y => ?_).symm
  rw [after0_3]
  obtain ⟨i, j, rfl⟩ : ∃ (i : Fin 512) (j : Fin 1024), y = ix2 i j := ⟨y 0, y 1, (ix2_eta y).symm⟩
  have p : ((cfg0.win 3).blk t).view.emb (ix2 i j) = ix2 (n0 := 16384) (n1 := 1024) (rows t i) j := by blk_ext [idx_3]
  have q : (cfg0.win 3).xinj (cfg0.grid.coords t) (ix2 i j) = ix2 (n0 := 512) (n1 := 1024) i j := by
    funext a; match a with | ⟨0, _⟩ => rfl | ⟨1, _⟩ => rfl
  rw [p, q]
  exact (cast_eq _ _).trans (step m c t i j)

end Cert.Prod.QkvBack
-- ==== Proof.Claims.QkvBack.lean ====
module

public import proofs.«01_k».proof.Defs
public import proofs.«01_k».proof.Proof.Gen.QkvBackRefIdeal.Run
public import proofs.«01_k».proof.Proof.Prod.QkvBack

@[expose] public section

/-! The claims about the way back through the projection of the queries, keys and values. -/

namespace Cert.Claims.QkvBack
open Idealize.ShloMosaic Idealize.SL.Sem

/-- The reference declares no semaphore, so its counters are at zero at every final state. -/
theorem sems (s : MemSt Cert.QkvBackRefIdeal.nD Cert.QkvBackRefIdeal.τ Cert.QkvBackRefIdeal.sig (Elt Ideal)) : s.sem = fun _ => 0 := by
  have none : IsEmpty (SemLoc Cert.QkvBackRefIdeal.sig) := Finset.univ_eq_empty_iff.mp (by decide)
  exact funext fun x => none.elim x.2

/-- The reference runs, its arguments end unchanged and its counters at zero. -/
theorem frame : Cert.quiescent_QkvBackRefIdeal (hQkvBackRefIdeal := Cert.QkvBackRefIdeal.Gen.facts) := fun m ρ _ =>
  (θ_run Cert.QkvBackRefIdeal.defs _ _).mono (fun r h => ⟨fun c => (h c).2, sems r.2⟩) (Cert.QkvBackRefIdeal.Value.run (F := Ideal) m ρ)

/-- The kernel's array is the reference's result, and both programs keep their arguments. -/
theorem algebraic : Cert.algebraic_QkvBackIdeal_QkvBackRefIdeal (hQkvBackIdeal := Cert.QkvBackIdeal.Gen.facts)
    (hQkvBackRefIdeal := Cert.QkvBackRefIdeal.Gen.facts) := by
  intro m g m' g' _ same
  refine ⟨fun c => (Cert.QkvBackIdeal.Gen.dats m 0 c).arrAt 3 Cert.QkvBackIdeal.cfg0.N, Cert.QkvBackIdeal.Value.run_blocks (F := Ideal) m g, ?_⟩
  refine (θ_run Cert.QkvBackRefIdeal.defs _ _).mono (fun r h c => ?_) (Cert.QkvBackRefIdeal.Value.run (F := Ideal) m' g')
  obtain ⟨h0, rest⟩ := h c
  obtain ⟨s0, s1, s2⟩ := same c
  have e := h0.trans (Cert.QkvBackRefIdeal.Read.val_main_v9_eq _ _ _)
  rw [s0, s1, s2] at e
  exact ⟨e.trans (Cert.Prod.QkvBack.same m c), rest⟩

end Cert.Claims.QkvBack
-- ==== Proof.Prod.OutBack.lean ====
module

public import proofs.«01_k».proof.Proof.Gen.OutBackIdeal.Value
public import proofs.«01_k».proof.Proof.Gen.OutBackRefIdeal.Read
public import Idealize.ShloMosaic.Lib.Pipeline.ValueKit
public import Idealize.ShloMosaic.Lib.Pointwise.Index

@[expose] public section

/-! The way back through an output projection: 32 steps of 512 rows. -/

set_option maxRecDepth 16384

namespace Cert.Prod.OutBack
open Idealize.ShloMosaic Idealize.ShloMosaic.TcCoe Idealize.SL.Sem Cert.OutBackIdeal Cert.OutBackIdeal.Gen

/-- The product of a block with the rows of the weight. -/
theorem pay1_at (x : Vec Ideal S512x1024 .bf16) (y : Vec Ideal S1024x1024 .bf16) (i : Fin 512) (j : Fin 1024) :
    k0_pay1 (F := Ideal) x y (ix2 i j) = ∑ q : Fin 1024, x (ix2 i q) * y (ix2 j q) := by
  unfold k0_pay1
  pointwise

theorem idx_0 : ∀ t : Fin cfg0.N, win0_0.index t = ![t.val % 32, 0] := by decide +kernel
theorem idx_1 : ∀ t : Fin cfg0.N, win0_1.index t = ![0, 0] := by decide +kernel
theorem idx_2 : ∀ t : Fin cfg0.N, win0_2.index t = ![t.val % 32, 0] := by decide +kernel

/-- The rows of a step. -/
abbrev rows (t : Fin cfg0.N) (i : Fin 512) : Fin 16384 := ⟨t.val % 32 * 512 + i.val, by omega⟩

variable (m : (ℓ : Loc nD τ sig) → Buf (Elt Ideal) ℓ) (c : Dev nD)

/-- The rows a step reads. -/
theorem read_0 (t : Fin cfg0.N) (i : Fin 512) (j : Fin 1024) : (iblk m c 0 t : S512x1024.Idx → EReal) (ix2 i j)
    = m (c, Proc.tc.devRef main_arg1) (ix2 (n0 := 16384) (n1 := 1024) (rows t i) j) := by
  have p : ((cfg0.win 0).blk t).view.emb (ix2 i j) = ix2 (n0 := 16384) (n1 := 1024) (rows t i) j := by blk_ext [idx_0]
  show V m c main_arg1 (((cfg0.win 0).blk t).view.emb (ix2 i j)) = _
  rw [p, V_main_arg1]

/-- The weight. -/
theorem read_1 (t : Fin cfg0.N) (i : Fin 1024) (j : Fin 1024) : (iblk m c 1 t : S1024x1024.Idx → EReal) (ix2 i j)
    = m (c, Proc.tc.devRef main_arg0) (ix2 (n0 := 1024) (n1 := 1024) i j) := by
  have p : ((cfg0.win 1).blk t).view.emb (ix2 i j) = ix2 (n0 := 1024) (n1 := 1024) i j := by blk_ext [idx_1]
  show V m c main_arg0 (((cfg0.win 1).blk t).view.emb (ix2 i j)) = _
  rw [p, V_main_arg0]

/-- One store over a whole block, at its index. -/
theorem whole_at (w : S512x1024.Idx → EReal) (i : Fin 512) (j : Fin 1024) :
    View.canon (Val := Elt Ideal) (e := .bf16) [⟨r0_0, w⟩] (ix2 i j) = w (ix2 i j) := by
  have e : r0_0.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .bf16) r0_0 w [] (ix2 (n0 := 512) (n1 := 1024) i j)
  rw [e] at h
  exact h

/-- A load of a whole block is the block. -/
theorem ld_0 (x : S512x1024.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_1 (x : S1024x1024.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- The reference's result at an index. -/
theorem reference (w : S1024x1024.Idx → EReal) (y : S16384x1024.Idx → EReal) (i : Fin 16384) (j : Fin 1024) :
    Cert.OutBackRefIdeal.Read.val_main_v5 (F := Ideal) w y (ix2 i j) = ∑ q : Fin 1024, y (ix2 i q) * w (ix2 j q) := by
  refine (Cert.OutBackRefIdeal.Read.val_main_v4_apply w y (ix2 i j)).trans ?_
  refine Finset.sum_congr rfl fun k _ => congrArg₂ (· * ·) (congrArg y (funext fun a => ?_)) (congrArg w (funext fun a => ?_))
  · match a with
    | ⟨0, _⟩ => rfl
    | ⟨1, _⟩ => rfl
  · match a with
    | ⟨0, _⟩ => rfl
    | ⟨1, _⟩ => rfl

/-- A step's block of the result. -/
theorem step (t : Fin cfg0.N) (i : Fin 512) (j : Fin 1024) : out0_2 (F := Ideal) (iblk m c 0 t) (iblk m c 1 t) (ix2 i j)
    = Cert.OutBackRefIdeal.Read.val_main_v5 (F := Ideal) (m (c, Proc.tc.devRef main_arg0)) (m (c, Proc.tc.devRef main_arg1)) (ix2 (rows t i) j) := by
  unfold out0_2
  refine (whole_at _ i j).trans ?_
  rw [ld_0, ld_1]
  refine (pay1_at _ _ i j).trans (Eq.trans (Finset.sum_congr rfl fun q _ => ?_) (reference _ _ _ _).symm)
  exact congrArg₂ (· * ·) (read_0 m c t i q) (read_1 m c t j q)

/-- The kernel's array is the reference's result. -/
theorem same : Cert.OutBackRefIdeal.Read.val_main_v5 (F := Ideal) (m (c, Proc.tc.devRef main_arg0)) (m (c, Proc.tc.devRef main_arg1)) = (dats m 0 c).arrAt 2 cfg0.N := by
  refine ((dats m 0 c).arrAt_eq_of_covers 2 _ (by decide +kernel) fun t hf y => ?_).symm
  rw [after0_2]
  obtain ⟨i, j, rfl⟩ : ∃ (i : Fin 512) (j : Fin 1024), y = ix2 i j := ⟨y 0, y 1, (ix2_eta y).symm⟩
  have p : ((cfg0.win 2).blk t).view.emb (ix2 i j) = ix2 (n0 := 16384) (n1 := 1024) (rows t i) j := by blk_ext [idx_2]
  have q : (cfg0.win 2).xinj (cfg0.grid.coords t) (ix2 i j) = ix2 (n0 := 512) (n1 := 1024) i j := by
    funext a; match a with | ⟨0, _⟩ => rfl | ⟨1, _⟩ => rfl
  rw [p, q]
  exact (cast_eq _ _).trans (step m c t i j)

end Cert.Prod.OutBack
-- ==== Proof.Claims.OutBack.lean ====
module

public import proofs.«01_k».proof.Defs
public import proofs.«01_k».proof.Proof.Gen.OutBackRefIdeal.Run
public import proofs.«01_k».proof.Proof.Prod.OutBack

@[expose] public section

/-! The claims about the way back through an output projection. -/

namespace Cert.Claims.OutBack
open Idealize.ShloMosaic Idealize.SL.Sem

/-- The reference declares no semaphore, so its counters are at zero at every final state. -/
theorem sems (s : MemSt Cert.OutBackRefIdeal.nD Cert.OutBackRefIdeal.τ Cert.OutBackRefIdeal.sig (Elt Ideal)) : s.sem = fun _ => 0 := by
  have none : IsEmpty (SemLoc Cert.OutBackRefIdeal.sig) := Finset.univ_eq_empty_iff.mp (by decide)
  exact funext fun x => none.elim x.2

/-- The reference runs, its arguments end unchanged and its counters at zero. -/
theorem frame : Cert.quiescent_OutBackRefIdeal (hOutBackRefIdeal := Cert.OutBackRefIdeal.Gen.facts) := fun m ρ _ =>
  (θ_run Cert.OutBackRefIdeal.defs _ _).mono (fun r h => ⟨fun c => (h c).2, sems r.2⟩) (Cert.OutBackRefIdeal.Value.run (F := Ideal) m ρ)

/-- The kernel's array is the reference's result, and both programs keep their arguments. -/
theorem algebraic : Cert.algebraic_OutBackIdeal_OutBackRefIdeal (hOutBackIdeal := Cert.OutBackIdeal.Gen.facts)
    (hOutBackRefIdeal := Cert.OutBackRefIdeal.Gen.facts) := by
  intro m g m' g' _ same
  refine ⟨fun c => (Cert.OutBackIdeal.Gen.dats m 0 c).arrAt 2 Cert.OutBackIdeal.cfg0.N, Cert.OutBackIdeal.Value.run_blocks (F := Ideal) m g, ?_⟩
  refine (θ_run Cert.OutBackRefIdeal.defs _ _).mono (fun r h c => ?_) (Cert.OutBackRefIdeal.Value.run (F := Ideal) m' g')
  obtain ⟨h0, rest⟩ := h c
  obtain ⟨s0, s1⟩ := same c
  have e := h0.trans (Cert.OutBackRefIdeal.Read.val_main_v5_eq _ _)
  rw [s0, s1] at e
  exact ⟨e.trans (Cert.Prod.OutBack.same m c), rest⟩

end Cert.Claims.OutBack
-- ==== Proof.Weight.Qkv.lean ====
module

public import proofs.«01_k».proof.Proof.Gen.DwQkvIdeal.Value
public import proofs.«01_k».proof.Proof.Gen.DwQkvRefIdeal.Read
public import Idealize.ShloMosaic.Lib.Pipeline.ValueKit
public import Idealize.ShloMosaic.Lib.Pointwise.Index

@[expose] public section

/-! The gradient of the weight of the queries, keys and values: 32 products of 512 rows, summed. -/

set_option maxRecDepth 16384

namespace Cert.Weight.Qkv
open Idealize.ShloMosaic Idealize.ShloMosaic.TcCoe Idealize.SL.Sem Cert.DwQkvIdeal Cert.DwQkvIdeal.Gen

/-- A product of two blocks over their rows. -/
theorem part_at (x : FVec Ideal S512x1024 .bf16) (y : FVec Ideal S512x1536 .bf16) (i : Fin 1024) (j : Fin 1536) :
    matmul (F := Ideal) dot_S512x1024_S512x1536_S1024x1536_0_0_1_1_n_n none x y (constant S1024x1536 .f32 0x00000000#32) (ix2 i j)
      = ∑ q : Fin 512, x (ix2 q i) * y (ix2 q j) := by
  pointwise

/-- A step adds its product to the accumulator. -/
theorem step_at (x : Vec Ideal S512x1024 .bf16) (y : Vec Ideal S512x1536 .bf16) (a : Vec Ideal S1024x1536 .f32) (i : Fin 1024) (j : Fin 1536) :
    k0_pay2 (F := Ideal) x y a (ix2 i j) = a (ix2 i j) + ∑ q : Fin 512, x (ix2 q i) * y (ix2 q j) := by
  have e : shapeCast S1024x1536 a shapeCasts_S1024x1536_S1024x1536 (ix2 i j) = a (ix2 i j) := shapeCast_apply _ _ _ _ rfl
  exact congrArg₂ (· + ·) e (part_at x y i j)

/-- The accumulator starts at zero. -/
theorem zero_at (i : S1024x1536.Idx) : k0_pay1 (F := Ideal) i = 0 := by
  show Ideal.ofBits .f32 0x00000000#32 = 0
  simp [Ideal.ofBits, Ideal.ieee]

theorem idx_0 : ∀ t : Fin cfg0.N, win0_0.index t = ![t.val % 32, t.val / 32] := by decide +kernel
theorem idx_1 : ∀ t : Fin cfg0.N, win0_1.index t = ![t.val % 32, 0] := by decide +kernel

variable (m : (ℓ : Loc nD τ sig) → Buf (Elt Ideal) ℓ) (c : Dev nD)

/-- The left argument. -/
abbrev left : S16384x1024.Idx → EReal := m ((c : Thread nD τ).loc main_arg0)
/-- The right argument. -/
abbrev right : S16384x1536.Idx → EReal := m ((c : Thread nD τ).loc main_arg1)

/-- The rows of the left argument a step reads. -/
theorem read_0 (t : Fin cfg0.N) (q : Fin 512) (i : Fin 1024) (h : t.val / 32 * 1024 + i.val < 1024) : iblk m c 0 t (ix2 q i)
    = left m c (ix2 ⟨t.val % 32 * 512 + q.val, by omega⟩ ⟨t.val / 32 * 1024 + i.val, h⟩) := by
  have p : ((cfg0.win 0).blk t).view.emb (ix2 q i)
      = ix2 (n0 := 16384) (n1 := 1024) ⟨t.val % 32 * 512 + q.val, by omega⟩ ⟨t.val / 32 * 1024 + i.val, h⟩ := by blk_ext [idx_0]
  show V m c main_arg0 (((cfg0.win 0).blk t).view.emb (ix2 q i)) = _
  rw [p, V_main_arg0]

/-- The rows of the right argument a step reads. -/
theorem read_1 (t : Fin cfg0.N) (q : Fin 512) (j : Fin 1536) : iblk m c 1 t (ix2 q j)
    = right m c (ix2 ⟨t.val % 32 * 512 + q.val, by omega⟩ j) := by
  have p : ((cfg0.win 1).blk t).view.emb (ix2 q j)
      = ix2 (n0 := 16384) (n1 := 1536) ⟨t.val % 32 * 512 + q.val, by omega⟩ j := by blk_ext [idx_1]
  show V m c main_arg1 (((cfg0.win 1).blk t).view.emb (ix2 q j)) = _
  rw [p, V_main_arg1]

/-- The left block of a step. -/
abbrev lblk (t : Fin cfg0.N) : S512x1024.Idx → EReal := iblk m c 0 t
/-- The right block of a step. -/
abbrev rblk (t : Fin cfg0.N) : S512x1536.Idx → EReal := iblk m c 1 t

/-- What grid step `n` adds to the accumulator. -/
noncomputable def term (n : ℕ) (y : S1024x1536.Idx) : EReal :=
  if h : n < cfg0.N then ∑ q : Fin 512, lblk m c ⟨n, h⟩ (ix2 q (y 0)) * rblk m c ⟨n, h⟩ (ix2 q (y 1)) else 0

/-- A step adds its term. -/
theorem step_term (n : ℕ) (h : n < cfg0.N) (a : S1024x1536.Idx → EReal) (y : S1024x1536.Idx) :
    k0_pay2 (F := Ideal) (lblk m c ⟨n, h⟩) (rblk m c ⟨n, h⟩) a y = a y + term m c n y := by
  obtain ⟨i, j, rfl⟩ : ∃ (i : Fin 1024) (j : Fin 1536), y = ix2 i j := ⟨y 0, y 1, (ix2_eta y).symm⟩
  unfold term
  rw [dif_pos h, step_at]
  rfl

/-- The array after the run, at an index: the product over all 16384 rows. -/
theorem value (i : Fin 1024) (j : Fin 1536) :
    Value.G2 m c (ix2 i j) = ∑ k : Fin 16384, left m c (ix2 k i) * right m c (ix2 k j) := by
  have hi := i.isLt
  have hj := j.isLt
  have hN : cfg0.N = 32 := N_0
  have hr : Value.run2Of (ix2 i j) = i.val / 1024 := by
    show 1 * (i.val / 1024 - 0) + 1 * (j.val / 1536 - 0) = _
    omega
  have hl : Value.loc2Of (ix2 i j) = ix2 ⟨i.val % 1024, by omega⟩ j := by
    funext a
    match a with
    | ⟨0, _⟩ => rfl
    | ⟨1, _⟩ => exact Fin.ext (Nat.mod_eq_of_lt hj)
  unfold Value.G2
  rw [dif_pos (by rw [hr, hN]; omega), hl]
  refine (Pipeline.accAt_add_apply (Value.reset2 m c) (Value.step2 m c) (fun _ => (0 : EReal)) (term m c) _ 31 (fun h y => ?_)
    (fun n h a y _ _ => step_term m c n h a y) 31 le_rfl _ _).trans ?_
  · exact (step_term m c _ h _ y).trans (congrArg (· + _) (zero_at y))
  · rw [zero_add, Finset.sum_range]
    refine (Finset.sum_congr rfl fun s _ => ?_).trans (Fin.sum_mul_add_fin 32 512 fun k : Fin 16384 => left m c (ix2 k i) * right m c (ix2 k j))
    have hs := s.isLt
    have hn : 32 * Value.run2Of (ix2 i j) + s.val < cfg0.N := by rw [hr, hN]; omega
    unfold term
    rw [dif_pos hn]
    refine Finset.sum_congr rfl fun q _ => ?_
    have d : (32 * Value.run2Of (ix2 i j) + s.val) / 32 = i.val / 1024 := by rw [hr]; omega
    have r : (32 * Value.run2Of (ix2 i j) + s.val) % 32 = s.val := by omega
    refine congrArg₂ (· * ·) ((read_0 m c ⟨_, hn⟩ q _ (by show (32 * Value.run2Of (ix2 i j) + s.val) / 32 * 1024 + i.val % 1024 < 1024; omega)).trans
      (congrArg (left m c) (congrArg₂ ix2 (Fin.ext ?_) (Fin.ext ?_)))) ((read_1 m c ⟨_, hn⟩ q _).trans
      (congrArg (right m c) (congrArg₂ ix2 (Fin.ext ?_) rfl)))
    · show (32 * Value.run2Of (ix2 i j) + s.val) % 32 * 512 + q.val = s.val * 512 + q.val
      rw [r]
    · show (32 * Value.run2Of (ix2 i j) + s.val) / 32 * 1024 + i.val % 1024 = i.val
      omega
    · show (32 * Value.run2Of (ix2 i j) + s.val) % 32 * 512 + q.val = s.val * 512 + q.val
      rw [r]

/-- The reference's result at an index is the same product. -/
theorem reference (x : S16384x1024.Idx → EReal) (y : S16384x1536.Idx → EReal) (i : Fin 1024) (j : Fin 1536) :
    Cert.DwQkvRefIdeal.Read.val_main_v5 (F := Ideal) x y (ix2 i j) = ∑ k : Fin 16384, x (ix2 k i) * y (ix2 k j) := by
  rw [Cert.DwQkvRefIdeal.Read.val_main_v5_apply, Cert.DwQkvRefIdeal.Read.val_main_v4_apply]
  refine Finset.sum_congr rfl fun k _ => (mul_comm _ _).trans ?_
  refine congrArg₂ (· * ·) (congrArg x (funext fun a => ?_)) (congrArg y (funext fun a => ?_))
  · match a with
    | ⟨0, _⟩ => rfl
    | ⟨1, _⟩ => rfl
  · match a with
    | ⟨0, _⟩ => rfl
    | ⟨1, _⟩ => rfl

/-- The kernel's array is the reference's result. -/
theorem same : Cert.DwQkvRefIdeal.Read.val_main_v5 (F := Ideal) (left m c) (right m c) = Value.G2 m c := by
  funext y
  obtain ⟨i, j, rfl⟩ : ∃ (i : Fin 1024) (j : Fin 1536), y = ix2 i j := ⟨y 0, y 1, (ix2_eta y).symm⟩
  exact (reference _ _ i j).trans (value m c i j).symm

end Cert.Weight.Qkv
-- ==== Proof.Claims.DwQkv.lean ====
module

public import proofs.«01_k».proof.Defs
public import proofs.«01_k».proof.Proof.Gen.DwQkvRefIdeal.Run
public import proofs.«01_k».proof.Proof.Weight.Qkv

@[expose] public section

/-! The claims about the gradient of the weight of the queries, keys and values. -/

namespace Cert.Claims.DwQkv
open Idealize.ShloMosaic Idealize.SL.Sem

/-- The reference declares no semaphore, so its counters are at zero at every final state. -/
theorem sems (s : MemSt Cert.DwQkvRefIdeal.nD Cert.DwQkvRefIdeal.τ Cert.DwQkvRefIdeal.sig (Elt Ideal)) : s.sem = fun _ => 0 := by
  have none : IsEmpty (SemLoc Cert.DwQkvRefIdeal.sig) := Finset.univ_eq_empty_iff.mp (by decide)
  exact funext fun x => none.elim x.2

/-- The reference runs, its arguments end unchanged and its counters at zero. -/
theorem frame : Cert.quiescent_DwQkvRefIdeal (hDwQkvRefIdeal := Cert.DwQkvRefIdeal.Gen.facts) := fun m ρ _ =>
  (θ_run Cert.DwQkvRefIdeal.defs _ _).mono (fun r h => ⟨fun c => (h c).2, sems r.2⟩) (Cert.DwQkvRefIdeal.Value.run (F := Ideal) m ρ)

/-- The kernel's array is the reference's result, and both programs keep their arguments. -/
theorem algebraic : Cert.algebraic_DwQkvIdeal_DwQkvRefIdeal (hDwQkvIdeal := Cert.DwQkvIdeal.Gen.facts)
    (hDwQkvRefIdeal := Cert.DwQkvRefIdeal.Gen.facts) := by
  intro m g m' g' _ same
  refine ⟨fun c => Cert.DwQkvIdeal.Value.G2 m c, Cert.DwQkvIdeal.Value.run (F := Ideal) m g, ?_⟩
  refine (θ_run Cert.DwQkvRefIdeal.defs _ _).mono (fun r h c => ?_) (Cert.DwQkvRefIdeal.Value.run (F := Ideal) m' g')
  obtain ⟨h0, rest⟩ := h c
  obtain ⟨s0, s1⟩ := same c
  have e := h0.trans (Cert.DwQkvRefIdeal.Read.val_main_v5_eq _ _)
  rw [s0, s1] at e
  exact ⟨e.trans (Cert.Weight.Qkv.same m c), rest⟩

end Cert.Claims.DwQkv
-- ==== Proof.Prod.Row.lean ====
module

public import proofs.«01_k».proof.Proof.Norm.Real

@[expose] public section

/-! Layer norm of one row of extended reals, in the words both programs use. -/

namespace Cert.Prod.Row
open Idealize.ShloMosaic Cert.Norm

/-- The mean of a row. -/
noncomputable abbrev mean (u : Fin 1024 → EReal) : EReal := Ideal.div (∑ k, u k) nW
/-- The deviations of a row from its mean. -/
noncomputable abbrev dev (u : Fin 1024 → EReal) (k : Fin 1024) : EReal := u k - mean u
/-- The mean of the squared deviations of a row. -/
noncomputable abbrev vary (u : Fin 1024 → EReal) : EReal := Ideal.div (∑ k, dev u k * dev u k) nW
/-- The reciprocal of the standard deviation of a row. -/
noncomputable abbrev rst (u : Fin 1024 → EReal) : EReal := Ideal.rsqrt (vary u + epsW)

/-- Sums, differences, products and quotients of equal values. -/
theorem add_eq {a b a' b' : EReal} (ha : a = a') (hb : b = b') : a + b = a' + b' := by rw [ha, hb]
theorem sub_eq {a b a' b' : EReal} (ha : a = a') (hb : b = b') : a - b = a' - b' := by rw [ha, hb]
theorem mul_eq {a b a' b' : EReal} (ha : a = a') (hb : b = b') : a * b = a' * b' := by rw [ha, hb]
theorem over_eq {a a' : EReal} (ha : a = a') : Ideal.div a nW = Ideal.div a' nW := by rw [ha]
theorem sum_eq {n : ℕ} {f g : Fin n → EReal} (h : ∀ k, f k = g k) : zeroW + ∑ k, f k = ∑ k, g k := by
  rw [zeroW_eq, zero_add]
  exact Finset.sum_congr rfl fun k _ => h k

end Cert.Prod.Row
-- ==== Proof.Prod.FfnOut.lean ====
module

public import proofs.«01_k».proof.Proof.Gen.FfnOutIdeal.Value
public import proofs.«01_k».proof.Proof.Gen.FfnOutRefIdeal.Read
public import proofs.«01_k».proof.Proof.Prod.Row
public import Idealize.ShloMosaic.Lib.StableHlo.RunRead
public import Idealize.ShloMosaic.Lib.Pipeline.ValueKit
public import Idealize.ShloMosaic.Lib.Pointwise.Index

@[expose] public section

/-! The output of the feed-forward layer, with the residual and the layer norm: 32 steps of 512 rows. -/

set_option maxRecDepth 16384

namespace Cert.Prod.FfnOut
open Idealize.ShloMosaic Idealize.ShloMosaic.TcCoe Idealize.SL.Sem Cert.FfnOutIdeal Cert.FfnOutIdeal.Gen Cert.Prod.Row
open Cert.Norm (alphaW nW epsW)

/-- A row before the norm: the product's row and the residual's. -/
noncomputable abbrev row (a : S16384x2816.Idx → EReal) (w : S2816x1024.Idx → EReal) (x : S16384x1024.Idx → EReal) (i : Fin 16384) (k : Fin 1024) : EReal :=
  alphaW * x (ix2 i k) + ∑ q : Fin 2816, a (ix2 i q) * w (ix2 q k)

section kernel

theorem dot_at (x : FVec Ideal S512x2816 .bf16) (y : FVec Ideal S2816x1024 .bf16) (i : Fin 512) (j : Fin 1024) :
    matmul (F := Ideal) dot_S512x2816_S2816x1024_S512x1024_1_0_0_1_n_n none x y (constant S512x1024 .f32 0x00000000#32) (ix2 i j)
      = ∑ q : Fin 2816, x (ix2 i q) * y (ix2 q j) := by
  pointwise

/-- The deviations of the rows of a block from their means. -/
theorem dev_at (u : FVec Ideal S512x1024 .f32) (i : Fin 512) (j : Fin 1024) :
    subf u (broadcastTo S512x1024 (divf (shapeCast S512x1 (multiReduction .add [1] S512 u 0x00000000#32 reduces_S512x1024_S512 (.inl rfl) rfl) shapeCasts_S512_S512x1)
      (broadcast S512x1 (Scalar.ofBits .f32 0x44800000#32))) broadcasts_S512x1_S512x1024) (ix2 i j) = dev (fun k => u (ix2 i k)) j := by
  show _ = u (ix2 i j) - Ideal.div (∑ k : Fin 1024, u (ix2 i k)) nW
  pointwise

/-- The deviations a step computes. -/
theorem pay1_at (x : Vec Ideal S512x2816 .bf16) (y : Vec Ideal S2816x1024 .bf16) (z : Vec Ideal S512x1024 .f32) (i : Fin 512) (j : Fin 1024) :
    k0_pay1 (F := Ideal) x y z (ix2 i j) = dev (fun k => alphaW * z (ix2 i k) + ∑ q : Fin 2816, x (ix2 i q) * y (ix2 q k)) j := by
  unfold k0_pay1
  refine (dev_at _ i j).trans (congrFun (congrArg dev (funext fun k => ?_)) j)
  exact congrArg₂ (· + ·) rfl (dot_at x y i k)

/-- The reciprocals of the standard deviations a step computes. -/
theorem pay2_at (x : Vec Ideal S512x2816 .bf16) (y : Vec Ideal S2816x1024 .bf16) (z : Vec Ideal S512x1024 .f32) (i : Fin 512) :
    k0_pay2 (F := Ideal) x y z (ix2 i 0)
      = Ideal.rsqrt (Ideal.div (∑ k : Fin 1024, k0_pay1 (F := Ideal) x y z (ix2 i k) * k0_pay1 (F := Ideal) x y z (ix2 i k)) nW + epsW) := by
  unfold k0_pay2
  generalize k0_pay1 (F := Ideal) x y z = d
  pointwise

/-- The normal rows a step computes. -/
theorem pay3_at (x : Vec Ideal S512x2816 .bf16) (y : Vec Ideal S2816x1024 .bf16) (z : Vec Ideal S512x1024 .f32) (i : Fin 512) (j : Fin 1024) :
    k0_pay3 (F := Ideal) x y z (ix2 i j) = k0_pay1 (F := Ideal) x y z (ix2 i j) * k0_pay2 (F := Ideal) x y z (ix2 i 0) := by
  unfold k0_pay3
  generalize k0_pay1 (F := Ideal) x y z = d
  generalize k0_pay2 (F := Ideal) x y z = r
  pointwise

/-- The scaled and shifted rows a step computes. -/
theorem pay4_at (x : Vec Ideal S512x2816 .bf16) (y : Vec Ideal S2816x1024 .bf16) (z : Vec Ideal S512x1024 .f32) (g b : Vec Ideal S1x1024 .f32) (i : Fin 512) (j : Fin 1024) :
    k0_pay4 (F := Ideal) x y z g b (ix2 i j) = k0_pay3 (F := Ideal) x y z (ix2 i j) * g (ix2 0 j) + b (ix2 0 j) := by
  unfold k0_pay4
  generalize k0_pay3 (F := Ideal) x y z = h
  pointwise

end kernel

section reference
variable (a : S16384x2816.Idx → EReal) (w : S2816x1024.Idx → EReal) (x : S16384x1024.Idx → EReal)

/-- The reference's rows before the norm. -/
theorem v5_at (i : S16384x1024.Idx) : Cert.FfnOutRefIdeal.Read.val_main_v5 (F := Ideal) a w x i = row a w x (i 0) (i 1) := by
  rw [Cert.FfnOutRefIdeal.Read.val_main_v5_apply, Cert.FfnOutRefIdeal.Read.val_main_v1_apply, Cert.FfnOutRefIdeal.Read.val_main_v0_apply, Cert.FfnOutRefIdeal.Read.val_main_v4_apply]
  refine add_eq (mul_eq rfl (congrArg x (ix2_eta i).symm)) (Finset.sum_congr rfl fun k _ => ?_)
  refine congrArg₂ (· * ·) (congrArg a (funext fun a => ?_)) (congrArg w (funext fun a => ?_))
  · match a with
    | ⟨0, _⟩ => rfl
    | ⟨1, _⟩ => rfl
  · match a with
    | ⟨0, _⟩ => rfl
    | ⟨1, _⟩ => rfl

/-- Means. -/
theorem v9_at (i : S16384x1.Idx) : Cert.FfnOutRefIdeal.Read.val_main_v9 (F := Ideal) a w x i = mean (row a w x (i 0)) := by
  rw [Cert.FfnOutRefIdeal.Read.val_main_v9_apply, Cert.FfnOutRefIdeal.Read.val_main_v7_apply, Cert.FfnOutRefIdeal.Read.val_main_v8_apply, Cert.FfnOutRefIdeal.Read.val_main_v6_apply]
  exact over_eq (sum_eq fun k => v5_at a w x _)

/-- Deviations. -/
theorem v11_at (i : S16384x1024.Idx) : Cert.FfnOutRefIdeal.Read.val_main_v11 (F := Ideal) a w x i = dev (row a w x (i 0)) (i 1) := by
  rw [Cert.FfnOutRefIdeal.Read.val_main_v11_apply, Cert.FfnOutRefIdeal.Read.val_main_v10_apply]
  exact sub_eq (v5_at a w x i) (v9_at a w x _)

/-- Variances. -/
theorem v16_at (i : S16384x1.Idx) : Cert.FfnOutRefIdeal.Read.val_main_v16 (F := Ideal) a w x i = vary (row a w x (i 0)) := by
  rw [Cert.FfnOutRefIdeal.Read.val_main_v16_apply, Cert.FfnOutRefIdeal.Read.val_main_v14_apply, Cert.FfnOutRefIdeal.Read.val_main_v15_apply, Cert.FfnOutRefIdeal.Read.val_main_v13_apply]
  exact over_eq (sum_eq fun k => mul_eq (v11_at a w x _) (v11_at a w x _))

/-- Deviations. -/
theorem v18_at (i : S16384x1024.Idx) : Cert.FfnOutRefIdeal.Read.val_main_v18 (F := Ideal) a w x i = dev (row a w x (i 0)) (i 1) := by
  rw [Cert.FfnOutRefIdeal.Read.val_main_v18_apply, Cert.FfnOutRefIdeal.Read.val_main_v17_apply]
  exact sub_eq (v5_at a w x i) (v9_at a w x _)

/-- Reciprocals of the standard deviations. -/
theorem v21_at (i : S16384x1.Idx) : Cert.FfnOutRefIdeal.Read.val_main_v21 (F := Ideal) a w x i = rst (row a w x (i 0)) := by
  rw [Cert.FfnOutRefIdeal.Read.val_main_v21_apply, Cert.FfnOutRefIdeal.Read.val_main_v20_apply, Cert.FfnOutRefIdeal.Read.val_main_v19_apply]
  exact congrArg Ideal.rsqrt (add_eq (v16_at a w x i) rfl)

/-- Normal rows. -/
theorem v23_at (i : S16384x1024.Idx) : Cert.FfnOutRefIdeal.Read.val_main_v23 (F := Ideal) a w x i = dev (row a w x (i 0)) (i 1) * rst (row a w x (i 0)) := by
  rw [Cert.FfnOutRefIdeal.Read.val_main_v23_apply, Cert.FfnOutRefIdeal.Read.val_main_v22_apply]
  exact mul_eq (v18_at a w x i) (v21_at a w x _)

/-- Means. -/
theorem v33_at (i : S16384x1.Idx) : Cert.FfnOutRefIdeal.Read.val_main_v33 (F := Ideal) a w x i = mean (row a w x (i 0)) := by
  rw [Cert.FfnOutRefIdeal.Read.val_main_v33_apply, Cert.FfnOutRefIdeal.Read.val_main_v31_apply, Cert.FfnOutRefIdeal.Read.val_main_v32_apply, Cert.FfnOutRefIdeal.Read.val_main_v30_apply]
  exact over_eq (sum_eq fun k => v5_at a w x _)

/-- Deviations. -/
theorem v35_at (i : S16384x1024.Idx) : Cert.FfnOutRefIdeal.Read.val_main_v35 (F := Ideal) a w x i = dev (row a w x (i 0)) (i 1) := by
  rw [Cert.FfnOutRefIdeal.Read.val_main_v35_apply, Cert.FfnOutRefIdeal.Read.val_main_v34_apply]
  exact sub_eq (v5_at a w x i) (v33_at a w x _)

/-- Variances. -/
theorem v40_at (i : S16384x1.Idx) : Cert.FfnOutRefIdeal.Read.val_main_v40 (F := Ideal) a w x i = vary (row a w x (i 0)) := by
  rw [Cert.FfnOutRefIdeal.Read.val_main_v40_apply, Cert.FfnOutRefIdeal.Read.val_main_v38_apply, Cert.FfnOutRefIdeal.Read.val_main_v39_apply, Cert.FfnOutRefIdeal.Read.val_main_v37_apply]
  exact over_eq (sum_eq fun k => mul_eq (v35_at a w x _) (v35_at a w x _))

/-- Deviations. -/
theorem v42_at (i : S16384x1024.Idx) : Cert.FfnOutRefIdeal.Read.val_main_v42 (F := Ideal) a w x i = dev (row a w x (i 0)) (i 1) := by
  rw [Cert.FfnOutRefIdeal.Read.val_main_v42_apply, Cert.FfnOutRefIdeal.Read.val_main_v41_apply]
  exact sub_eq (v5_at a w x i) (v33_at a w x _)

/-- Reciprocals of the standard deviations. -/
theorem v45_at (i : S16384x1.Idx) : Cert.FfnOutRefIdeal.Read.val_main_v45 (F := Ideal) a w x i = rst (row a w x (i 0)) := by
  rw [Cert.FfnOutRefIdeal.Read.val_main_v45_apply, Cert.FfnOutRefIdeal.Read.val_main_v44_apply, Cert.FfnOutRefIdeal.Read.val_main_v43_apply]
  exact congrArg Ideal.rsqrt (add_eq (v40_at a w x i) rfl)

/-- Normal rows. -/
theorem v47_at (i : S16384x1024.Idx) : Cert.FfnOutRefIdeal.Read.val_main_v47 (F := Ideal) a w x i = dev (row a w x (i 0)) (i 1) * rst (row a w x (i 0)) := by
  rw [Cert.FfnOutRefIdeal.Read.val_main_v47_apply, Cert.FfnOutRefIdeal.Read.val_main_v46_apply]
  exact mul_eq (v42_at a w x i) (v45_at a w x _)

/-- Reciprocals of the standard deviations, as kept for the way back. -/
theorem v50_at (i : S16384x1.Idx) : Cert.FfnOutRefIdeal.Read.val_main_v50 (F := Ideal) a w x i = rst (row a w x (i 0)) := by
  rw [Cert.FfnOutRefIdeal.Read.val_main_v50_apply, Cert.FfnOutRefIdeal.Read.val_main_v49_apply, Cert.FfnOutRefIdeal.Read.val_main_v48_apply]
  exact congrArg Ideal.rsqrt (add_eq (v40_at a w x i) rfl)

/-- Scaled and shifted rows. -/
theorem v29_at (g b : S1024.Idx → EReal) (i : S16384x1024.Idx) : Cert.FfnOutRefIdeal.Read.val_main_v29 (F := Ideal) a w x g b i
    = dev (row a w x (i 0)) (i 1) * rst (row a w x (i 0)) * g (ix1 (n0 := 1024) (i 1)) + b (ix1 (n0 := 1024) (i 1)) := by
  rw [Cert.FfnOutRefIdeal.Read.val_main_v29_apply, Cert.FfnOutRefIdeal.Read.val_main_v26_apply, Cert.FfnOutRefIdeal.Read.val_main_v25_apply, Cert.FfnOutRefIdeal.Read.val_main_v24_apply, Cert.FfnOutRefIdeal.Read.val_main_v28_apply, Cert.FfnOutRefIdeal.Read.val_main_v27_apply]
  refine add_eq (mul_eq (v23_at a w x i) (congrArg g (funext fun d => ?_))) (congrArg b (funext fun d => ?_))
  · match d with
    | ⟨0, _⟩ => rfl
  · match d with
    | ⟨0, _⟩ => rfl

end reference

theorem idx_0 : ∀ t : Fin cfg0.N, win0_0.index t = ![t.val % 32, 0] := by decide +kernel
theorem idx_2 : ∀ t : Fin cfg0.N, win0_2.index t = ![t.val % 32, 0] := by decide +kernel
theorem idx_5 : ∀ t : Fin cfg0.N, win0_5.index t = ![t.val % 32, 0] := by decide +kernel
theorem idx_6 : ∀ t : Fin cfg0.N, win0_6.index t = ![t.val % 32, 0] := by decide +kernel
theorem idx_7 : ∀ t : Fin cfg0.N, win0_7.index t = ![t.val % 32, 0] := by decide +kernel
theorem idx_8 : ∀ t : Fin cfg0.N, win0_8.index t = ![t.val % 32, 0] := by decide +kernel
theorem idx_1 : ∀ t : Fin cfg0.N, win0_1.index t = ![0, 0] := by decide +kernel
theorem idx_3 : ∀ t : Fin cfg0.N, win0_3.index t = ![0, 0] := by decide +kernel
theorem idx_4 : ∀ t : Fin cfg0.N, win0_4.index t = ![0, 0] := by decide +kernel

/-- The rows of a step. -/
abbrev rows (t : Fin cfg0.N) (i : Fin 512) : Fin 16384 := ⟨t.val % 32 * 512 + i.val, by omega⟩

variable (m : (ℓ : Loc nD τ sig) → Buf (Elt Ideal) ℓ) (c : Dev nD)

/-- The rows a step reads. -/
theorem read_0 (t : Fin cfg0.N) (i : Fin 512) (j : Fin 2816) : (iblk m c 0 t : S512x2816.Idx → EReal) (ix2 i j)
    = m (c, Proc.tc.devRef main_arg0) (ix2 (n0 := 16384) (n1 := 2816) (rows t i) j) := by
  have p : ((cfg0.win 0).blk t).view.emb (ix2 i j) = ix2 (n0 := 16384) (n1 := 2816) (rows t i) j := by blk_ext [idx_0]
  show V m c main_arg0 (((cfg0.win 0).blk t).view.emb (ix2 i j)) = _
  rw [p, V_main_arg0]

/-- The weight. -/
theorem read_1 (t : Fin cfg0.N) (i : Fin 2816) (j : Fin 1024) : (iblk m c 1 t : S2816x1024.Idx → EReal) (ix2 i j)
    = m (c, Proc.tc.devRef main_arg1) (ix2 (n0 := 2816) (n1 := 1024) i j) := by
  have p : ((cfg0.win 1).blk t).view.emb (ix2 i j) = ix2 (n0 := 2816) (n1 := 1024) i j := by blk_ext [idx_1]
  show V m c main_arg1 (((cfg0.win 1).blk t).view.emb (ix2 i j)) = _
  rw [p, V_main_arg1]

/-- The residual's rows a step reads. -/
theorem read_2 (t : Fin cfg0.N) (i : Fin 512) (j : Fin 1024) : (iblk m c 2 t : S512x1024.Idx → EReal) (ix2 i j)
    = m (c, Proc.tc.devRef main_arg2) (ix2 (n0 := 16384) (n1 := 1024) (rows t i) j) := by
  have p : ((cfg0.win 2).blk t).view.emb (ix2 i j) = ix2 (n0 := 16384) (n1 := 1024) (rows t i) j := by blk_ext [idx_2]
  show V m c main_arg2 (((cfg0.win 2).blk t).view.emb (ix2 i j)) = _
  rw [p, V_main_arg2]

set_option backward.isDefEq.respectTransparency.types false in
/-- The scales as one row. -/
theorem v0_word : V m c main_v0 = broadcastInDim S1x1024 ![1] bcast_S1024_S1x1024_1 (m (c, Proc.tc.devRef main_arg3)) := by
  unfold V
  after_reads_simp

/-- The scales a step reads. -/
theorem read_3 (t : Fin cfg0.N) (j : Fin 1024) : (iblk m c 3 t : S1x1024.Idx → EReal) (ix2 0 j)
    = m (c, Proc.tc.devRef main_arg3) (ix1 (n0 := 1024) j) := by
  have p : ((cfg0.win 3).blk t).view.emb (ix2 0 j) = ix2 (n0 := 1) (n1 := 1024) 0 j := by blk_ext [idx_3]
  show V m c main_v0 (((cfg0.win 3).blk t).view.emb (ix2 0 j)) = _
  rw [p, v0_word]
  refine broadcastInDim_apply _ _ _ _ (ix1 (n0 := 1024) j) fun a => ?_
  match a with
  | ⟨0, _⟩ => rfl

set_option backward.isDefEq.respectTransparency.types false in
/-- The shifts as one row. -/
theorem v1_word : V m c main_v1 = broadcastInDim S1x1024 ![1] bcast_S1024_S1x1024_1 (m (c, Proc.tc.devRef main_arg4)) := by
  unfold V
  after_reads_simp

/-- The shifts a step reads. -/
theorem read_4 (t : Fin cfg0.N) (j : Fin 1024) : (iblk m c 4 t : S1x1024.Idx → EReal) (ix2 0 j)
    = m (c, Proc.tc.devRef main_arg4) (ix1 (n0 := 1024) j) := by
  have p : ((cfg0.win 4).blk t).view.emb (ix2 0 j) = ix2 (n0 := 1) (n1 := 1024) 0 j := by blk_ext [idx_4]
  show V m c main_v1 (((cfg0.win 4).blk t).view.emb (ix2 0 j)) = _
  rw [p, v1_word]
  refine broadcastInDim_apply _ _ _ _ (ix1 (n0 := 1024) j) fun a => ?_
  match a with
  | ⟨0, _⟩ => rfl

/-- One store over a whole block, at its index. -/
theorem whole_f (w : S512x1024.Idx → EReal) (i : Fin 512) (j : Fin 1024) :
    View.canon (Val := Elt Ideal) (e := .f32) [⟨r0_2, w⟩] (ix2 i j) = w (ix2 i j) := by
  have e : r0_2.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_2 w [] (ix2 (n0 := 512) (n1 := 1024) i j)
  rw [e] at h
  exact h

/-- One store over a whole block, at its index. -/
theorem whole_b (w : S512x1024.Idx → EReal) (i : Fin 512) (j : Fin 1024) :
    View.canon (Val := Elt Ideal) (e := .bf16) [⟨r0_2, w⟩] (ix2 i j) = w (ix2 i j) := by
  have e : r0_2.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .bf16) r0_2 w [] (ix2 (n0 := 512) (n1 := 1024) i j)
  rw [e] at h
  exact h

/-- One store over a whole block, at its index. -/
theorem whole_1 (w : S512x1.Idx → EReal) (i : Fin 512) (j : Fin 1) :
    View.canon (Val := Elt Ideal) (e := .f32) [⟨r0_4, w⟩] (ix2 i j) = w (ix2 i j) := by
  have e : r0_4.emb (ix2 i j) = ix2 (n0 := 512) (n1 := 1) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_4 w [] (ix2 (n0 := 512) (n1 := 1) i j)
  rw [e] at h
  exact h

/-- A load of a whole block is the block. -/
theorem ld_0 (x : S512x2816.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_1 (x : S2816x1024.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_z (x : S512x1024.Idx → EReal) : View.ld (Val := Elt Ideal) (e' := .f32) x r0_2 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_g (x : S1x1024.Idx → EReal) : View.ld (Val := Elt Ideal) (e' := .f32) x r0_3 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- The rows, the weight and the residual's rows of a step. -/
abbrev ablk (t : Fin cfg0.N) : S512x2816.Idx → EReal := iblk m c 0 t
abbrev wblk (t : Fin cfg0.N) : S2816x1024.Idx → EReal := iblk m c 1 t
abbrev zblk (t : Fin cfg0.N) : S512x1024.Idx → EReal := iblk m c 2 t

/-- The rows before the norm a step computes. -/
theorem row_at (t : Fin cfg0.N) (i : Fin 512) :
    (fun k : Fin 1024 => alphaW * zblk m c t (ix2 i k)
      + ∑ q : Fin 2816, ablk m c t (ix2 i q) * wblk m c t (ix2 q k))
      = row (m (c, Proc.tc.devRef main_arg0)) (m (c, Proc.tc.devRef main_arg1)) (m (c, Proc.tc.devRef main_arg2)) (rows t i) :=
  funext fun k => add_eq (mul_eq rfl (read_2 m c t i k)) (Finset.sum_congr rfl fun q _ => congrArg₂ (· * ·) (read_0 m c t i q) (read_1 m c t q k))

theorem devs (t : Fin cfg0.N) (i : Fin 512) (j : Fin 1024) : k0_pay1 (F := Ideal) (iblk m c 0 t) (iblk m c 1 t) (iblk m c 2 t) (ix2 i j)
    = dev (row (m (c, Proc.tc.devRef main_arg0)) (m (c, Proc.tc.devRef main_arg1)) (m (c, Proc.tc.devRef main_arg2)) (rows t i)) j :=
  (pay1_at _ _ _ i j).trans (congrFun (congrArg dev (row_at m c t i)) j)

theorem rsts (t : Fin cfg0.N) (i : Fin 512) : k0_pay2 (F := Ideal) (iblk m c 0 t) (iblk m c 1 t) (iblk m c 2 t) (ix2 i 0)
    = rst (row (m (c, Proc.tc.devRef main_arg0)) (m (c, Proc.tc.devRef main_arg1)) (m (c, Proc.tc.devRef main_arg2)) (rows t i)) :=
  (pay2_at _ _ _ i).trans (congrArg Ideal.rsqrt (add_eq (over_eq (Finset.sum_congr rfl fun k _ => mul_eq (devs m c t i k) (devs m c t i k))) rfl))

theorem hats (t : Fin cfg0.N) (i : Fin 512) (j : Fin 1024) : k0_pay3 (F := Ideal) (iblk m c 0 t) (iblk m c 1 t) (iblk m c 2 t) (ix2 i j)
    = dev (row (m (c, Proc.tc.devRef main_arg0)) (m (c, Proc.tc.devRef main_arg1)) (m (c, Proc.tc.devRef main_arg2)) (rows t i)) j * rst (row (m (c, Proc.tc.devRef main_arg0)) (m (c, Proc.tc.devRef main_arg1)) (m (c, Proc.tc.devRef main_arg2)) (rows t i)) :=
  (pay3_at _ _ _ i j).trans (mul_eq (devs m c t i j) (rsts m c t i))

theorem outs (t : Fin cfg0.N) (i : Fin 512) (j : Fin 1024) : k0_pay4 (F := Ideal) (iblk m c 0 t) (iblk m c 1 t) (iblk m c 2 t) (iblk m c 3 t) (iblk m c 4 t) (ix2 i j)
    = Cert.FfnOutRefIdeal.Read.val_main_v29 (F := Ideal) (m (c, Proc.tc.devRef main_arg0)) (m (c, Proc.tc.devRef main_arg1)) (m (c, Proc.tc.devRef main_arg2)) (m (c, Proc.tc.devRef main_arg3)) (m (c, Proc.tc.devRef main_arg4)) (ix2 (rows t i) j) :=
  (pay4_at _ _ _ _ _ i j).trans ((add_eq (mul_eq (hats m c t i j) (read_3 m c t j)) (read_4 m c t j)).trans
    (v29_at _ _ _ _ _ (ix2 (rows t i) j)).symm)

/-- A step's block of the output. -/
theorem step5 (t : Fin cfg0.N) (i : Fin 512) (j : Fin 1024) : out0_5 (F := Ideal) (iblk m c 0 t) (iblk m c 1 t) (iblk m c 2 t) (iblk m c 3 t) (iblk m c 4 t) (ix2 i j)
    = Cert.FfnOutRefIdeal.Read.val_main_v29 (F := Ideal) (m (c, Proc.tc.devRef main_arg0)) (m (c, Proc.tc.devRef main_arg1)) (m (c, Proc.tc.devRef main_arg2)) (m (c, Proc.tc.devRef main_arg3)) (m (c, Proc.tc.devRef main_arg4)) (ix2 (rows t i) j) := by
  unfold out0_5
  refine (whole_f _ i j).trans ?_
  rw [ld_0, ld_1, ld_z, ld_g, ld_g]
  exact outs m c t i j

/-- A step's block of the output in the narrow format. -/
theorem step6 (t : Fin cfg0.N) (i : Fin 512) (j : Fin 1024) : out0_6 (F := Ideal) (iblk m c 0 t) (iblk m c 1 t) (iblk m c 2 t) (iblk m c 3 t) (iblk m c 4 t) (ix2 i j)
    = Cert.FfnOutRefIdeal.Read.val_main_v51 (F := Ideal) (m (c, Proc.tc.devRef main_arg0)) (m (c, Proc.tc.devRef main_arg1)) (m (c, Proc.tc.devRef main_arg2)) (m (c, Proc.tc.devRef main_arg3)) (m (c, Proc.tc.devRef main_arg4)) (ix2 (rows t i) j) := by
  unfold out0_6
  refine (whole_b _ i j).trans ?_
  rw [ld_0, ld_1, ld_z, ld_g, ld_g]
  exact outs m c t i j

/-- A step's block of the normal rows. -/
theorem step7 (t : Fin cfg0.N) (i : Fin 512) (j : Fin 1024) : out0_7 (F := Ideal) (iblk m c 0 t) (iblk m c 1 t) (iblk m c 2 t) (iblk m c 3 t) (iblk m c 4 t) (ix2 i j)
    = Cert.FfnOutRefIdeal.Read.val_main_v52 (F := Ideal) (m (c, Proc.tc.devRef main_arg0)) (m (c, Proc.tc.devRef main_arg1)) (m (c, Proc.tc.devRef main_arg2)) (ix2 (rows t i) j) := by
  unfold out0_7
  refine (whole_b _ i j).trans ?_
  rw [ld_0, ld_1, ld_z]
  exact (hats m c t i j).trans (v47_at _ _ _ (ix2 (rows t i) j)).symm

/-- A step's block of the reciprocals of the standard deviations. -/
theorem step8 (t : Fin cfg0.N) (i : Fin 512) (j : Fin 1) : out0_8 (F := Ideal) (iblk m c 0 t) (iblk m c 1 t) (iblk m c 2 t) (iblk m c 3 t) (iblk m c 4 t) (ix2 i j)
    = Cert.FfnOutRefIdeal.Read.val_main_v50 (F := Ideal) (m (c, Proc.tc.devRef main_arg0)) (m (c, Proc.tc.devRef main_arg1)) (m (c, Proc.tc.devRef main_arg2)) (ix2 (rows t i) j) := by
  obtain rfl : j = 0 := Subsingleton.elim _ _
  unfold out0_8
  refine (whole_1 _ i 0).trans ?_
  rw [ld_0, ld_1, ld_z]
  exact (rsts m c t i).trans (v50_at _ _ _ (ix2 (rows t i) 0)).symm

/-- The kernel's array of the output is the reference's. -/
theorem same5 : Cert.FfnOutRefIdeal.Read.val_main_v29 (F := Ideal) (m (c, Proc.tc.devRef main_arg0)) (m (c, Proc.tc.devRef main_arg1)) (m (c, Proc.tc.devRef main_arg2)) (m (c, Proc.tc.devRef main_arg3)) (m (c, Proc.tc.devRef main_arg4)) = (dats m 0 c).arrAt 5 cfg0.N := by
  refine ((dats m 0 c).arrAt_eq_of_covers 5 _ (by decide +kernel) fun t hf y => ?_).symm
  rw [after0_5]
  obtain ⟨i, j, rfl⟩ : ∃ (i : Fin 512) (j : Fin 1024), y = ix2 i j := ⟨y 0, y 1, (ix2_eta y).symm⟩
  have p : ((cfg0.win 5).blk t).view.emb (ix2 i j) = ix2 (n0 := 16384) (n1 := 1024) (rows t i) j := by blk_ext [idx_5]
  have q : (cfg0.win 5).xinj (cfg0.grid.coords t) (ix2 i j) = ix2 (n0 := 512) (n1 := 1024) i j := by
    funext a; match a with | ⟨0, _⟩ => rfl | ⟨1, _⟩ => rfl
  rw [p, q]
  exact (cast_eq _ _).trans (step5 m c t i j)

/-- The kernel's array of the output in the narrow format is the reference's. -/
theorem same6 : Cert.FfnOutRefIdeal.Read.val_main_v51 (F := Ideal) (m (c, Proc.tc.devRef main_arg0)) (m (c, Proc.tc.devRef main_arg1)) (m (c, Proc.tc.devRef main_arg2)) (m (c, Proc.tc.devRef main_arg3)) (m (c, Proc.tc.devRef main_arg4)) = (dats m 0 c).arrAt 6 cfg0.N := by
  refine ((dats m 0 c).arrAt_eq_of_covers 6 _ (by decide +kernel) fun t hf y => ?_).symm
  rw [after0_6]
  obtain ⟨i, j, rfl⟩ : ∃ (i : Fin 512) (j : Fin 1024), y = ix2 i j := ⟨y 0, y 1, (ix2_eta y).symm⟩
  have p : ((cfg0.win 6).blk t).view.emb (ix2 i j) = ix2 (n0 := 16384) (n1 := 1024) (rows t i) j := by blk_ext [idx_6]
  have q : (cfg0.win 6).xinj (cfg0.grid.coords t) (ix2 i j) = ix2 (n0 := 512) (n1 := 1024) i j := by
    funext a; match a with | ⟨0, _⟩ => rfl | ⟨1, _⟩ => rfl
  rw [p, q]
  exact (cast_eq _ _).trans (step6 m c t i j)

/-- The kernel's array of the normal rows is the reference's. -/
theorem same7 : Cert.FfnOutRefIdeal.Read.val_main_v52 (F := Ideal) (m (c, Proc.tc.devRef main_arg0)) (m (c, Proc.tc.devRef main_arg1)) (m (c, Proc.tc.devRef main_arg2)) = (dats m 0 c).arrAt 7 cfg0.N := by
  refine ((dats m 0 c).arrAt_eq_of_covers 7 _ (by decide +kernel) fun t hf y => ?_).symm
  rw [after0_7]
  obtain ⟨i, j, rfl⟩ : ∃ (i : Fin 512) (j : Fin 1024), y = ix2 i j := ⟨y 0, y 1, (ix2_eta y).symm⟩
  have p : ((cfg0.win 7).blk t).view.emb (ix2 i j) = ix2 (n0 := 16384) (n1 := 1024) (rows t i) j := by blk_ext [idx_7]
  have q : (cfg0.win 7).xinj (cfg0.grid.coords t) (ix2 i j) = ix2 (n0 := 512) (n1 := 1024) i j := by
    funext a; match a with | ⟨0, _⟩ => rfl | ⟨1, _⟩ => rfl
  rw [p, q]
  exact (cast_eq _ _).trans (step7 m c t i j)

/-- The kernel's array of the reciprocals of the standard deviations is the reference's. -/
theorem same8 : Cert.FfnOutRefIdeal.Read.val_main_v50 (F := Ideal) (m (c, Proc.tc.devRef main_arg0)) (m (c, Proc.tc.devRef main_arg1)) (m (c, Proc.tc.devRef main_arg2)) = (dats m 0 c).arrAt 8 cfg0.N := by
  refine ((dats m 0 c).arrAt_eq_of_covers 8 _ (by decide +kernel) fun t hf y => ?_).symm
  rw [after0_8]
  obtain ⟨i, j, rfl⟩ : ∃ (i : Fin 512) (j : Fin 1), y = ix2 i j := ⟨y 0, y 1, (ix2_eta y).symm⟩
  have p : ((cfg0.win 8).blk t).view.emb (ix2 i j) = ix2 (n0 := 16384) (n1 := 1) (rows t i) j := by blk_ext [idx_8]
  have q : (cfg0.win 8).xinj (cfg0.grid.coords t) (ix2 i j) = ix2 (n0 := 512) (n1 := 1) i j := by
    funext a; match a with | ⟨0, _⟩ => rfl | ⟨1, _⟩ => rfl
  rw [p, q]
  exact (cast_eq _ _).trans (step8 m c t i j)

end Cert.Prod.FfnOut
-- ==== Proof.Claims.FfnOut.lean ====
module

public import proofs.«01_k».proof.Defs
public import proofs.«01_k».proof.Proof.Gen.FfnOutRefIdeal.Run
public import proofs.«01_k».proof.Proof.Prod.FfnOut

@[expose] public section

/-! The claims about the output of the feed-forward layer with the residual and the layer norm. -/

namespace Cert.Claims.FfnOut
open Idealize.ShloMosaic Idealize.SL.Sem

/-- The reference declares no semaphore, so its counters are at zero at every final state. -/
theorem sems (s : MemSt Cert.FfnOutRefIdeal.nD Cert.FfnOutRefIdeal.τ Cert.FfnOutRefIdeal.sig (Elt Ideal)) : s.sem = fun _ => 0 := by
  have none : IsEmpty (SemLoc Cert.FfnOutRefIdeal.sig) := Finset.univ_eq_empty_iff.mp (by decide)
  exact funext fun x => none.elim x.2

/-- The reference runs, its arguments end unchanged and its counters at zero. -/
theorem frame : Cert.quiescent_FfnOutRefIdeal (hFfnOutRefIdeal := Cert.FfnOutRefIdeal.Gen.facts) := fun m ρ _ =>
  (θ_run Cert.FfnOutRefIdeal.defs _ _).mono (fun r h => ⟨fun c => (h c).2.2.2.2, sems r.2⟩) (Cert.FfnOutRefIdeal.Value.run (F := Ideal) m ρ)

/-- The kernel's four arrays are the reference's results, and both programs keep their arguments. -/
theorem algebraic : Cert.algebraic_FfnOutIdeal_FfnOutRefIdeal (hFfnOutIdeal := Cert.FfnOutIdeal.Gen.facts)
    (hFfnOutRefIdeal := Cert.FfnOutRefIdeal.Gen.facts) := by
  intro m g m' g' _ same
  refine ⟨fun c => (Cert.FfnOutIdeal.Gen.dats m 0 c).arrAt 5 Cert.FfnOutIdeal.cfg0.N, fun c => (Cert.FfnOutIdeal.Gen.dats m 0 c).arrAt 6 Cert.FfnOutIdeal.cfg0.N,
    fun c => (Cert.FfnOutIdeal.Gen.dats m 0 c).arrAt 7 Cert.FfnOutIdeal.cfg0.N, fun c => (Cert.FfnOutIdeal.Gen.dats m 0 c).arrAt 8 Cert.FfnOutIdeal.cfg0.N, Cert.FfnOutIdeal.Value.run_blocks (F := Ideal) m g, ?_⟩
  refine (θ_run Cert.FfnOutRefIdeal.defs _ _).mono (fun r h c => ?_) (Cert.FfnOutRefIdeal.Value.run (F := Ideal) m' g')
  obtain ⟨h0, h1, h2, h3, rest⟩ := h c
  obtain ⟨s0, s1, s2, s3, s4⟩ := same c
  have e0 := h0.trans (Cert.FfnOutRefIdeal.Read.val_main_v29_eq _ _ _ _ _)
  have e1 := h1.trans (Cert.FfnOutRefIdeal.Read.val_main_v51_eq _ _ _ _ _)
  have e2 := h2.trans (Cert.FfnOutRefIdeal.Read.val_main_v52_eq _ _ _)
  have e3 := h3.trans (Cert.FfnOutRefIdeal.Read.val_main_v50_eq _ _ _)
  rw [s0, s1, s2, s3, s4] at e0 e1
  rw [s0, s1, s2] at e2 e3
  exact ⟨e0.trans (Cert.Prod.FfnOut.same5 m c), e1.trans (Cert.Prod.FfnOut.same6 m c), e2.trans (Cert.Prod.FfnOut.same7 m c), e3.trans (Cert.Prod.FfnOut.same8 m c), rest⟩

end Cert.Claims.FfnOut
-- ==== Proof.Prod.MixOut.lean ====
module

public import proofs.«01_k».proof.Proof.Gen.MixOutIdeal.Value
public import proofs.«01_k».proof.Proof.Gen.MixOutRefIdeal.Read
public import proofs.«01_k».proof.Proof.Prod.Row
public import Idealize.ShloMosaic.Lib.StableHlo.RunRead
public import Idealize.ShloMosaic.Lib.Pipeline.ValueKit
public import Idealize.ShloMosaic.Lib.Pointwise.Index

@[expose] public section

/-! The output of a mixing layer, with the residual and the layer norm: 32 steps of 512 rows. -/

set_option maxRecDepth 16384

namespace Cert.Prod.MixOut
open Idealize.ShloMosaic Idealize.ShloMosaic.TcCoe Idealize.SL.Sem Cert.MixOutIdeal Cert.MixOutIdeal.Gen Cert.Prod.Row
open Cert.Norm (alphaW nW epsW)

/-- A row before the norm: the product's row and the residual's. -/
noncomputable abbrev row (a : S16384x1024.Idx → EReal) (w : S1024x1024.Idx → EReal) (x : S16384x1024.Idx → EReal) (i : Fin 16384) (k : Fin 1024) : EReal :=
  alphaW * x (ix2 i k) + ∑ q : Fin 1024, a (ix2 i q) * w (ix2 q k)

section kernel

theorem dot_at (x : FVec Ideal S512x1024 .bf16) (y : FVec Ideal S1024x1024 .bf16) (i : Fin 512) (j : Fin 1024) :
    matmul (F := Ideal) dot_S512x1024_S1024x1024_S512x1024_1_0_0_1_n_n none x y (constant S512x1024 .f32 0x00000000#32) (ix2 i j)
      = ∑ q : Fin 1024, x (ix2 i q) * y (ix2 q j) := by
  pointwise

/-- The deviations of the rows of a block from their means. -/
theorem dev_at (u : FVec Ideal S512x1024 .f32) (i : Fin 512) (j : Fin 1024) :
    subf u (broadcastTo S512x1024 (divf (shapeCast S512x1 (multiReduction .add [1] S512 u 0x00000000#32 reduces_S512x1024_S512 (.inl rfl) rfl) shapeCasts_S512_S512x1)
      (broadcast S512x1 (Scalar.ofBits .f32 0x44800000#32))) broadcasts_S512x1_S512x1024) (ix2 i j) = dev (fun k => u (ix2 i k)) j := by
  show _ = u (ix2 i j) - Ideal.div (∑ k : Fin 1024, u (ix2 i k)) nW
  pointwise

/-- The deviations a step computes. -/
theorem pay1_at (x : Vec Ideal S512x1024 .bf16) (y : Vec Ideal S1024x1024 .bf16) (z : Vec Ideal S512x1024 .f32) (i : Fin 512) (j : Fin 1024) :
    k0_pay1 (F := Ideal) x y z (ix2 i j) = dev (fun k => alphaW * z (ix2 i k) + ∑ q : Fin 1024, x (ix2 i q) * y (ix2 q k)) j := by
  unfold k0_pay1
  refine (dev_at _ i j).trans (congrFun (congrArg dev (funext fun k => ?_)) j)
  exact congrArg₂ (· + ·) rfl (dot_at x y i k)

/-- The reciprocals of the standard deviations a step computes. -/
theorem pay2_at (x : Vec Ideal S512x1024 .bf16) (y : Vec Ideal S1024x1024 .bf16) (z : Vec Ideal S512x1024 .f32) (i : Fin 512) :
    k0_pay2 (F := Ideal) x y z (ix2 i 0)
      = Ideal.rsqrt (Ideal.div (∑ k : Fin 1024, k0_pay1 (F := Ideal) x y z (ix2 i k) * k0_pay1 (F := Ideal) x y z (ix2 i k)) nW + epsW) := by
  unfold k0_pay2
  generalize k0_pay1 (F := Ideal) x y z = d
  pointwise

/-- The normal rows a step computes. -/
theorem pay3_at (x : Vec Ideal S512x1024 .bf16) (y : Vec Ideal S1024x1024 .bf16) (z : Vec Ideal S512x1024 .f32) (i : Fin 512) (j : Fin 1024) :
    k0_pay3 (F := Ideal) x y z (ix2 i j) = k0_pay1 (F := Ideal) x y z (ix2 i j) * k0_pay2 (F := Ideal) x y z (ix2 i 0) := by
  unfold k0_pay3
  generalize k0_pay1 (F := Ideal) x y z = d
  generalize k0_pay2 (F := Ideal) x y z = r
  pointwise

/-- The scaled and shifted rows a step computes. -/
theorem pay4_at (x : Vec Ideal S512x1024 .bf16) (y : Vec Ideal S1024x1024 .bf16) (z : Vec Ideal S512x1024 .f32) (g b : Vec Ideal S1x1024 .f32) (i : Fin 512) (j : Fin 1024) :
    k0_pay4 (F := Ideal) x y z g b (ix2 i j) = k0_pay3 (F := Ideal) x y z (ix2 i j) * g (ix2 0 j) + b (ix2 0 j) := by
  unfold k0_pay4
  generalize k0_pay3 (F := Ideal) x y z = h
  pointwise

end kernel

section reference
variable (a : S16384x1024.Idx → EReal) (w : S1024x1024.Idx → EReal) (x : S16384x1024.Idx → EReal)

/-- The reference's rows before the norm. -/
theorem v5_at (i : S16384x1024.Idx) : Cert.MixOutRefIdeal.Read.val_main_v5 (F := Ideal) a w x i = row a w x (i 0) (i 1) := by
  rw [Cert.MixOutRefIdeal.Read.val_main_v5_apply, Cert.MixOutRefIdeal.Read.val_main_v1_apply, Cert.MixOutRefIdeal.Read.val_main_v0_apply, Cert.MixOutRefIdeal.Read.val_main_v4_apply]
  refine add_eq (mul_eq rfl (congrArg x (ix2_eta i).symm)) (Finset.sum_congr rfl fun k _ => ?_)
  refine congrArg₂ (· * ·) (congrArg a (funext fun a => ?_)) (congrArg w (funext fun a => ?_))
  · match a with
    | ⟨0, _⟩ => rfl
    | ⟨1, _⟩ => rfl
  · match a with
    | ⟨0, _⟩ => rfl
    | ⟨1, _⟩ => rfl

/-- Means. -/
theorem v9_at (i : S16384x1.Idx) : Cert.MixOutRefIdeal.Read.val_main_v9 (F := Ideal) a w x i = mean (row a w x (i 0)) := by
  rw [Cert.MixOutRefIdeal.Read.val_main_v9_apply, Cert.MixOutRefIdeal.Read.val_main_v7_apply, Cert.MixOutRefIdeal.Read.val_main_v8_apply, Cert.MixOutRefIdeal.Read.val_main_v6_apply]
  exact over_eq (sum_eq fun k => v5_at a w x _)

/-- Deviations. -/
theorem v11_at (i : S16384x1024.Idx) : Cert.MixOutRefIdeal.Read.val_main_v11 (F := Ideal) a w x i = dev (row a w x (i 0)) (i 1) := by
  rw [Cert.MixOutRefIdeal.Read.val_main_v11_apply, Cert.MixOutRefIdeal.Read.val_main_v10_apply]
  exact sub_eq (v5_at a w x i) (v9_at a w x _)

/-- Variances. -/
theorem v16_at (i : S16384x1.Idx) : Cert.MixOutRefIdeal.Read.val_main_v16 (F := Ideal) a w x i = vary (row a w x (i 0)) := by
  rw [Cert.MixOutRefIdeal.Read.val_main_v16_apply, Cert.MixOutRefIdeal.Read.val_main_v14_apply, Cert.MixOutRefIdeal.Read.val_main_v15_apply, Cert.MixOutRefIdeal.Read.val_main_v13_apply]
  exact over_eq (sum_eq fun k => mul_eq (v11_at a w x _) (v11_at a w x _))

/-- Deviations. -/
theorem v18_at (i : S16384x1024.Idx) : Cert.MixOutRefIdeal.Read.val_main_v18 (F := Ideal) a w x i = dev (row a w x (i 0)) (i 1) := by
  rw [Cert.MixOutRefIdeal.Read.val_main_v18_apply, Cert.MixOutRefIdeal.Read.val_main_v17_apply]
  exact sub_eq (v5_at a w x i) (v9_at a w x _)

/-- Reciprocals of the standard deviations. -/
theorem v21_at (i : S16384x1.Idx) : Cert.MixOutRefIdeal.Read.val_main_v21 (F := Ideal) a w x i = rst (row a w x (i 0)) := by
  rw [Cert.MixOutRefIdeal.Read.val_main_v21_apply, Cert.MixOutRefIdeal.Read.val_main_v20_apply, Cert.MixOutRefIdeal.Read.val_main_v19_apply]
  exact congrArg Ideal.rsqrt (add_eq (v16_at a w x i) rfl)

/-- Normal rows. -/
theorem v23_at (i : S16384x1024.Idx) : Cert.MixOutRefIdeal.Read.val_main_v23 (F := Ideal) a w x i = dev (row a w x (i 0)) (i 1) * rst (row a w x (i 0)) := by
  rw [Cert.MixOutRefIdeal.Read.val_main_v23_apply, Cert.MixOutRefIdeal.Read.val_main_v22_apply]
  exact mul_eq (v18_at a w x i) (v21_at a w x _)

/-- Means. -/
theorem v33_at (i : S16384x1.Idx) : Cert.MixOutRefIdeal.Read.val_main_v33 (F := Ideal) a w x i = mean (row a w x (i 0)) := by
  rw [Cert.MixOutRefIdeal.Read.val_main_v33_apply, Cert.MixOutRefIdeal.Read.val_main_v31_apply, Cert.MixOutRefIdeal.Read.val_main_v32_apply, Cert.MixOutRefIdeal.Read.val_main_v30_apply]
  exact over_eq (sum_eq fun k => v5_at a w x _)

/-- Deviations. -/
theorem v35_at (i : S16384x1024.Idx) : Cert.MixOutRefIdeal.Read.val_main_v35 (F := Ideal) a w x i = dev (row a w x (i 0)) (i 1) := by
  rw [Cert.MixOutRefIdeal.Read.val_main_v35_apply, Cert.MixOutRefIdeal.Read.val_main_v34_apply]
  exact sub_eq (v5_at a w x i) (v33_at a w x _)

/-- Variances. -/
theorem v40_at (i : S16384x1.Idx) : Cert.MixOutRefIdeal.Read.val_main_v40 (F := Ideal) a w x i = vary (row a w x (i 0)) := by
  rw [Cert.MixOutRefIdeal.Read.val_main_v40_apply, Cert.MixOutRefIdeal.Read.val_main_v38_apply, Cert.MixOutRefIdeal.Read.val_main_v39_apply, Cert.MixOutRefIdeal.Read.val_main_v37_apply]
  exact over_eq (sum_eq fun k => mul_eq (v35_at a w x _) (v35_at a w x _))

/-- Deviations. -/
theorem v42_at (i : S16384x1024.Idx) : Cert.MixOutRefIdeal.Read.val_main_v42 (F := Ideal) a w x i = dev (row a w x (i 0)) (i 1) := by
  rw [Cert.MixOutRefIdeal.Read.val_main_v42_apply, Cert.MixOutRefIdeal.Read.val_main_v41_apply]
  exact sub_eq (v5_at a w x i) (v33_at a w x _)

/-- Reciprocals of the standard deviations. -/
theorem v45_at (i : S16384x1.Idx) : Cert.MixOutRefIdeal.Read.val_main_v45 (F := Ideal) a w x i = rst (row a w x (i 0)) := by
  rw [Cert.MixOutRefIdeal.Read.val_main_v45_apply, Cert.MixOutRefIdeal.Read.val_main_v44_apply, Cert.MixOutRefIdeal.Read.val_main_v43_apply]
  exact congrArg Ideal.rsqrt (add_eq (v40_at a w x i) rfl)

/-- Normal rows. -/
theorem v47_at (i : S16384x1024.Idx) : Cert.MixOutRefIdeal.Read.val_main_v47 (F := Ideal) a w x i = dev (row a w x (i 0)) (i 1) * rst (row a w x (i 0)) := by
  rw [Cert.MixOutRefIdeal.Read.val_main_v47_apply, Cert.MixOutRefIdeal.Read.val_main_v46_apply]
  exact mul_eq (v42_at a w x i) (v45_at a w x _)

/-- Reciprocals of the standard deviations, as kept for the way back. -/
theorem v50_at (i : S16384x1.Idx) : Cert.MixOutRefIdeal.Read.val_main_v50 (F := Ideal) a w x i = rst (row a w x (i 0)) := by
  rw [Cert.MixOutRefIdeal.Read.val_main_v50_apply, Cert.MixOutRefIdeal.Read.val_main_v49_apply, Cert.MixOutRefIdeal.Read.val_main_v48_apply]
  exact congrArg Ideal.rsqrt (add_eq (v40_at a w x i) rfl)

/-- Scaled and shifted rows. -/
theorem v29_at (g b : S1024.Idx → EReal) (i : S16384x1024.Idx) : Cert.MixOutRefIdeal.Read.val_main_v29 (F := Ideal) a w x g b i
    = dev (row a w x (i 0)) (i 1) * rst (row a w x (i 0)) * g (ix1 (n0 := 1024) (i 1)) + b (ix1 (n0 := 1024) (i 1)) := by
  rw [Cert.MixOutRefIdeal.Read.val_main_v29_apply, Cert.MixOutRefIdeal.Read.val_main_v26_apply, Cert.MixOutRefIdeal.Read.val_main_v25_apply, Cert.MixOutRefIdeal.Read.val_main_v24_apply, Cert.MixOutRefIdeal.Read.val_main_v28_apply, Cert.MixOutRefIdeal.Read.val_main_v27_apply]
  refine add_eq (mul_eq (v23_at a w x i) (congrArg g (funext fun d => ?_))) (congrArg b (funext fun d => ?_))
  · match d with
    | ⟨0, _⟩ => rfl
  · match d with
    | ⟨0, _⟩ => rfl

end reference

theorem idx_0 : ∀ t : Fin cfg0.N, win0_0.index t = ![t.val % 32, 0] := by decide +kernel
theorem idx_2 : ∀ t : Fin cfg0.N, win0_2.index t = ![t.val % 32, 0] := by decide +kernel
theorem idx_5 : ∀ t : Fin cfg0.N, win0_5.index t = ![t.val % 32, 0] := by decide +kernel
theorem idx_6 : ∀ t : Fin cfg0.N, win0_6.index t = ![t.val % 32, 0] := by decide +kernel
theorem idx_7 : ∀ t : Fin cfg0.N, win0_7.index t = ![t.val % 32, 0] := by decide +kernel
theorem idx_8 : ∀ t : Fin cfg0.N, win0_8.index t = ![t.val % 32, 0] := by decide +kernel
theorem idx_1 : ∀ t : Fin cfg0.N, win0_1.index t = ![0, 0] := by decide +kernel
theorem idx_3 : ∀ t : Fin cfg0.N, win0_3.index t = ![0, 0] := by decide +kernel
theorem idx_4 : ∀ t : Fin cfg0.N, win0_4.index t = ![0, 0] := by decide +kernel

/-- The rows of a step. -/
abbrev rows (t : Fin cfg0.N) (i : Fin 512) : Fin 16384 := ⟨t.val % 32 * 512 + i.val, by omega⟩

variable (m : (ℓ : Loc nD τ sig) → Buf (Elt Ideal) ℓ) (c : Dev nD)

/-- The rows a step reads. -/
theorem read_0 (t : Fin cfg0.N) (i : Fin 512) (j : Fin 1024) : (iblk m c 0 t : S512x1024.Idx → EReal) (ix2 i j)
    = m (c, Proc.tc.devRef main_arg0) (ix2 (n0 := 16384) (n1 := 1024) (rows t i) j) := by
  have p : ((cfg0.win 0).blk t).view.emb (ix2 i j) = ix2 (n0 := 16384) (n1 := 1024) (rows t i) j := by blk_ext [idx_0]
  show V m c main_arg0 (((cfg0.win 0).blk t).view.emb (ix2 i j)) = _
  rw [p, V_main_arg0]

/-- The weight. -/
theorem read_1 (t : Fin cfg0.N) (i : Fin 1024) (j : Fin 1024) : (iblk m c 1 t : S1024x1024.Idx → EReal) (ix2 i j)
    = m (c, Proc.tc.devRef main_arg1) (ix2 (n0 := 1024) (n1 := 1024) i j) := by
  have p : ((cfg0.win 1).blk t).view.emb (ix2 i j) = ix2 (n0 := 1024) (n1 := 1024) i j := by blk_ext [idx_1]
  show V m c main_arg1 (((cfg0.win 1).blk t).view.emb (ix2 i j)) = _
  rw [p, V_main_arg1]

/-- The residual's rows a step reads. -/
theorem read_2 (t : Fin cfg0.N) (i : Fin 512) (j : Fin 1024) : (iblk m c 2 t : S512x1024.Idx → EReal) (ix2 i j)
    = m (c, Proc.tc.devRef main_arg2) (ix2 (n0 := 16384) (n1 := 1024) (rows t i) j) := by
  have p : ((cfg0.win 2).blk t).view.emb (ix2 i j) = ix2 (n0 := 16384) (n1 := 1024) (rows t i) j := by blk_ext [idx_2]
  show V m c main_arg2 (((cfg0.win 2).blk t).view.emb (ix2 i j)) = _
  rw [p, V_main_arg2]

set_option backward.isDefEq.respectTransparency.types false in
/-- The scales as one row. -/
theorem v0_word : V m c main_v0 = broadcastInDim S1x1024 ![1] bcast_S1024_S1x1024_1 (m (c, Proc.tc.devRef main_arg3)) := by
  unfold V
  after_reads_simp

/-- The scales a step reads. -/
theorem read_3 (t : Fin cfg0.N) (j : Fin 1024) : (iblk m c 3 t : S1x1024.Idx → EReal) (ix2 0 j)
    = m (c, Proc.tc.devRef main_arg3) (ix1 (n0 := 1024) j) := by
  have p : ((cfg0.win 3).blk t).view.emb (ix2 0 j) = ix2 (n0 := 1) (n1 := 1024) 0 j := by blk_ext [idx_3]
  show V m c main_v0 (((cfg0.win 3).blk t).view.emb (ix2 0 j)) = _
  rw [p, v0_word]
  refine broadcastInDim_apply _ _ _ _ (ix1 (n0 := 1024) j) fun a => ?_
  match a with
  | ⟨0, _⟩ => rfl

set_option backward.isDefEq.respectTransparency.types false in
/-- The shifts as one row. -/
theorem v1_word : V m c main_v1 = broadcastInDim S1x1024 ![1] bcast_S1024_S1x1024_1 (m (c, Proc.tc.devRef main_arg4)) := by
  unfold V
  after_reads_simp

/-- The shifts a step reads. -/
theorem read_4 (t : Fin cfg0.N) (j : Fin 1024) : (iblk m c 4 t : S1x1024.Idx → EReal) (ix2 0 j)
    = m (c, Proc.tc.devRef main_arg4) (ix1 (n0 := 1024) j) := by
  have p : ((cfg0.win 4).blk t).view.emb (ix2 0 j) = ix2 (n0 := 1) (n1 := 1024) 0 j := by blk_ext [idx_4]
  show V m c main_v1 (((cfg0.win 4).blk t).view.emb (ix2 0 j)) = _
  rw [p, v1_word]
  refine broadcastInDim_apply _ _ _ _ (ix1 (n0 := 1024) j) fun a => ?_
  match a with
  | ⟨0, _⟩ => rfl

/-- One store over a whole block, at its index. -/
theorem whole_f (w : S512x1024.Idx → EReal) (i : Fin 512) (j : Fin 1024) :
    View.canon (Val := Elt Ideal) (e := .f32) [⟨r0_0, w⟩] (ix2 i j) = w (ix2 i j) := by
  have e : r0_0.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_0 w [] (ix2 (n0 := 512) (n1 := 1024) i j)
  rw [e] at h
  exact h

/-- One store over a whole block, at its index. -/
theorem whole_b (w : S512x1024.Idx → EReal) (i : Fin 512) (j : Fin 1024) :
    View.canon (Val := Elt Ideal) (e := .bf16) [⟨r0_0, w⟩] (ix2 i j) = w (ix2 i j) := by
  have e : r0_0.emb (ix2 i j) = ix2 (n0 := 512) (n1 := 1024) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .bf16) r0_0 w [] (ix2 (n0 := 512) (n1 := 1024) i j)
  rw [e] at h
  exact h

/-- One store over a whole block, at its index. -/
theorem whole_1 (w : S512x1.Idx → EReal) (i : Fin 512) (j : Fin 1) :
    View.canon (Val := Elt Ideal) (e := .f32) [⟨r0_3, w⟩] (ix2 i j) = w (ix2 i j) := by
  have e : r0_3.emb (ix2 i j) = ix2 (n0 := 512) (n1 := 1) i j := by
    funext a
    match a with
    | ⟨0, _⟩ => exact Fin.ext (by show 0 + 1 * i.val = i.val; omega)
    | ⟨1, _⟩ => exact Fin.ext (by show 0 + 1 * j.val = j.val; omega)
  have h := View.canon_cons_emb (Val := Elt Ideal) (e := .f32) r0_3 w [] (ix2 (n0 := 512) (n1 := 1) i j)
  rw [e] at h
  exact h

/-- A load of a whole block is the block. -/
theorem ld_0 (x : S512x1024.Idx → EReal) : View.ld (Val := Elt Ideal) (e' := .bf16) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_1 (x : S1024x1024.Idx → EReal) : View.ld (Val := Elt Ideal) (e' := .bf16) x r0_1 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_z (x : S512x1024.Idx → EReal) : View.ld (Val := Elt Ideal) (e' := .f32) x r0_0 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- A load of a whole block is the block. -/
theorem ld_g (x : S1x1024.Idx → EReal) : View.ld (Val := Elt Ideal) (e' := .f32) x r0_2 = x := by
  funext i
  refine congrArg x (funext fun a => ?_)
  match a with
  | ⟨0, _⟩ => exact Fin.ext (by show 0 + 1 * (i 0).val = (i 0).val; omega)
  | ⟨1, _⟩ => exact Fin.ext (by show 0 + 1 * (i 1).val = (i 1).val; omega)

/-- The rows, the weight and the residual's rows of a step. -/
abbrev ablk (t : Fin cfg0.N) : S512x1024.Idx → EReal := iblk m c 0 t
abbrev wblk (t : Fin cfg0.N) : S1024x1024.Idx → EReal := iblk m c 1 t
abbrev zblk (t : Fin cfg0.N) : S512x1024.Idx → EReal := iblk m c 2 t

/-- The rows before the norm a step computes. -/
theorem row_at (t : Fin cfg0.N) (i : Fin 512) :
    (fun k : Fin 1024 => alphaW * zblk m c t (ix2 i k)
      + ∑ q : Fin 1024, ablk m c t (ix2 i q) * wblk m c t (ix2 q k))
      = row (m (c, Proc.tc.devRef main_arg0)) (m (c, Proc.tc.devRef main_arg1)) (m (c, Proc.tc.devRef main_arg2)) (rows t i) :=
  funext fun k => add_eq (mul_eq rfl (read_2 m c t i k)) (Finset.sum_congr rfl fun q _ => congrArg₂ (· * ·) (read_0 m c t i q) (read_1 m c t q k))

theorem devs (t : Fin cfg0.N) (i : Fin 512) (j : Fin 1024) : k0_pay1 (F := Ideal) (iblk m c 0 t) (iblk m c 1 t) (iblk m c 2 t) (ix2 i j)
    = dev (row (m (c, Proc.tc.devRef main_arg0)) (m (c, Proc.tc.devRef main_arg1)) (m (c, Proc.tc.devRef main_arg2)) (rows t i)) j :=
  (pay1_at _ _ _ i j).trans (congrFun (congrArg dev (row_at m c t i)) j)

theorem rsts (t : Fin cfg0.N) (i : Fin 512) : k0_pay2 (F := Ideal) (iblk m c 0 t) (iblk m c 1 t) (iblk m c 2 t) (ix2 i 0)
    = rst (row (m (c, Proc.tc.devRef main_arg0)) (m (c, Proc.tc.devRef main_arg1)) (m (c, Proc.tc.devRef main_arg2)) (rows t i)) :=
  (pay2_at _ _ _ i).trans (congrArg Ideal.rsqrt (add_eq (over_eq (Finset.sum_congr rfl fun k _ => mul_eq (devs m c t i k) (devs m c t i k))) rfl))

theorem hats (t : Fin cfg0.N) (i : Fin 512) (j : Fin 1024) : k0_pay3 (F := Ideal) (iblk m c 0 t) (iblk m c 1 t) (iblk m c 2 t) (ix2 i j)
    = dev (row (m (c, Proc.tc.devRef main_arg0)) (m (c, Proc.tc.devRef main_arg1)) (m (c, Proc.tc.devRef main_arg2)) (rows t i)) j * rst (row (m (c, Proc.tc.devRef main_arg0)) (m (c, Proc.tc.devRef main_arg1)) (m (c, Proc.tc.devRef main_arg2)) (rows t i)) :=
  (pay3_at _ _ _ i j).trans (mul_eq (devs m c t i j) (rsts m c t i))

theorem outs (t : Fin cfg0.N) (i : Fin 512) (j : Fin 1024) : k0_pay4 (F := Ideal) (iblk m c 0 t) (iblk m c 1 t) (iblk m c 2 t) (iblk m c 3 t) (iblk m c 4 t) (ix2 i j)
    = Cert.MixOutRefIdeal.Read.val_main_v29 (F := Ideal) (m (c, Proc.tc.devRef main_arg0)) (m (c, Proc.tc.devRef main_arg1)) (m (c, Proc.tc.devRef main_arg2)) (m (c, Proc.tc.devRef main_arg3)) (m (c, Proc.tc.devRef main_arg4)) (ix2 (rows t i) j) :=
  (pay4_at _ _ _ _ _ i j).trans ((add_eq (mul_eq (hats m c t i j) (read_3 m c t j)) (read_4 m c t j)).trans
    (v29_at _ _ _ _ _ (ix2 (rows t i) j)).symm)

/-- A step's block of the output. -/
theorem step5 (t : Fin cfg0.N) (i : Fin 512) (j : Fin 1024) : out0_5 (F := Ideal) (iblk m c 0 t) (iblk m c 1 t) (iblk m c 2 t) (iblk m c 3 t) (iblk m c 4 t) (ix2 i j)
    = Cert.MixOutRefIdeal.Read.val_main_v29 (F := Ideal) (m (c, Proc.tc.devRef main_arg0)) (m (c, Proc.tc.devRef main_arg1)) (m (c, Proc.tc.devRef main_arg2)) (m (c, Proc.tc.devRef main_arg3)) (m (c, Proc.tc.devRef main_arg4)) (ix2 (rows t i) j) := by
  unfold out0_5
  refine (whole_f _ i j).trans ?_
  rw [ld_0, ld_1, ld_z, ld_g, ld_g]
  exact outs m c t i j

/-- A step's block of the output in the narrow format. -/
theorem step6 (t : Fin cfg0.N) (i : Fin 512) (j : Fin 1024) : out0_6 (F := Ideal) (iblk m c 0 t) (iblk m c 1 t) (iblk m c 2 t) (iblk m c 3 t) (iblk m c 4 t) (ix2 i j)
    = Cert.MixOutRefIdeal.Read.val_main_v51 (F := Ideal) (m (c, Proc.tc.devRef main_arg0)) (m (c, Proc.tc.devRef main_arg1)) (m (c, Proc.tc.devRef main_arg2)) (m (c, Proc.tc.devRef main_arg3)) (m (c, Proc.tc.devRef main_arg4)) (ix2 (rows t i) j) := by
  unfold out0_6
  refine (whole_b _ i j).trans ?_
  rw [ld_0, ld_1, ld_z, ld_g, ld_g]
  exact outs m c t i j

/-- A step's block of the normal rows. -/
theorem step7 (t : Fin cfg0.N) (i : Fin 512) (j : Fin 1024) : out0_7 (F := Ideal) (iblk m c 0 t) (iblk m c 1 t) (iblk m c 2 t) (iblk m c 3 t) (iblk m c 4 t) (ix2 i j)
    = Cert.MixOutRefIdeal.Read.val_main_v52 (F := Ideal) (m (c, Proc.tc.devRef main_arg0)) (m (c, Proc.tc.devRef main_arg1)) (m (c, Proc.tc.devRef main_arg2)) (ix2 (rows t i) j) := by
  unfold out0_7
  refine (whole_b _ i j).trans ?_
  rw [ld_0, ld_1, ld_z]
  exact (hats m c t i j).trans (v47_at _ _ _ (ix2 (rows t i) j)).symm

/-- A step's block of the reciprocals of the standard deviations. -/
theorem step8 (t : Fin cfg0.N) (i : Fin 512) (j : Fin 1) : out0_8 (F := Ideal) (iblk m c 0 t) (iblk m c 1 t) (iblk m c 2 t) (iblk m c 3 t) (iblk m c 4 t) (ix2 i j)
    = Cert.MixOutRefIdeal.Read.val_main_v50 (F := Ideal) (m (c, Proc.tc.devRef main_arg0)) (m (c, Proc.tc.devRef main_arg1)) (m (c, Proc.tc.devRef main_arg2)) (ix2 (rows t i) j) := by
  obtain rfl : j = 0 := Subsingleton.elim _ _
  unfold out0_8
  refine (whole_1 _ i 0).trans ?_
  rw [ld_0, ld_1, ld_z]
  exact (rsts m c t i).trans (v50_at _ _ _ (ix2 (rows t i) 0)).symm

/-- The kernel's array of the output is the reference's. -/
theorem same5 : Cert.MixOutRefIdeal.Read.val_main_v29 (F := Ideal) (m (c, Proc.tc.devRef main_arg0)) (m (c, Proc.tc.devRef main_arg1)) (m (c, Proc.tc.devRef main_arg2)) (m (c, Proc.tc.devRef main_arg3)) (m (c, Proc.tc.devRef main_arg4)) = (dats m 0 c).arrAt 5 cfg0.N := by
  refine ((dats m 0 c).arrAt_eq_of_covers 5 _ (by decide +kernel) fun t hf y => ?_).symm
  rw [after0_5]
  obtain ⟨i, j, rfl⟩ : ∃ (i : Fin 512) (j : Fin 1024), y = ix2 i j := ⟨y 0, y 1, (ix2_eta y).symm⟩
  have p : ((cfg0.win 5).blk t).view.emb (ix2 i j) = ix2 (n0 := 16384) (n1 := 1024) (rows t i) j := by blk_ext [idx_5]
  have q : (cfg0.win 5).xinj (cfg0.grid.coords t) (ix2 i j) = ix2 (n0 := 512) (n1 := 1024) i j := by
    funext a; match a with | ⟨0, _⟩ => rfl | ⟨1, _⟩ => rfl
  rw [p, q]
  exact (cast_eq _ _).trans (step5 m c t i j)

/-- The kernel's array of the output in the narrow format is the reference's. -/
theorem same6 : Cert.MixOutRefIdeal.Read.val_main_v51 (F := Ideal) (m (c, Proc.tc.devRef main_arg0)) (m (c, Proc.tc.devRef main_arg1)) (m (c, Proc.tc.devRef main_arg2)) (m (c, Proc.tc.devRef main_arg3)) (m (c, Proc.tc.devRef main_arg4)) = (dats m 0 c).arrAt 6 cfg0.N := by
  refine ((dats m 0 c).arrAt_eq_of_covers 6 _ (by decide +kernel) fun t hf y => ?_).symm
  rw [after0_6]
  obtain ⟨i, j, rfl⟩ : ∃ (i : Fin 512) (j : Fin 1024), y = ix2 i j := ⟨y 0, y 1, (ix2_eta y).symm⟩
  have p : ((cfg0.win 6).blk t).view.emb (ix2 i j) = ix2 (n0 := 16384) (n1 := 1024) (rows t i) j := by blk_ext [idx_6]
  have q : (cfg0.win 6).xinj (cfg0.grid.coords t) (ix2 i j) = ix2 (n0 := 512) (n1 := 1024) i j := by
    funext a; match a with | ⟨0, _⟩ => rfl | ⟨1, _⟩ => rfl
  rw [p, q]
  exact (cast_eq _ _).trans (step6 m c t i j)

/-- The kernel's array of the normal rows is the reference's. -/
theorem same7 : Cert.MixOutRefIdeal.Read.val_main_v52 (F := Ideal) (m (c, Proc.tc.devRef main_arg0)) (m (c, Proc.tc.devRef main_arg1)) (m (c, Proc.tc.devRef main_arg2)) = (dats m 0 c).arrAt 7 cfg0.N := by
  refine ((dats m 0 c).arrAt_eq_of_covers 7 _ (by decide +kernel) fun t hf y => ?_).symm
  rw [after0_7]
  obtain ⟨i, j, rfl⟩ : ∃ (i : Fin 512) (j : Fin 1024), y = ix2 i j := ⟨y 0, y 1, (ix2_eta y).symm⟩
  have p : ((cfg0.win 7).blk t).view.emb (ix2 i j) = ix2 (n0 := 16384) (n1 := 1024) (rows t i) j := by blk_ext [idx_7]
  have q : (cfg0.win 7).xinj (cfg0.grid.coords t) (ix2 i j) = ix2 (n0 := 512) (n1 := 1024) i j := by
    funext a; match a with | ⟨0, _⟩ => rfl | ⟨1, _⟩ => rfl
  rw [p, q]
  exact (cast_eq _ _).trans (step7 m c t i j)

/-- The kernel's array of the reciprocals of the standard deviations is the reference's. -/
theorem same8 : Cert.MixOutRefIdeal.Read.val_main_v50 (F := Ideal) (m (c, Proc.tc.devRef main_arg0)) (m (c, Proc.tc.devRef main_arg1)) (m (c, Proc.tc.devRef main_arg2)) = (dats m 0 c).arrAt 8 cfg0.N := by
  refine ((dats m 0 c).arrAt_eq_of_covers 8 _ (by decide +kernel) fun t hf y => ?_).symm
  rw [after0_8]
  obtain ⟨i, j, rfl⟩ : ∃ (i : Fin 512) (j : Fin 1), y = ix2 i j := ⟨y 0, y 1, (ix2_eta y).symm⟩
  have p : ((cfg0.win 8).blk t).view.emb (ix2 i j) = ix2 (n0 := 16384) (n1 := 1) (rows t i) j := by blk_ext [idx_8]
  have q : (cfg0.win 8).xinj (cfg0.grid.coords t) (ix2 i j) = ix2 (n0 := 512) (n1 := 1) i j := by
    funext a; match a with | ⟨0, _⟩ => rfl | ⟨1, _⟩ => rfl
  rw [p, q]
  exact (cast_eq _ _).trans (step8 m c t i j)

end Cert.Prod.MixOut
-- ==== Proof.Claims.MixOut.lean ====
module

public import proofs.«01_k».proof.Defs
public import proofs.«01_k».proof.Proof.Gen.MixOutRefIdeal.Run
public import proofs.«01_k».proof.Proof.Prod.MixOut

@[expose] public section

/-! The claims about the output of a mixing layer with the residual and the layer norm. -/

namespace Cert.Claims.MixOut
open Idealize.ShloMosaic Idealize.SL.Sem

/-- The reference declares no semaphore, so its counters are at zero at every final state. -/
theorem sems (s : MemSt Cert.MixOutRefIdeal.nD Cert.MixOutRefIdeal.τ Cert.MixOutRefIdeal.sig (Elt Ideal)) : s.sem = fun _ => 0 := by
  have none : IsEmpty (SemLoc Cert.MixOutRefIdeal.sig) := Finset.univ_eq_empty_iff.mp (by decide)
  exact funext fun x => none.elim x.2

/-- The reference runs, its arguments end unchanged and its counters at zero. -/
theorem frame : Cert.quiescent_MixOutRefIdeal (hMixOutRefIdeal := Cert.MixOutRefIdeal.Gen.facts) := fun m ρ _ =>
  (θ_run Cert.MixOutRefIdeal.defs _ _).mono (fun r h => ⟨fun c => (h c).2.2.2.2, sems r.2⟩) (Cert.MixOutRefIdeal.Value.run (F := Ideal) m ρ)

/-- The kernel's four arrays are the reference's results, and both programs keep their arguments. -/
theorem algebraic : Cert.algebraic_MixOutIdeal_MixOutRefIdeal (hMixOutIdeal := Cert.MixOutIdeal.Gen.facts)
    (hMixOutRefIdeal := Cert.MixOutRefIdeal.Gen.facts) := by
  intro m g m' g' _ same
  refine ⟨fun c => (Cert.MixOutIdeal.Gen.dats m 0 c).arrAt 5 Cert.MixOutIdeal.cfg0.N, fun c => (Cert.MixOutIdeal.Gen.dats m 0 c).arrAt 6 Cert.MixOutIdeal.cfg0.N,
    fun c => (Cert.MixOutIdeal.Gen.dats m 0 c).arrAt 7 Cert.MixOutIdeal.cfg0.N, fun c => (Cert.MixOutIdeal.Gen.dats m 0 c).arrAt 8 Cert.MixOutIdeal.cfg0.N, Cert.MixOutIdeal.Value.run_blocks (F := Ideal) m g, ?_⟩
  refine (θ_run Cert.MixOutRefIdeal.defs _ _).mono (fun r h c => ?_) (Cert.MixOutRefIdeal.Value.run (F := Ideal) m' g')
  obtain ⟨h0, h1, h2, h3, rest⟩ := h c
  obtain ⟨s0, s1, s2, s3, s4⟩ := same c
  have e0 := h0.trans (Cert.MixOutRefIdeal.Read.val_main_v29_eq _ _ _ _ _)
  have e1 := h1.trans (Cert.MixOutRefIdeal.Read.val_main_v51_eq _ _ _ _ _)
  have e2 := h2.trans (Cert.MixOutRefIdeal.Read.val_main_v52_eq _ _ _)
  have e3 := h3.trans (Cert.MixOutRefIdeal.Read.val_main_v50_eq _ _ _)
  rw [s0, s1, s2, s3, s4] at e0 e1
  rw [s0, s1, s2] at e2 e3
  exact ⟨e0.trans (Cert.Prod.MixOut.same5 m c), e1.trans (Cert.Prod.MixOut.same6 m c), e2.trans (Cert.Prod.MixOut.same7 m c), e3.trans (Cert.Prod.MixOut.same8 m c), rest⟩

end Cert.Claims.MixOut
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.GateBack
public import proofs.«01_k».proof.Proof.Gen.GateBack.Frame
public import proofs.«01_k».proof.Proof.Gen.GateBackIdeal
public import proofs.«01_k».proof.Proof.Gen.GateBackIdeal.Frame
public import proofs.«01_k».proof.Proof.Gen.GateBackIdeal.Value
public import proofs.«01_k».proof.Proof.Gen.GateBackRefIdeal
public import proofs.«01_k».proof.Proof.Gen.GateBackRefIdeal.Run
public import proofs.«01_k».proof.Proof.Gen.GateBackRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.HgrnIn
public import proofs.«01_k».proof.Proof.Gen.HgrnIn.Frame
public import proofs.«01_k».proof.Proof.Gen.HgrnInIdeal
public import proofs.«01_k».proof.Proof.Gen.HgrnInIdeal.Frame
public import proofs.«01_k».proof.Proof.Gen.HgrnInIdeal.Value
public import proofs.«01_k».proof.Proof.Gen.HgrnInRefIdeal
public import proofs.«01_k».proof.Proof.Gen.HgrnInRefIdeal.Run
public import proofs.«01_k».proof.Proof.Gen.HgrnInRefIdeal.Read
public import proofs.«01_k».proof.Proof.Gen.HgrnBack
public import proofs.«01_k».proof.Proof.Gen.HgrnBack.Frame
public import proofs.«01_k».proof.Proof.Gen.HgrnBackIdeal
public import proofs.«01_k».proof.Proof.Gen.HgrnBackIdeal.Frame
public import proofs.«01_k».proof.Proof.Gen.HgrnBackIdeal.Value
public import proofs.«01_k».proof.Proof.Gen.HgrnBackRefIdeal
public import proofs.«01_k».proof.Proof.Gen.HgrnBackRefIdeal.Run
public import proofs.«01_k».proof.Proof.Gen.HgrnBackRefIdeal.Read
public import proofs.«01_k».proof.Proof.Gen.QkvBack
public import proofs.«01_k».proof.Proof.Gen.QkvBack.Frame
public import proofs.«01_k».proof.Proof.Gen.QkvBackIdeal
public import proofs.«01_k».proof.Proof.Gen.QkvBackIdeal.Frame
public import proofs.«01_k».proof.Proof.Gen.QkvBackIdeal.Value
public import proofs.«01_k».proof.Proof.Gen.QkvBackRefIdeal
public import proofs.«01_k».proof.Proof.Gen.QkvBackRefIdeal.Run
public import proofs.«01_k».proof.Proof.Gen.QkvBackRefIdeal.Read
public import proofs.«01_k».proof.Proof.Gen.OutBack
public import proofs.«01_k».proof.Proof.Gen.OutBack.Frame
public import proofs.«01_k».proof.Proof.Gen.OutBackIdeal
public import proofs.«01_k».proof.Proof.Gen.OutBackIdeal.Frame
public import proofs.«01_k».proof.Proof.Gen.OutBackIdeal.Value
public import proofs.«01_k».proof.Proof.Gen.OutBackRefIdeal
public import proofs.«01_k».proof.Proof.Gen.OutBackRefIdeal.Run
public import proofs.«01_k».proof.Proof.Gen.OutBackRefIdeal.Read
public import proofs.«01_k».proof.Proof.Gen.DwQkv
public import proofs.«01_k».proof.Proof.Gen.DwQkv.Frame
public import proofs.«01_k».proof.Proof.Gen.DwQkvIdeal
public import proofs.«01_k».proof.Proof.Gen.DwQkvIdeal.Frame
public import proofs.«01_k».proof.Proof.Gen.DwQkvIdeal.Value
public import proofs.«01_k».proof.Proof.Gen.DwQkvRefIdeal
public import proofs.«01_k».proof.Proof.Gen.DwQkvRefIdeal.Run
public import proofs.«01_k».proof.Proof.Gen.DwQkvRefIdeal.Read
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.Pre_finite_in
public import proofs.«01_k».proof.Proof.Gen.Pre_finite_gate
public import proofs.«01_k».proof.Proof.Gen.Pre_finite_gate_back
public import proofs.«01_k».proof.Proof.Real
public import proofs.«01_k».proof.Proof.Same
public import proofs.«01_k».proof.Proof.Claims.Gate
public import proofs.«01_k».proof.Proof.Claims.GateBack
public import proofs.«01_k».proof.Proof.Claims.In
public import proofs.«01_k».proof.Proof.Claims.Out
public import proofs.«01_k».proof.Proof.Claims.Square
public import proofs.«01_k».proof.Proof.Claims.Norm
public import proofs.«01_k».proof.Proof.Claims.HgrnIn
public import proofs.«01_k».proof.Proof.Claims.HgrnBack
public import proofs.«01_k».proof.Proof.Claims.QkvBack
public import proofs.«01_k».proof.Proof.Claims.OutBack
public import proofs.«01_k».proof.Proof.Claims.DwQkv
public import proofs.«01_k».proof.Proof.Claims.FfnOut
public import proofs.«01_k».proof.Proof.Claims.MixOut
public import Idealize.ShloMosaic.Adequacy
public import Idealize.ShloMosaic.Init

@[expose] public section

noncomputable section

namespace Cert.Proof

open Idealize.ShloMosaic Idealize.SL.Sem Cert.Kernel

/-- The reference declares no semaphore, so its counters are at zero at every final state. -/
theorem reference_sems (s : MemSt Cert.ReferenceIdeal.nD Cert.ReferenceIdeal.τ Cert.ReferenceIdeal.sig (Elt Ideal)) :
    s.sem = fun _ => 0 := by
  have none : IsEmpty (SemLoc Cert.ReferenceIdeal.sig) := Finset.univ_eq_empty_iff.mp (by decide)
  exact funext fun x => none.elim x.2

/-- The reference runs, its arguments end unchanged and its counters at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, reference_sems r.2⟩)
    (Cert.ReferenceIdeal.Value.run (F := Ideal) m ρ)

/-- At finite arguments the kernel's arrays are the reference's results, and both programs keep their arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' pre same
  have H : ∀ c, ∃ (Q : Fin 16384 → Fin 1024 → ℝ) (K V : Fin 16384 → Fin 256 → ℝ) (G : Fin 16384 → Fin 1024 → ℝ) (S : Fin 16 → ℝ),
      Cert.Kern.Given m Q K V G S c := fun c =>
    ⟨_, _, _, _, _, ⟨Cert.Real.qarg_of _ _ _ (pre c).1, Cert.Real.karg_of _ _ _ (pre c).2.1, Cert.Real.karg_of _ _ _ (pre c).2.2.1,
      Cert.Real.qarg_of _ _ _ (pre c).2.2.2.1, Cert.Real.sarg_of _ _ (pre c).2.2.2.2⟩⟩
  refine ⟨fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    Cert.KernelIdeal.Value.run_blocks (F := Ideal) m g, ?_⟩
  refine (θ_run Cert.ReferenceIdeal.defs _ _).mono (fun r h c => ?_) (Cert.ReferenceIdeal.Value.run (F := Ideal) m' g')
  obtain ⟨h0, h1, h2, h3, rest⟩ := h c
  obtain ⟨Q, K, V, G, S, given⟩ := H c
  obtain ⟨s0, s1, s2, s3, s4⟩ := same c
  have a0 : StableHlo.launchContents m' c (Proc.devRef .tc Cert.ReferenceIdeal.main_arg0) = Ref.qarg Q := s0.trans given.q
  have a1 : StableHlo.launchContents m' c (Proc.devRef .tc Cert.ReferenceIdeal.main_arg1) = Ref.karg K := s1.trans given.k
  have a2 : StableHlo.launchContents m' c (Proc.devRef .tc Cert.ReferenceIdeal.main_arg2) = Ref.karg V := s2.trans given.v
  have a3 : StableHlo.launchContents m' c (Proc.devRef .tc Cert.ReferenceIdeal.main_arg3) = Ref.qarg G := s3.trans given.g
  have a4 : StableHlo.launchContents m' c (Proc.devRef .tc Cert.ReferenceIdeal.main_arg4) = Ref.sarg S := s4.trans given.s
  have e0 := h0.trans (Cert.ReferenceIdeal.Read.val_main_v142_eq (StableHlo.launchContents m' c))
  have e1 := h1.trans (Cert.ReferenceIdeal.Read.val_main_v143_eq (StableHlo.launchContents m' c))
  have e2 := h2.trans (Cert.ReferenceIdeal.Read.val_main_v144_eq (StableHlo.launchContents m' c))
  have e3 := h3.trans (Cert.ReferenceIdeal.Read.val_main_v145_eq (StableHlo.launchContents m' c))
  rw [a0, a1, a2, a3, a4] at e0 e1 e3
  rw [a0, a1, a3, a4] at e2
  exact ⟨e0.trans ((Cert.Same.dq_eq Q K V G S).trans (Cert.Kern.arr_11 given).symm),
    e1.trans ((Cert.Same.dk_eq Q K V G S).trans (Cert.Kern.arr_12 given).symm),
    e2.trans ((Cert.Same.dv_eq Q K G S).trans (Cert.Kern.arr_13 given).symm),
    e3.trans (Cert.Same.dsink_eq given), rest⟩

/-- Everything claimed. -/
theorem claim : Cert.Claim := ⟨Cert.Kernel.Gen.facts, Cert.KernelIdeal.Gen.facts, Cert.ReferenceIdeal.Gen.facts,
  Cert.Gate.Gen.facts, Cert.GateIdeal.Gen.facts, Cert.GateRefIdeal.Gen.facts,
  Cert.GateBack.Gen.facts, Cert.GateBackIdeal.Gen.facts, Cert.GateBackRefIdeal.Gen.facts,
  Cert.DwIn.Gen.facts, Cert.DwInIdeal.Gen.facts, Cert.DwInRefIdeal.Gen.facts,
  Cert.DwOut.Gen.facts, Cert.DwOutIdeal.Gen.facts, Cert.DwOutRefIdeal.Gen.facts,
  Cert.Dw.Gen.facts, Cert.DwIdeal.Gen.facts, Cert.DwRefIdeal.Gen.facts,
  Cert.Norm.Gen.facts, Cert.NormIdeal.Gen.facts, Cert.NormRefIdeal.Gen.facts,
  Cert.HgrnIn.Gen.facts, Cert.HgrnInIdeal.Gen.facts, Cert.HgrnInRefIdeal.Gen.facts,
  Cert.HgrnBack.Gen.facts, Cert.HgrnBackIdeal.Gen.facts, Cert.HgrnBackRefIdeal.Gen.facts,
  Cert.QkvBack.Gen.facts, Cert.QkvBackIdeal.Gen.facts, Cert.QkvBackRefIdeal.Gen.facts,
  Cert.OutBack.Gen.facts, Cert.OutBackIdeal.Gen.facts, Cert.OutBackRefIdeal.Gen.facts,
  Cert.DwQkv.Gen.facts, Cert.DwQkvIdeal.Gen.facts, Cert.DwQkvRefIdeal.Gen.facts,
  Cert.FfnOut.Gen.facts, Cert.FfnOutIdeal.Gen.facts, Cert.FfnOutRefIdeal.Gen.facts,
  Cert.MixOut.Gen.facts, Cert.MixOutIdeal.Gen.facts, Cert.MixOutRefIdeal.Gen.facts,
  Cert.Pre_finite.Gen.facts, Cert.Pre_finite_gate.Gen.facts, Cert.Pre_finite_gate_back.Gen.facts, Cert.Pre_finite_in.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Gate.Gen.frame m ρ, fun m ρ _ => Cert.GateIdeal.Gen.frame m ρ, fun m ρ _ => Cert.GateIdeal.Gen.frame m ρ,
  Cert.Claims.Gate.frame, fun m ρ _ => Cert.Claims.Gate.frame m ρ trivial,
  fun m ρ _ => Cert.GateBack.Gen.frame m ρ, fun m ρ _ => Cert.GateBackIdeal.Gen.frame m ρ, fun m ρ _ => Cert.GateBackIdeal.Gen.frame m ρ,
  Cert.Claims.GateBack.frame, fun m ρ _ => Cert.Claims.GateBack.frame m ρ trivial,
  fun m ρ _ => Cert.DwIn.Gen.frame m ρ, fun m ρ _ => Cert.DwInIdeal.Gen.frame m ρ, Cert.Claims.In.frame,
  fun m ρ _ => Cert.DwOut.Gen.frame m ρ, fun m ρ _ => Cert.DwOutIdeal.Gen.frame m ρ, Cert.Claims.Out.frame,
  fun m ρ _ => Cert.Dw.Gen.frame m ρ, fun m ρ _ => Cert.DwIdeal.Gen.frame m ρ, Cert.Claims.Square.frame,
  fun m ρ _ => Cert.Norm.Gen.frame m ρ, fun m ρ _ => Cert.NormIdeal.Gen.frame m ρ, fun m ρ _ => Cert.NormIdeal.Gen.frame m ρ,
  Cert.Claims.Norm.frame, fun m ρ _ => Cert.Claims.Norm.frame m ρ trivial,
  fun m ρ _ => Cert.HgrnIn.Gen.frame m ρ, fun m ρ _ => Cert.HgrnInIdeal.Gen.frame m ρ, Cert.Claims.HgrnIn.frame,
  fun m ρ _ => Cert.HgrnBack.Gen.frame m ρ, fun m ρ _ => Cert.HgrnBackIdeal.Gen.frame m ρ, Cert.Claims.HgrnBack.frame,
  fun m ρ _ => Cert.QkvBack.Gen.frame m ρ, fun m ρ _ => Cert.QkvBackIdeal.Gen.frame m ρ, Cert.Claims.QkvBack.frame,
  fun m ρ _ => Cert.OutBack.Gen.frame m ρ, fun m ρ _ => Cert.OutBackIdeal.Gen.frame m ρ, Cert.Claims.OutBack.frame,
  fun m ρ _ => Cert.DwQkv.Gen.frame m ρ, fun m ρ _ => Cert.DwQkvIdeal.Gen.frame m ρ, Cert.Claims.DwQkv.frame,
  fun m ρ _ => Cert.FfnOut.Gen.frame m ρ, fun m ρ _ => Cert.FfnOutIdeal.Gen.frame m ρ, Cert.Claims.FfnOut.frame,
  fun m ρ _ => Cert.MixOut.Gen.frame m ρ, fun m ρ _ => Cert.MixOutIdeal.Gen.frame m ρ, Cert.Claims.MixOut.frame,
  trivial, algebraic, trivial, Cert.Claims.Gate.algebraic, trivial, Cert.Claims.GateBack.algebraic, trivial, Cert.Claims.In.algebraic, trivial, Cert.Claims.Out.algebraic, trivial, Cert.Claims.Square.algebraic,
  trivial, Cert.Claims.Norm.algebraic, trivial, Cert.Claims.HgrnIn.algebraic, trivial, Cert.Claims.HgrnBack.algebraic, trivial, Cert.Claims.QkvBack.algebraic, trivial, Cert.Claims.OutBack.algebraic, trivial, Cert.Claims.DwQkv.algebraic, trivial, Cert.Claims.FfnOut.algebraic, trivial, Cert.Claims.MixOut.algebraic⟩

end Cert.Proof

end
